-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_experts_and_shares [hPre_experts_and_shares : Cert.Pre_experts_and_shares.Facts] (m : (ℓ : Loc Cert.KernelIdeal.nD Cert.KernelIdeal.τ Cert.KernelIdeal.sig) → Buf (Elt Ideal) ℓ) : Prop :=
  ∀ c : Dev Cert.KernelIdeal.nD,
    (Cert.Pre_experts_and_shares.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_and_shares [hPre_experts_and_shares : Cert.Pre_experts_and_shares.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_and_shares.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_experts_and_shares [hKernelIdeal : Cert.KernelIdeal.Facts] [hPre_experts_and_shares : Cert.Pre_experts_and_shares.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_and_shares m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_experts_and_shares [hReferenceIdeal : Cert.ReferenceIdeal.Facts] [hPre_experts_and_shares : Cert.Pre_experts_and_shares.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_and_shares m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_experts_and_shares [hKernelIdeal : Cert.KernelIdeal.Facts] [hReferenceIdeal : Cert.ReferenceIdeal.Facts] [hPre_experts_and_shares : Cert.Pre_experts_and_shares.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_and_shares m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.bf16_pair.PackStatement Cert.Kernel2Ideal.S512x512
  ∧ IdealRules.bf16_pair.Statement Cert.Kernel2Ideal.S512x2x128 Cert.Kernel2Ideal.S512x1x128
  ∧ IdealRules.bf16_pair.PackStatement Cert.Kernel2Ideal.S512x128

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v38_0)) (v1 : (c : Dev Cert.Kernel2Ideal.nD) → Buf (Elt Ideal) ((c.tc : Thread Cert.Kernel2Ideal.nD Cert.Kernel2Ideal.τ).loc Cert.Kernel2Ideal.main_v38_1)) (v2 : (c : Dev Cert.Kernel2Ideal.nD) → Buf (Elt Ideal) ((c.tc : Thread Cert.Kernel2Ideal.nD Cert.Kernel2Ideal.τ).loc Cert.Kernel2Ideal.main_v38_2)) (v3 : (c : Dev Cert.Kernel2Ideal.nD) → Buf (Elt Ideal) ((c.tc : Thread Cert.Kernel2Ideal.nD Cert.Kernel2Ideal.τ).loc Cert.Kernel2Ideal.main_v38_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38_0) = v0 c
          ∧ r.2.mem ((c.tc : Thread Cert.Kernel2Ideal.nD Cert.Kernel2Ideal.τ).loc Cert.Kernel2Ideal.main_v38_1) = v1 c
          ∧ r.2.mem ((c.tc : Thread Cert.Kernel2Ideal.nD Cert.Kernel2Ideal.τ).loc Cert.Kernel2Ideal.main_v38_2) = v2 c
          ∧ r.2.mem ((c.tc : Thread Cert.Kernel2Ideal.nD Cert.Kernel2Ideal.τ).loc Cert.Kernel2Ideal.main_v38_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v185) = v0 c
          ∧ r.2.mem ((c.tc : Thread Cert.Reference2Ideal.nD Cert.Reference2Ideal.τ).loc Cert.Reference2Ideal.main_v332) = v1 c
          ∧ r.2.mem ((c.tc : Thread Cert.Reference2Ideal.nD Cert.Reference2Ideal.τ).loc Cert.Reference2Ideal.main_v330) = v2 c
          ∧ r.2.mem ((c.tc : Thread Cert.Reference2Ideal.nD Cert.Reference2Ideal.τ).loc Cert.Reference2Ideal.main_v328) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_experts_in_range : Cert.Pre_experts_in_range.Facts) (hPre_experts_and_shares : Cert.Pre_experts_and_shares.Facts),
    quiescent_Kernel (hKernel := hKernel) (hPre_experts_in_range := hPre_experts_in_range)
    ∧ quiescent_KernelIdeal (hKernelIdeal := hKernelIdeal) (hPre_experts_in_range := hPre_experts_in_range)
    ∧ quiescent_KernelIdeal_pre_experts_and_shares (hKernelIdeal := hKernelIdeal) (hPre_experts_and_shares := hPre_experts_and_shares)
    ∧ quiescent_ReferenceIdeal (hReferenceIdeal := hReferenceIdeal)
    ∧ quiescent_ReferenceIdeal_pre_experts_and_shares (hReferenceIdeal := hReferenceIdeal) (hPre_experts_and_shares := hPre_experts_and_shares)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_experts_and_shares (hKernelIdeal := hKernelIdeal) (hReferenceIdeal := hReferenceIdeal) (hPre_experts_and_shares := hPre_experts_and_shares)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_experts_and_shares.lean ====
abbrev S152 : Shape := ⟨1, ![152]⟩
abbrev S622592x128 : Shape := ⟨2, ![622592, 128]⟩
abbrev S2x16x1024x1024 : Shape := ⟨4, ![2, 16, 1024, 1024]⟩
abbrev S2x16x512x1024 : Shape := ⟨4, ![2, 16, 512, 1024]⟩
abbrev S_ : Shape := ⟨0, ![]⟩
abbrev S152x512x8x128 : Shape := ⟨4, ![152, 512, 8, 128]⟩
abbrev S152x512x1x2 : Shape := ⟨4, ![152, 512, 1, 2]⟩
abbrev S152x512x2 : Shape := ⟨3, ![152, 512, 2]⟩
abbrev S152x1x1 : Shape := ⟨3, ![152, 1, 1]⟩

class Facts : Prop where
  bcast_S_S152 : S_.BroadcastsInDim S152 (![] : Fin 0 → Fin S152.rank)
  shapeCasts_S622592x128_S152x512x8x128 : S622592x128.ShapeCasts S152x512x8x128
  slices_S152x512x8x128_S152x512x1x2_0_0_4_1 : S152x512x8x128.Slices ![0, 0, 4, 1] S152x512x1x2
  shapeCasts_S152x512x1x2_S152x512x2 : S152x512x1x2.ShapeCasts S152x512x2
  bcast_S152_S152x1x1_0 : S152.BroadcastsInDim S152x1x1 (![0] : Fin 1 → Fin S152x1x1.rank)
  bcast_S_S152x512x2 : S_.BroadcastsInDim S152x512x2 (![] : Fin 0 → Fin S152x512x2.rank)
  bcast_S152x1x1_S152x512x2_0_1_2 : S152x1x1.BroadcastsInDim S152x512x2 (![0, 1, 2] : Fin 3 → Fin S152x512x2.rank)

variable [Facts]

def fn_part1 {F : FTy → Type} [FloatOps F] (main_v14 : FVec F S152x512x2 .f32) (main_v17 : IVec S152x1x1 1) (main_v18 : IVec S152x1x1 1) : IVec S152x512x2 1 :=
  let main_cst : FVec F S_ .f32 := constant S_ .f32 0x00000000#32
  let main_v19 : FVec F S152x512x2 .f32 := broadcastInDim S152x512x2 ![] bcast_S_S152x512x2 main_cst
  let main_v20 : IVec S152x512x2 1 := cmpf .oge main_v14 main_v19
  let main_cst_4 : FVec F S_ .f32 := constant S_ .f32 0x7F800000#32
  let main_v21 : FVec F S152x512x2 .f32 := broadcastInDim S152x512x2 ![] bcast_S_S152x512x2 main_cst_4
  let main_v22 : IVec S152x512x2 1 := cmpf .olt main_v14 main_v21
  let main_v23 : IVec S152x512x2 1 := andi main_v20 main_v22
  let main_v24 : IVec S152x512x2 1 := broadcastInDim S152x512x2 ![0, 1, 2] bcast_S152x1x1_S152x512x2_0_1_2 main_v18
  let main_v25 : IVec S152x512x2 1 := ori main_v24 main_v23
  let main_v26 : IVec S152x512x2 1 := broadcastInDim S152x512x2 ![0, 1, 2] bcast_S152x1x1_S152x512x2_0_1_2 main_v17
  let main_v27 : IVec S152x512x2 1 := andi main_v26 main_v25
  main_v27

def fn {F : FTy → Type} [FloatOps F] (main_arg0 : IVec S152 32) (main_arg1 : IVec S152 32) (main_arg2 : IVec S152 32) (main_arg3 : IVec S622592x128 32) (main_arg4 : FVec F S2x16x1024x1024 .f32) (main_arg5 : FVec F S2x16x512x1024 .f32) : IVec S152x512x2 1 :=
  let main_c : IVec S_ 32 := constantI S_ 32 0#32
  let main_v0 : IVec S152 32 := broadcastInDim S152 ![] bcast_S_S152 main_c
  let main_v1 : IVec S152 1 := cmpi .sge main_arg0 main_v0
  let main_c_0 : IVec S_ 32 := constantI S_ 32 16#32
  let main_v2 : IVec S152 32 := broadcastInDim S152 ![] bcast_S_S152 main_c_0
  let main_v3 : IVec S152 1 := cmpi .slt main_arg0 main_v2
  let main_v4 : IVec S152 1 := andi main_v1 main_v3
  let main_c_1 : IVec S_ 32 := constantI S_ 32 0#32
  let main_v5 : IVec S152 32 := broadcastInDim S152 ![] bcast_S_S152 main_c_1
  let main_v6 : IVec S152 1 := cmpi .sge main_arg1 main_v5
  let main_v7 : IVec S152 1 := andi main_v4 main_v6
  let main_c_2 : IVec S_ 32 := constantI S_ 32 16#32
  let main_v8 : IVec S152 32 := broadcastInDim S152 ![] bcast_S_S152 main_c_2
  let main_v9 : IVec S152 1 := cmpi .slt main_arg1 main_v8
  let main_v10 : IVec S152 1 := andi main_v7 main_v9
  let main_v11 : IVec S152x512x8x128 32 := shapeCast S152x512x8x128 main_arg3 shapeCasts_S622592x128_S152x512x8x128
  let main_v12 : IVec S152x512x1x2 32 := (extractStridedSlice S152x512x1x2 ![0, 0, 4, 1] · slices_S152x512x8x128_S152x512x1x2_0_0_4_1) main_v11
  let main_v13 : IVec S152x512x2 32 := shapeCast S152x512x2 main_v12 shapeCasts_S152x512x1x2_S152x512x2
  let main_v14 : FVec F S152x512x2 .f32 := bitcastToFloat .f32 main_v13
  let main_c_3 : IVec S_ 32 := constantI S_ 32 0#32
  let main_v15 : IVec S152 32 := broadcastInDim S152 ![] bcast_S_S152 main_c_3
  let main_v16 : IVec S152 1 := cmpi .eq main_arg2 main_v15
  let main_v17 : IVec S152x1x1 1 := broadcastInDim S152x1x1 ![0] bcast_S152_S152x1x1_0 main_v10
  let main_v18 : IVec S152x1x1 1 := broadcastInDim S152x1x1 ![0] bcast_S152_S152x1x1_0 main_v16
  fn_part1 (F := F) main_v14 main_v17 main_v18
-- ==== Pre_experts_in_range.lean ====
abbrev S152 : Shape := ⟨1, ![152]⟩
abbrev S622592x128 : Shape := ⟨2, ![622592, 128]⟩
abbrev S2x16x1024x1024 : Shape := ⟨4, ![2, 16, 1024, 1024]⟩
abbrev S2x16x512x1024 : Shape := ⟨4, ![2, 16, 512, 1024]⟩
abbrev S_ : Shape := ⟨0, ![]⟩

class Facts : Prop where
  bcast_S_S152 : S_.BroadcastsInDim S152 (![] : Fin 0 → Fin S152.rank)

variable [Facts]

def fn {F : FTy → Type} [FloatOps F] (main_arg0 : IVec S152 32) (main_arg1 : IVec S152 32) (main_arg2 : IVec S152 32) (main_arg3 : IVec S622592x128 32) (main_arg4 : FVec F S2x16x1024x1024 .f32) (main_arg5 : FVec F S2x16x512x1024 .f32) : IVec S152 1 :=
  let main_c : IVec S_ 32 := constantI S_ 32 0#32
  let main_v0 : IVec S152 32 := broadcastInDim S152 ![] bcast_S_S152 main_c
  let main_v1 : IVec S152 1 := cmpi .sge main_arg0 main_v0
  let main_c_0 : IVec S_ 32 := constantI S_ 32 16#32
  let main_v2 : IVec S152 32 := broadcastInDim S152 ![] bcast_S_S152 main_c_0
  let main_v3 : IVec S152 1 := cmpi .slt main_arg0 main_v2
  let main_v4 : IVec S152 1 := andi main_v1 main_v3
  let main_c_1 : IVec S_ 32 := constantI S_ 32 0#32
  let main_v5 : IVec S152 32 := broadcastInDim S152 ![] bcast_S_S152 main_c_1
  let main_v6 : IVec S152 1 := cmpi .sge main_arg1 main_v5
  let main_v7 : IVec S152 1 := andi main_v4 main_v6
  let main_c_2 : IVec S_ 32 := constantI S_ 32 16#32
  let main_v8 : IVec S152 32 := broadcastInDim S152 ![] bcast_S_S152 main_c_2
  let main_v9 : IVec S152 1 := cmpi .slt main_arg1 main_v8
  let main_v10 : IVec S152 1 := andi main_v7 main_v9
  main_v10
-- ==== Kernel.lean ====
abbrev S152 : Shape := ⟨1, ![152]⟩
abbrev S622592x128 : Shape := ⟨2, ![622592, 128]⟩
abbrev S2x16x1024x1024 : Shape := ⟨4, ![2, 16, 1024, 1024]⟩
abbrev S2x16x512x1024 : Shape := ⟨4, ![2, 16, 512, 1024]⟩
abbrev S4096x128 : Shape := ⟨2, ![4096, 128]⟩
abbrev S1x1x1024x1024 : Shape := ⟨4, ![1, 1, 1024, 1024]⟩
abbrev S1 : Shape := ⟨1, ![1]⟩
abbrev S1x1x512x1024 : Shape := ⟨4, ![1, 1, 512, 1024]⟩
abbrev S512x128 : Shape := ⟨2, ![512, 128]⟩
abbrev S512x512 : Shape := ⟨2, ![512, 512]⟩
abbrev S512x1024 : Shape := ⟨2, ![512, 1024]⟩
abbrev S512x1 : Shape := ⟨2, ![512, 1]⟩
abbrev S1024x1024 : Shape := ⟨2, ![1024, 1024]⟩

abbrev nBuf : Space → Nat
  | .hbm => 6
  | .vmem => 12
  | .smem => 3
  | _ => 0

abbrev bufTy : (tb : Table) → Fin (tcTables nBuf tb) → BufTy
  | .hbm, ⟨0, _⟩ => ⟨S622592x128, .i32⟩
  | .hbm, ⟨1, _⟩ => ⟨S2x16x1024x1024, .f32⟩
  | .hbm, ⟨2, _⟩ => ⟨S2x16x512x1024, .f32⟩
  | .hbm, ⟨3, _⟩ => ⟨S2x16x1024x1024, .bf16⟩
  | .hbm, ⟨4, _⟩ => ⟨S2x16x512x1024, .bf16⟩
  | .hbm, ⟨5, _⟩ => ⟨S622592x128, .f32⟩
  | .local _ .vmem, ⟨0, _⟩ => ⟨S4096x128, .i32⟩
  | .local _ .vmem, ⟨1, _⟩ => ⟨S4096x128, .i32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1x1x512x1024, .bf16⟩
  | .local _ .vmem, ⟨7, _⟩ => ⟨S1x1x512x1024, .bf16⟩
  | .local _ .vmem, ⟨8, _⟩ => ⟨S1x1x512x1024, .bf16⟩
  | .local _ .vmem, ⟨9, _⟩ => ⟨S1x1x512x1024, .bf16⟩
  | .local _ .vmem, ⟨10, _⟩ => ⟨S4096x128, .f32⟩
  | .local _ .vmem, ⟨11, _⟩ => ⟨S4096x128, .f32⟩
  | .local _ .smem, ⟨0, _⟩ => ⟨S152, .i32⟩
  | .local _ .smem, ⟨1, _⟩ => ⟨S152, .i32⟩
  | .local _ .smem, ⟨2, _⟩ => ⟨S152, .i32⟩
  | _, _ => ⟨S622592x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S152.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S152 : Shape := ⟨1, ![152]⟩
abbrev S622592x128 : Shape := ⟨2, ![622592, 128]⟩
abbrev S2x16x1024x1024 : Shape := ⟨4, ![2, 16, 1024, 1024]⟩
abbrev S2x16x512x1024 : Shape := ⟨4, ![2, 16, 512, 1024]⟩
abbrev S77824x8x128 : Shape := ⟨3, ![77824, 8, 128]⟩
abbrev S77824x4x128 : Shape := ⟨3, ![77824, 4, 128]⟩
abbrev S77824x512 : Shape := ⟨2, ![77824, 512]⟩
abbrev S_ : Shape := ⟨0, ![]⟩
abbrev S77824x1024 : Shape := ⟨2, ![77824, 1024]⟩
abbrev S77824x1x1 : Shape := ⟨3, ![77824, 1, 1]⟩
abbrev S77824 : Shape := ⟨1, ![77824]⟩
abbrev S152x512 : Shape := ⟨2, ![152, 512]⟩
abbrev S77824x1 : Shape := ⟨2, ![77824, 1]⟩
abbrev S1x16 : Shape := ⟨2, ![1, 16]⟩
abbrev S77824x16 : Shape := ⟨2, ![77824, 16]⟩
abbrev S1x1x1024x1024 : Shape := ⟨4, ![1, 1, 1024, 1024]⟩
abbrev S1024x1024 : Shape := ⟨2, ![1024, 1024]⟩
abbrev S1x1x512x1024 : Shape := ⟨4, ![1, 1, 512, 1024]⟩
abbrev S512x1024 : Shape := ⟨2, ![512, 1024]⟩

abbrev nBuf : Space → Nat
  | .hbm => 413
  | .vmem => 0
  | .smem => 0
  | _ => 0

abbrev hbmTy0_0 (i : Nat) : BufTy := match i % 128 with
  | 0 => ⟨S152, .i32⟩
  | 1 => ⟨S152, .i32⟩
  | 2 => ⟨S152, .i32⟩
  | 3 => ⟨S622592x128, .i32⟩
  | 4 => ⟨S2x16x1024x1024, .f32⟩
  | 5 => ⟨S2x16x512x1024, .f32⟩
  | 6 => ⟨S77824x8x128, .i32⟩
  | 7 => ⟨S77824x4x128, .i32⟩
  | 8 => ⟨S77824x512, .i32⟩
  | 9 => ⟨S_, .i32⟩
  | 10 => ⟨S77824x512, .i32⟩
  | 11 => ⟨S77824x512, .i32⟩
  | 12 => ⟨S77824x512, .f32⟩
  | 13 => ⟨S_, .i32⟩
  | 14 => ⟨S77824x512, .i32⟩
  | 15 => ⟨S77824x512, .i32⟩
  | 16 => ⟨S77824x512, .f32⟩
  | 17 => ⟨S77824x1024, .f32⟩
  | 18 => ⟨S77824x1x1, .i32⟩
  | 19 => ⟨S77824, .i32⟩
  | 20 => ⟨S77824, .f32⟩
  | 21 => ⟨S77824x1x1, .i32⟩
  | 22 => ⟨S77824, .i32⟩
  | 23 => ⟨S77824, .f32⟩
  | 24 => ⟨S152x512, .i32⟩
  | 25 => ⟨S77824, .i32⟩
  | 26 => ⟨S152x512, .i32⟩
  | 27 => ⟨S77824, .i32⟩
  | 28 => ⟨S152x512, .i32⟩
  | 29 => ⟨S77824, .i32⟩
  | 30 => ⟨S_, .i32⟩
  | 31 => ⟨S77824, .i32⟩
  | 32 => ⟨S77824, .i1⟩
  | 33 => ⟨S77824x1, .i32⟩
  | 34 => ⟨S1x16, .i32⟩
  | 35 => ⟨S77824x16, .i32⟩
  | 36 => ⟨S77824x16, .i32⟩
  | 37 => ⟨S77824x16, .i1⟩
  | 38 => ⟨S77824x16, .f32⟩
  | 39 => ⟨S77824x1, .f32⟩
  | 40 => ⟨S77824x16, .f32⟩
  | 41 => ⟨S77824x16, .f32⟩
  | 42 => ⟨S77824x1, .i32⟩
  | 43 => ⟨S1x16, .i32⟩
  | 44 => ⟨S77824x16, .i32⟩
  | 45 => ⟨S77824x16, .i32⟩
  | 46 => ⟨S77824x16, .i1⟩
  | 47 => ⟨S77824x16, .f32⟩
  | 48 => ⟨S77824x1, .f32⟩
  | 49 => ⟨S77824x16, .f32⟩
  | 50 => ⟨S77824x16, .f32⟩
  | 51 => ⟨S77824x16, .f32⟩
  | 52 => ⟨S_, .f32⟩
  | 53 => ⟨S77824x1024, .f32⟩
  | 54 => ⟨S1x1x1024x1024, .f32⟩
  | 55 => ⟨S1024x1024, .f32⟩
  | 56 => ⟨S77824x1024, .f32⟩
  | 57 => ⟨S77824x512, .f32⟩
  | 58 => ⟨S77824x512, .f32⟩
  | 59 => ⟨S77824x512, .f32⟩
  | 60 => ⟨S77824x512, .f32⟩
  | 61 => ⟨S_, .f32⟩
  | 62 => ⟨S77824x512, .f32⟩
  | 63 => ⟨S77824x512, .f32⟩
  | 64 => ⟨S_, .f32⟩
  | 65 => ⟨S77824x512, .f32⟩
  | 66 => ⟨S77824x512, .f32⟩
  | 67 => ⟨S77824x512, .f32⟩
  | 68 => ⟨S77824x512, .f32⟩
  | 69 => ⟨S1x1x512x1024, .f32⟩
  | 70 => ⟨S512x1024, .f32⟩
  | 71 => ⟨S77824x1024, .f32⟩
  | 72 => ⟨S77824x1, .f32⟩
  | 73 => ⟨S77824x1024, .f32⟩
  | 74 => ⟨S77824x1024, .f32⟩
  | 75 => ⟨S77824x1024, .f32⟩
  | 76 => ⟨S1x1x1024x1024, .f32⟩
  | 77 => ⟨S1024x1024, .f32⟩
  | 78 => ⟨S77824x1024, .f32⟩
  | 79 => ⟨S77824x512, .f32⟩
  | 80 => ⟨S77824x512, .f32⟩
  | 81 => ⟨S77824x512, .f32⟩
  | 82 => ⟨S77824x512, .f32⟩
  | 83 => ⟨S_, .f32⟩
  | 84 => ⟨S77824x512, .f32⟩
  | 85 => ⟨S77824x512, .f32⟩
  | 86 => ⟨S_, .f32⟩
  | 87 => ⟨S77824x512, .f32⟩
  | 88 => ⟨S77824x512, .f32⟩
  | 89 => ⟨S77824x512, .f32⟩
  | 90 => ⟨S77824x512, .f32⟩
  | 91 => ⟨S1x1x512x1024, .f32⟩
  | 92 => ⟨S512x1024, .f32⟩
  | 93 => ⟨S77824x1024, .f32⟩
  | 94 => ⟨S77824x1, .f32⟩
  | 95 => ⟨S77824x1024, .f32⟩
  | 96 => ⟨S77824x1024, .f32⟩
  | 97 => ⟨S77824x1024, .f32⟩
  | 98 => ⟨S1x1x1024x1024, .f32⟩
  | 99 => ⟨S1024x1024, .f32⟩
  | 100 => ⟨S77824x1024, .f32⟩
  | 101 => ⟨S77824x512, .f32⟩
  | 102 => ⟨S77824x512, .f32⟩
  | 103 => ⟨S77824x512, .f32⟩
  | 104 => ⟨S77824x512, .f32⟩
  | 105 => ⟨S_, .f32⟩
  | 106 => ⟨S77824x512, .f32⟩
  | 107 => ⟨S77824x512, .f32⟩
  | 108 => ⟨S_, .f32⟩
  | 109 => ⟨S77824x512, .f32⟩
  | 110 => ⟨S77824x512, .f32⟩
  | 111 => ⟨S77824x512, .f32⟩
  | 112 => ⟨S77824x512, .f32⟩
  | 113 => ⟨S1x1x512x1024, .f32⟩
  | 114 => ⟨S512x1024, .f32⟩
  | 115 => ⟨S77824x1024, .f32⟩
  | 116 => ⟨S77824x1, .f32⟩
  | 117 => ⟨S77824x1024, .f32⟩
  | 118 => ⟨S77824x1024, .f32⟩
  | 119 => ⟨S77824x1024, .f32⟩
  | 120 => ⟨S1x1x1024x1024, .f32⟩
  | 121 => ⟨S1024x1024, .f32⟩
  | 122 => ⟨S77824x1024, .f32⟩
  | 123 => ⟨S77824x512, .f32⟩
  | 124 => ⟨S77824x512, .f32⟩
  | 125 => ⟨S77824x512, .f32⟩
  | 126 => ⟨S77824x512, .f32⟩
  | 127 => ⟨S_, .f32⟩
  | _ => ⟨S152, .i32⟩

abbrev hbmTy0_1 (i : Nat) : BufTy := match i % 128 with
  | 0 => ⟨S77824x512, .f32⟩
  | 1 => ⟨S77824x512, .f32⟩
  | 2 => ⟨S_, .f32⟩
  | 3 => ⟨S77824x512, .f32⟩
  | 4 => ⟨S77824x512, .f32⟩
  | 5 => ⟨S77824x512, .f32⟩
  | 6 => ⟨S77824x512, .f32⟩
  | 7 => ⟨S1x1x512x1024, .f32⟩
  | 8 => ⟨S512x1024, .f32⟩
  | 9 => ⟨S77824x1024, .f32⟩
  | 10 => ⟨S77824x1, .f32⟩
  | 11 => ⟨S77824x1024, .f32⟩
  | 12 => ⟨S77824x1024, .f32⟩
  | 13 => ⟨S77824x1024, .f32⟩
  | 14 => ⟨S1x1x1024x1024, .f32⟩
  | 15 => ⟨S1024x1024, .f32⟩
  | 16 => ⟨S77824x1024, .f32⟩
  | 17 => ⟨S77824x512, .f32⟩
  | 18 => ⟨S77824x512, .f32⟩
  | 19 => ⟨S77824x512, .f32⟩
  | 20 => ⟨S77824x512, .f32⟩
  | 21 => ⟨S_, .f32⟩
  | 22 => ⟨S77824x512, .f32⟩
  | 23 => ⟨S77824x512, .f32⟩
  | 24 => ⟨S_, .f32⟩
  | 25 => ⟨S77824x512, .f32⟩
  | 26 => ⟨S77824x512, .f32⟩
  | 27 => ⟨S77824x512, .f32⟩
  | 28 => ⟨S77824x512, .f32⟩
  | 29 => ⟨S1x1x512x1024, .f32⟩
  | 30 => ⟨S512x1024, .f32⟩
  | 31 => ⟨S77824x1024, .f32⟩
  | 32 => ⟨S77824x1, .f32⟩
  | 33 => ⟨S77824x1024, .f32⟩
  | 34 => ⟨S77824x1024, .f32⟩
  | 35 => ⟨S77824x1024, .f32⟩
  | 36 => ⟨S1x1x1024x1024, .f32⟩
  | 37 => ⟨S1024x1024, .f32⟩
  | 38 => ⟨S77824x1024, .f32⟩
  | 39 => ⟨S77824x512, .f32⟩
  | 40 => ⟨S77824x512, .f32⟩
  | 41 => ⟨S77824x512, .f32⟩
  | 42 => ⟨S77824x512, .f32⟩
  | 43 => ⟨S_, .f32⟩
  | 44 => ⟨S77824x512, .f32⟩
  | 45 => ⟨S77824x512, .f32⟩
  | 46 => ⟨S_, .f32⟩
  | 47 => ⟨S77824x512, .f32⟩
  | 48 => ⟨S77824x512, .f32⟩
  | 49 => ⟨S77824x512, .f32⟩
  | 50 => ⟨S77824x512, .f32⟩
  | 51 => ⟨S1x1x512x1024, .f32⟩
  | 52 => ⟨S512x1024, .f32⟩
  | 53 => ⟨S77824x1024, .f32⟩
  | 54 => ⟨S77824x1, .f32⟩
  | 55 => ⟨S77824x1024, .f32⟩
  | 56 => ⟨S77824x1024, .f32⟩
  | 57 => ⟨S77824x1024, .f32⟩
  | 58 => ⟨S1x1x1024x1024, .f32⟩
  | 59 => ⟨S1024x1024, .f32⟩
  | 60 => ⟨S77824x1024, .f32⟩
  | 61 => ⟨S77824x512, .f32⟩
  | 62 => ⟨S77824x512, .f32⟩
  | 63 => ⟨S77824x512, .f32⟩
  | 64 => ⟨S77824x512, .f32⟩
  | 65 => ⟨S_, .f32⟩
  | 66 => ⟨S77824x512, .f32⟩
  | 67 => ⟨S77824x512, .f32⟩
  | 68 => ⟨S_, .f32⟩
  | 69 => ⟨S77824x512, .f32⟩
  | 70 => ⟨S77824x512, .f32⟩
  | 71 => ⟨S77824x512, .f32⟩
  | 72 => ⟨S77824x512, .f32⟩
  | 73 => ⟨S1x1x512x1024, .f32⟩
  | 74 => ⟨S512x1024, .f32⟩
  | 75 => ⟨S77824x1024, .f32⟩
  | 76 => ⟨S77824x1, .f32⟩
  | 77 => ⟨S77824x1024, .f32⟩
  | 78 => ⟨S77824x1024, .f32⟩
  | 79 => ⟨S77824x1024, .f32⟩
  | 80 => ⟨S1x1x1024x1024, .f32⟩
  | 81 => ⟨S1024x1024, .f32⟩
  | 82 => ⟨S77824x1024, .f32⟩
  | 83 => ⟨S77824x512, .f32⟩
  | 84 => ⟨S77824x512, .f32⟩
  | 85 => ⟨S77824x512, .f32⟩
  | 86 => ⟨S77824x512, .f32⟩
  | 87 => ⟨S_, .f32⟩
  | 88 => ⟨S77824x512, .f32⟩
  | 89 => ⟨S77824x512, .f32⟩
  | 90 => ⟨S_, .f32⟩
  | 91 => ⟨S77824x512, .f32⟩
  | 92 => ⟨S77824x512, .f32⟩
  | 93 => ⟨S77824x512, .f32⟩
  | 94 => ⟨S77824x512, .f32⟩
  | 95 => ⟨S1x1x512x1024, .f32⟩
  | 96 => ⟨S512x1024, .f32⟩
  | 97 => ⟨S77824x1024, .f32⟩
  | 98 => ⟨S77824x1, .f32⟩
  | 99 => ⟨S77824x1024, .f32⟩
  | 100 => ⟨S77824x1024, .f32⟩
  | 101 => ⟨S77824x1024, .f32⟩
  | 102 => ⟨S1x1x1024x1024, .f32⟩
  | 103 => ⟨S1024x1024, .f32⟩
  | 104 => ⟨S77824x1024, .f32⟩
  | 105 => ⟨S77824x512, .f32⟩
  | 106 => ⟨S77824x512, .f32⟩
  | 107 => ⟨S77824x512, .f32⟩
  | 108 => ⟨S77824x512, .f32⟩
  | 109 => ⟨S_, .f32⟩
  | 110 => ⟨S77824x512, .f32⟩
  | 111 => ⟨S77824x512, .f32⟩
  | 112 => ⟨S_, .f32⟩
  | 113 => ⟨S77824x512, .f32⟩
  | 114 => ⟨S77824x512, .f32⟩
  | 115 => ⟨S77824x512, .f32⟩
  | 116 => ⟨S77824x512, .f32⟩
  | 117 => ⟨S1x1x512x1024, .f32⟩
  | 118 => ⟨S512x1024, .f32⟩
  | 119 => ⟨S77824x1024, .f32⟩
  | 120 => ⟨S77824x1, .f32⟩
  | 121 => ⟨S77824x1024, .f32⟩
  | 122 => ⟨S77824x1024, .f32⟩
  | 123 => ⟨S77824x1024, .f32⟩
  | 124 => ⟨S1x1x1024x1024, .f32⟩
  | 125 => ⟨S1024x1024, .f32⟩
  | 126 => ⟨S77824x1024, .f32⟩
  | 127 => ⟨S77824x512, .f32⟩
  | _ => ⟨S152, .i32⟩

abbrev hbmTy0_2 (i : Nat) : BufTy := match i % 128 with
  | 0 => ⟨S77824x512, .f32⟩
  | 1 => ⟨S77824x512, .f32⟩
  | 2 => ⟨S77824x512, .f32⟩
  | 3 => ⟨S_, .f32⟩
  | 4 => ⟨S77824x512, .f32⟩
  | 5 => ⟨S77824x512, .f32⟩
  | 6 => ⟨S_, .f32⟩
  | 7 => ⟨S77824x512, .f32⟩
  | 8 => ⟨S77824x512, .f32⟩
  | 9 => ⟨S77824x512, .f32⟩
  | 10 => ⟨S77824x512, .f32⟩
  | 11 => ⟨S1x1x512x1024, .f32⟩
  | 12 => ⟨S512x1024, .f32⟩
  | 13 => ⟨S77824x1024, .f32⟩
  | 14 => ⟨S77824x1, .f32⟩
  | 15 => ⟨S77824x1024, .f32⟩
  | 16 => ⟨S77824x1024, .f32⟩
  | 17 => ⟨S77824x1024, .f32⟩
  | 18 => ⟨S1x1x1024x1024, .f32⟩
  | 19 => ⟨S1024x1024, .f32⟩
  | 20 => ⟨S77824x1024, .f32⟩
  | 21 => ⟨S77824x512, .f32⟩
  | 22 => ⟨S77824x512, .f32⟩
  | 23 => ⟨S77824x512, .f32⟩
  | 24 => ⟨S77824x512, .f32⟩
  | 25 => ⟨S_, .f32⟩
  | 26 => ⟨S77824x512, .f32⟩
  | 27 => ⟨S77824x512, .f32⟩
  | 28 => ⟨S_, .f32⟩
  | 29 => ⟨S77824x512, .f32⟩
  | 30 => ⟨S77824x512, .f32⟩
  | 31 => ⟨S77824x512, .f32⟩
  | 32 => ⟨S77824x512, .f32⟩
  | 33 => ⟨S1x1x512x1024, .f32⟩
  | 34 => ⟨S512x1024, .f32⟩
  | 35 => ⟨S77824x1024, .f32⟩
  | 36 => ⟨S77824x1, .f32⟩
  | 37 => ⟨S77824x1024, .f32⟩
  | 38 => ⟨S77824x1024, .f32⟩
  | 39 => ⟨S77824x1024, .f32⟩
  | 40 => ⟨S1x1x1024x1024, .f32⟩
  | 41 => ⟨S1024x1024, .f32⟩
  | 42 => ⟨S77824x1024, .f32⟩
  | 43 => ⟨S77824x512, .f32⟩
  | 44 => ⟨S77824x512, .f32⟩
  | 45 => ⟨S77824x512, .f32⟩
  | 46 => ⟨S77824x512, .f32⟩
  | 47 => ⟨S_, .f32⟩
  | 48 => ⟨S77824x512, .f32⟩
  | 49 => ⟨S77824x512, .f32⟩
  | 50 => ⟨S_, .f32⟩
  | 51 => ⟨S77824x512, .f32⟩
  | 52 => ⟨S77824x512, .f32⟩
  | 53 => ⟨S77824x512, .f32⟩
  | 54 => ⟨S77824x512, .f32⟩
  | 55 => ⟨S1x1x512x1024, .f32⟩
  | 56 => ⟨S512x1024, .f32⟩
  | 57 => ⟨S77824x1024, .f32⟩
  | 58 => ⟨S77824x1, .f32⟩
  | 59 => ⟨S77824x1024, .f32⟩
  | 60 => ⟨S77824x1024, .f32⟩
  | 61 => ⟨S77824x1024, .f32⟩
  | 62 => ⟨S1x1x1024x1024, .f32⟩
  | 63 => ⟨S1024x1024, .f32⟩
  | 64 => ⟨S77824x1024, .f32⟩
  | 65 => ⟨S77824x512, .f32⟩
  | 66 => ⟨S77824x512, .f32⟩
  | 67 => ⟨S77824x512, .f32⟩
  | 68 => ⟨S77824x512, .f32⟩
  | 69 => ⟨S_, .f32⟩
  | 70 => ⟨S77824x512, .f32⟩
  | 71 => ⟨S77824x512, .f32⟩
  | 72 => ⟨S_, .f32⟩
  | 73 => ⟨S77824x512, .f32⟩
  | 74 => ⟨S77824x512, .f32⟩
  | 75 => ⟨S77824x512, .f32⟩
  | 76 => ⟨S77824x512, .f32⟩
  | 77 => ⟨S1x1x512x1024, .f32⟩
  | 78 => ⟨S512x1024, .f32⟩
  | 79 => ⟨S77824x1024, .f32⟩
  | 80 => ⟨S77824x1, .f32⟩
  | 81 => ⟨S77824x1024, .f32⟩
  | 82 => ⟨S77824x1024, .f32⟩
  | 83 => ⟨S77824x1024, .f32⟩
  | 84 => ⟨S1x1x1024x1024, .f32⟩
  | 85 => ⟨S1024x1024, .f32⟩
  | 86 => ⟨S77824x1024, .f32⟩
  | 87 => ⟨S77824x512, .f32⟩
  | 88 => ⟨S77824x512, .f32⟩
  | 89 => ⟨S77824x512, .f32⟩
  | 90 => ⟨S77824x512, .f32⟩
  | 91 => ⟨S_, .f32⟩
  | 92 => ⟨S77824x512, .f32⟩
  | 93 => ⟨S77824x512, .f32⟩
  | 94 => ⟨S_, .f32⟩
  | 95 => ⟨S77824x512, .f32⟩
  | 96 => ⟨S77824x512, .f32⟩
  | 97 => ⟨S77824x512, .f32⟩
  | 98 => ⟨S77824x512, .f32⟩
  | 99 => ⟨S1x1x512x1024, .f32⟩
  | 100 => ⟨S512x1024, .f32⟩
  | 101 => ⟨S77824x1024, .f32⟩
  | 102 => ⟨S77824x1, .f32⟩
  | 103 => ⟨S77824x1024, .f32⟩
  | 104 => ⟨S77824x1024, .f32⟩
  | 105 => ⟨S77824x1024, .f32⟩
  | 106 => ⟨S1x1x1024x1024, .f32⟩
  | 107 => ⟨S1024x1024, .f32⟩
  | 108 => ⟨S77824x1024, .f32⟩
  | 109 => ⟨S77824x512, .f32⟩
  | 110 => ⟨S77824x512, .f32⟩
  | 111 => ⟨S77824x512, .f32⟩
  | 112 => ⟨S77824x512, .f32⟩
  | 113 => ⟨S_, .f32⟩
  | 114 => ⟨S77824x512, .f32⟩
  | 115 => ⟨S77824x512, .f32⟩
  | 116 => ⟨S_, .f32⟩
  | 117 => ⟨S77824x512, .f32⟩
  | 118 => ⟨S77824x512, .f32⟩
  | 119 => ⟨S77824x512, .f32⟩
  | 120 => ⟨S77824x512, .f32⟩
  | 121 => ⟨S1x1x512x1024, .f32⟩
  | 122 => ⟨S512x1024, .f32⟩
  | 123 => ⟨S77824x1024, .f32⟩
  | 124 => ⟨S77824x1, .f32⟩
  | 125 => ⟨S77824x1024, .f32⟩
  | 126 => ⟨S77824x1024, .f32⟩
  | 127 => ⟨S77824x1024, .f32⟩
  | _ => ⟨S152, .i32⟩

abbrev hbmTy0_3 (i : Nat) : BufTy := match i % 128 with
  | 0 => ⟨S1x1x1024x1024, .f32⟩
  | 1 => ⟨S1024x1024, .f32⟩
  | 2 => ⟨S77824x1024, .f32⟩
  | 3 => ⟨S77824x512, .f32⟩
  | 4 => ⟨S77824x512, .f32⟩
  | 5 => ⟨S77824x512, .f32⟩
  | 6 => ⟨S77824x512, .f32⟩
  | 7 => ⟨S_, .f32⟩
  | 8 => ⟨S77824x512, .f32⟩
  | 9 => ⟨S77824x512, .f32⟩
  | 10 => ⟨S_, .f32⟩
  | 11 => ⟨S77824x512, .f32⟩
  | 12 => ⟨S77824x512, .f32⟩
  | 13 => ⟨S77824x512, .f32⟩
  | 14 => ⟨S77824x512, .f32⟩
  | 15 => ⟨S1x1x512x1024, .f32⟩
  | 16 => ⟨S512x1024, .f32⟩
  | 17 => ⟨S77824x1024, .f32⟩
  | 18 => ⟨S77824x1, .f32⟩
  | 19 => ⟨S77824x1024, .f32⟩
  | 20 => ⟨S77824x1024, .f32⟩
  | 21 => ⟨S77824x1024, .f32⟩
  | 22 => ⟨S77824x1, .i1⟩
  | 23 => ⟨S_, .f32⟩
  | 24 => ⟨S_, .f32⟩
  | 25 => ⟨S77824x1024, .i1⟩
  | 26 => ⟨S77824x1024, .f32⟩
  | 27 => ⟨S77824x1024, .f32⟩
  | 28 => ⟨S622592x128, .f32⟩
  | _ => ⟨S152, .i32⟩

abbrev hbmTy (i : Nat) : BufTy := match i / 128 with
  | 0 => hbmTy0_0 i
  | 1 => hbmTy0_1 i
  | 2 => hbmTy0_2 i
  | 3 => hbmTy0_3 i
  | _ => ⟨S152, .i32⟩

abbrev bufTy : (tb : Table) → Fin (tcTables nBuf tb) → BufTy
  | .hbm, ⟨i, _⟩ => hbmTy i
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_1 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call3_v0 : Ref sig .tc := ⟨.hbm, 81, rfl⟩
abbrev main_call3_v1 : Ref sig .tc := ⟨.hbm, 82, rfl⟩
abbrev main_call3_cst : Ref sig .tc := ⟨.hbm, 83, rfl⟩
abbrev main_call3_v2 : Ref sig .tc := ⟨.hbm, 84, rfl⟩
abbrev main_call3_v3 : Ref sig .tc := ⟨.hbm, 85, rfl⟩
abbrev main_call3_cst_0 : Ref sig .tc := ⟨.hbm, 86, rfl⟩
abbrev main_call3_v4 : Ref sig .tc := ⟨.hbm, 87, rfl⟩
abbrev main_call3_v5 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call4_v0 : Ref sig .tc := ⟨.hbm, 103, rfl⟩
abbrev main_call4_v1 : Ref sig .tc := ⟨.hbm, 104, rfl⟩
abbrev main_call4_cst : Ref sig .tc := ⟨.hbm, 105, rfl⟩
abbrev main_call4_v2 : Ref sig .tc := ⟨.hbm, 106, rfl⟩
abbrev main_call4_v3 : Ref sig .tc := ⟨.hbm, 107, rfl⟩
abbrev main_call4_cst_0 : Ref sig .tc := ⟨.hbm, 108, rfl⟩
abbrev main_call4_v4 : Ref sig .tc := ⟨.hbm, 109, rfl⟩
abbrev main_call4_v5 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_call5_v0 : Ref sig .tc := ⟨.hbm, 125, rfl⟩
abbrev main_call5_v1 : Ref sig .tc := ⟨.hbm, 126, rfl⟩
abbrev main_call5_cst : Ref sig .tc := ⟨.hbm, 127, rfl⟩
abbrev main_call5_v2 : Ref sig .tc := ⟨.hbm, 128, rfl⟩
abbrev main_call5_v3 : Ref sig .tc := ⟨.hbm, 129, rfl⟩
abbrev main_call5_cst_0 : Ref sig .tc := ⟨.hbm, 130, rfl⟩
abbrev main_call5_v4 : Ref sig .tc := ⟨.hbm, 131, rfl⟩
abbrev main_call5_v5 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_call6_v0 : Ref sig .tc := ⟨.hbm, 147, rfl⟩
abbrev main_call6_v1 : Ref sig .tc := ⟨.hbm, 148, rfl⟩
abbrev main_call6_cst : Ref sig .tc := ⟨.hbm, 149, rfl⟩
abbrev main_call6_v2 : Ref sig .tc := ⟨.hbm, 150, rfl⟩
abbrev main_call6_v3 : Ref sig .tc := ⟨.hbm, 151, rfl⟩
abbrev main_call6_cst_0 : Ref sig .tc := ⟨.hbm, 152, rfl⟩
abbrev main_call6_v4 : Ref sig .tc := ⟨.hbm, 153, rfl⟩
abbrev main_call6_v5 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_call7_v0 : Ref sig .tc := ⟨.hbm, 169, rfl⟩
abbrev main_call7_v1 : Ref sig .tc := ⟨.hbm, 170, rfl⟩
abbrev main_call7_cst : Ref sig .tc := ⟨.hbm, 171, rfl⟩
abbrev main_call7_v2 : Ref sig .tc := ⟨.hbm, 172, rfl⟩
abbrev main_call7_v3 : Ref sig .tc := ⟨.hbm, 173, rfl⟩
abbrev main_call7_cst_0 : Ref sig .tc := ⟨.hbm, 174, rfl⟩
abbrev main_call7_v4 : Ref sig .tc := ⟨.hbm, 175, rfl⟩
abbrev main_call7_v5 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_call8_v0 : Ref sig .tc := ⟨.hbm, 191, rfl⟩
abbrev main_call8_v1 : Ref sig .tc := ⟨.hbm, 192, rfl⟩
abbrev main_call8_cst : Ref sig .tc := ⟨.hbm, 193, rfl⟩
abbrev main_call8_v2 : Ref sig .tc := ⟨.hbm, 194, rfl⟩
abbrev main_call8_v3 : Ref sig .tc := ⟨.hbm, 195, rfl⟩
abbrev main_call8_cst_0 : Ref sig .tc := ⟨.hbm, 196, rfl⟩
abbrev main_call8_v4 : Ref sig .tc := ⟨.hbm, 197, rfl⟩
abbrev main_call8_v5 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_call9_v0 : Ref sig .tc := ⟨.hbm, 213, rfl⟩
abbrev main_call9_v1 : Ref sig .tc := ⟨.hbm, 214, rfl⟩
abbrev main_call9_cst : Ref sig .tc := ⟨.hbm, 215, rfl⟩
abbrev main_call9_v2 : Ref sig .tc := ⟨.hbm, 216, rfl⟩
abbrev main_call9_v3 : Ref sig .tc := ⟨.hbm, 217, rfl⟩
abbrev main_call9_cst_0 : Ref sig .tc := ⟨.hbm, 218, rfl⟩
abbrev main_call9_v4 : Ref sig .tc := ⟨.hbm, 219, rfl⟩
abbrev main_call9_v5 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_call10_v0 : Ref sig .tc := ⟨.hbm, 235, rfl⟩
abbrev main_call10_v1 : Ref sig .tc := ⟨.hbm, 236, rfl⟩
abbrev main_call10_cst : Ref sig .tc := ⟨.hbm, 237, rfl⟩
abbrev main_call10_v2 : Ref sig .tc := ⟨.hbm, 238, rfl⟩
abbrev main_call10_v3 : Ref sig .tc := ⟨.hbm, 239, rfl⟩
abbrev main_call10_cst_0 : Ref sig .tc := ⟨.hbm, 240, rfl⟩
abbrev main_call10_v4 : Ref sig .tc := ⟨.hbm, 241, rfl⟩
abbrev main_call10_v5 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_call11_v0 : Ref sig .tc := ⟨.hbm, 257, rfl⟩
abbrev main_call11_v1 : Ref sig .tc := ⟨.hbm, 258, rfl⟩
abbrev main_call11_cst : Ref sig .tc := ⟨.hbm, 259, rfl⟩
abbrev main_call11_v2 : Ref sig .tc := ⟨.hbm, 260, rfl⟩
abbrev main_call11_v3 : Ref sig .tc := ⟨.hbm, 261, rfl⟩
abbrev main_call11_cst_0 : Ref sig .tc := ⟨.hbm, 262, rfl⟩
abbrev main_call11_v4 : Ref sig .tc := ⟨.hbm, 263, rfl⟩
abbrev main_call11_v5 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_call12_v0 : Ref sig .tc := ⟨.hbm, 279, rfl⟩
abbrev main_call12_v1 : Ref sig .tc := ⟨.hbm, 280, rfl⟩
abbrev main_call12_cst : Ref sig .tc := ⟨.hbm, 281, rfl⟩
abbrev main_call12_v2 : Ref sig .tc := ⟨.hbm, 282, rfl⟩
abbrev main_call12_v3 : Ref sig .tc := ⟨.hbm, 283, rfl⟩
abbrev main_call12_cst_0 : Ref sig .tc := ⟨.hbm, 284, rfl⟩
abbrev main_call12_v4 : Ref sig .tc := ⟨.hbm, 285, rfl⟩
abbrev main_call12_v5 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_v182 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_v192 : Ref sig .tc := ⟨.hbm, 300, rfl⟩
abbrev main_call13_v0 : Ref sig .tc := ⟨.hbm, 301, rfl⟩
abbrev main_call13_v1 : Ref sig .tc := ⟨.hbm, 302, rfl⟩
abbrev main_call13_cst : Ref sig .tc := ⟨.hbm, 303, rfl⟩
abbrev main_call13_v2 : Ref sig .tc := ⟨.hbm, 304, rfl⟩
abbrev main_call13_v3 : Ref sig .tc := ⟨.hbm, 305, rfl⟩
abbrev main_call13_cst_0 : Ref sig .tc := ⟨.hbm, 306, rfl⟩
abbrev main_call13_v4 : Ref sig .tc := ⟨.hbm, 307, rfl⟩
abbrev main_call13_v5 : Ref sig .tc := ⟨.hbm, 308, rfl⟩
abbrev main_v193 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_v198 : Ref sig .tc := ⟨.hbm, 314, rfl⟩
abbrev main_v199 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_v204 : Ref sig .tc := ⟨.hbm, 320, rfl⟩
abbrev main_v205 : Ref sig .tc := ⟨.hbm, 321, rfl⟩
abbrev main_v206 : Ref sig .tc := ⟨.hbm, 322, rfl⟩
abbrev main_call14_v0 : Ref sig .tc := ⟨.hbm, 323, rfl⟩
abbrev main_call14_v1 : Ref sig .tc := ⟨.hbm, 324, rfl⟩
abbrev main_call14_cst : Ref sig .tc := ⟨.hbm, 325, rfl⟩
abbrev main_call14_v2 : Ref sig .tc := ⟨.hbm, 326, rfl⟩
abbrev main_call14_v3 : Ref sig .tc := ⟨.hbm, 327, rfl⟩
abbrev main_call14_cst_0 : Ref sig .tc := ⟨.hbm, 328, rfl⟩
abbrev main_call14_v4 : Ref sig .tc := ⟨.hbm, 329, rfl⟩
abbrev main_call14_v5 : Ref sig .tc := ⟨.hbm, 330, rfl⟩
abbrev main_v207 : Ref sig .tc := ⟨.hbm, 331, rfl⟩
abbrev main_v208 : Ref sig .tc := ⟨.hbm, 332, rfl⟩
abbrev main_v209 : Ref sig .tc := ⟨.hbm, 333, rfl⟩
abbrev main_v210 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_v214 : Ref sig .tc := ⟨.hbm, 338, rfl⟩
abbrev main_v215 : Ref sig .tc := ⟨.hbm, 339, rfl⟩
abbrev main_v216 : Ref sig .tc := ⟨.hbm, 340, rfl⟩
abbrev main_v217 : Ref sig .tc := ⟨.hbm, 341, rfl⟩
abbrev main_v218 : Ref sig .tc := ⟨.hbm, 342, rfl⟩
abbrev main_v219 : Ref sig .tc := ⟨.hbm, 343, rfl⟩
abbrev main_v220 : Ref sig .tc := ⟨.hbm, 344, rfl⟩
abbrev main_call15_v0 : Ref sig .tc := ⟨.hbm, 345, rfl⟩
abbrev main_call15_v1 : Ref sig .tc := ⟨.hbm, 346, rfl⟩
abbrev main_call15_cst : Ref sig .tc := ⟨.hbm, 347, rfl⟩
abbrev main_call15_v2 : Ref sig .tc := ⟨.hbm, 348, rfl⟩
abbrev main_call15_v3 : Ref sig .tc := ⟨.hbm, 349, rfl⟩
abbrev main_call15_cst_0 : Ref sig .tc := ⟨.hbm, 350, rfl⟩
abbrev main_call15_v4 : Ref sig .tc := ⟨.hbm, 351, rfl⟩
abbrev main_call15_v5 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩
abbrev main_v224 : Ref sig .tc := ⟨.hbm, 356, rfl⟩
abbrev main_v225 : Ref sig .tc := ⟨.hbm, 357, rfl⟩
abbrev main_v226 : Ref sig .tc := ⟨.hbm, 358, rfl⟩
abbrev main_v227 : Ref sig .tc := ⟨.hbm, 359, rfl⟩
abbrev main_v228 : Ref sig .tc := ⟨.hbm, 360, rfl⟩
abbrev main_v229 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_call16_v0 : Ref sig .tc := ⟨.hbm, 367, rfl⟩
abbrev main_call16_v1 : Ref sig .tc := ⟨.hbm, 368, rfl⟩
abbrev main_call16_cst : Ref sig .tc := ⟨.hbm, 369, rfl⟩
abbrev main_call16_v2 : Ref sig .tc := ⟨.hbm, 370, rfl⟩
abbrev main_call16_v3 : Ref sig .tc := ⟨.hbm, 371, rfl⟩
abbrev main_call16_cst_0 : Ref sig .tc := ⟨.hbm, 372, rfl⟩
abbrev main_call16_v4 : Ref sig .tc := ⟨.hbm, 373, rfl⟩
abbrev main_call16_v5 : Ref sig .tc := ⟨.hbm, 374, rfl⟩
abbrev main_v235 : Ref sig .tc := ⟨.hbm, 375, rfl⟩
abbrev main_v236 : Ref sig .tc := ⟨.hbm, 376, rfl⟩
abbrev main_v237 : Ref sig .tc := ⟨.hbm, 377, rfl⟩
abbrev main_v238 : Ref sig .tc := ⟨.hbm, 378, rfl⟩
abbrev main_v239 : Ref sig .tc := ⟨.hbm, 379, rfl⟩
abbrev main_v240 : Ref sig .tc := ⟨.hbm, 380, rfl⟩
abbrev main_v241 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_v245 : Ref sig .tc := ⟨.hbm, 385, rfl⟩
abbrev main_v246 : Ref sig .tc := ⟨.hbm, 386, rfl⟩
abbrev main_v247 : Ref sig .tc := ⟨.hbm, 387, rfl⟩
abbrev main_v248 : Ref sig .tc := ⟨.hbm, 388, rfl⟩
abbrev main_call17_v0 : Ref sig .tc := ⟨.hbm, 389, rfl⟩
abbrev main_call17_v1 : Ref sig .tc := ⟨.hbm, 390, rfl⟩
abbrev main_call17_cst : Ref sig .tc := ⟨.hbm, 391, rfl⟩
abbrev main_call17_v2 : Ref sig .tc := ⟨.hbm, 392, rfl⟩
abbrev main_call17_v3 : Ref sig .tc := ⟨.hbm, 393, rfl⟩
abbrev main_call17_cst_0 : Ref sig .tc := ⟨.hbm, 394, rfl⟩
abbrev main_call17_v4 : Ref sig .tc := ⟨.hbm, 395, rfl⟩
abbrev main_call17_v5 : Ref sig .tc := ⟨.hbm, 396, rfl⟩
abbrev main_v249 : Ref sig .tc := ⟨.hbm, 397, rfl⟩
abbrev main_v250 : Ref sig .tc := ⟨.hbm, 398, rfl⟩
abbrev main_v251 : Ref sig .tc := ⟨.hbm, 399, rfl⟩
abbrev main_v252 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_v256 : Ref sig .tc := ⟨.hbm, 404, rfl⟩
abbrev main_v257 : Ref sig .tc := ⟨.hbm, 405, rfl⟩
abbrev main_v258 : Ref sig .tc := ⟨.hbm, 406, rfl⟩
abbrev main_cst_2 : Ref sig .tc := ⟨.hbm, 407, rfl⟩
abbrev main_call18_v0 : Ref sig .tc := ⟨.hbm, 408, rfl⟩
abbrev main_call18_v1 : Ref sig .tc := ⟨.hbm, 409, rfl⟩
abbrev main_call18_v2 : Ref sig .tc := ⟨.hbm, 410, rfl⟩
abbrev main_v259 : Ref sig .tc := ⟨.hbm, 411, rfl⟩
abbrev main_v260 : Ref sig .tc := ⟨.hbm, 412, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x6144 : Shape := ⟨2, ![32, 6144]⟩
abbrev S2x1024 : Shape := ⟨2, ![2, 1024]⟩
abbrev S2x1024x2048 : Shape := ⟨3, ![2, 1024, 2048]⟩
abbrev S2x3x512 : Shape := ⟨3, ![2, 3, 512]⟩
abbrev S2x4x128x128 : Shape := ⟨4, ![2, 4, 128, 128]⟩
abbrev S2x512 : Shape := ⟨2, ![2, 512]⟩
abbrev S2x1024x1024 : Shape := ⟨3, ![2, 1024, 1024]⟩
abbrev S1024x16 : Shape := ⟨2, ![1024, 16]⟩
abbrev S16 : Shape := ⟨1, ![16]⟩
abbrev S_ : Shape := ⟨0, ![]⟩
abbrev S2x128x128 : Shape := ⟨3, ![2, 128, 128]⟩
abbrev S2x1x128x128 : Shape := ⟨4, ![2, 1, 128, 128]⟩
abbrev S2x128x256 : Shape := ⟨3, ![2, 128, 256]⟩
abbrev S2x256x256 : Shape := ⟨3, ![2, 256, 256]⟩
abbrev S2x1x256x256 : Shape := ⟨4, ![2, 1, 256, 256]⟩
abbrev S2x2x256x256 : Shape := ⟨4, ![2, 2, 256, 256]⟩
abbrev S16x1024 : Shape := ⟨2, ![16, 1024]⟩
abbrev S16x1 : Shape := ⟨2, ![16, 1]⟩
abbrev S32x6x1024 : Shape := ⟨3, ![32, 6, 1024]⟩
abbrev S1x1024 : Shape := ⟨2, ![1, 1024]⟩
abbrev S1024 : Shape := ⟨1, ![1024]⟩
abbrev S1x3x512 : Shape := ⟨3, ![1, 3, 512]⟩
abbrev S3x512 : Shape := ⟨2, ![3, 512]⟩
abbrev S1x2x256x256 : Shape := ⟨4, ![1, 2, 256, 256]⟩
abbrev S1x512 : Shape := ⟨2, ![1, 512]⟩
abbrev S512 : Shape := ⟨1, ![512]⟩
abbrev S1048576x128 : Shape := ⟨2, ![1048576, 128]⟩
abbrev S65536x128 : Shape := ⟨2, ![65536, 128]⟩
abbrev S8x65536 : Shape := ⟨2, ![8, 65536]⟩
abbrev S1x512x1024 : Shape := ⟨3, ![1, 512, 1024]⟩
abbrev S1x6x1024 : Shape := ⟨3, ![1, 6, 1024]⟩
abbrev S1x1024x2048 : Shape := ⟨3, ![1, 1024, 2048]⟩
abbrev S1x1024x1024 : Shape := ⟨3, ![1, 1024, 1024]⟩
abbrev S8192x128 : Shape := ⟨2, ![8192, 128]⟩
abbrev S512x128 : Shape := ⟨2, ![512, 128]⟩
abbrev S8x512 : Shape := ⟨2, ![8, 512]⟩
abbrev S520x512 : Shape := ⟨2, ![520, 512]⟩
abbrev S528x512 : Shape := ⟨2, ![528, 512]⟩
abbrev S6x1024 : Shape := ⟨2, ![6, 1024]⟩
abbrev S512x1024 : Shape := ⟨2, ![512, 1024]⟩
abbrev S16x512 : Shape := ⟨2, ![16, 512]⟩
abbrev S512x1 : Shape := ⟨2, ![512, 1]⟩
abbrev S1024x2048 : Shape := ⟨2, ![1024, 2048]⟩
abbrev S512x2048 : Shape := ⟨2, ![512, 2048]⟩
abbrev S512x512 : Shape := ⟨2, ![512, 512]⟩
abbrev S528x128 : Shape := ⟨2, ![528, 128]⟩
abbrev S527x128 : Shape := ⟨2, ![527, 128]⟩
abbrev S525x128 : Shape := ⟨2, ![525, 128]⟩
abbrev S521x128 : Shape := ⟨2, ![521, 128]⟩
abbrev S513x128 : Shape := ⟨2, ![513, 128]⟩
abbrev S512x256 : Shape := ⟨2, ![512, 256]⟩
abbrev S1x256x256 : Shape := ⟨3, ![1, 256, 256]⟩
abbrev S256x256 : Shape := ⟨2, ![256, 256]⟩
abbrev S1024x1024 : Shape := ⟨2, ![1024, 1024]⟩
abbrev S4096x128 : Shape := ⟨2, ![4096, 128]⟩
abbrev S4096x2x128 : Shape := ⟨3, ![4096, 2, 128]⟩
abbrev S512x2x128 : Shape := ⟨3, ![512, 2, 128]⟩
abbrev S512x1x128 : Shape := ⟨3, ![512, 1, 128]⟩
abbrev S120x512 : Shape := ⟨2, ![120, 512]⟩
abbrev S128x512 : Shape := ⟨2, ![128, 512]⟩

abbrev nBuf : Space → Nat
  | .hbm => 54
  | .vmem => 23
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S2x1024, .f32⟩
  | .hbm, ⟨3, _⟩ => ⟨S2x1024, .f32⟩
  | .hbm, ⟨4, _⟩ => ⟨S2x1024x2048, .f32⟩
  | .hbm, ⟨5, _⟩ => ⟨S2x3x512, .f32⟩
  | .hbm, ⟨6, _⟩ => ⟨S2x4x128x128, .f32⟩
  | .hbm, ⟨7, _⟩ => ⟨S2x512, .f32⟩
  | .hbm, ⟨8, _⟩ => ⟨S2x1024x1024, .f32⟩
  | .hbm, ⟨9, _⟩ => ⟨S1024x16, .f32⟩
  | .hbm, ⟨10, _⟩ => ⟨S16, .f32⟩
  | .hbm, ⟨11, _⟩ => ⟨S_, .f32⟩
  | .hbm, ⟨12, _⟩ => ⟨S2x128x128, .f32⟩
  | .hbm, ⟨13, _⟩ => ⟨S2x1x128x128, .f32⟩
  | .hbm, ⟨14, _⟩ => ⟨S2x128x128, .f32⟩
  | .hbm, ⟨15, _⟩ => ⟨S2x128x256, .f32⟩
  | .hbm, ⟨16, _⟩ => ⟨S2x1x128x128, .f32⟩
  | .hbm, ⟨17, _⟩ => ⟨S2x128x128, .f32⟩
  | .hbm, ⟨18, _⟩ => ⟨S2x128x256, .f32⟩
  | .hbm, ⟨19, _⟩ => ⟨S2x256x256, .f32⟩
  | .hbm, ⟨20, _⟩ => ⟨S2x1x128x128, .f32⟩
  | .hbm, ⟨21, _⟩ => ⟨S2x128x128, .f32⟩
  | .hbm, ⟨22, _⟩ => ⟨S2x128x256, .f32⟩
  | .hbm, ⟨23, _⟩ => ⟨S2x1x128x128, .f32⟩
  | .hbm, ⟨24, _⟩ => ⟨S2x128x128, .f32⟩
  | .hbm, ⟨25, _⟩ => ⟨S2x128x256, .f32⟩
  | .hbm, ⟨26, _⟩ => ⟨S2x256x256, .f32⟩
  | .hbm, ⟨27, _⟩ => ⟨S2x1x256x256, .f32⟩
  | .hbm, ⟨28, _⟩ => ⟨S2x1x256x256, .f32⟩
  | .hbm, ⟨29, _⟩ => ⟨S2x2x256x256, .f32⟩
  | .hbm, ⟨30, _⟩ => ⟨S2x2x256x256, .bf16⟩
  | .hbm, ⟨31, _⟩ => ⟨S16x1024, .f32⟩
  | .hbm, ⟨32, _⟩ => ⟨S16x1024, .bf16⟩
  | .hbm, ⟨33, _⟩ => ⟨S16x1, .f32⟩
  | .hbm, ⟨34, _⟩ => ⟨S32x6x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S2x1024x2048, .bf16⟩
  | .hbm, ⟨42, _⟩ => ⟨S1x3x512, .f32⟩
  | .hbm, ⟨43, _⟩ => ⟨S3x512, .f32⟩
  | .hbm, ⟨44, _⟩ => ⟨S1x2x256x256, .bf16⟩
  | .hbm, ⟨45, _⟩ => ⟨S2x256x256, .bf16⟩
  | .hbm, ⟨46, _⟩ => ⟨S1x512, .f32⟩
  | .hbm, ⟨47, _⟩ => ⟨S512, .f32⟩
  | .hbm, ⟨48, _⟩ => ⟨S1x512, .f32⟩
  | .hbm, ⟨49, _⟩ => ⟨S2x1024x1024, .bf16⟩
  | .hbm, ⟨50, _⟩ => ⟨S32x2048x1024, .f32⟩
  | .hbm, ⟨51, _⟩ => ⟨S1048576x128, .bf16⟩
  | .hbm, ⟨52, _⟩ => ⟨S65536x128, .f32⟩
  | .hbm, ⟨53, _⟩ => ⟨S8x65536, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S1x1024x2048, .bf16⟩
  | .local _ .vmem, ⟨7, _⟩ => ⟨S3x512, .f32⟩
  | .local _ .vmem, ⟨8, _⟩ => ⟨S2x256x256, .bf16⟩
  | .local _ .vmem, ⟨9, _⟩ => ⟨S1x512, .f32⟩
  | .local _ .vmem, ⟨10, _⟩ => ⟨S1x1024x1024, .bf16⟩
  | .local _ .vmem, ⟨11, _⟩ => ⟨S16x1024, .bf16⟩
  | .local _ .vmem, ⟨12, _⟩ => ⟨S16x1, .f32⟩
  | .local _ .vmem, ⟨13, _⟩ => ⟨S1x512x1024, .f32⟩
  | .local _ .vmem, ⟨14, _⟩ => ⟨S1x512x1024, .f32⟩
  | .local _ .vmem, ⟨15, _⟩ => ⟨S8192x128, .bf16⟩
  | .local _ .vmem, ⟨16, _⟩ => ⟨S8192x128, .bf16⟩
  | .local _ .vmem, ⟨17, _⟩ => ⟨S512x128, .f32⟩
  | .local _ .vmem, ⟨18, _⟩ => ⟨S512x128, .f32⟩
  | .local _ .vmem, ⟨19, _⟩ => ⟨S8x512, .f32⟩
  | .local _ .vmem, ⟨20, _⟩ => ⟨S8x512, .f32⟩
  | .local _ .vmem, ⟨21, _⟩ => ⟨S520x512, .f32⟩
  | .local _ .vmem, ⟨22, _⟩ => ⟨S528x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev main_v38_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [BitOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8192x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel2Ideal.lean ====
variable {F : FTy → Type} [FloatOps F]
-- ==== Reference2Ideal.lean ====
abbrev S32x2048x1024 : Shape := ⟨3, ![32, 2048, 1024]⟩
abbrev S32x6144 : Shape := ⟨2, ![32, 6144]⟩
abbrev S2x1024 : Shape := ⟨2, ![2, 1024]⟩
abbrev S2x1024x2048 : Shape := ⟨3, ![2, 1024, 2048]⟩
abbrev S2x3x512 : Shape := ⟨3, ![2, 3, 512]⟩
abbrev S2x4x128x128 : Shape := ⟨4, ![2, 4, 128, 128]⟩
abbrev S2x512 : Shape := ⟨2, ![2, 512]⟩
abbrev S2x1024x1024 : Shape := ⟨3, ![2, 1024, 1024]⟩
abbrev S1024x16 : Shape := ⟨2, ![1024, 16]⟩
abbrev S16 : Shape := ⟨1, ![16]⟩
abbrev S32x1024 : Shape := ⟨2, ![32, 1024]⟩
abbrev S32x1x1024 : Shape := ⟨3, ![32, 1, 1024]⟩
abbrev S1x1024 : Shape := ⟨2, ![1, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S32x2048x2048 : Shape := ⟨3, ![32, 2048, 2048]⟩
abbrev S32x2048x512 : Shape := ⟨3, ![32, 2048, 512]⟩
abbrev S32x2050x512 : Shape := ⟨3, ![32, 2050, 512]⟩
abbrev S1x3x512 : Shape := ⟨3, ![1, 3, 512]⟩
abbrev S3x512 : Shape := ⟨2, ![3, 512]⟩
abbrev S1x512 : Shape := ⟨2, ![1, 512]⟩
abbrev S512 : Shape := ⟨1, ![512]⟩
abbrev S1x1x512 : Shape := ⟨3, ![1, 1, 512]⟩
abbrev S2048 : Shape := ⟨1, ![2048]⟩
abbrev S32x2048x128 : Shape := ⟨3, ![32, 2048, 128]⟩
abbrev S32x2049x128 : Shape := ⟨3, ![32, 2049, 128]⟩
abbrev S2048x1 : Shape := ⟨2, ![2048, 1]⟩
abbrev S1x2048x1 : Shape := ⟨3, ![1, 2048, 1]⟩
abbrev S32x2051x128 : Shape := ⟨3, ![32, 2051, 128]⟩
abbrev S32x2055x128 : Shape := ⟨3, ![32, 2055, 128]⟩
abbrev S32x2063x128 : Shape := ⟨3, ![32, 2063, 128]⟩
abbrev S32x2048x1x128 : Shape := ⟨4, ![32, 2048, 1, 128]⟩
abbrev S32x2048x4x128 : Shape := ⟨4, ![32, 2048, 4, 128]⟩
abbrev S1x4x128x128 : Shape := ⟨4, ![1, 4, 128, 128]⟩
abbrev S4x128x128 : Shape := ⟨3, ![4, 128, 128]⟩
abbrev S4x128x32x2048 : Shape := ⟨4, ![4, 128, 32, 2048]⟩
abbrev S1x1024x1024 : Shape := ⟨3, ![1, 1024, 1024]⟩
abbrev S1024x1024 : Shape := ⟨2, ![1024, 1024]⟩
abbrev S65536x2x4x128 : Shape := ⟨4, ![65536, 2, 4, 128]⟩
abbrev S65536x4x2x128 : Shape := ⟨4, ![65536, 4, 2, 128]⟩
abbrev S65536x8x2x128 : Shape := ⟨4, ![65536, 8, 2, 128]⟩
abbrev S32x2048x16 : Shape := ⟨3, ![32, 2048, 16]⟩
abbrev S65536x4x4 : Shape := ⟨3, ![65536, 4, 4]⟩
abbrev S4x4 : Shape := ⟨2, ![4, 4]⟩
abbrev S1x4x4 : Shape := ⟨3, ![1, 4, 4]⟩
abbrev S65536x4x4x1 : Shape := ⟨4, ![65536, 4, 4, 1]⟩
abbrev S65536x4x1x4 : Shape := ⟨4, ![65536, 4, 1, 4]⟩
abbrev S4 : Shape := ⟨1, ![4]⟩
abbrev S1x4 : Shape := ⟨2, ![1, 4]⟩
abbrev S4x1 : Shape := ⟨2, ![4, 1]⟩
abbrev S65536x4x4x4 : Shape := ⟨4, ![65536, 4, 4, 4]⟩
abbrev S1x1x4x4 : Shape := ⟨4, ![1, 1, 4, 4]⟩
abbrev S65536x4 : Shape := ⟨2, ![65536, 4]⟩
abbrev S65536x4x1 : Shape := ⟨3, ![65536, 4, 1]⟩
abbrev S65536x1x4 : Shape := ⟨3, ![65536, 1, 4]⟩
abbrev S65536 : Shape := ⟨1, ![65536]⟩
abbrev S1x65536 : Shape := ⟨2, ![1, 65536]⟩
abbrev S3x65536 : Shape := ⟨2, ![3, 65536]⟩
abbrev S8x65536 : Shape := ⟨2, ![8, 65536]⟩
abbrev S65536x8 : Shape := ⟨2, ![65536, 8]⟩
abbrev S65536x128 : Shape := ⟨2, ![65536, 128]⟩
abbrev S1048576x128 : Shape := ⟨2, ![1048576, 128]⟩

abbrev nBuf : Space → Nat
  | .hbm => 430
  | .vmem => 0
  | .smem => 0
  | _ => 0

abbrev hbmTy0_0 (i : Nat) : BufTy := match i % 128 with
  | 0 => ⟨S32x2048x1024, .f32⟩
  | 1 => ⟨S32x6144, .f32⟩
  | 2 => ⟨S2x1024, .f32⟩
  | 3 => ⟨S2x1024, .f32⟩
  | 4 => ⟨S2x1024x2048, .f32⟩
  | 5 => ⟨S2x3x512, .f32⟩
  | 6 => ⟨S2x4x128x128, .f32⟩
  | 7 => ⟨S2x512, .f32⟩
  | 8 => ⟨S2x1024x1024, .f32⟩
  | 9 => ⟨S1024x16, .f32⟩
  | 10 => ⟨S16, .f32⟩
  | 11 => ⟨S32x1024, .f32⟩
  | 12 => ⟨S32x1024, .f32⟩
  | 13 => ⟨S32x1024, .f32⟩
  | 14 => ⟨S32x1024, .f32⟩
  | 15 => ⟨S32x1024, .f32⟩
  | 16 => ⟨S32x1024, .f32⟩
  | 17 => ⟨S32x1x1024, .f32⟩
  | 18 => ⟨S32x1x1024, .f32⟩
  | 19 => ⟨S32x1x1024, .f32⟩
  | 20 => ⟨S32x1x1024, .f32⟩
  | 21 => ⟨S32x1x1024, .f32⟩
  | 22 => ⟨S32x1x1024, .f32⟩
  | 23 => ⟨S1x1024, .f32⟩
  | 24 => ⟨S1024, .f32⟩
  | 25 => ⟨S32x2048x1024, .f32⟩
  | 26 => ⟨S_, .f32⟩
  | 27 => ⟨S32x2048, .f32⟩
  | 28 => ⟨S32x2048x1, .f32⟩
  | 29 => ⟨S_, .f32⟩
  | 30 => ⟨S32x2048x1, .f32⟩
  | 31 => ⟨S32x2048x1, .f32⟩
  | 32 => ⟨S_, .f32⟩
  | 33 => ⟨S32x2048x1, .f32⟩
  | 34 => ⟨S32x2048x1, .f32⟩
  | 35 => ⟨S32x2048x1, .f32⟩
  | 36 => ⟨S32x2048x1024, .f32⟩
  | 37 => ⟨S32x2048x1024, .f32⟩
  | 38 => ⟨S1x1x1024, .f32⟩
  | 39 => ⟨S32x2048x1024, .f32⟩
  | 40 => ⟨S32x2048x1024, .f32⟩
  | 41 => ⟨S_, .f32⟩
  | 42 => ⟨S32x1x1024, .f32⟩
  | 43 => ⟨S32x1x1024, .f32⟩
  | 44 => ⟨S32x2048x1024, .f32⟩
  | 45 => ⟨S32x2048x1024, .f32⟩
  | 46 => ⟨S32x2048x1024, .f32⟩
  | 47 => ⟨S32x2048x1024, .f32⟩
  | 48 => ⟨S1x1024x2048, .f32⟩
  | 49 => ⟨S1024x2048, .f32⟩
  | 50 => ⟨S32x2048x2048, .f32⟩
  | 51 => ⟨S32x2048x512, .f32⟩
  | 52 => ⟨S32x2048x512, .f32⟩
  | 53 => ⟨S32x2048x512, .f32⟩
  | 54 => ⟨S32x2048x512, .f32⟩
  | 55 => ⟨S32x2048x512, .f32⟩
  | 56 => ⟨S_, .i32⟩
  | 57 => ⟨S_, .f32⟩
  | 58 => ⟨S32x2050x512, .f32⟩
  | 59 => ⟨S1x3x512, .f32⟩
  | 60 => ⟨S3x512, .f32⟩
  | 61 => ⟨S1x512, .f32⟩
  | 62 => ⟨S512, .f32⟩
  | 63 => ⟨S32x2048x512, .f32⟩
  | 64 => ⟨S1x1x512, .f32⟩
  | 65 => ⟨S32x2048x512, .f32⟩
  | 66 => ⟨S32x2048x512, .f32⟩
  | 67 => ⟨S1x512, .f32⟩
  | 68 => ⟨S512, .f32⟩
  | 69 => ⟨S32x2048x512, .f32⟩
  | 70 => ⟨S1x1x512, .f32⟩
  | 71 => ⟨S32x2048x512, .f32⟩
  | 72 => ⟨S32x2048x512, .f32⟩
  | 73 => ⟨S32x2048x512, .f32⟩
  | 74 => ⟨S1x512, .f32⟩
  | 75 => ⟨S512, .f32⟩
  | 76 => ⟨S32x2048x512, .f32⟩
  | 77 => ⟨S1x1x512, .f32⟩
  | 78 => ⟨S32x2048x512, .f32⟩
  | 79 => ⟨S32x2048x512, .f32⟩
  | 80 => ⟨S32x2048x512, .f32⟩
  | 81 => ⟨S32x2048x512, .f32⟩
  | 82 => ⟨S2048, .i32⟩
  | 83 => ⟨S_, .i32⟩
  | 84 => ⟨S2048, .i32⟩
  | 85 => ⟨S2048, .i32⟩
  | 86 => ⟨S32x2048x128, .f32⟩
  | 87 => ⟨S_, .i32⟩
  | 88 => ⟨S_, .f32⟩
  | 89 => ⟨S32x2049x128, .f32⟩
  | 90 => ⟨S32x2048x128, .f32⟩
  | 91 => ⟨S32x2048x128, .f32⟩
  | 92 => ⟨S32x2048x128, .f32⟩
  | 93 => ⟨S_, .i32⟩
  | 94 => ⟨S2048, .i32⟩
  | 95 => ⟨S2048, .i32⟩
  | 96 => ⟨S2048, .f32⟩
  | 97 => ⟨S2048x1, .f32⟩
  | 98 => ⟨S1x2048x1, .f32⟩
  | 99 => ⟨S32x2048x128, .f32⟩
  | 100 => ⟨S32x2048x128, .f32⟩
  | 101 => ⟨S32x2048x128, .f32⟩
  | 102 => ⟨S32x2048x128, .f32⟩
  | 103 => ⟨S_, .i32⟩
  | 104 => ⟨S_, .f32⟩
  | 105 => ⟨S32x2051x128, .f32⟩
  | 106 => ⟨S32x2048x128, .f32⟩
  | 107 => ⟨S32x2048x128, .f32⟩
  | 108 => ⟨S32x2048x128, .f32⟩
  | 109 => ⟨S32x2048x128, .f32⟩
  | 110 => ⟨S32x2048x128, .f32⟩
  | 111 => ⟨S32x2048x128, .f32⟩
  | 112 => ⟨S32x2048x128, .f32⟩
  | 113 => ⟨S_, .i32⟩
  | 114 => ⟨S2048, .i32⟩
  | 115 => ⟨S2048, .i32⟩
  | 116 => ⟨S2048, .f32⟩
  | 117 => ⟨S2048x1, .f32⟩
  | 118 => ⟨S1x2048x1, .f32⟩
  | 119 => ⟨S32x2048x128, .f32⟩
  | 120 => ⟨S32x2048x128, .f32⟩
  | 121 => ⟨S32x2048x128, .f32⟩
  | 122 => ⟨S32x2048x128, .f32⟩
  | 123 => ⟨S_, .i32⟩
  | 124 => ⟨S_, .f32⟩
  | 125 => ⟨S32x2055x128, .f32⟩
  | 126 => ⟨S32x2048x128, .f32⟩
  | 127 => ⟨S32x2048x128, .f32⟩
  | _ => ⟨S32x2048x1024, .f32⟩

abbrev hbmTy0_1 (i : Nat) : BufTy := match i % 128 with
  | 0 => ⟨S32x2048x128, .f32⟩
  | 1 => ⟨S32x2048x128, .f32⟩
  | 2 => ⟨S32x2048x128, .f32⟩
  | 3 => ⟨S32x2048x128, .f32⟩
  | 4 => ⟨S32x2048x128, .f32⟩
  | 5 => ⟨S32x2048x128, .f32⟩
  | 6 => ⟨S32x2048x128, .f32⟩
  | 7 => ⟨S32x2048x128, .f32⟩
  | 8 => ⟨S32x2048x128, .f32⟩
  | 9 => ⟨S32x2048x128, .f32⟩
  | 10 => ⟨S32x2048x128, .f32⟩
  | 11 => ⟨S32x2048x128, .f32⟩
  | 12 => ⟨S32x2048x128, .f32⟩
  | 13 => ⟨S_, .i32⟩
  | 14 => ⟨S2048, .i32⟩
  | 15 => ⟨S2048, .i32⟩
  | 16 => ⟨S2048, .f32⟩
  | 17 => ⟨S2048x1, .f32⟩
  | 18 => ⟨S1x2048x1, .f32⟩
  | 19 => ⟨S32x2048x128, .f32⟩
  | 20 => ⟨S32x2048x128, .f32⟩
  | 21 => ⟨S32x2048x128, .f32⟩
  | 22 => ⟨S32x2048x128, .f32⟩
  | 23 => ⟨S_, .i32⟩
  | 24 => ⟨S_, .f32⟩
  | 25 => ⟨S32x2063x128, .f32⟩
  | 26 => ⟨S32x2048x128, .f32⟩
  | 27 => ⟨S32x2048x128, .f32⟩
  | 28 => ⟨S32x2048x128, .f32⟩
  | 29 => ⟨S32x2048x128, .f32⟩
  | 30 => ⟨S32x2048x128, .f32⟩
  | 31 => ⟨S32x2048x128, .f32⟩
  | 32 => ⟨S32x2048x128, .f32⟩
  | 33 => ⟨S32x2048x128, .f32⟩
  | 34 => ⟨S32x2048x128, .f32⟩
  | 35 => ⟨S32x2048x128, .f32⟩
  | 36 => ⟨S32x2048x128, .f32⟩
  | 37 => ⟨S32x2048x128, .f32⟩
  | 38 => ⟨S32x2048x128, .f32⟩
  | 39 => ⟨S32x2048x128, .f32⟩
  | 40 => ⟨S32x2048x128, .f32⟩
  | 41 => ⟨S32x2048x128, .f32⟩
  | 42 => ⟨S32x2048x128, .f32⟩
  | 43 => ⟨S32x2048x128, .f32⟩
  | 44 => ⟨S32x2048x128, .f32⟩
  | 45 => ⟨S32x2048x128, .f32⟩
  | 46 => ⟨S32x2048x128, .f32⟩
  | 47 => ⟨S32x2048x128, .f32⟩
  | 48 => ⟨S32x2048x128, .f32⟩
  | 49 => ⟨S32x2048x128, .f32⟩
  | 50 => ⟨S32x2048x128, .f32⟩
  | 51 => ⟨S32x2048x128, .f32⟩
  | 52 => ⟨S32x2048x128, .f32⟩
  | 53 => ⟨S32x2048x128, .f32⟩
  | 54 => ⟨S32x2048x128, .f32⟩
  | 55 => ⟨S32x2048x128, .f32⟩
  | 56 => ⟨S32x2048x128, .f32⟩
  | 57 => ⟨S_, .i32⟩
  | 58 => ⟨S2048, .i32⟩
  | 59 => ⟨S2048, .i32⟩
  | 60 => ⟨S2048, .f32⟩
  | 61 => ⟨S2048x1, .f32⟩
  | 62 => ⟨S1x2048x1, .f32⟩
  | 63 => ⟨S32x2048x128, .f32⟩
  | 64 => ⟨S32x2048x128, .f32⟩
  | 65 => ⟨S32x2048x128, .f32⟩
  | 66 => ⟨S32x2048x1x128, .f32⟩
  | 67 => ⟨S32x2048x1x128, .f32⟩
  | 68 => ⟨S32x2048x1x128, .f32⟩
  | 69 => ⟨S32x2048x1x128, .f32⟩
  | 70 => ⟨S32x2048x4x128, .f32⟩
  | 71 => ⟨S1x4x128x128, .f32⟩
  | 72 => ⟨S4x128x128, .f32⟩
  | 73 => ⟨S4x128x32x2048, .f32⟩
  | 74 => ⟨S32x2048x4x128, .f32⟩
  | 75 => ⟨S32x2048x512, .f32⟩
  | 76 => ⟨S1x512, .f32⟩
  | 77 => ⟨S512, .f32⟩
  | 78 => ⟨S1x1x512, .f32⟩
  | 79 => ⟨S32x2048x512, .f32⟩
  | 80 => ⟨S32x2048x512, .f32⟩
  | 81 => ⟨S32x2048x1024, .f32⟩
  | 82 => ⟨S1x1024x1024, .f32⟩
  | 83 => ⟨S1024x1024, .f32⟩
  | 84 => ⟨S32x2048x1024, .f32⟩
  | 85 => ⟨S32x2048x1024, .f32⟩
  | 86 => ⟨S32x2048x1024, .f32⟩
  | 87 => ⟨S32x2048x1024, .f32⟩
  | 88 => ⟨S1x1024, .f32⟩
  | 89 => ⟨S1024, .f32⟩
  | 90 => ⟨S32x2048x1024, .f32⟩
  | 91 => ⟨S_, .f32⟩
  | 92 => ⟨S32x2048, .f32⟩
  | 93 => ⟨S32x2048x1, .f32⟩
  | 94 => ⟨S_, .f32⟩
  | 95 => ⟨S32x2048x1, .f32⟩
  | 96 => ⟨S32x2048x1, .f32⟩
  | 97 => ⟨S_, .f32⟩
  | 98 => ⟨S32x2048x1, .f32⟩
  | 99 => ⟨S32x2048x1, .f32⟩
  | 100 => ⟨S32x2048x1, .f32⟩
  | 101 => ⟨S32x2048x1024, .f32⟩
  | 102 => ⟨S32x2048x1024, .f32⟩
  | 103 => ⟨S1x1x1024, .f32⟩
  | 104 => ⟨S32x2048x1024, .f32⟩
  | 105 => ⟨S32x2048x1024, .f32⟩
  | 106 => ⟨S_, .f32⟩
  | 107 => ⟨S32x1x1024, .f32⟩
  | 108 => ⟨S32x1x1024, .f32⟩
  | 109 => ⟨S32x2048x1024, .f32⟩
  | 110 => ⟨S32x2048x1024, .f32⟩
  | 111 => ⟨S32x2048x1024, .f32⟩
  | 112 => ⟨S32x2048x1024, .f32⟩
  | 113 => ⟨S65536x2x4x128, .f32⟩
  | 114 => ⟨S65536x4x2x128, .f32⟩
  | 115 => ⟨S_, .i32⟩
  | 116 => ⟨S_, .f32⟩
  | 117 => ⟨S65536x8x2x128, .f32⟩
  | 118 => ⟨S32x2048x16, .f32⟩
  | 119 => ⟨S65536x4x4, .f32⟩
  | 120 => ⟨S65536x4x4, .f32⟩
  | 121 => ⟨S65536x4x4, .f32⟩
  | 122 => ⟨S_, .f32⟩
  | 123 => ⟨S65536x4x4, .f32⟩
  | 124 => ⟨S65536x4x4, .f32⟩
  | 125 => ⟨S_, .f32⟩
  | 126 => ⟨S65536x4x4, .f32⟩
  | 127 => ⟨S65536x4x4, .f32⟩
  | _ => ⟨S32x2048x1024, .f32⟩

abbrev hbmTy0_2 (i : Nat) : BufTy := match i % 128 with
  | 0 => ⟨S4x4, .f32⟩
  | 1 => ⟨S1x4x4, .f32⟩
  | 2 => ⟨S65536x4x4, .f32⟩
  | 3 => ⟨S65536x4x4, .f32⟩
  | 4 => ⟨S65536x4x4x1, .f32⟩
  | 5 => ⟨S65536x4x1x4, .f32⟩
  | 6 => ⟨S4, .i32⟩
  | 7 => ⟨S1x4, .i32⟩
  | 8 => ⟨S4, .i32⟩
  | 9 => ⟨S4x1, .i32⟩
  | 10 => ⟨S4x4, .i32⟩
  | 11 => ⟨S4x4, .i32⟩
  | 12 => ⟨S4x4, .i1⟩
  | 13 => ⟨S65536x4x4x4, .f32⟩
  | 14 => ⟨S65536x4x4x4, .f32⟩
  | 15 => ⟨S65536x4x4x4, .i1⟩
  | 16 => ⟨S65536x4x4x4, .f32⟩
  | 17 => ⟨S65536x4x4x4, .f32⟩
  | 18 => ⟨S65536x4x4x4, .i1⟩
  | 19 => ⟨S1x1x4x4, .i1⟩
  | 20 => ⟨S65536x4x4x4, .i1⟩
  | 21 => ⟨S65536x4x4x4, .i1⟩
  | 22 => ⟨S65536x4x4x4, .i1⟩
  | 23 => ⟨S65536x4x4x4, .f32⟩
  | 24 => ⟨S_, .f32⟩
  | 25 => ⟨S65536x4x4, .f32⟩
  | 26 => ⟨S_, .f32⟩
  | 27 => ⟨S65536x4x4, .f32⟩
  | 28 => ⟨S65536x4x4, .i1⟩
  | 29 => ⟨S_, .f32⟩
  | 30 => ⟨S_, .f32⟩
  | 31 => ⟨S65536x4x4, .f32⟩
  | 32 => ⟨S65536x4x4, .f32⟩
  | 33 => ⟨S_, .f32⟩
  | 34 => ⟨S65536x4, .f32⟩
  | 35 => ⟨S65536x4x1, .f32⟩
  | 36 => ⟨S65536x1x4, .f32⟩
  | 37 => ⟨S4, .i32⟩
  | 38 => ⟨S1x4, .i32⟩
  | 39 => ⟨S4, .i32⟩
  | 40 => ⟨S4x1, .i32⟩
  | 41 => ⟨S4x4, .i32⟩
  | 42 => ⟨S4x4, .i32⟩
  | 43 => ⟨S4x4, .i1⟩
  | 44 => ⟨S65536x4x4, .f32⟩
  | 45 => ⟨S65536x4x4, .f32⟩
  | 46 => ⟨S65536x4x4, .i1⟩
  | 47 => ⟨S65536x4x4, .f32⟩
  | 48 => ⟨S65536x4x4, .f32⟩
  | 49 => ⟨S65536x4x4, .i1⟩
  | 50 => ⟨S1x4x4, .i1⟩
  | 51 => ⟨S65536x4x4, .i1⟩
  | 52 => ⟨S65536x4x4, .i1⟩
  | 53 => ⟨S65536x4x4, .i1⟩
  | 54 => ⟨S65536x4x4, .f32⟩
  | 55 => ⟨S_, .f32⟩
  | 56 => ⟨S65536x4, .f32⟩
  | 57 => ⟨S_, .f32⟩
  | 58 => ⟨S65536x4, .f32⟩
  | 59 => ⟨S65536x4, .i1⟩
  | 60 => ⟨S65536x4x1, .i1⟩
  | 61 => ⟨S_, .f32⟩
  | 62 => ⟨S_, .f32⟩
  | 63 => ⟨S65536x4x4, .i1⟩
  | 64 => ⟨S65536x4x4, .f32⟩
  | 65 => ⟨S65536x4x4, .f32⟩
  | 66 => ⟨S_, .f32⟩
  | 67 => ⟨S65536x4, .f32⟩
  | 68 => ⟨S65536x4x1, .i1⟩
  | 69 => ⟨S65536x4x4, .i1⟩
  | 70 => ⟨S65536x4x4, .i1⟩
  | 71 => ⟨S_, .f32⟩
  | 72 => ⟨S_, .f32⟩
  | 73 => ⟨S65536x4x4, .f32⟩
  | 74 => ⟨S65536x4x4, .f32⟩
  | 75 => ⟨S65536x4x4, .f32⟩
  | 76 => ⟨S65536x4x4, .f32⟩
  | 77 => ⟨S_, .f32⟩
  | 78 => ⟨S65536x4, .f32⟩
  | 79 => ⟨S4, .i32⟩
  | 80 => ⟨S4, .f32⟩
  | 81 => ⟨S1x4, .i32⟩
  | 82 => ⟨S4x1, .i32⟩
  | 83 => ⟨S4x4, .i32⟩
  | 84 => ⟨S4x4, .i32⟩
  | 85 => ⟨S4x4, .i1⟩
  | 86 => ⟨S65536x1x4, .f32⟩
  | 87 => ⟨S_, .f32⟩
  | 88 => ⟨S_, .f32⟩
  | 89 => ⟨S65536x4x4, .i1⟩
  | 90 => ⟨S65536x4x4, .f32⟩
  | 91 => ⟨S65536x4x4, .f32⟩
  | 92 => ⟨S65536x4x4, .f32⟩
  | 93 => ⟨S_, .f32⟩
  | 94 => ⟨S65536x4, .f32⟩
  | 95 => ⟨S_, .f32⟩
  | 96 => ⟨S65536x4, .f32⟩
  | 97 => ⟨S65536x4, .i1⟩
  | 98 => ⟨S_, .f32⟩
  | 99 => ⟨S65536x4, .f32⟩
  | 100 => ⟨S65536x4, .i1⟩
  | 101 => ⟨S65536x4, .i1⟩
  | 102 => ⟨S_, .f32⟩
  | 103 => ⟨S65536x4, .f32⟩
  | 104 => ⟨S65536x4, .i1⟩
  | 105 => ⟨S_, .f32⟩
  | 106 => ⟨S65536x4, .f32⟩
  | 107 => ⟨S65536x4, .i1⟩
  | 108 => ⟨S65536x4, .i1⟩
  | 109 => ⟨S_, .f32⟩
  | 110 => ⟨S_, .f32⟩
  | 111 => ⟨S65536x4, .f32⟩
  | 112 => ⟨S65536x4, .f32⟩
  | 113 => ⟨S65536x4, .f32⟩
  | 114 => ⟨S_, .f32⟩
  | 115 => ⟨S65536, .f32⟩
  | 116 => ⟨S_, .f32⟩
  | 117 => ⟨S_, .f32⟩
  | 118 => ⟨S65536x4, .f32⟩
  | 119 => ⟨S65536x4, .f32⟩
  | 120 => ⟨S65536x4, .f32⟩
  | 121 => ⟨S_, .f32⟩
  | 122 => ⟨S65536, .f32⟩
  | 123 => ⟨S_, .f32⟩
  | 124 => ⟨S_, .f32⟩
  | 125 => ⟨S65536x4, .f32⟩
  | 126 => ⟨S65536x4, .f32⟩
  | 127 => ⟨S65536x4, .f32⟩
  | _ => ⟨S32x2048x1024, .f32⟩

abbrev hbmTy0_3 (i : Nat) : BufTy := match i % 128 with
  | 0 => ⟨S_, .f32⟩
  | 1 => ⟨S65536, .f32⟩
  | 2 => ⟨S_, .f32⟩
  | 3 => ⟨S_, .f32⟩
  | 4 => ⟨S65536x4, .f32⟩
  | 5 => ⟨S65536x4, .f32⟩
  | 6 => ⟨S_, .f32⟩
  | 7 => ⟨S65536, .f32⟩
  | 8 => ⟨S_, .f32⟩
  | 9 => ⟨S_, .f32⟩
  | 10 => ⟨S65536x4, .f32⟩
  | 11 => ⟨S65536x4, .f32⟩
  | 12 => ⟨S_, .f32⟩
  | 13 => ⟨S65536, .f32⟩
  | 14 => ⟨S_, .f32⟩
  | 15 => ⟨S65536, .f32⟩
  | 16 => ⟨S65536, .f32⟩
  | 17 => ⟨S_, .f32⟩
  | 18 => ⟨S65536, .f32⟩
  | 19 => ⟨S65536, .f32⟩
  | 20 => ⟨S65536, .f32⟩
  | 21 => ⟨S_, .f32⟩
  | 22 => ⟨S65536, .f32⟩
  | 23 => ⟨S65536, .f32⟩
  | 24 => ⟨S65536, .f32⟩
  | 25 => ⟨S_, .f32⟩
  | 26 => ⟨S65536, .f32⟩
  | 27 => ⟨S65536, .f32⟩
  | 28 => ⟨S65536, .f32⟩
  | 29 => ⟨S65536, .f32⟩
  | 30 => ⟨S65536, .f32⟩
  | 31 => ⟨S65536, .f32⟩
  | 32 => ⟨S65536, .f32⟩
  | 33 => ⟨S1x65536, .f32⟩
  | 34 => ⟨S1x65536, .f32⟩
  | 35 => ⟨S1x65536, .f32⟩
  | 36 => ⟨S3x65536, .f32⟩
  | 37 => ⟨S_, .i32⟩
  | 38 => ⟨S_, .f32⟩
  | 39 => ⟨S8x65536, .f32⟩
  | 40 => ⟨S65536x8, .f32⟩
  | 41 => ⟨S_, .i32⟩
  | 42 => ⟨S_, .f32⟩
  | 43 => ⟨S65536x128, .f32⟩
  | 44 => ⟨S1048576x128, .f32⟩
  | 45 => ⟨S1048576x128, .bf16⟩
  | _ => ⟨S32x2048x1024, .f32⟩

abbrev hbmTy (i : Nat) : BufTy := match i / 128 with
  | 0 => hbmTy0_0 i
  | 1 => hbmTy0_1 i
  | 2 => hbmTy0_2 i
  | 3 => hbmTy0_3 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_call0_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_c_3 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_4 : Ref sig .tc := ⟨.hbm, 87, rfl⟩
abbrev main_call1_v0 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_5 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_c_6 : Ref sig .tc := ⟨.hbm, 103, rfl⟩
abbrev main_call2_v0 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_c_7 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_c_8 : Ref sig .tc := ⟨.hbm, 123, rfl⟩
abbrev main_call3_v0 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_c_9 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_c_10 : Ref sig .tc := ⟨.hbm, 151, rfl⟩
abbrev main_call4_v0 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_c_11 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_cst_12 : Ref sig .tc := ⟨.hbm, 219, rfl⟩
abbrev main_v189 : Ref sig .tc := ⟨.hbm, 220, rfl⟩
abbrev main_v190 : Ref sig .tc := ⟨.hbm, 221, rfl⟩
abbrev main_cst_13 : Ref sig .tc := ⟨.hbm, 222, rfl⟩
abbrev main_v191 : Ref sig .tc := ⟨.hbm, 223, rfl⟩
abbrev main_v192 : Ref sig .tc := ⟨.hbm, 224, rfl⟩
abbrev main_cst_14 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_cst_15 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_c_16 : Ref sig .tc := ⟨.hbm, 243, rfl⟩
abbrev main_call5_v0 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_cst_17 : Ref sig .tc := ⟨.hbm, 250, rfl⟩
abbrev main_v214 : Ref sig .tc := ⟨.hbm, 251, rfl⟩
abbrev main_v215 : Ref sig .tc := ⟨.hbm, 252, rfl⟩
abbrev main_cst_18 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_cst_19 : Ref sig .tc := ⟨.hbm, 280, rfl⟩
abbrev main_v242 : Ref sig .tc := ⟨.hbm, 281, rfl⟩
abbrev main_cst_20 : Ref sig .tc := ⟨.hbm, 282, rfl⟩
abbrev main_v243 : Ref sig .tc := ⟨.hbm, 283, rfl⟩
abbrev main_v244 : Ref sig .tc := ⟨.hbm, 284, rfl⟩
abbrev main_cst_21 : Ref sig .tc := ⟨.hbm, 285, rfl⟩
abbrev main_call6_v0 : Ref sig .tc := ⟨.hbm, 286, rfl⟩
abbrev main_call6_v1 : Ref sig .tc := ⟨.hbm, 287, rfl⟩
abbrev main_v245 : Ref sig .tc := ⟨.hbm, 288, rfl⟩
abbrev main_cst_22 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_cst_23 : Ref sig .tc := ⟨.hbm, 311, rfl⟩
abbrev main_v267 : Ref sig .tc := ⟨.hbm, 312, rfl⟩
abbrev main_cst_24 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_cst_25 : Ref sig .tc := ⟨.hbm, 317, rfl⟩
abbrev main_call7_v0 : Ref sig .tc := ⟨.hbm, 318, rfl⟩
abbrev main_call7_v1 : Ref sig .tc := ⟨.hbm, 319, rfl⟩
abbrev main_call7_v2 : Ref sig .tc := ⟨.hbm, 320, rfl⟩
abbrev main_v271 : Ref sig .tc := ⟨.hbm, 321, rfl⟩
abbrev main_cst_26 : Ref sig .tc := ⟨.hbm, 322, rfl⟩
abbrev main_v272 : Ref sig .tc := ⟨.hbm, 323, rfl⟩
abbrev main_v273 : Ref sig .tc := ⟨.hbm, 324, rfl⟩
abbrev main_v274 : Ref sig .tc := ⟨.hbm, 325, rfl⟩
abbrev main_v275 : Ref sig .tc := ⟨.hbm, 326, rfl⟩
abbrev main_cst_27 : Ref sig .tc := ⟨.hbm, 327, rfl⟩
abbrev main_cst_28 : Ref sig .tc := ⟨.hbm, 328, rfl⟩
abbrev main_call8_v0 : Ref sig .tc := ⟨.hbm, 329, rfl⟩
abbrev main_call8_v1 : Ref sig .tc := ⟨.hbm, 330, rfl⟩
abbrev main_v276 : Ref sig .tc := ⟨.hbm, 331, rfl⟩
abbrev main_v277 : Ref sig .tc := ⟨.hbm, 332, rfl⟩
abbrev main_cst_29 : Ref sig .tc := ⟨.hbm, 333, rfl⟩
abbrev main_v278 : Ref sig .tc := ⟨.hbm, 334, rfl⟩
abbrev main_v279 : Ref sig .tc := ⟨.hbm, 335, rfl⟩
abbrev main_v280 : Ref sig .tc := ⟨.hbm, 336, rfl⟩
abbrev main_v281 : Ref sig .tc := ⟨.hbm, 337, rfl⟩
abbrev main_v282 : Ref sig .tc := ⟨.hbm, 338, rfl⟩
abbrev main_v283 : Ref sig .tc := ⟨.hbm, 339, rfl⟩
abbrev main_v284 : Ref sig .tc := ⟨.hbm, 340, rfl⟩
abbrev main_v285 : Ref sig .tc := ⟨.hbm, 341, rfl⟩
abbrev main_v286 : Ref sig .tc := ⟨.hbm, 342, rfl⟩
abbrev main_cst_30 : Ref sig .tc := ⟨.hbm, 343, rfl⟩
abbrev main_call9_v0 : Ref sig .tc := ⟨.hbm, 344, rfl⟩
abbrev main_call9_v1 : Ref sig .tc := ⟨.hbm, 345, rfl⟩
abbrev main_call9_v2 : Ref sig .tc := ⟨.hbm, 346, rfl⟩
abbrev main_call9_v3 : Ref sig .tc := ⟨.hbm, 347, rfl⟩
abbrev main_v287 : Ref sig .tc := ⟨.hbm, 348, rfl⟩
abbrev main_cst_31 : Ref sig .tc := ⟨.hbm, 349, rfl⟩
abbrev main_v288 : Ref sig .tc := ⟨.hbm, 350, rfl⟩
abbrev main_cst_32 : Ref sig .tc := ⟨.hbm, 351, rfl⟩
abbrev main_v289 : Ref sig .tc := ⟨.hbm, 352, rfl⟩
abbrev main_v290 : Ref sig .tc := ⟨.hbm, 353, rfl⟩
abbrev main_cst_33 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_cst_34 : Ref sig .tc := ⟨.hbm, 358, rfl⟩
abbrev main_v294 : Ref sig .tc := ⟨.hbm, 359, rfl⟩
abbrev main_v295 : Ref sig .tc := ⟨.hbm, 360, rfl⟩
abbrev main_cst_35 : Ref sig .tc := ⟨.hbm, 361, rfl⟩
abbrev main_v296 : Ref sig .tc := ⟨.hbm, 362, rfl⟩
abbrev main_v297 : Ref sig .tc := ⟨.hbm, 363, rfl⟩
abbrev main_v298 : Ref sig .tc := ⟨.hbm, 364, rfl⟩
abbrev main_cst_36 : Ref sig .tc := ⟨.hbm, 365, rfl⟩
abbrev main_call10_v0 : Ref sig .tc := ⟨.hbm, 366, rfl⟩
abbrev main_call10_v1 : Ref sig .tc := ⟨.hbm, 367, rfl⟩
abbrev main_call10_v2 : Ref sig .tc := ⟨.hbm, 368, rfl⟩
abbrev main_v299 : Ref sig .tc := ⟨.hbm, 369, rfl⟩
abbrev main_cst_37 : Ref sig .tc := ⟨.hbm, 370, rfl⟩
abbrev main_v300 : Ref sig .tc := ⟨.hbm, 371, rfl⟩
abbrev main_cst_38 : Ref sig .tc := ⟨.hbm, 372, rfl⟩
abbrev main_call11_v0 : Ref sig .tc := ⟨.hbm, 373, rfl⟩
abbrev main_call11_v1 : Ref sig .tc := ⟨.hbm, 374, rfl⟩
abbrev main_call11_v2 : Ref sig .tc := ⟨.hbm, 375, rfl⟩
abbrev main_v301 : Ref sig .tc := ⟨.hbm, 376, rfl⟩
abbrev main_cst_39 : Ref sig .tc := ⟨.hbm, 377, rfl⟩
abbrev main_v302 : Ref sig .tc := ⟨.hbm, 378, rfl⟩
abbrev main_cst_40 : Ref sig .tc := ⟨.hbm, 379, rfl⟩
abbrev main_call12_v0 : Ref sig .tc := ⟨.hbm, 380, rfl⟩
abbrev main_call12_v1 : Ref sig .tc := ⟨.hbm, 381, rfl⟩
abbrev main_call12_v2 : Ref sig .tc := ⟨.hbm, 382, rfl⟩
abbrev main_v303 : Ref sig .tc := ⟨.hbm, 383, rfl⟩
abbrev main_cst_41 : Ref sig .tc := ⟨.hbm, 384, rfl⟩
abbrev main_v304 : Ref sig .tc := ⟨.hbm, 385, rfl⟩
abbrev main_cst_42 : Ref sig .tc := ⟨.hbm, 386, rfl⟩
abbrev main_call13_v0 : Ref sig .tc := ⟨.hbm, 387, rfl⟩
abbrev main_call13_v1 : Ref sig .tc := ⟨.hbm, 388, rfl⟩
abbrev main_v305 : Ref sig .tc := ⟨.hbm, 389, rfl⟩
abbrev main_cst_43 : Ref sig .tc := ⟨.hbm, 390, rfl⟩
abbrev main_v306 : Ref sig .tc := ⟨.hbm, 391, rfl⟩
abbrev main_cst_44 : Ref sig .tc := ⟨.hbm, 392, rfl⟩
abbrev main_call14_v0 : Ref sig .tc := ⟨.hbm, 393, rfl⟩
abbrev main_call14_v1 : Ref sig .tc := ⟨.hbm, 394, rfl⟩
abbrev main_v307 : Ref sig .tc := ⟨.hbm, 395, rfl⟩
abbrev main_cst_45 : Ref sig .tc := ⟨.hbm, 396, rfl⟩
abbrev main_v308 : Ref sig .tc := ⟨.hbm, 397, rfl⟩
abbrev main_cst_46 : Ref sig .tc := ⟨.hbm, 398, rfl⟩
abbrev main_v309 : Ref sig .tc := ⟨.hbm, 399, rfl⟩
abbrev main_v310 : Ref sig .tc := ⟨.hbm, 400, rfl⟩
abbrev main_cst_47 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_cst_48 : Ref sig .tc := ⟨.hbm, 405, rfl⟩
abbrev main_v314 : Ref sig .tc := ⟨.hbm, 406, rfl⟩
abbrev main_v315 : Ref sig .tc := ⟨.hbm, 407, rfl⟩
abbrev main_v316 : Ref sig .tc := ⟨.hbm, 408, rfl⟩
abbrev main_cst_49 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_v321 : Ref sig .tc := ⟨.hbm, 414, rfl⟩
abbrev main_v322 : Ref sig .tc := ⟨.hbm, 415, rfl⟩
abbrev main_v323 : Ref sig .tc := ⟨.hbm, 416, rfl⟩
abbrev main_v324 : Ref sig .tc := ⟨.hbm, 417, rfl⟩
abbrev main_v325 : Ref sig .tc := ⟨.hbm, 418, rfl⟩
abbrev main_v326 : Ref sig .tc := ⟨.hbm, 419, rfl⟩
abbrev main_v327 : Ref sig .tc := ⟨.hbm, 420, rfl⟩
abbrev main_c_50 : Ref sig .tc := ⟨.hbm, 421, rfl⟩
abbrev main_call15_v0 : Ref sig .tc := ⟨.hbm, 422, rfl⟩
abbrev main_v328 : Ref sig .tc := ⟨.hbm, 423, rfl⟩
abbrev main_v329 : Ref sig .tc := ⟨.hbm, 424, rfl⟩
abbrev main_c_51 : Ref sig .tc := ⟨.hbm, 425, rfl⟩
abbrev main_call16_v0 : Ref sig .tc := ⟨.hbm, 426, rfl⟩
abbrev main_v330 : Ref sig .tc := ⟨.hbm, 427, rfl⟩
abbrev main_v331 : Ref sig .tc := ⟨.hbm, 428, rfl⟩
abbrev main_v332 : Ref sig .tc := ⟨.hbm, 429, rfl⟩

abbrev nD : Nat := 1
abbrev τ : Topo := Topo.v7x

variable {F : FTy → Type} [FloatOps F]
-- ==== Kernel3.lean ====
abbrev S32x1024 : Shape := ⟨2, ![32, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x32x6144 : Shape := ⟨3, ![2, 32, 6144]⟩
abbrev S1x1024x1024 : Shape := ⟨3, ![1, 1024, 1024]⟩
abbrev S1x1x1024 : Shape := ⟨3, ![1, 1, 1024]⟩
abbrev S1x32x1024 : Shape := ⟨3, ![1, 32, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x32x6144, .f32⟩
  | .local _ .vmem, ⟨0, _⟩ => ⟨S32x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x32x1024, .f32⟩
  | .local _ .vmem, ⟨6, _⟩ => ⟨S1x32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S32x1024 : Shape := ⟨2, ![32, 1024]⟩
abbrev S2x1024x6144 : Shape := ⟨3, ![2, 1024, 6144]⟩
abbrev S2x6144 : Shape := ⟨2, ![2, 6144]⟩
abbrev S_ : Shape := ⟨0, ![]⟩
abbrev S2x6144x32 : Shape := ⟨3, ![2, 6144, 32]⟩
abbrev S2x32x6144 : Shape := ⟨3, ![2, 32, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S2x1024x6144, .f32⟩
  | .hbm, ⟨2, _⟩ => ⟨S2x6144, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S2x6144x32, .f32⟩
  | .hbm, ⟨13, _⟩ => ⟨S2x32x6144, .f32⟩
  | .hbm, ⟨14, _⟩ => ⟨S2x1x6144, .f32⟩
  | .hbm, ⟨15, _⟩ => ⟨S2x32x6144, .f32⟩
  | .hbm, ⟨16, _⟩ => ⟨S2x32x6144, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.Ffn.Kit.lean ====
/- The expert feed-forward's region: what @main leaves before it, the tables it reads, its windows' blocks. The set-up
   follows the frame kit proofgen writes for a program whose stores have unit stride; this program's strided stores are
   outside the classes it writes a certificate for. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 0 (operand 3 (%arg3)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 5 (result 0 (%2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_ffn (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S152 .i32 := Memref.whole main_arg0
abbrev htbM0_0 : tbM0_0.IsWhole := Memref.isWhole_whole _
abbrev tbM0_1 : Memref sig .tc .smem S152 .i32 := Memref.whole main_arg1
abbrev htbM0_1 : tbM0_1.IsWhole := Memref.isWhole_whole _
abbrev tbM0_2 : Memref sig .tc .smem S152 .i32 := Memref.whole main_arg2
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-! ## The kernel body on any staging memrefs: a subtype the run finds -/

/-- One staging buffer of output window 5, through which its contents are stated (`View.read_writes_of_cover`: the
    choice does not matter). -/
abbrev VO0_5 : View sig .tc .vmem S4096x128 .f32 := (Memref.whole cc0_stg5_0 : Memref sig .tc .vmem S4096x128 .f32).view
/-- Each window's current staging memref at point `t`, spelled as the pipeline passes it (`bodyAt0`), and its wholeness. -/
abbrev ms0_0 (hO : Ok m) (t : Fin (cfgM m hO).N) : Memref sig .tc .vmem S4096x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x512x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S4096x128 .f32 := spec0_5.stage ((cfgM m hO).slots t 5)
abbrev hs0_5 (hO : Ok m) (t : Fin (cfgM m hO).N) : (ms0_5 m hO t).IsWhole := hstage0_5 (((cfgM m hO).slots t 5).cast nbuf0_5)

end Cert.KernelIdeal.Ffn

end
-- ==== Proof.Ffn.RunA.lean ====
/- The run of the body at a live tile. -/
module

public import proofs.«01_k».proof.Proof.Ffn.Kit

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken: points all), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg4 : Memref sig .tc .vmem S4096x128 .i32) (harg4 : arg4.IsWhole) (arg5 : Memref sig .tc .vmem S1x1x1024x1024 .bf16) (harg5 : arg5.IsWhole) (arg6 : Memref sig .tc .vmem S1x1x1024x1024 .bf16) (harg6 : arg6.IsWhole) (arg7 : Memref sig .tc .vmem S1x1x512x1024 .bf16) (harg7 : arg7.IsWhole) (arg8 : Memref sig .tc .vmem S1x1x512x1024 .bf16) (harg8 : arg8.IsWhole) (arg9 : Memref sig .tc .vmem S4096x128 .f32) (harg9 : arg9.IsWhole)
    (x0 : Vec F S4096x128 .i32) (x1 : Vec F S1x1x1024x1024 .bf16) (x2 : Vec F S1x1x1024x1024 .bf16) (x3 : Vec F S1x1x512x1024 .bf16) (x4 : Vec F S1x1x512x1024 .bf16) (xt0 : TbBuf0 (F := F) c tbM0_0) (xt1 : TbBuf0 (F := F) c tbM0_1) (xt2 : TbBuf0 (F := F) c tbM0_2) (hc0 : k0_cond1 (tbM0_2.view.readAt (Elt F) (Rect.unit (s := S152) (k0_off1 i) S1.size (k0_off1_inb i)).toLoadRect xt2 (Shape.Idx.first (numel1_S1.symm ▸ Nat.one_pos))) = 1#1) (hc1 : ¬ k0_cond2 (tbM0_2.view.readAt (Elt F) (Rect.unit (s := S152) (k0_off2 i) S1.size (k0_off2_inb i)).toLoadRect xt2 (Shape.Idx.first (numel1_S1.symm ▸ Nat.one_pos))) = 1#1) :
    { L5 : List (View.Piece (Elt F) S4096x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1 ∗ tbPt0 c tbM0_2 xt2) -∗ K ⟨⟩))
          ⊢ wp frame (wpE (defs₀ (F := F)) Variants.none c none) E (cc0_ffn i tbM0_0 htbM0_0 tbM0_1 htbM0_1 tbM0_2 htbM0_2 arg4 harg4 arg5 harg5 arg6 harg6 arg7 harg7 arg8 harg8 arg9 harg9) K } := by
  refine ⟨?_, fun E K => ?run⟩
  case run =>
    simp only [cc0_ffn_eq_skeleton]; unfold cc0_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    isplitl [HT1]; · iexact HT1
    iexact HT2

end Cert.KernelIdeal.Ffn

end
-- ==== Proof.Ffn.RunB.lean ====
/- The run of the body at a tile with no rows. -/
module

public import proofs.«01_k».proof.Proof.Ffn.Kit

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken: points all), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg4 : Memref sig .tc .vmem S4096x128 .i32) (harg4 : arg4.IsWhole) (arg5 : Memref sig .tc .vmem S1x1x1024x1024 .bf16) (harg5 : arg5.IsWhole) (arg6 : Memref sig .tc .vmem S1x1x1024x1024 .bf16) (harg6 : arg6.IsWhole) (arg7 : Memref sig .tc .vmem S1x1x512x1024 .bf16) (harg7 : arg7.IsWhole) (arg8 : Memref sig .tc .vmem S1x1x512x1024 .bf16) (harg8 : arg8.IsWhole) (arg9 : Memref sig .tc .vmem S4096x128 .f32) (harg9 : arg9.IsWhole)
    (x0 : Vec F S4096x128 .i32) (x1 : Vec F S1x1x1024x1024 .bf16) (x2 : Vec F S1x1x1024x1024 .bf16) (x3 : Vec F S1x1x512x1024 .bf16) (x4 : Vec F S1x1x512x1024 .bf16) (xt0 : TbBuf0 (F := F) c tbM0_0) (xt1 : TbBuf0 (F := F) c tbM0_1) (xt2 : TbBuf0 (F := F) c tbM0_2) (hc0 : ¬ k0_cond1 (tbM0_2.view.readAt (Elt F) (Rect.unit (s := S152) (k0_off1 i) S1.size (k0_off1_inb i)).toLoadRect xt2 (Shape.Idx.first (numel1_S1.symm ▸ Nat.one_pos))) = 1#1) (hc1 : k0_cond2 (tbM0_2.view.readAt (Elt F) (Rect.unit (s := S152) (k0_off2 i) S1.size (k0_off2_inb i)).toLoadRect xt2 (Shape.Idx.first (numel1_S1.symm ▸ Nat.one_pos))) = 1#1) :
    { L5 : List (View.Piece (Elt F) S4096x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ f, arg9.view.loc (c : Thread nD τ) ↦[arg9.view.set]{fullShare} arg9.view.writes (Elt F) f L5) ∗ tbPt0 c tbM0_0 xt0 ∗ tbPt0 c tbM0_1 xt1 ∗ tbPt0 c tbM0_2 xt2) -∗ K ⟨⟩))
          ⊢ wp frame (wpE (defs₀ (F := F)) Variants.none c none) E (cc0_ffn i tbM0_0 htbM0_0 tbM0_1 htbM0_1 tbM0_2 htbM0_2 arg4 harg4 arg5 harg5 arg6 harg6 arg7 harg7 arg8 harg8 arg9 harg9) K } := by
  refine ⟨?_, fun E K => ?run⟩
  case run =>
    simp only [cc0_ffn_eq_skeleton]; unfold cc0_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]; · iexists _; iexact H5
    isplitl [HT0]; · iexact HT0
    isplitl [HT1]; · iexact HT1
    iexact HT2

end Cert.KernelIdeal.Ffn

end
-- ==== Proof.Ffn.Body.lean ====
/- What the body leaves in the output's block: at a live tile the two experts' combined rows, each row's 1024 columns
   laid over eight rows of 128; at a dead tile zeros. -/
module

public import proofs.«01_k».proof.Proof.Ffn.RunA
public import proofs.«01_k».proof.Proof.Ffn.RunB
public import Idealize.ShloMosaic.Lib.WholeRead
public import Idealize.ShloMosaic.Lib.Pipeline.Value
public import Idealize.ShloMosaic.Lib.ValueIdxCore

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Rows `j, j + 8, …` of a block of 4096 rows: the strided load the body makes. -/
def slab (x : Vec F S4096x128 .i32) (j : Nat) (hj : j < 8) : Vec F S512x128 .i32 := fun y =>
  x (ix2 ⟨8 * (y 0).val + j, by have := idx2_lt0 y; omega⟩ (y 1))

/-- The combined rows of a live tile, 1024 columns to a row. -/
def rows (x0 : Vec F S4096x128 .i32) (x1 x2 : Vec F S1x1x1024x1024 .bf16) (x3 x4 : Vec F S1x1x512x1024 .bf16) :
    FVec F S512x1024 .f32 :=
  k0_pay1
    (k0_pay13 (slab x0 0 (by decide)) (slab x0 1 (by decide)) (slab x0 2 (by decide)) (slab x0 3 (by decide)) (slab x0 4 (by decide)) x1 x3)
    (k0_pay14 (slab x0 4 (by decide)))
    (k0_pay15 (slab x0 0 (by decide)) (slab x0 1 (by decide)) (slab x0 2 (by decide)) (slab x0 3 (by decide)) x2) x4

/-- 512 rows of 1024 columns laid out as 4096 rows of 128: row `8 r + j` holds columns `128 j, …` of row `r`. -/
def laid (Y : FVec F S512x1024 .f32) : Vec F S4096x128 .f32 := fun y =>
  Y (ix2 ⟨(y 0).val / 8, by have := idx2_lt0 y; omega⟩ ⟨128 * ((y 0).val % 8) + (y 1).val, by have := idx2_lt1 y; omega⟩)

/-- A strided load of the block is its slab. -/
theorem slab_eq (arg4 : Memref sig .tc .vmem S4096x128 .i32) (harg4 : arg4.IsWhole) (x0 : Vec F S4096x128 .i32) (j : Nat) (hj : j < 8) (h) :
    View.readAt (Elt F) arg4.view ⟨![j, 0], S512x128.size, ![8, 1], h⟩ (harg4.unread x0) = slab x0 j hj := by
  funext y
  rw [harg4.readAt_unread]
  refine congrArg x0 (funext fun a => ?_)
  match a with
  | ⟨0, _⟩ => exact Fin.ext (show j + 8 * (y 0).val = 8 * (y 0).val + j by omega)
  | ⟨1, _⟩ => exact Fin.ext (show 0 + 1 * (y 1).val = (y 1).val by omega)

/-- A load of a whole rank-4 block is the block. -/
theorem whole_eq {n2 n3 : Nat} {e : EltTy} (arg : Memref sig .tc .vmem ⟨4, ![1, 1, n2, n3]⟩ e) (harg : arg.IsWhole)
    (x : Vec F ⟨4, ![1, 1, n2, n3]⟩ e) (h) :
    View.readAt (Elt F) arg.view (Rect.unit (s := ⟨4, ![1, 1, n2, n3]⟩) ![0, 0, 0, 0] ![1, 1, n2, n3] h).toLoadRect (harg.unread x) = x := by
  funext y
  rw [harg.readAt_unread]
  refine congrArg x (funext fun a => ?_)
  match a with
  | ⟨0, _⟩ => exact Fin.ext (show 0 + 1 * (y 0).val = (y 0).val by omega)
  | ⟨1, _⟩ => exact Fin.ext (show 0 + 1 * (y 1).val = (y 1).val by omega)
  | ⟨2, _⟩ => exact Fin.ext (show 0 + 1 * (y 2).val = (y 2).val by omega)
  | ⟨3, _⟩ => exact Fin.ext (show 0 + 1 * (y 3).val = (y 3).val by omega)

/-- A slice of 128 columns stored through rows `j, j + 8, …` is the layout's part there. -/
theorem slice_laid (Y : FVec F S512x1024 .f32) (j k : Nat) (hk : k = 128 * j) (hj : j < 8) (hs : S512x1024.Slices ![0, k] S512x128) (hi) (hp)
    (x : S512x128.Idx) :
    extractStridedSlice S512x128 ![0, k] Y hs x = laid Y ((⟨⟨![j, 0], S512x128.size, ![8, 1], hi⟩, hp⟩ : Rect S4096x128).emb x) := by
  subst hk
  have h0 := idx2_lt0 x
  have h1 := idx2_lt1 x
  unfold laid extractStridedSlice
  refine congrArg Y (funext fun a => ?_)
  match a with
  | ⟨0, _⟩ => exact Fin.ext (show 0 + (x 0).val = (j + 8 * (x 0).val) / 8 by omega)
  | ⟨1, _⟩ => exact Fin.ext (show 128 * j + (x 1).val = 128 * ((j + 8 * (x 0).val) % 8) + (0 + 1 * (x 1).val) by omega)

/-- Eight strided stores cover the block: row `y` lies in the store that starts at row `y % 8`. -/
theorem mem_strided (y : S4096x128.Idx) (j : Nat) (hj : (y 0).val % 8 = j) (hi) (hp) :
    y ∈ (⟨⟨![j, 0], S512x128.size, ![8, 1], hi⟩, hp⟩ : Rect S4096x128).set := by
  have h0 := idx2_lt0 y
  have h1 := idx2_lt1 y
  refine (LoadRect.mem_set _).mpr fun a => ?_
  match a with
  | ⟨0, _⟩ => exact ⟨(y 0).val / 8, (show (y 0).val / 8 < 512 by omega), (show (y 0).val = j + 8 * ((y 0).val / 8) by omega)⟩
  | ⟨1, _⟩ => exact ⟨(y 1).val, (show (y 1).val < 128 by omega), (show (y 1).val = 0 + 1 * (y 1).val by omega)⟩

/-- The block a live tile's stores leave, whatever the buffer held. -/
theorem out_A (c : Dev nD) (i : grid0.Coords) (arg4 : Memref sig .tc .vmem S4096x128 .i32) (harg4 : arg4.IsWhole) (arg5 : Memref sig .tc .vmem S1x1x1024x1024 .bf16) (harg5 : arg5.IsWhole) (arg6 : Memref sig .tc .vmem S1x1x1024x1024 .bf16) (harg6 : arg6.IsWhole) (arg7 : Memref sig .tc .vmem S1x1x512x1024 .bf16) (harg7 : arg7.IsWhole) (arg8 : Memref sig .tc .vmem S1x1x512x1024 .bf16) (harg8 : arg8.IsWhole) (arg9 : Memref sig .tc .vmem S4096x128 .f32) (harg9 : arg9.IsWhole)
    (x0 : Vec F S4096x128 .i32) (x1 : Vec F S1x1x1024x1024 .bf16) (x2 : Vec F S1x1x1024x1024 .bf16) (x3 : Vec F S1x1x512x1024 .bf16) (x4 : Vec F S1x1x512x1024 .bf16) (xt0 : TbBuf0 (F := F) c tbM0_0) (xt1 : TbBuf0 (F := F) c tbM0_1) (xt2 : TbBuf0 (F := F) c tbM0_2) (hc0 : k0_cond1 (tbM0_2.view.readAt (Elt F) (Rect.unit (s := S152) (k0_off1 i) S1.size (k0_off1_inb i)).toLoadRect xt2 (Shape.Idx.first (numel1_S1.symm ▸ Nat.one_pos))) = 1#1) (hc1 : ¬ k0_cond2 (tbM0_2.view.readAt (Elt F) (Rect.unit (s := S152) (k0_off2 i) S1.size (k0_off2_inb i)).toLoadRect xt2 (Shape.Idx.first (numel1_S1.symm ▸ Nat.one_pos))) = 1#1) (f) :
    arg9.view.read (Elt F) (arg9.view.writes (Elt F) f (kernelRun0_A c i arg4 harg4 arg5 harg5 arg6 harg6 arg7 harg7 arg8 harg8 arg9 harg9 x0 x1 x2 x3 x4 xt0 xt1 xt2 hc0 hc1).1) = laid (rows x0 x1 x2 x3 x4) := by
  have hpay : ∀ p ∈ (kernelRun0_A c i arg4 harg4 arg5 harg5 arg6 harg6 arg7 harg7 arg8 harg8 arg9 harg9 x0 x1 x2 x3 x4 xt0 xt1 xt2 hc0 hc1).1, ∀ x : p.1.shape.Idx, p.2 x = laid (rows x0 x1 x2 x3 x4) (p.1.emb x) := by
    unfold kernelRun0_A kernelRun0_A.sl.r_1 kernelRun0_A.sl.r_2 kernelRun0_A.sl.r_3 kernelRun0_A.sl.v48
    simp only [List.forall_mem_cons]
    have e0 := slab_eq arg4 harg4 x0 0 (by decide)
    have e1 := slab_eq arg4 harg4 x0 1 (by decide)
    have e2 := slab_eq arg4 harg4 x0 2 (by decide)
    have e3 := slab_eq arg4 harg4 x0 3 (by decide)
    have e4 := slab_eq arg4 harg4 x0 4 (by decide)
    have w1 := whole_eq arg5 harg5 x1
    have w2 := whole_eq arg6 harg6 x2
    have w3 := whole_eq arg7 harg7 x3
    have w4 := whole_eq arg8 harg8 x4
    rw [e0, e1, e2, e3, e4, w1, w2, w3, w4]
    exact ⟨slice_laid (rows x0 x1 x2 x3 x4) 7 896 rfl (by decide) slices_S512x1024_o0_896_S512x128 _ _, slice_laid (rows x0 x1 x2 x3 x4) 6 768 rfl (by decide) slices_S512x1024_o0_768_S512x128 _ _, slice_laid (rows x0 x1 x2 x3 x4) 5 640 rfl (by decide) slices_S512x1024_o0_640_S512x128 _ _,
      slice_laid (rows x0 x1 x2 x3 x4) 4 512 rfl (by decide) slices_S512x1024_o0_512_S512x128 _ _, slice_laid (rows x0 x1 x2 x3 x4) 3 384 rfl (by decide) slices_S512x1024_o0_384_S512x128 _ _, slice_laid (rows x0 x1 x2 x3 x4) 2 256 rfl (by decide) slices_S512x1024_o0_256_S512x128 _ _,
      slice_laid (rows x0 x1 x2 x3 x4) 1 128 rfl (by decide) slices_S512x1024_o0_128_S512x128 _ _, slice_laid (rows x0 x1 x2 x3 x4) 0 0 rfl (by decide) slices_S512x1024_o0_0_S512x128 _ _, fun _ h => absurd h List.not_mem_nil⟩
  have hcov : ∀ y : S4096x128.Idx, ∃ p ∈ (kernelRun0_A c i arg4 harg4 arg5 harg5 arg6 harg6 arg7 harg7 arg8 harg8 arg9 harg9 x0 x1 x2 x3 x4 xt0 xt1 xt2 hc0 hc1).1, y ∈ p.1.set := by
    intro y
    unfold kernelRun0_A
    have h8 : (y 0).val % 8 < 8 := Nat.mod_lt _ (by decide)
    rcases (by omega : (y 0).val % 8 = 7 ∨ (y 0).val % 8 = 6 ∨ (y 0).val % 8 = 5 ∨ (y 0).val % 8 = 4 ∨ (y 0).val % 8 = 3 ∨ (y 0).val % 8 = 2
      ∨ (y 0).val % 8 = 1 ∨ (y 0).val % 8 = 0) with h | h | h | h | h | h | h | h
    · exact ⟨_, .head _, mem_strided y 7 h _ _⟩
    · exact ⟨_, .tail _ (.head _), mem_strided y 6 h _ _⟩
    · exact ⟨_, .tail _ (.tail _ (.head _)), mem_strided y 5 h _ _⟩
    · exact ⟨_, .tail _ (.tail _ (.tail _ (.head _))), mem_strided y 4 h _ _⟩
    · exact ⟨_, .tail _ (.tail _ (.tail _ (.tail _ (.head _)))), mem_strided y 3 h _ _⟩
    · exact ⟨_, .tail _ (.tail _ (.tail _ (.tail _ (.tail _ (.head _))))), mem_strided y 2 h _ _⟩
    · exact ⟨_, .tail _ (.tail _ (.tail _ (.tail _ (.tail _ (.tail _ (.head _)))))), mem_strided y 1 h _ _⟩
    · exact ⟨_, .tail _ (.tail _ (.tail _ (.tail _ (.tail _ (.tail _ (.tail _ (.head _))))))), mem_strided y 0 h _ _⟩
  funext y
  rw [View.read_writes_apply_eq_canon _ _ _ _ (hcov y)]
  exact View.canon_apply_of_pieces _ _ hpay y (hcov y)

/-- The block a dead tile's store leaves, whatever the buffer held. -/
theorem out_B (c : Dev nD) (i : grid0.Coords) (arg4 : Memref sig .tc .vmem S4096x128 .i32) (harg4 : arg4.IsWhole) (arg5 : Memref sig .tc .vmem S1x1x1024x1024 .bf16) (harg5 : arg5.IsWhole) (arg6 : Memref sig .tc .vmem S1x1x1024x1024 .bf16) (harg6 : arg6.IsWhole) (arg7 : Memref sig .tc .vmem S1x1x512x1024 .bf16) (harg7 : arg7.IsWhole) (arg8 : Memref sig .tc .vmem S1x1x512x1024 .bf16) (harg8 : arg8.IsWhole) (arg9 : Memref sig .tc .vmem S4096x128 .f32) (harg9 : arg9.IsWhole)
    (x0 : Vec F S4096x128 .i32) (x1 : Vec F S1x1x1024x1024 .bf16) (x2 : Vec F S1x1x1024x1024 .bf16) (x3 : Vec F S1x1x512x1024 .bf16) (x4 : Vec F S1x1x512x1024 .bf16) (xt0 : TbBuf0 (F := F) c tbM0_0) (xt1 : TbBuf0 (F := F) c tbM0_1) (xt2 : TbBuf0 (F := F) c tbM0_2) (hc0 : ¬ k0_cond1 (tbM0_2.view.readAt (Elt F) (Rect.unit (s := S152) (k0_off1 i) S1.size (k0_off1_inb i)).toLoadRect xt2 (Shape.Idx.first (numel1_S1.symm ▸ Nat.one_pos))) = 1#1) (hc1 : k0_cond2 (tbM0_2.view.readAt (Elt F) (Rect.unit (s := S152) (k0_off2 i) S1.size (k0_off2_inb i)).toLoadRect xt2 (Shape.Idx.first (numel1_S1.symm ▸ Nat.one_pos))) = 1#1) (f) :
    arg9.view.read (Elt F) (arg9.view.writes (Elt F) f (kernelRun0_B c i arg4 harg4 arg5 harg5 arg6 harg6 arg7 harg7 arg8 harg8 arg9 harg9 x0 x1 x2 x3 x4 xt0 xt1 xt2 hc0 hc1).1) = k0_pay10 := by
  rw [View.read_writes_eq_canon _ _ _ (View.cover_of_tiledL (kernelRun0_B c i arg4 harg4 arg5 harg5 arg6 harg6 arg7 harg7 arg8 harg8 arg9 harg9 x0 x1 x2 x3 x4 xt0 xt1 xt2 hc0 hc1).1 S4096x128.size (by sl_kernel_rfl))]
  exact View.canon_unit_zero (by funext a; match a with | ⟨0, _⟩ => rfl | ⟨1, _⟩ => rfl) _ _

end Cert.KernelIdeal.Ffn

end
-- ==== Proof.Ffn.Frame.lean ====
/- The run of the expert feed-forward's pipeline: the proof data, the body at a point, and the run of @main, whose
   semaphore counters end at zero. The set-up follows the certificate the library's generator writes. -/
module

public import proofs.«01_k».proof.Proof.Ffn.Body

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two branches of the body are taken on complementary conditions. -/
theorem cond2_iff (v : BitVec 32) : k0_cond2 v = 1#1 ↔ ¬ k0_cond1 v = 1#1 := by
  unfold k0_cond2 k0_cond1
  by_cases h : v = 0#32
  · subst h; decide
  · have e1 : Scalar.cmpi .ne v 0#32 = 1#1 := by
      rw [show Scalar.cmpi .ne v 0#32 = BitVec.ofBool (v != 0#32) from rfl, show (v != 0#32) = true from bne_iff_ne.mpr h]; rfl
    have e2 : Scalar.cmpi .eq v 0#32 = 0#1 := by
      rw [show Scalar.cmpi .eq v 0#32 = BitVec.ofBool (v == 0#32) from rfl, show (v == 0#32) = false from beq_eq_false_iff_ne.mpr h]; rfl
    simp only [e1, e2]; decide

/-- The flag of tile `t`: the table's word that the body branches on. -/
def flag (hO : Ok m) (t : Fin (cfgM m hO).N) : BitVec 32 :=
  (tbM0_2.view.readAt (Elt F) (Rect.unit (s := S152) (k0_off1 (grid0.coords t)) S1.size (k0_off1_inb (grid0.coords t))).toLoadRect (tbl m 2) (Shape.Idx.first (numel1_S1.symm ▸ Nat.one_pos)))

/-- What the output's block holds after the body at tile `t`. -/
def outsAt0 (hO : Ok m) (c : Dev nD) (t : Fin (cfgM m hO).N) : Vec F S4096x128 .f32 :=
  if k0_cond1 (flag m hO t) = 1#1 then
    laid (rows (iblk m hO c 0 t) (iblk m hO c 1 t) (iblk m hO c 2 t) (iblk m hO c 3 t) (iblk m hO c 4 t))
  else k0_pay10

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t)
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 800000 in
/-- The body at any point: the inputs' memrefs hold their blocks, so the run of the branch the flag selects applies; the
    invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  by_cases h0 : k0_cond1 (flag m hO t) = 1#1
  · rw [show outsAt0 m hO c t = _ from if_pos h0]
    have h1 : ¬ k0_cond2 (flag m hO t) = 1#1 := fun h => (cond2_iff _).mp h h0
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ (iblk m hO c 0 t) (iblk m hO c 1 t) (iblk m hO c 2 t) (iblk m hO c 3 t) (iblk m hO c 4 t) (tbl m 0) (tbl m 1) (tbl m 2) h0 h1).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    isplitl [HT2]; · iexact HT2
    iintro ⟨H0, H1, H2, H3, H4, ⟨%e5, H5⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact out_A c _ _ _ _ _ _ _ _ _ _ _ _ _ _ _ _ _ _ _ _ _ h0 h1 _
  · rw [show outsAt0 m hO c t = _ from if_neg h0]
    have h1 : k0_cond2 (flag m hO t) = 1#1 := (cond2_iff _).mpr h0
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (iblk m hO c 0 t) (iblk m hO c 1 t) (iblk m hO c 2 t) (iblk m hO c 3 t) (iblk m hO c 4 t) (tbl m 0) (tbl m 1) (tbl m 2) h0 h1).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HT0]; · iexact HT0
    isplitl [HT1]; · iexact HT1
    isplitl [HT2]; · iexact HT2
    iintro ⟨H0, H1, H2, H3, H4, ⟨%e5, H5⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact out_B c _ _ _ _ _ _ _ _ _ _ _ _ _ _ _ _ _ _ _ _ _ h0 h1 _
/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- A window written back at the point ends with its block, idle there or not. -/
theorem written (b f : Bool) (A B : sProp 𝕄) :
    f = true → A ⊢ (match b with | true => (match f with | false => B | true => A) | false => A) := by
  intro hf; subst hf; cases b <;> exact .rfl

/-- The library's body obligation, at every point. The output's window is written back at every point, so its clause asks
    for the block the body leaves whichever way its idle flag reads. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  refine sep_mono .rfl (sep_mono .rfl (sep_mono .rfl (sep_mono .rfl (sep_mono .rfl (sep_mono .rfl (sep_mono .rfl ?_))))))
  exact written (F := F) ((cfgM m hO).idle 5 ((cfgM m hO).grid.coords t)) _ _ _ (flush0_5 (adm m hO) t)

/-! ## The run and the frame -/

/-- What the run ends with: every array of the pipeline at what the library computes from the proof data, every other
    unscoped buffer as the region found it, and every semaphore counter at zero. -/
def Ends (hO : Ok m) (r : PUnit × MemSt nD τ sig (Elt F)) : Prop :=
  Pipeline.FramePost (Pipeline.pin pcfgs fun _ => adm m hO) (dats m hO) 0 (V m) r ∧ r.2.sem = fun _ => 0

-- the run's implicit arguments are found by unifying its conclusion with this one, which takes unfolding plain
-- definitions in a metavariable's type
set_option backward.isDefEq.respectTransparency.types false in
/-- At the compiled mesh, for any values, from any memory with zero counters: every weakly fair execution of @main on the
    TensorCores terminates, and every final state is as `Ends` says. -/
theorem run_main (hO : Ok m) : θ_run defs (onTc (τ := τ) (main (F := F))) (s₀ m ρ) (Ends m hO) :=
  Pipeline.θ_run_frameP_shared pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl) (Q' := Ends m hO) (hQ' := fun _ h => h)

/-- The same, read at the arrays the claims name: the result array at what the proof data leave there, the arguments
    unchanged, the counters at zero. -/
theorem run_arrays (hO : Ok m) : θ_run defs (onTc (τ := τ) (main (F := F))) ⟨m, fun _ => 0, ρ⟩ (fun r => (∀ c : Dev nD,
      r.2.mem ((c.tc : Thread nD τ).loc main_v2) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 5,
      ((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      ((h.1 c).1 0).trans (((dats m hO 0 c).arrAt_in 0 rfl _).trans ((A_eq m hO c 0).trans (V_main_arg3 m c))),
      ((h.1 c).2 main_arg4 (by decide : main_arg4 ∈ Pipeline.restRefs sig spec0)).trans (V_main_arg4 m c),
      ((h.1 c).2 main_arg5 (by decide : main_arg5 ∈ Pipeline.restRefs sig spec0)).trans (V_main_arg5 m c)⟩, h.2⟩) (run_main m ρ hO)

end Cert.KernelIdeal.Ffn

end
-- ==== Proof.Ffn.Tables.lean ====
/- The tile tables: what the index maps read of them, and the pipeline's side condition from the bounds on their entries. -/
module

public import proofs.«01_k».proof.Proof.Ffn.Frame
public import proofs.«01_k».proof.Proof.Gen.Pre_experts_in_range
public import proofs.«01_k».proof.Proof.Gen.Pre_experts_and_shares
public import Idealize.ShloMosaic.Lib.ValueIdx
public import Idealize.ShloMosaic.Lib.StableHlo.Predicate

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Tile `i` as an index of the tables. -/
def tileIx (i : grid0.Coords) : S152.Idx := ValueIdx.ix1 ⟨(i 0).val, (i 0).isLt⟩

theorem at_tile (pf : S152.Idx → BitVec 32) (off : Fin 1 → Nat) (i : grid0.Coords) (ho : off = k0_off1 i) (h : ∀ a, off a + S1.size a ≤ S152.size a) (h1) :
    pf ((Rect.unit (s := S152) off S1.size h).emb (Shape.Idx.first h1)) = pf (tileIx i) := by
  subst ho
  congr 1
  funext a
  apply Fin.ext
  have : k0_off1 i = ![(i 0).val] := k0_off1_eq i
  obtain rfl : a = 0 := Subsingleton.elim _ _
  simp only [tileIx, Rect.unit, Rect.emb]
  simp [this, Shape.Idx.first]

theorem inb_up (e : Fin 16) : ∃ h : (∀ a, ((![0, e.val, 0, 0] : Fin 4 → Nat) a + 1) * S1x1x1024x1024.size a ≤ S2x16x1024x1024.size a),
    EltTy.bits .bf16 = 32 ∨ (Rect.block (s := S2x16x1024x1024) S1x1x1024x1024.size ![0, e.val, 0, 0] h).WholeWords (EltTy.packing .bf16) := by
  revert e; decide

theorem inb_down (e : Fin 16) : ∃ h : (∀ a, ((![0, e.val, 0, 0] : Fin 4 → Nat) a + 1) * S1x1x512x1024.size a ≤ S2x16x512x1024.size a),
    EltTy.bits .bf16 = 32 ∨ (Rect.block (s := S2x16x512x1024) S1x1x512x1024.size ![0, e.val, 0, 0] h).WholeWords (EltTy.packing .bf16) := by
  revert e; decide

theorem ix_1 (pf : pre0.Contents (Elt F)) (i : grid0.Coords) : cc0_transform_1 k0_off1_inb numel1_S1 pf i = ![0, (pf 0 (tileIx i) : BitVec 32).toNat, 0, 0] := by
  unfold cc0_transform_1
  exact congrArg (fun n : BitVec 32 => (![0, n.toNat, 0, 0] : Fin 4 → Nat)) (at_tile (pf 0) _ i rfl _ _)
theorem ix_2 (pf : pre0.Contents (Elt F)) (i : grid0.Coords) : cc0_transform_2 k0_off1_inb numel1_S1 pf i = ![0, (pf 1 (tileIx i) : BitVec 32).toNat, 0, 0] := by
  unfold cc0_transform_2
  exact congrArg (fun n : BitVec 32 => (![0, n.toNat, 0, 0] : Fin 4 → Nat)) (at_tile (pf 1) _ i rfl _ _)
theorem ix_3 (pf : pre0.Contents (Elt F)) (i : grid0.Coords) : cc0_transform_3 k0_off1_inb numel1_S1 pf i = ![0, (pf 0 (tileIx i) : BitVec 32).toNat, 0, 0] := by
  unfold cc0_transform_3
  exact congrArg (fun n : BitVec 32 => (![0, n.toNat, 0, 0] : Fin 4 → Nat)) (at_tile (pf 0) _ i rfl _ _)
theorem ix_4 (pf : pre0.Contents (Elt F)) (i : grid0.Coords) : cc0_transform_4 k0_off1_inb numel1_S1 pf i = ![0, (pf 1 (tileIx i) : BitVec 32).toNat, 0, 0] := by
  unfold cc0_transform_4
  exact congrArg (fun n : BitVec 32 => (![0, n.toNat, 0, 0] : Fin 4 → Nat)) (at_tile (pf 1) _ i rfl _ _)

/-- The side condition, from the bounds on the tables' entries. -/
theorem ok_of_lt (pf : pre0.Contents (Elt F)) (ha : ∀ x, (pf 0 x : BitVec 32).toNat < 16) (hb : ∀ x, (pf 1 x : BitVec 32).toNat < 16) : ok0 pf := by
  unfold ok0
  refine ⟨fun i => ?_, fun i => ?_, fun i => ?_, fun i => ?_⟩
  · rw [ix_1]; exact inb_up ⟨_, ha _⟩
  · rw [ix_2]; exact inb_up ⟨_, hb _⟩
  · rw [ix_3]; exact inb_down ⟨_, ha _⟩
  · rw [ix_4]; exact inb_down ⟨_, hb _⟩

/-- Being at least zero and below 16, signed, is being below 16. -/
theorem lt16 (v : BitVec 32) (h0 : (0#32).sle v = true) (h1 : v.slt 16#32 = true) : v.toNat < 16 := by
  simp only [BitVec.sle, BitVec.slt, decide_eq_true_eq, BitVec.toInt_eq_toNat_cond] at h0 h1
  have := v.isLt
  simp at h0 h1
  split at h0 <;> omega

end Cert.KernelIdeal.Ffn

end
-- ==== Proof.Ffn.Pre.lean ====
/- The preconditions read: the tables' experts lie in range, and a live tile's combine weights are non-negative reals. -/
module

public import proofs.«01_k».proof.Defs
public import proofs.«01_k».proof.Proof.Ffn.Tables
public import proofs.«01_k».proof.Proof.Gen.Kernel

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo.Predicate
open Idealize.ShloMosaic.ValueIdx

theorem andi_one {a b : BitVec 1} (h : IntOp.andi a b = 1#1) : a = 1#1 ∧ b = 1#1 := by
  rcases BitVec.eq_zero_or_eq_one a with rfl | rfl <;> rcases BitVec.eq_zero_or_eq_one b with rfl | rfl <;> revert h <;> decide

theorem ori_one {a b : BitVec 1} (h : IntOp.ori a b = 1#1) : a = 1#1 ∨ b = 1#1 := by
  rcases BitVec.eq_zero_or_eq_one a with rfl | rfl <;> rcases BitVec.eq_zero_or_eq_one b with rfl | rfl <;> revert h <;> decide

/-- The first predicate at a tile: both experts below 16. -/
theorem in_range (a0 a1 a2 : IVec S152 32) (a3 : IVec S622592x128 32) (a4 : FVec F S2x16x1024x1024 .f32) (a5 : FVec F S2x16x512x1024 .f32)
    (h : Cert.Pre_experts_in_range.fn (F := F) a0 a1 a2 a3 a4 a5 = fun _ => 1#1) (x : S152.Idx) :
    (a0 x).toNat < 16 ∧ (a1 x).toNat < 16 := by
  have hx := congrFun h x
  unfold Cert.Pre_experts_in_range.fn at hx
  obtain ⟨hx, h3⟩ := andi_one hx
  obtain ⟨hx, h2⟩ := andi_one hx
  obtain ⟨h0, h1⟩ := andi_one hx
  exact ⟨lt16 _ ((ofBool_eq_one_iff _).mp h0) ((ofBool_eq_one_iff _).mp h1), lt16 _ ((ofBool_eq_one_iff _).mp h2) ((ofBool_eq_one_iff _).mp h3)⟩

open Cert.Pre_experts_and_shares (S152x1x1 S152x512x2 S152x512x8x128 S152x512x1x2) in
/-- A tile's bit, broadcast over its rows' slots. -/
theorem tile_bit (v : IVec S152 1) (h1 : S152x1x1.BroadcastsInDim S152x512x2 (![0, 1, 2] : Fin 3 → Fin 3)) (h0 : S152.BroadcastsInDim S152x1x1 (![0] : Fin 1 → Fin 3))
    (t : Fin 152) (r : Fin 512) (s : Fin 2) :
    broadcastInDim S152x512x2 ![0, 1, 2] h1 (broadcastInDim S152x1x1 ![0] h0 v) (ix3 t r s) = v (ix1 t) := by
  refine (broadcastInDim_apply _ h1 _ (ix3 t r s) (ix3 t 0 0) fun a => ?_).trans (broadcastInDim_apply _ h0 v (ix3 t 0 0) (ix1 t) fun a => ?_)
  · match a with
    | ⟨0, _⟩ => rfl
    | ⟨1, _⟩ => rfl
    | ⟨2, _⟩ => rfl
  · match a with
    | ⟨0, _⟩ => rfl

open Cert.Pre_experts_and_shares (S152x1x1 S152x512x2 S152x512x8x128 S152x512x1x2) in
/-- The word of a row's slot. -/
theorem slot_word (a3 : IVec S622592x128 32) (h0 : S622592x128.ShapeCasts S152x512x8x128) (h1 : S152x512x8x128.Slices ![0, 0, 4, 1] S152x512x1x2)
    (h2 : S152x512x1x2.ShapeCasts S152x512x2) (t : Fin 152) (r : Fin 512) (s : Fin 2) :
    shapeCast S152x512x2 (extractStridedSlice S152x512x1x2 ![0, 0, 4, 1] (shapeCast S152x512x8x128 a3 h0) h1) h2 (ix3 t r s)
      = a3 (ix2 ⟨4096 * t.val + 8 * r.val + 4, by omega⟩ ⟨1 + s.val, by omega⟩) := by
  refine (shapeCast_apply _ h2 (ix3 t r s) (ix4 t r 0 s) ?_).trans ?_
  · rewrite [Shape.rowMajor_val_four, Shape.rowMajor_val_three]
    show ((t.val * 512 + r.val) * 1 + 0) * 2 + s.val = (t.val * 512 + r.val) * 2 + s.val; omega
  · refine shapeCast_apply a3 h0 _ _ ?_
    rewrite [Shape.rowMajor_val_four, Shape.rowMajor_val_two]
    show (4096 * t.val + 8 * r.val + 4) * 128 + (1 + s.val) = (((0 + t.val) * 512 + (0 + r.val)) * 8 + (4 + 0)) * 128 + (1 + s.val); omega

theorem infinity_bits : Ideal.ofBits .f32 0x7F800000#32 = ⊤ := by simp [Ideal.ofBits, Ideal.ieee]

/-- The second predicate at a tile, a row and a slot: both experts below 16, and either the tile is dead or the
    row's weight in that slot is at least zero and below infinity. -/
theorem and_shares (a0 a1 a2 : IVec S152 32) (a3 : IVec S622592x128 32) (a4 : FVec Ideal S2x16x1024x1024 .f32) (a5 : FVec Ideal S2x16x512x1024 .f32)
    (h : Cert.Pre_experts_and_shares.fn (F := Ideal) a0 a1 a2 a3 a4 a5 = fun _ => 1#1) (t : Fin 152) (r : Fin 512) (s : Fin 2) :
    ((a0 (ix1 t)).toNat < 16 ∧ (a1 (ix1 t)).toNat < 16)
    ∧ (a2 (ix1 t) = 0#32 ∨ (0 ≤ Ideal.ofBits .f32 (a3 (ix2 ⟨4096 * t.val + 8 * r.val + 4, by omega⟩ ⟨1 + s.val, by omega⟩))
        ∧ Ideal.ofBits .f32 (a3 (ix2 ⟨4096 * t.val + 8 * r.val + 4, by omega⟩ ⟨1 + s.val, by omega⟩)) < ⊤)) := by
  have hx := congrFun h (ix3 t r s)
  unfold Cert.Pre_experts_and_shares.fn Cert.Pre_experts_and_shares.fn_part1 at hx
  obtain ⟨hx, hs⟩ := andi_one hx
  constructor
  · have hx := (tile_bit _ _ _ t r s).symm.trans hx
    obtain ⟨hx, h3⟩ := andi_one hx
    obtain ⟨hx, h2⟩ := andi_one hx
    obtain ⟨h0, h1⟩ := andi_one hx
    exact ⟨lt16 _ ((ofBool_eq_one_iff _).mp h0) ((ofBool_eq_one_iff _).mp h1), lt16 _ ((ofBool_eq_one_iff _).mp h2) ((ofBool_eq_one_iff _).mp h3)⟩
  · rcases ori_one hs with hd | hs
    · left
      exact cmpi_eq_iff.mp ((tile_bit _ _ _ t r s).symm.trans hd)
    · right
      obtain ⟨hs0, hs1⟩ := andi_one hs
      have e := congrArg (Ideal.ofBits .f32) (slot_word a3 Cert.Pre_experts_and_shares.Facts.shapeCasts_S622592x128_S152x512x8x128
        Cert.Pre_experts_and_shares.Facts.slices_S152x512x8x128_S152x512x1x2_0_0_4_1 Cert.Pre_experts_and_shares.Facts.shapeCasts_S152x512x1x2_S152x512x2 t r s)
      rw [← e, ← infinity_bits]
      have h0 := of_decide_eq_true ((ofBool_eq_one_iff _).mp hs0)
      have h1 := of_decide_eq_true ((ofBool_eq_one_iff _).mp hs1)
      refine ⟨?_, h1⟩
      have z : Ideal.ofBits .f32 0x00000000#32 = 0 := by simp [Ideal.ofBits, Ideal.ieee]
      rw [← z]
      exact h0

/-! ## The pipeline's side condition from each predicate -/

variable (m : (ℓ : Loc nD τ sig) → Buf (Elt F) ℓ)

theorem ok_of_tables (h : ∀ x : S152.Idx, (m (((0 : Dev nD) : Thread nD τ).loc main_arg0) x : BitVec 32).toNat < 16 ∧ (m (((0 : Dev nD) : Thread nD τ).loc main_arg1) x : BitVec 32).toNat < 16) : Ok m :=
  ok_of_lt (tbl m) (fun x => by rw [show tbl m 0 = m (((0 : Dev nD) : Thread nD τ).loc main_arg0) from V_main_arg0 m 0]; exact (h x).1)
    (fun x => by rw [show tbl m 1 = m (((0 : Dev nD) : Thread nD τ).loc main_arg1) from V_main_arg1 m 0]; exact (h x).2)

theorem ok_Kernel (m : (ℓ : Loc nD τ sig) → Buf (Elt Bits) ℓ) (h : Cert.Pre_Kernel m) : Ok m :=
  ok_of_tables m fun x => in_range _ _ _ _ _ _ (h 0) x

theorem ok_KernelIdeal (m : (ℓ : Loc nD τ sig) → Buf (Elt Ideal) ℓ) (h : Cert.Pre_KernelIdeal m) : Ok m :=
  ok_of_tables m fun x => in_range _ _ _ _ _ _ (h 0) x

theorem ok_shares (m : (ℓ : Loc nD τ sig) → Buf (Elt Ideal) ℓ) (h : Cert.Pre_KernelIdeal_experts_and_shares m) : Ok m :=
  ok_of_tables m fun x => by
    have := (and_shares _ _ _ _ _ _ (h 0) (x 0) 0 0).1
    rwa [show (ix1 (x 0) : S152.Idx) = x from (funext fun a => by match a with | ⟨0, _⟩ => rfl)] at this

/-! ## The frames -/

/-! The two programs have one text. -/

theorem body_same : Cert.Kernel.defs₀ (F := Bits) = defs₀ (F := Bits) :=
  congrArg Defs.onTc (funext fun l => funext fun x => match l, x with | ⟨0, _⟩, (t, s) => rfl)

theorem defs_same : Cert.Kernel.defs (F := Bits) = defs (F := Bits) := congrArg (Pipeline.defs pcfgs) body_same

theorem main_same (c : Dev nD) : Cert.Kernel.main (F := Bits) c = main (F := Bits) c := rfl

/-- A run of one program is a run of any program equal to it. -/
theorem run_congr {Λ : Idealize.SL.Sem.Labels} {D D' : Defs nD τ sig (Elt Bits) Λ} {p p' : Dev nD → Prog (TpuEff nD τ sig (Elt Bits) Λ .tc) PUnit}
    (hD : D = D') (hp : ∀ c, p c = p' c) (s) (Q) (h : θ_run D' (onTc (τ := τ) p') s Q) : θ_run D (onTc (τ := τ) p) s Q := by
  obtain rfl := hD
  obtain rfl : p = p' := funext hp
  exact h

theorem frame_Kernel : Cert.quiescent_Kernel := fun m ρ h =>
  run_congr defs_same main_same _ _
    ((θ_run defs _ _).mono (fun _ hr => ⟨fun c => (hr.1 c).2, hr.2⟩) (run_arrays (F := Bits) m ρ (ok_Kernel m h)))

theorem frame_KernelIdeal : Cert.quiescent_KernelIdeal := fun m ρ h =>
  (θ_run Cert.KernelIdeal.defs _ _).mono (fun _ hr => ⟨fun c => (hr.1 c).2, hr.2⟩) (run_arrays m ρ (ok_KernelIdeal m h))

theorem frame_shares : Cert.quiescent_KernelIdeal_pre_experts_and_shares := fun m ρ h =>
  (θ_run Cert.KernelIdeal.defs _ _).mono (fun _ hr => ⟨fun c => (hr.1 c).2, hr.2⟩) (run_arrays m ρ (ok_shares m h))

end Cert.KernelIdeal.Ffn

end
-- ==== Proof.Ffn.Spec.lean ====
/- Packed rows as values: a bf16 half of a word denotes what the f32 word with that half on top denotes. The mathematics of
   one expert on one row, and how a nonnegative finite weight moves through its sums. -/
module

public import Idealize.ShloMosaic.PureOps.Ideal
public import Idealize.ShloMosaic.PureOps.Ideal.Laws
public import Idealize.ShloMosaic.Lib.ValueIdx

@[expose] public section

noncomputable section

namespace Cert.KernelIdeal.Ffn

open Idealize.ShloMosaic
open scoped BigOperators

/-- A bf16 pattern denotes what the f32 pattern with the same upper half and zeros below denotes. -/
theorem ofBits_widen (b : BitVec 16) (v : BitVec 32) (h : v.toNat = 65536 * b.toNat) : Ideal.ofBits .bf16 b = Ideal.ofBits .f32 v := by
  have hb := b.isLt
  have hs : (b.extractLsb' (8 + 7) 1 == 1#1) = (v.extractLsb' (8 + 23) 1 == 1#1) := by
    have : b.extractLsb' (8 + 7) 1 = v.extractLsb' (8 + 23) 1 := by
      apply BitVec.eq_of_toNat_eq
      simp only [BitVec.extractLsb'_toNat, Nat.shiftRight_eq_div_pow, h]; omega
    rw [this]
  have he : (b.extractLsb' 7 8).toNat = (v.extractLsb' 23 8).toNat := by
    simp only [BitVec.extractLsb'_toNat, Nat.shiftRight_eq_div_pow, h]; omega
  have hf : (v.extractLsb' 0 23).toNat = 65536 * (b.extractLsb' 0 7).toNat := by
    simp only [BitVec.extractLsb'_toNat, Nat.shiftRight_eq_div_pow, h]; omega
  show Ideal.ieee 8 7 b = Ideal.ieee 8 23 v
  unfold Ideal.ieee
  simp only [hs, he, hf]
  generalize (v.extractLsb' 23 8).toNat = ex
  generalize (b.extractLsb' 0 7).toNat = fr
  generalize (if (v.extractLsb' (8 + 23) 1 == 1#1) = true then (-1 : ℝ) else 1) = sgn
  have hz : (65536 * fr = 0) = (fr = 0) := by simp
  have p (n : ℤ) : (2 : ℝ) ^ (n - 7) = 65536 * (2 : ℝ) ^ (n - 23) := by
    rw [show n - 7 = 16 + (n - 23) by ring, zpow_add₀ (by norm_num)]; norm_num
  simp only [hz]
  have q1 : (sgn * (fr : ℝ) * (2 : ℝ) ^ (1 - (2 ^ (8 - 1) - 1) - ((7 : ℕ) : ℤ) : ℤ)) = sgn * ((65536 * fr : ℕ) : ℝ) * (2 : ℝ) ^ (1 - (2 ^ (8 - 1) - 1) - ((23 : ℕ) : ℤ) : ℤ) := by
    rw [show (1 - (2 ^ (8 - 1) - 1) - ((7 : ℕ) : ℤ) : ℤ) = (1 - (2 ^ (8 - 1) - 1)) - 7 from rfl, p]
    push_cast; ring
  have q2 : (sgn * ((2 ^ 7 + fr : ℕ) : ℝ) * (2 : ℝ) ^ ((ex : ℤ) - (2 ^ (8 - 1) - 1) - ((7 : ℕ) : ℤ) : ℤ)) = sgn * ((2 ^ 23 + 65536 * fr : ℕ) : ℝ) * (2 : ℝ) ^ ((ex : ℤ) - (2 ^ (8 - 1) - 1) - ((23 : ℕ) : ℤ) : ℤ) := by
    rw [show ((ex : ℤ) - (2 ^ (8 - 1) - 1) - ((7 : ℕ) : ℤ) : ℤ) = ((ex : ℤ) - (2 ^ (8 - 1) - 1)) - 7 from rfl, p]
    push_cast; ring
  rw [q1, q2]

/-- The lower half of a word, -/
theorem ofBits_lo (w : BitVec 32) : Ideal.ofBits .bf16 (w.extractLsb' 0 16) = Ideal.ofBits .f32 (w <<< 16) :=
  ofBits_widen _ _ (by
    have := w.isLt
    simp only [BitVec.extractLsb'_toNat, Nat.shiftRight_eq_div_pow, BitVec.toNat_shiftLeft, Nat.shiftLeft_eq]; omega)

/-- and the upper half. -/
theorem ofBits_hi (w : BitVec 32) : Ideal.ofBits .bf16 (w.extractLsb' 16 16) = Ideal.ofBits .f32 (w &&& 0xFFFF0000#32) :=
  ofBits_widen _ _ (by
    have := w.isLt
    have e : w &&& 0xFFFF0000#32 = (w >>> 16) <<< 16 := by
      apply BitVec.eq_of_getLsbD_eq
      intro i hi
      have hm : ∀ i < 32, (0xFFFF0000#32).getLsbD i = decide (16 ≤ i) := by decide
      rw [BitVec.getLsbD_and, hm i hi, BitVec.getLsbD_shiftLeft, BitVec.getLsbD_ushiftRight]
      by_cases h : 16 ≤ i
      · simp [h, hi, show 16 + (i - 16) = i by omega, show ¬ i < 16 by omega]
      · simp [h, hi, show i < 16 by omega]
    rw [e]
    simp only [BitVec.extractLsb'_toNat, Nat.shiftRight_eq_div_pow, BitVec.toNat_shiftLeft, BitVec.toNat_ushiftRight, Nat.shiftLeft_eq]; omega)

/-- A row of 1024 values from its 512 words: the lower halves, then the upper halves. -/
def halves (W : Fin 512 → BitVec 32) (k : Fin 1024) : EReal :=
  if h : k.val < 512 then Ideal.ofBits .f32 (W ⟨k.val, h⟩ <<< 16) else Ideal.ofBits .f32 (W ⟨k.val - 512, by omega⟩ &&& 0xFFFF0000#32)

/-! ## One expert on one row -/

/-- `g · sigmoid g`. -/
def silu (g : EReal) : EReal := g * Ideal.div 1 (1 + Ideal.exp (-g))

/-- The expert's hidden unit `j`: the gate column through `silu`, times the up column. -/
def unit (h : Fin 1024 → EReal) (U : Fin 1024 → Fin 1024 → EReal) (j : Fin 512) : EReal :=
  silu (∑ k, h k * U k ⟨j.val, by omega⟩) * ∑ k, h k * U k ⟨512 + j.val, by omega⟩

/-- Column `q` of the expert's output row. -/
def out (h : Fin 1024 → EReal) (U : Fin 1024 → Fin 1024 → EReal) (D : Fin 512 → Fin 1024 → EReal) (q : Fin 1024) : EReal :=
  ∑ j, unit h U j * D j q

/-- A nonnegative finite weight goes out of a sum. -/
theorem mul_sum {ι : Type} (s : Finset ι) (f : ι → EReal) (w : EReal) (h0 : 0 ≤ w) (h1 : w ≠ ⊤) :
    w * ∑ i ∈ s, f i = ∑ i ∈ s, w * f i := by
  classical
  induction s using Finset.induction_on with
  | empty => simp
  | insert a s ha ih => rw [Finset.sum_insert ha, Finset.sum_insert ha, EReal.left_distrib_of_nonneg_of_ne_top h0 h1, ih]

/-- Weighting every hidden unit is weighting the output. -/
theorem out_weighted (h : Fin 1024 → EReal) (U : Fin 1024 → Fin 1024 → EReal) (D : Fin 512 → Fin 1024 → EReal) (q : Fin 1024)
    (w : EReal) (h0 : 0 ≤ w) (h1 : w ≠ ⊤) : ∑ j, (unit h U j * w) * D j q = w * out h U D q := by
  unfold out
  rw [mul_sum _ _ _ h0 h1]
  exact Finset.sum_congr rfl fun j _ => by rw [mul_comm (unit h U j) w, mul_assoc]

/-- Every expert weighted by its share of the two chosen is the two chosen, each by its weight. -/
theorem sum_two (a b : Fin 16) (wa wb : EReal) (ha : 0 ≤ wa) (hb : 0 ≤ wb) (y : Fin 16 → EReal) :
    ∑ e, ((if a = e then 1 else 0) * wa + (if b = e then 1 else 0) * wb) * y e = wa * y a + wb * y b := by
  have e1 : ∀ e, ((if a = e then (1 : EReal) else 0) * wa + (if b = e then 1 else 0) * wb) * y e
      = (if a = e then wa * y e else 0) + (if b = e then wb * y e else 0) := by
    intro e
    rw [EReal.right_distrib_of_nonneg (by split <;> simp [ha]) (by split <;> simp [hb])]
    congr 1 <;> split <;> simp
  rw [Finset.sum_congr rfl fun e _ => e1 e, Finset.sum_add_distrib, Finset.sum_ite_eq, Finset.sum_ite_eq]
  simp

/-- Sixteen terms added one after the other onto zero. -/
theorem sum_sixteen (T : Fin 16 → EReal) :
    0 + T 0 + T 1 + T 2 + T 3 + T 4 + T 5 + T 6 + T 7 + T 8 + T 9 + T 10 + T 11 + T 12 + T 13 + T 14 + T 15 = ∑ e, T e := by
  simp only [Fin.sum_univ_castSucc, Fin.sum_univ_zero]
  rfl

end Cert.KernelIdeal.Ffn

end
-- ==== Proof.Ffn.Read.lean ====
/- A live tile's rows read at an index, at the ideal values: the two experts' outputs of the row's unpacked halves, each
   hidden unit weighted by the row's combine weight. -/
module

public import proofs.«01_k».proof.Proof.Ffn.Body
public import proofs.«01_k».proof.Proof.Ffn.Spec
public import Idealize.ShloMosaic.Lib.Pipeline.Value
public import Idealize.ShloMosaic.Lib.ValueIdx

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- Word `c` of row `r` of a block: the rows come eight block rows each, the packed values in the first four. -/
def word (x0 : Vec Ideal S4096x128 .i32) (r : Fin 512) (c : Fin 512) : BitVec 32 :=
  x0 (ix2 ⟨8 * r.val + c.val / 128, by omega⟩ ⟨c.val % 128, by omega⟩)

theorem packed_apply (x0 : Vec Ideal S4096x128 .i32) (r c : Fin 512) :
    (concatenate S512x512 1 [⟨S512x128, slab x0 0 (by decide)⟩, ⟨S512x128, slab x0 1 (by decide)⟩, ⟨S512x128, slab x0 2 (by decide)⟩, ⟨S512x128, slab x0 3 (by decide)⟩]
      concatenates_S512x128_S512x128_S512x128_S512x128_S512x512_d1 : IVec S512x512 32) (ix2 r c) = word x0 r c := by
  have hc := c.isLt
  refine (concatenate_ofFn_apply (t := S512x512) (s₁ := S512x128) 1 (N := 4) (fun n => slab x0 n.val (by omega)) concatenates_S512x128_S512x128_S512x128_S512x128_S512x512_d1
    rfl 128 rfl (ix2 r c) ⟨c.val / 128, by omega⟩ rfl (ix2 r ⟨c.val % 128, by omega⟩) rfl ?_).trans ?_
  · intro b hb
    match b with
    | ⟨0, _⟩ => rfl
    | ⟨1, _⟩ => exact absurd rfl hb
  · rfl

theorem hidden_apply (x0 : Vec Ideal S4096x128 .i32) (r : Fin 512) (k : Fin 1024) :
    k0_pay11 (F := Ideal) (slab x0 0 (by decide)) (slab x0 1 (by decide)) (slab x0 2 (by decide)) (slab x0 3 (by decide)) (ix2 r k)
      = halves (word x0 r) k := by
  unfold k0_pay11
  simp only [truncf_apply]
  unfold halves
  split
  · next h =>
    refine (concatenate_pair_apply_left (t := S512x1024) (s₁ := S512x512) (s₂ := S512x512) 1 _ _ _ (ix2 r k) rfl (ix2 r ⟨k.val, h⟩) ?_).trans ?_
    · intro b
      match b with
      | ⟨0, _⟩ => rfl
      | ⟨1, _⟩ => rfl
    · rw [← ofBits_lo, ← packed_apply]; rfl
  · next h =>
    refine (concatenate_pair_apply_right (t := S512x1024) (s₁ := S512x512) (s₂ := S512x512) 1 _ _ _ (ix2 r k) rfl rfl (ix2 r ⟨k.val - 512, by omega⟩) ?_ ?_).trans ?_
    · intro b hb
      match b with
      | ⟨0, _⟩ => rfl
      | ⟨1, _⟩ => exact absurd rfl hb
    · show k.val - 512 + 512 = k.val; omega
    · rw [← ofBits_hi, ← packed_apply]; rfl

/-- The first product read at an index. -/
theorem up_apply (h : FVec Ideal S512x1024 .bf16) (U : FVec Ideal S1024x1024 .bf16) (r : Fin 512) (q : Fin 1024) :
    matmul (F := Ideal) dot_S512x1024_S1024x1024_S512x1024_1_0_0_1_n_n none h U (constant S512x1024 .f32 0x00000000#32) (ix2 r q)
      = ∑ k : Fin 1024, h (ix2 r k) * U (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r q) ((contrEquiv1 dot_S512x1024_S1024x1024_S512x1024_1_0_0_1_n_n 1024 rfl rfl).symm k) = ix2 r k := funext fun a => Fin.ext (by
    match a with
    | ⟨0, _⟩ => rfl
    | ⟨1, _⟩ => exact hk)
  have er : dot_S512x1024_S1024x1024_S512x1024_1_0_0_1_n_n.rhsIdx (ix2 r q) ((contrEquiv1 dot_S512x1024_S1024x1024_S512x1024_1_0_0_1_n_n 1024 rfl rfl).symm k) = ix2 k q := funext fun a => Fin.ext (by
    match a with
    | ⟨0, _⟩ => exact hk
    | ⟨1, _⟩ => rfl)
  rw [el, er]

/-- The second product read at an index. -/
theorem down_apply (h : FVec Ideal S512x512 .bf16) (D : FVec Ideal S512x1024 .bf16) (r : Fin 512) (q : Fin 1024) :
    matmul (F := Ideal) dot_S512x512_S512x1024_S512x1024_1_0_0_1_n_n none h D (constant S512x1024 .f32 0x00000000#32) (ix2 r q)
      = ∑ k : Fin 512, h (ix2 r k) * D (ix2 k q) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r q) ((contrEquiv1 dot_S512x512_S512x1024_S512x1024_1_0_0_1_n_n 512 rfl rfl).symm k) = ix2 r k := funext fun a => Fin.ext (by
    match a with
    | ⟨0, _⟩ => rfl
    | ⟨1, _⟩ => exact hk)
  have er : dot_S512x512_S512x1024_S512x1024_1_0_0_1_n_n.rhsIdx (ix2 r q) ((contrEquiv1 dot_S512x512_S512x1024_S512x1024_1_0_0_1_n_n 512 rfl rfl).symm k) = ix2 k q := funext fun a => Fin.ext (by
    match a with
    | ⟨0, _⟩ => exact hk
    | ⟨1, _⟩ => rfl)
  rw [el, er]

/-- A weight block's matrix read at an index. -/
theorem upMat_apply (x : Vec Ideal S1x1x1024x1024 .bf16) (k q : Fin 1024) :
    (shapeCast S1024x1024 x shapeCasts_S1x1x1024x1024_S1024x1024) (ix2 k q) = x (ix4 0 0 k q) :=
  shapeCast_apply x _ (ix2 k q) (ix4 0 0 k q) (by
    rewrite [Shape.rowMajor_val_four, Shape.rowMajor_val_two]
    show ((0 * 1 + 0) * 1024 + k.val) * 1024 + q.val = k.val * 1024 + q.val; omega)

theorem downMat_apply (x : Vec Ideal S1x1x512x1024 .bf16) (k : Fin 512) (q : Fin 1024) :
    (shapeCast S512x1024 x shapeCasts_S1x1x512x1024_S512x1024) (ix2 k q) = x (ix4 0 0 k q) :=
  shapeCast_apply x _ (ix2 k q) (ix4 0 0 k q) (by
    rewrite [Shape.rowMajor_val_four, Shape.rowMajor_val_two]
    show ((0 * 1 + 0) * 512 + k.val) * 1024 + q.val = k.val * 1024 + q.val; omega)

/-- The combine weight in lane `l` of block row `8 r + 4`. -/
def share (x0 : Vec Ideal S4096x128 .i32) (r : Fin 512) (l : Fin 128) : EReal :=
  Ideal.ofBits .f32 (x0 (ix2 ⟨8 * r.val + 4, by omega⟩ l))

/-- A weight block as a matrix, -/
def upOf (x : Vec Ideal S1x1x1024x1024 .bf16) (k q : Fin 1024) : EReal := x (ix4 0 0 k q)
def downOf (x : Vec Ideal S1x1x512x1024 .bf16) (k : Fin 512) (q : Fin 1024) : EReal := x (ix4 0 0 k q)

/-- The first product of a row with a weight block. -/
theorem proj_apply (x0 : Vec Ideal S4096x128 .i32) (x : Vec Ideal S1x1x1024x1024 .bf16) (r : Fin 512) (q : Fin 1024) :
    matmul (F := Ideal) (φ₂ := .bf16) dot_S512x1024_S1024x1024_S512x1024_1_0_0_1_n_n none
        (k0_pay11 (F := Ideal) (slab x0 0 (by decide)) (slab x0 1 (by decide)) (slab x0 2 (by decide)) (slab x0 3 (by decide)))
        (shapeCast S1024x1024 x shapeCasts_S1x1x1024x1024_S1024x1024) (constant S512x1024 .f32 0x00000000#32) (ix2 r q)
      = ∑ k, halves (word x0 r) k * upOf x k q := by
  rw [up_apply]
  exact Finset.sum_congr rfl fun k _ => congrArg₂ (· * ·) (hidden_apply x0 r k) (upMat_apply x k q)

/-- The gated unit of a product: the product's first half through `silu`, times its second half. -/
theorem gated_apply (M : FVec Ideal S512x1024 .f32) (r j : Fin 512) :
    mulf (F := Ideal) (mulf (extractStridedSlice S512x512 ![0, 0] M slices_S512x1024_o0_0_S512x512)
        (logistic (extractStridedSlice S512x512 ![0, 0] M slices_S512x1024_o0_0_S512x512)))
      (extractStridedSlice S512x512 ![0, 512] M slices_S512x1024_o0_512_S512x512) (ix2 r j)
      = silu (M (ix2 r ⟨j.val, by omega⟩)) * M (ix2 r ⟨512 + j.val, by omega⟩) := by
  have e0 : extractStridedSlice S512x512 ![0, 0] M slices_S512x1024_o0_0_S512x512 (ix2 r j) = M (ix2 r ⟨j.val, by omega⟩) :=
    congrArg M (funext fun a => Fin.ext (by
      match a with
      | ⟨0, _⟩ => exact Nat.zero_add _
      | ⟨1, _⟩ => exact Nat.zero_add _))
  have e1 : extractStridedSlice S512x512 ![0, 512] M slices_S512x1024_o0_512_S512x512 (ix2 r j) = M (ix2 r ⟨512 + j.val, by omega⟩) :=
    congrArg M (funext fun a => Fin.ext (by
      match a with
      | ⟨0, _⟩ => exact Nat.zero_add _
      | ⟨1, _⟩ => rfl))
  rw [← e0, ← e1]
  rfl

/-- The second expert's hidden units, not yet weighted. -/
theorem unit_apply (x0 : Vec Ideal S4096x128 .i32) (x2 : Vec Ideal S1x1x1024x1024 .bf16) (r : Fin 512) (j : Fin 512) :
    k0_pay15 (F := Ideal) (slab x0 0 (by decide)) (slab x0 1 (by decide)) (slab x0 2 (by decide)) (slab x0 3 (by decide)) x2 (ix2 r j)
      = unit (halves (word x0 r)) (upOf x2) j := by
  unfold k0_pay15
  refine (gated_apply _ r j).trans ?_
  rw [proj_apply, proj_apply]
  rfl

/-- A weight column, broadcast. -/
theorem share_apply (x0 : Vec Ideal S4096x128 .i32) (l : Fin 128) (hs : S512x128.Slices ![0, l.val] S512x1) (r j : Fin 512) :
    broadcastTo S512x512 (extractStridedSlice S512x1 ![0, l.val] (k0_pay12 (F := Ideal) (slab x0 4 (by decide))) hs) broadcasts_S512x1_S512x512 (ix2 r j)
      = share x0 r l := by
  unfold broadcastTo extractStridedSlice share
  refine congrArg (fun i => k0_pay12 (F := Ideal) (slab x0 4 (by decide)) i) (a₂ := ix2 r l) (funext fun a => Fin.ext ?_)
  match a with
  | ⟨0, _⟩ => exact Nat.zero_add _
  | ⟨1, _⟩ => rfl

/-- A live tile's rows. -/
theorem rows_apply (x0 : Vec Ideal S4096x128 .i32) (x1 x2 : Vec Ideal S1x1x1024x1024 .bf16) (x3 x4 : Vec Ideal S1x1x512x1024 .bf16)
    (r : Fin 512) (q : Fin 1024) :
    rows (F := Ideal) x0 x1 x2 x3 x4 (ix2 r q)
      = (∑ j, unit (halves (word x0 r)) (upOf x1) j * share x0 r 1 * downOf x3 j q)
        + ∑ j, unit (halves (word x0 r)) (upOf x2) j * share x0 r 2 * downOf x4 j q := by
  unfold rows k0_pay1 k0_pay13
  rw [addf_apply, down_apply, down_apply]
  refine congrArg₂ (· + ·) (Finset.sum_congr rfl fun j _ => ?_) (Finset.sum_congr rfl fun j _ => ?_)
  · exact congrArg₂ (· * ·) (congrArg₂ (· * ·) (unit_apply x0 x1 r j) (share_apply x0 1 slices_S512x128_o0_1_S512x1 r j)) (downMat_apply x3 j q)
  · exact congrArg₂ (· * ·) (congrArg₂ (· * ·) (unit_apply x0 x2 r j) (share_apply x0 2 slices_S512x128_o0_2_S512x1 r j)) (downMat_apply x4 j q)

end Cert.KernelIdeal.Ffn

end
-- ==== Proof.Ffn.Answer.lean ====
/- The feed-forward's result as one function of its arguments: row `n` of tile `n / 512` is the two weighted outputs of
   the tile's two experts on the row's unpacked hidden vector, or zero where the tile is not live. -/
module

public import proofs.«01_k».proof.KernelIdeal
public import proofs.«01_k».proof.Proof.Ffn.Spec
public import Idealize.ShloMosaic.Lib.ValueIdx

@[expose] public section

noncomputable section

namespace Cert.KernelIdeal.Ffn

open Idealize.ShloMosaic Idealize.ShloMosaic.ValueIdx

/-- The 512 words of row `n`: the first 512 of the row's eight stored lines of 128. -/
def words (X : S622592x128.Idx → BitVec 32) (n : Fin 77824) (k : Fin 512) : BitVec 32 :=
  X (ix2 ⟨8 * n.val + k.val / 128, by omega⟩ ⟨k.val % 128, by omega⟩)

/-- The weight stored at lane `l` of row `n`'s fifth line. -/
def weight (X : S622592x128.Idx → BitVec 32) (n : Fin 77824) (l : Fin 128) : EReal := Ideal.ofBits .f32 (X (ix2 ⟨8 * n.val + 4, by omega⟩ l))

/-- Expert `e`'s gate and up matrix, of the first layer. -/
def upAt (U : S2x16x1024x1024.Idx → EReal) (e : Fin 16) (k q : Fin 1024) : EReal := U (ix4 0 e k q)

/-- Expert `e`'s down matrix, of the first layer. -/
def downAt (D : S2x16x512x1024.Idx → EReal) (e : Fin 16) (k : Fin 512) (q : Fin 1024) : EReal := D (ix4 0 e k q)

/-- The expert a table's word names. -/
def expertOf (a : BitVec 32) : Fin 16 := ⟨a.toNat % 16, Nat.mod_lt _ (by decide)⟩

/-- The tile of row `n`. -/
def tileOf (n : Fin 77824) : S152.Idx := ix1 ⟨n.val / 512, by omega⟩

/-- Column `q` of row `n` of the result. -/
def answer (a0 a1 a2 : S152.Idx → BitVec 32) (X : S622592x128.Idx → BitVec 32) (U : S2x16x1024x1024.Idx → EReal) (D : S2x16x512x1024.Idx → EReal)
    (n : Fin 77824) (q : Fin 1024) : EReal :=
  if a2 (tileOf n) = 0#32 then 0
  else weight X n 1 * out (halves (words X n)) (upAt U (expertOf (a0 (tileOf n)))) (downAt D (expertOf (a0 (tileOf n)))) q
    + weight X n 2 * out (halves (words X n)) (upAt U (expertOf (a1 (tileOf n)))) (downAt D (expertOf (a1 (tileOf n)))) q

/-- The result as it is stored: row `n` in eight lines of 128. -/
def answerAt (a0 a1 a2 : S152.Idx → BitVec 32) (X : S622592x128.Idx → BitVec 32) (U : S2x16x1024x1024.Idx → EReal) (D : S2x16x512x1024.Idx → EReal)
    (i : S622592x128.Idx) : EReal :=
  answer a0 a1 a2 X U D ⟨(i 0).val / 8, by have := idx2_lt0 i; omega⟩ ⟨128 * ((i 0).val % 8) + (i 1).val, by have := idx2_lt1 i; omega⟩

/-- What the precondition says: the tables name experts, and the weights of a live tile's rows are at least zero and
    finite. -/
def Fit (a0 a1 a2 : S152.Idx → BitVec 32) (X : S622592x128.Idx → BitVec 32) : Prop :=
  ∀ (t : Fin 152) (r : Fin 512) (s : Fin 2),
    ((a0 (ix1 t)).toNat < 16 ∧ (a1 (ix1 t)).toNat < 16)
    ∧ (a2 (ix1 t) = 0#32 ∨ (0 ≤ Ideal.ofBits .f32 (X (ix2 ⟨4096 * t.val + 8 * r.val + 4, by omega⟩ ⟨1 + s.val, by omega⟩))
        ∧ Ideal.ofBits .f32 (X (ix2 ⟨4096 * t.val + 8 * r.val + 4, by omega⟩ ⟨1 + s.val, by omega⟩)) < ⊤))

variable {a0 a1 a2 : S152.Idx → BitVec 32} {X : S622592x128.Idx → BitVec 32}

theorem Fit.expertA (h : Fit a0 a1 a2 X) (t : Fin 152) : (expertOf (a0 (ix1 t))).val = (a0 (ix1 t)).toNat :=
  Nat.mod_eq_of_lt (h t 0 0).1.1

theorem Fit.expertB (h : Fit a0 a1 a2 X) (t : Fin 152) : (expertOf (a1 (ix1 t))).val = (a1 (ix1 t)).toNat :=
  Nat.mod_eq_of_lt (h t 0 0).1.2

/-- A live row's weights. -/
theorem Fit.weight (h : Fit a0 a1 a2 X) (n : Fin 77824) (s : Fin 2) (hl : a2 (tileOf n) ≠ 0#32) :
    0 ≤ weight X n ⟨1 + s.val, by omega⟩ ∧ weight X n ⟨1 + s.val, by omega⟩ < ⊤ := by
  have hw := (h ⟨n.val / 512, by omega⟩ ⟨n.val % 512, by omega⟩ s).2.resolve_left hl
  have e : (⟨4096 * (n.val / 512) + 8 * (n.val % 512) + 4, by omega⟩ : Fin 622592) = ⟨8 * n.val + 4, by omega⟩ := Fin.ext (by simp only; omega)
  simp only [e] at hw
  exact hw

end Cert.KernelIdeal.Ffn

end
-- ==== Proof.Ffn.Blocks.lean ====
/- The kernel's result array, index by index, at the ideal values: each live tile's rows, from the words and weights the
   index maps bring in; zeros at the other tiles. -/
module

public import proofs.«01_k».proof.Proof.Ffn.Frame
public import proofs.«01_k».proof.Proof.Ffn.Tables
public import proofs.«01_k».proof.Proof.Ffn.Read
public import proofs.«01_k».proof.Proof.Ffn.Answer
public import Idealize.ShloMosaic.Lib.Pipeline.ValueKit.Geometry
@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (hO : Ok m) (c : Dev nD)

theorem V_main_v0 : V m c main_v0 = m ((c : Thread nD τ).loc main_arg4) := rfl

theorem V_main_v1 : V m c main_v1 = m ((c : Thread nD τ).loc main_arg5) := rfl

/-- The grid's one coordinate at point `t` is `t`. -/
theorem coord (t : Fin (cfgM m hO).N) : (grid0.coords t 0).val = t.val :=
  (by decide +kernel : ∀ t : Fin grid0.N, (grid0.coords t 0).val = t.val) t

theorem index_0 (t : Fin (cfgM m hO).N) : ((cfgM m hO).win 0).index t = ![t.val, 0] :=
  (by decide +kernel : ∀ t : Fin grid0.N, cc0_transform_0 (grid0.coords t) = ![t.val, 0]) t

theorem blk0_apply (t : Fin (cfgM m hO).N) (y : S4096x128.Idx) (i : S622592x128.Idx) (h0 : (i 0).val = 4096 * t.val + (y 0).val) (h1 : (i 1).val = (y 1).val) :
    iblk m hO c 0 t y = m ((c : Thread nD τ).loc main_arg3) i := by
  rw [← V_main_arg3 m c]
  show V m c main_arg3 ((((cfgM m hO).win 0).blk t).view.emb y) = _
  congr 1
  funext a
  apply Fin.ext
  match a with
  | ⟨0, _⟩ => blk_simp; refine (congrArg (fun n : Nat => n * 4096 + (y 0).val) (congrFun (index_0 m hO t) (0 : Fin 2))).trans ?_; exact (by omega : t.val * 4096 + (y 0).val = (i 0).val)
  | ⟨1, _⟩ => blk_simp; refine (congrArg (fun n : Nat => n * 128 + (y 1).val) (congrFun (index_0 m hO t) (1 : Fin 2))).trans ?_; exact (by omega : 0 * 128 + (y 1).val = (i 1).val)

theorem index_1 (t : Fin (cfgM m hO).N) : ((cfgM m hO).win 1).index t = ![0, (tbl m 0 (tileIx (grid0.coords t)) : BitVec 32).toNat, 0, 0] :=
  ix_1 (tbl m) (grid0.coords t)

theorem blk1_apply (t : Fin (cfgM m hO).N) (y : S1x1x1024x1024.Idx) (i : S2x16x1024x1024.Idx) (h0 : (i 0).val = 0)
    (h1 : (i 1).val = (tbl m 0 (tileIx (grid0.coords t)) : BitVec 32).toNat) (h2 : (i 2).val = (y 2).val) (h3 : (i 3).val = (y 3).val) :
    iblk m hO c 1 t y = m ((c : Thread nD τ).loc main_arg4) i := by
  rw [← V_main_v0 m c]
  show V m c main_v0 ((((cfgM m hO).win 1).blk t).view.emb y) = _
  congr 1
  funext a
  apply Fin.ext
  match a with
  | ⟨0, _⟩ => blk_simp; exact (congrFun (index_1 m hO t) (0 : Fin 4)).trans h0.symm
  | ⟨1, _⟩ => blk_simp; exact (congrFun (index_1 m hO t) (1 : Fin 4)).trans h1.symm
  | ⟨2, _⟩ => blk_simp; refine (congrArg (fun n : Nat => n * 1024 + (y 2).val) (congrFun (index_1 m hO t) (2 : Fin 4))).trans ?_; exact (by omega : 0 * 1024 + (y 2).val = (i 2).val)
  | ⟨3, _⟩ => blk_simp; refine (congrArg (fun n : Nat => n * 1024 + (y 3).val) (congrFun (index_1 m hO t) (3 : Fin 4))).trans ?_; exact (by omega : 0 * 1024 + (y 3).val = (i 3).val)

theorem index_2 (t : Fin (cfgM m hO).N) : ((cfgM m hO).win 2).index t = ![0, (tbl m 1 (tileIx (grid0.coords t)) : BitVec 32).toNat, 0, 0] :=
  ix_2 (tbl m) (grid0.coords t)

theorem blk2_apply (t : Fin (cfgM m hO).N) (y : S1x1x1024x1024.Idx) (i : S2x16x1024x1024.Idx) (h0 : (i 0).val = 0)
    (h1 : (i 1).val = (tbl m 1 (tileIx (grid0.coords t)) : BitVec 32).toNat) (h2 : (i 2).val = (y 2).val) (h3 : (i 3).val = (y 3).val) :
    iblk m hO c 2 t y = m ((c : Thread nD τ).loc main_arg4) i := by
  rw [← V_main_v0 m c]
  show V m c main_v0 ((((cfgM m hO).win 2).blk t).view.emb y) = _
  congr 1
  funext a
  apply Fin.ext
  match a with
  | ⟨0, _⟩ => blk_simp; exact (congrFun (index_2 m hO t) (0 : Fin 4)).trans h0.symm
  | ⟨1, _⟩ => blk_simp; exact (congrFun (index_2 m hO t) (1 : Fin 4)).trans h1.symm
  | ⟨2, _⟩ => blk_simp; refine (congrArg (fun n : Nat => n * 1024 + (y 2).val) (congrFun (index_2 m hO t) (2 : Fin 4))).trans ?_; exact (by omega : 0 * 1024 + (y 2).val = (i 2).val)
  | ⟨3, _⟩ => blk_simp; refine (congrArg (fun n : Nat => n * 1024 + (y 3).val) (congrFun (index_2 m hO t) (3 : Fin 4))).trans ?_; exact (by omega : 0 * 1024 + (y 3).val = (i 3).val)

theorem index_3 (t : Fin (cfgM m hO).N) : ((cfgM m hO).win 3).index t = ![0, (tbl m 0 (tileIx (grid0.coords t)) : BitVec 32).toNat, 0, 0] :=
  ix_3 (tbl m) (grid0.coords t)

theorem blk3_apply (t : Fin (cfgM m hO).N) (y : S1x1x512x1024.Idx) (i : S2x16x512x1024.Idx) (h0 : (i 0).val = 0)
    (h1 : (i 1).val = (tbl m 0 (tileIx (grid0.coords t)) : BitVec 32).toNat) (h2 : (i 2).val = (y 2).val) (h3 : (i 3).val = (y 3).val) :
    iblk m hO c 3 t y = m ((c : Thread nD τ).loc main_arg5) i := by
  rw [← V_main_v1 m c]
  show V m c main_v1 ((((cfgM m hO).win 3).blk t).view.emb y) = _
  congr 1
  funext a
  apply Fin.ext
  match a with
  | ⟨0, _⟩ => blk_simp; exact (congrFun (index_3 m hO t) (0 : Fin 4)).trans h0.symm
  | ⟨1, _⟩ => blk_simp; exact (congrFun (index_3 m hO t) (1 : Fin 4)).trans h1.symm
  | ⟨2, _⟩ => blk_simp; refine (congrArg (fun n : Nat => n * 1024 + (y 2).val) (congrFun (index_3 m hO t) (2 : Fin 4))).trans ?_; exact (by omega : 0 * 1024 + (y 2).val = (i 2).val)
  | ⟨3, _⟩ => blk_simp; refine (congrArg (fun n : Nat => n * 1024 + (y 3).val) (congrFun (index_3 m hO t) (3 : Fin 4))).trans ?_; exact (by omega : 0 * 1024 + (y 3).val = (i 3).val)

theorem index_4 (t : Fin (cfgM m hO).N) : ((cfgM m hO).win 4).index t = ![0, (tbl m 1 (tileIx (grid0.coords t)) : BitVec 32).toNat, 0, 0] :=
  ix_4 (tbl m) (grid0.coords t)

theorem blk4_apply (t : Fin (cfgM m hO).N) (y : S1x1x512x1024.Idx) (i : S2x16x512x1024.Idx) (h0 : (i 0).val = 0)
    (h1 : (i 1).val = (tbl m 1 (tileIx (grid0.coords t)) : BitVec 32).toNat) (h2 : (i 2).val = (y 2).val) (h3 : (i 3).val = (y 3).val) :
    iblk m hO c 4 t y = m ((c : Thread nD τ).loc main_arg5) i := by
  rw [← V_main_v1 m c]
  show V m c main_v1 ((((cfgM m hO).win 4).blk t).view.emb y) = _
  congr 1
  funext a
  apply Fin.ext
  match a with
  | ⟨0, _⟩ => blk_simp; exact (congrFun (index_4 m hO t) (0 : Fin 4)).trans h0.symm
  | ⟨1, _⟩ => blk_simp; exact (congrFun (index_4 m hO t) (1 : Fin 4)).trans h1.symm
  | ⟨2, _⟩ => blk_simp; refine (congrArg (fun n : Nat => n * 1024 + (y 2).val) (congrFun (index_4 m hO t) (2 : Fin 4))).trans ?_; exact (by omega : 0 * 1024 + (y 2).val = (i 2).val)
  | ⟨3, _⟩ => blk_simp; refine (congrArg (fun n : Nat => n * 1024 + (y 3).val) (congrFun (index_4 m hO t) (3 : Fin 4))).trans ?_; exact (by omega : 0 * 1024 + (y 3).val = (i 3).val)

theorem index_5 (t : Fin (cfgM m hO).N) : ((cfgM m hO).win 5).index t = ![t.val, 0] :=
  (by decide +kernel : ∀ t : Fin grid0.N, cc0_transform_5 (grid0.coords t) = ![t.val, 0]) t

/-- The tiles' blocks cover the result. -/
theorem covers5 : ((cfgM m hO).win 5).Covers := by
  refine ⟨fun a => (by decide : ∀ a : Fin 2, 0 < S4096x128.size a) a, fun β => ⟨⟨(β (0 : Fin 2)).val, lt_of_lt_of_eq (β (0 : Fin 2)).isLt (by decide +kernel : (622592 + 4096 - 1) / 4096 = grid0.N)⟩, flush0_5 (adm m hO) _, fun a => ⟨?_, Or.inl rfl⟩⟩⟩
  match a with
  | ⟨0, _⟩ => exact congrFun (index_5 m hO _) (0 : Fin 2)
  | ⟨1, _⟩ =>
    refine (congrFun (index_5 m hO _) (1 : Fin 2)).trans ?_
    have h : (β (1 : Fin 2)).val < 1 := lt_of_lt_of_eq (β (1 : Fin 2)).isLt (by decide +kernel : (128 + 128 - 1) / 128 = 1)
    exact (by omega : 0 = (β (1 : Fin 2)).val)

/-! ## The result -/

/-- The flag at tile `t` is the third table's word there. -/
theorem flag_eq (t : Fin (cfgM m hO).N) : flag m hO t = tbl m 2 (tileIx (grid0.coords t)) :=
  at_tile (tbl m 2) _ (grid0.coords t) rfl _ _

/-- A tile is computed when its flag is not zero. -/
theorem cond1_iff (v : BitVec 32) : k0_cond1 v = 1#1 ↔ v ≠ 0#32 := by
  by_cases h : v = 0#32
  · subst h; decide
  · have e : Scalar.cmpi .ne v 0#32 = 1#1 := by
      rw [show Scalar.cmpi .ne v 0#32 = BitVec.ofBool (v != 0#32) from rfl, show (v != 0#32) = true from bne_iff_ne.mpr h]; rfl
    unfold k0_cond1
    simp only [e]
    exact ⟨fun _ => h, fun _ => by decide⟩

theorem zeros_apply (y : S4096x128.Idx) : k0_pay10 (F := Ideal) y = 0 := Ideal.ofBits_zero_f32

theorem tile_eq (t : Fin (cfgM m hO).N) (k : Fin 152) (hk : k.val = t.val) : tileIx (grid0.coords t) = ix1 k := by
  funext a
  obtain rfl : a = 0 := Subsingleton.elim _ _
  exact Fin.ext ((coord m hO t).trans hk.symm)

/-- Argument `b` of device `c` as the run finds it. -/
abbrev arg (b : Ref sig .tc) : Buf (Elt Ideal) ((c : Thread nD τ).loc b) := m ((c : Thread nD τ).loc b)

theorem tbl0 : tbl m 0 = arg m c main_arg0 := by
  obtain rfl : c = 0 := Subsingleton.elim _ _
  exact V_main_arg0 m 0
theorem tbl1 : tbl m 1 = arg m c main_arg1 := by
  obtain rfl : c = 0 := Subsingleton.elim _ _
  exact V_main_arg1 m 0
theorem tbl2 : tbl m 2 = arg m c main_arg2 := by
  obtain rfl : c = 0 := Subsingleton.elim _ _
  exact V_main_arg2 m 0

section
variable (t : Fin (cfgM m hO).N) (r : Fin 512) (n : Fin 77824) (hn : n.val = 512 * t.val + r.val)
include hn

theorem word_eq : word (iblk m hO c 0 t) r = words (arg m c main_arg3) n := by
  funext k
  refine blk0_apply m hO c t _ _ ?_ rfl
  show 8 * n.val + k.val / 128 = 4096 * t.val + (8 * r.val + k.val / 128)
  omega

theorem share_eq (l : Fin 128) : share (iblk m hO c 0 t) r l = weight (arg m c main_arg3) n l := by
  refine congrArg (Ideal.ofBits .f32) (blk0_apply m hO c t _ _ ?_ rfl)
  show 8 * n.val + 4 = 4096 * t.val + (8 * r.val + 4)
  omega

theorem tileOf_eq : tileIx (grid0.coords t) = tileOf n := tile_eq m hO t _ (by show n.val / 512 = t.val; omega)

variable (h : Fit (arg m c main_arg0) (arg m c main_arg1) (arg m c main_arg2) (arg m c main_arg3))
include h

theorem up_a : upOf (iblk m hO c 1 t) = upAt (arg m c main_arg4) (expertOf (arg m c main_arg0 (tileOf n))) := by
  funext k q
  refine blk1_apply m hO c t _ _ rfl ?_ rfl rfl
  rw [tileOf_eq m hO t r n hn, tbl0 m c]; exact h.expertA _
theorem up_b : upOf (iblk m hO c 2 t) = upAt (arg m c main_arg4) (expertOf (arg m c main_arg1 (tileOf n))) := by
  funext k q
  refine blk2_apply m hO c t _ _ rfl ?_ rfl rfl
  rw [tileOf_eq m hO t r n hn, tbl1 m c]; exact h.expertB _
theorem down_a : downOf (iblk m hO c 3 t) = downAt (arg m c main_arg5) (expertOf (arg m c main_arg0 (tileOf n))) := by
  funext k q
  refine blk3_apply m hO c t _ _ rfl ?_ rfl rfl
  rw [tileOf_eq m hO t r n hn, tbl0 m c]; exact h.expertA _
theorem down_b : downOf (iblk m hO c 4 t) = downAt (arg m c main_arg5) (expertOf (arg m c main_arg1 (tileOf n))) := by
  funext k q
  refine blk4_apply m hO c t _ _ rfl ?_ rfl rfl
  rw [tileOf_eq m hO t r n hn, tbl1 m c]; exact h.expertB _

/-- A live tile's row, at a column. -/
theorem row_eq (hl : arg m c main_arg2 (tileOf n) ≠ 0#32) (q : Fin 1024) :
    rows (F := Ideal) (iblk m hO c 0 t) (iblk m hO c 1 t) (iblk m hO c 2 t) (iblk m hO c 3 t) (iblk m hO c 4 t) (ix2 r q)
      = answer (arg m c main_arg0) (arg m c main_arg1) (arg m c main_arg2) (arg m c main_arg3) (arg m c main_arg4) (arg m c main_arg5) n q := by
  refine (rows_apply _ _ _ _ _ r q).trans ?_
  unfold answer
  rw [if_neg hl, word_eq m hO c t r n hn, share_eq m hO c t r n hn, share_eq m hO c t r n hn, up_a m hO c t r n hn h, up_b m hO c t r n hn h,
    down_a m hO c t r n hn h, down_b m hO c t r n hn h]
  exact congrArg₂ (· + ·) (out_weighted _ _ _ q _ (h.weight n 0 hl).1 (h.weight n 0 hl).2.ne) (out_weighted _ _ _ q _ (h.weight n 1 hl).1 (h.weight n 1 hl).2.ne)

end

/-- The result array after the run. -/
theorem final (h : Fit (arg m c main_arg0) (arg m c main_arg1) (arg m c main_arg2) (arg m c main_arg3)) :
    (dats m hO 0 c).arrAt 5 (cfgM m hO).N
      = answerAt (arg m c main_arg0) (arg m c main_arg1) (arg m c main_arg2) (arg m c main_arg3) (arg m c main_arg4) (arg m c main_arg5) := by
  refine (dats m hO 0 c).arrAt_eq_of_covers 5 _ (covers5 m hO) fun t hf y => ?_
  have e0 : ((((cfgM m hO).win 5).blk t).view.emb y (0 : Fin 2)).val = t.val * 4096 + (y (0 : Fin 2)).val := by
    blk_simp
    exact congrArg (fun n : Nat => n * 4096 + (y (0 : Fin 2)).val) (congrFun (index_5 m hO t) (0 : Fin 2))
  have e1 : ((((cfgM m hO).win 5).blk t).view.emb y (1 : Fin 2)).val = (y (1 : Fin 2)).val := by
    blk_simp
    refine (congrArg (fun n : Nat => n * 128 + (y (1 : Fin 2)).val) (congrFun (index_5 m hO t) (1 : Fin 2))).trans ?_
    exact (by omega : 0 * 128 + (y (1 : Fin 2)).val = (y (1 : Fin 2)).val)
  have b0 : (y (0 : Fin 2)).val < 4096 := (y (0 : Fin 2)).isLt
  have b1 : (y (1 : Fin 2)).val < 128 := (y (1 : Fin 2)).isLt
  have bt : t.val < 152 := lt_of_lt_of_eq t.isLt (by decide +kernel : grid0.N = 152)
  generalize hi : (((cfgM m hO).win 5).blk t).view.emb y = i at e0 e1 ⊢
  blk_simp
  rw [after0_5]
  unfold outsAt0 answerAt
  have hn : (i (0 : Fin 2)).val / 8 = 512 * t.val + (y (0 : Fin 2)).val / 8 := by omega
  have hq : 128 * ((i (0 : Fin 2)).val % 8) + (i (1 : Fin 2)).val = 128 * ((y (0 : Fin 2)).val % 8) + (y (1 : Fin 2)).val := by omega
  generalize hN : (⟨(i (0 : Fin 2)).val / 8, _⟩ : Fin 77824) = n
  generalize hQ : (⟨128 * ((i (0 : Fin 2)).val % 8) + (i (1 : Fin 2)).val, _⟩ : Fin 1024) = q
  have hn' : n.val = 512 * t.val + (y (0 : Fin 2)).val / 8 := by rw [← hN]; exact hn
  have hq' : q = ⟨128 * ((y (0 : Fin 2)).val % 8) + (y (1 : Fin 2)).val, by omega⟩ := by rw [← hQ]; exact Fin.ext hq
  have hfl : flag m hO t = arg m c main_arg2 (tileOf n) := by
    rw [flag_eq, tileOf_eq m hO t ⟨(y (0 : Fin 2)).val / 8, by omega⟩ n hn', tbl2 m c]
  by_cases hl : arg m c main_arg2 (tileOf n) = 0#32
  · rw [if_neg (fun h1 => (cond1_iff _).mp h1 (hfl.trans hl))]
    refine (zeros_apply y).trans ?_
    unfold answer
    rw [if_pos hl]
  · rw [if_pos ((cond1_iff _).mpr fun h1 => hl (hfl.symm.trans h1))]
    rw [hq']
    exact row_eq m hO c t ⟨(y (0 : Fin 2)).val / 8, by omega⟩ n hn' h hl _

end Cert.KernelIdeal.Ffn

end
-- ==== Proof.Ffn.RefExpert.lean ====
/- The reference's expert, read at an index: the loop's body for expert `e` of a row is the row's combine entry times the
   expert's output. -/
module

public import proofs.«01_k».proof.Proof.Gen.ReferenceIdeal.Read
public import proofs.«01_k».proof.Proof.Ffn.Answer
public import Idealize.ShloMosaic.Lib.IdealHost

@[expose] public section

set_option maxRecDepth 16384

noncomputable section

namespace Cert.ReferenceIdeal.Ffn

open Cert.ReferenceIdeal Cert.ReferenceIdeal.Gen Cert.ReferenceIdeal.Read
open Idealize.ShloMosaic Idealize.ShloMosaic.TcCoe Idealize.ShloMosaic.ValueIdx
open Cert.KernelIdeal.Ffn (silu unit out upAt downAt halves words weight expertOf tileOf answer answerAt)

/-- Ones. -/
def ones : FVec Ideal S77824x512 .f32 := broadcastInDim S77824x512 ![] bcast_S_S77824x512 (constant (F := Ideal) S_ .f32 0x3F800000#32)

theorem ones_apply (i : S77824x512.Idx) : ones i = 1 := by
  unfold ones
  rw [broadcastInDim_apply _ bcast_S_S77824x512 _ i (fun a => a.elim0) (fun a => a.elim0)]
  exact Ideal.ofBits_one_f32

/-- The gated units of a product: its first half through `silu`, times its second half. -/
def gated (P : FVec Ideal S77824x1024 .f32) : FVec Ideal S77824x512 .f32 :=
  mulf (mulf (extractStridedSlice S77824x512 ![0, 0] P slices_S77824x1024_S77824x512_0_0)
      (Host.divf ones (addf ones (Host.exp (Host.negf (extractStridedSlice S77824x512 ![0, 0] P slices_S77824x1024_S77824x512_0_0))))))
    (extractStridedSlice S77824x512 ![0, 512] P slices_S77824x1024_S77824x512_0_512)

theorem gated_apply (P : FVec Ideal S77824x1024 .f32) (n : Fin 77824) (j : Fin 512) :
    gated P (ix2 n j) = silu (P (ix2 n ⟨j.val, by omega⟩)) * P (ix2 n ⟨512 + j.val, by omega⟩) := by
  have e0 : extractStridedSlice S77824x512 ![0, 0] P slices_S77824x1024_S77824x512_0_0 (ix2 n j) = P (ix2 n ⟨j.val, by omega⟩) :=
    extractStridedSlice_apply _ _ _ _ _ fun a => by
      match a with
      | ⟨0, _⟩ => exact (Nat.zero_add _).symm
      | ⟨1, _⟩ => exact (Nat.zero_add _).symm
  have e1 : extractStridedSlice S77824x512 ![0, 512] P slices_S77824x1024_S77824x512_0_512 (ix2 n j) = P (ix2 n ⟨512 + j.val, by omega⟩) :=
    extractStridedSlice_apply _ _ _ _ _ fun a => by
      match a with
      | ⟨0, _⟩ => exact (Nat.zero_add _).symm
      | ⟨1, _⟩ => rfl
  unfold gated silu
  show (extractStridedSlice S77824x512 ![0, 0] P slices_S77824x1024_S77824x512_0_0 (ix2 n j)
      * Ideal.div (ones (ix2 n j)) (ones (ix2 n j) + Ideal.exp (-(extractStridedSlice S77824x512 ![0, 0] P slices_S77824x1024_S77824x512_0_0 (ix2 n j)))))
    * extractStridedSlice S77824x512 ![0, 512] P slices_S77824x1024_S77824x512_0_512 (ix2 n j) = _
  rw [e0, e1, ones_apply]

theorem up_apply (h : FVec Ideal S77824x1024 .f32) (U : FVec Ideal S1024x1024 .f32) (r : Fin 77824) (q : Fin 1024) :
    Host.dotGeneral (F := Ideal) dot_S77824x1024_S1024x1024_S77824x1024_1_0_0_1_n_n none h U (ix2 r q) = ∑ k : Fin 1024, h (ix2 r k) * U (ix2 k q) := by
  simp only [Host.dotGeneral]
  rw [Ideal.dotGeneral_apply, ← Equiv.sum_comp (contrEquiv1 dot_S77824x1024_S1024x1024_S77824x1024_1_0_0_1_n_n 1024 rfl rfl).symm]
  refine Finset.sum_congr rfl fun k _ => ?_
  have hk := contrEquiv1_symm_val dot_S77824x1024_S1024x1024_S77824x1024_1_0_0_1_n_n 1024 rfl rfl k
  have el : dot_S77824x1024_S1024x1024_S77824x1024_1_0_0_1_n_n.lhsIdx (ix2 r q) ((contrEquiv1 dot_S77824x1024_S1024x1024_S77824x1024_1_0_0_1_n_n 1024 rfl rfl).symm k) = ix2 r k := funext fun a => Fin.ext (by
    match a with
    | ⟨0, _⟩ => exact lhs_main_v36_0 _ _
    | ⟨1, _⟩ => exact (lhs_main_v36_1 _ _).trans hk)
  have er : dot_S77824x1024_S1024x1024_S77824x1024_1_0_0_1_n_n.rhsIdx (ix2 r q) ((contrEquiv1 dot_S77824x1024_S1024x1024_S77824x1024_1_0_0_1_n_n 1024 rfl rfl).symm k) = ix2 k q := funext fun a => Fin.ext (by
    match a with
    | ⟨0, _⟩ => exact (rhs_main_v36_0 _ _).trans hk
    | ⟨1, _⟩ => exact rhs_main_v36_1 _ _)
  rw [el, er]

theorem down_apply (h : FVec Ideal S77824x512 .f32) (D : FVec Ideal S512x1024 .f32) (r : Fin 77824) (q : Fin 1024) :
    Host.dotGeneral (F := Ideal) dot_S77824x512_S512x1024_S77824x1024_1_0_0_1_n_n none h D (ix2 r q) = ∑ k : Fin 512, h (ix2 r k) * D (ix2 k q) := by
  simp only [Host.dotGeneral]
  rw [Ideal.dotGeneral_apply, ← Equiv.sum_comp (contrEquiv1 dot_S77824x512_S512x1024_S77824x1024_1_0_0_1_n_n 512 rfl rfl).symm]
  refine Finset.sum_congr rfl fun k _ => ?_
  have hk := contrEquiv1_symm_val dot_S77824x512_S512x1024_S77824x1024_1_0_0_1_n_n 512 rfl rfl k
  have el : dot_S77824x512_S512x1024_S77824x1024_1_0_0_1_n_n.lhsIdx (ix2 r q) ((contrEquiv1 dot_S77824x512_S512x1024_S77824x1024_1_0_0_1_n_n 512 rfl rfl).symm k) = ix2 r k := funext fun a => Fin.ext (by
    match a with
    | ⟨0, _⟩ => exact lhs_main_v43_0 _ _
    | ⟨1, _⟩ => exact (lhs_main_v43_1 _ _).trans hk)
  have er : dot_S77824x512_S512x1024_S77824x1024_1_0_0_1_n_n.rhsIdx (ix2 r q) ((contrEquiv1 dot_S77824x512_S512x1024_S77824x1024_1_0_0_1_n_n 512 rfl rfl).symm k) = ix2 k q := funext fun a => Fin.ext (by
    match a with
    | ⟨0, _⟩ => exact (rhs_main_v43_0 _ _).trans hk
    | ⟨1, _⟩ => exact rhs_main_v43_1 _ _)
  rw [el, er]

section
variable (e : Nat) (he : e < 16) (hU : S2x16x1024x1024.Slices ![0, e, 0, 0] S1x1x1024x1024) (hD : S2x16x512x1024.Slices ![0, e, 0, 0] S1x1x512x1024)
  (hC : S77824x16.Slices ![0, e] S77824x1)

/-- Expert `e`'s gate and up matrix. -/
def upMat (x4 : FVec Ideal S2x16x1024x1024 .f32) : FVec Ideal S1024x1024 .f32 :=
  shapeCast _ (extractStridedSlice S1x1x1024x1024 ![0, e, 0, 0] x4 hU) shapeCasts_S1x1x1024x1024_S1024x1024

/-- Expert `e`'s down matrix. -/
def downMat (x5 : FVec Ideal S2x16x512x1024 .f32) : FVec Ideal S512x1024 .f32 :=
  shapeCast _ (extractStridedSlice S1x1x512x1024 ![0, e, 0, 0] x5 hD) shapeCasts_S1x1x512x1024_S512x1024

/-- What the loop adds for expert `e`. -/
def term (H : FVec Ideal S77824x1024 .f32) (C : FVec Ideal S77824x16 .f32) (x4 : FVec Ideal S2x16x1024x1024 .f32) (x5 : FVec Ideal S2x16x512x1024 .f32) :
    FVec Ideal S77824x1024 .f32 :=
  mulf (broadcastInDim S77824x1024 ![0, 1] bcast_S77824x1_S77824x1024_0_1 (extractStridedSlice S77824x1 ![0, e] C hC))
    (Host.dotGeneral dot_S77824x512_S512x1024_S77824x1024_1_0_0_1_n_n none
      (gated (Host.dotGeneral dot_S77824x1024_S1024x1024_S77824x1024_1_0_0_1_n_n none H (upMat e hU x4))) (downMat e hD x5))

theorem upMat_apply (x4 : FVec Ideal S2x16x1024x1024 .f32) (k q : Fin 1024) : upMat e hU x4 (ix2 k q) = upAt x4 ⟨e, he⟩ k q := by
  unfold upMat
  refine (shapeCast_apply _ _ (ix2 k q) (ix4 0 0 k q) (by
    rewrite [Shape.rowMajor_val_four, Shape.rowMajor_val_two]
    show ((0 * 1 + 0) * 1024 + k.val) * 1024 + q.val = k.val * 1024 + q.val; omega)).trans ?_
  exact extractStridedSlice_apply _ _ _ _ _ fun a => by
      match a with
      | ⟨0, _⟩ => rfl
      | ⟨1, _⟩ => rfl
      | ⟨2, _⟩ => exact (Nat.zero_add _).symm
      | ⟨3, _⟩ => exact (Nat.zero_add _).symm

theorem downMat_apply (x5 : FVec Ideal S2x16x512x1024 .f32) (k : Fin 512) (q : Fin 1024) : downMat e hD x5 (ix2 k q) = downAt x5 ⟨e, he⟩ k q := by
  unfold downMat
  refine (shapeCast_apply _ _ (ix2 k q) (ix4 0 0 k q) (by
    rewrite [Shape.rowMajor_val_four, Shape.rowMajor_val_two]
    show ((0 * 1 + 0) * 512 + k.val) * 1024 + q.val = k.val * 1024 + q.val; omega)).trans ?_
  exact extractStridedSlice_apply _ _ _ _ _ fun a => by
      match a with
      | ⟨0, _⟩ => rfl
      | ⟨1, _⟩ => rfl
      | ⟨2, _⟩ => exact (Nat.zero_add _).symm
      | ⟨3, _⟩ => exact (Nat.zero_add _).symm

theorem term_apply (H : FVec Ideal S77824x1024 .f32) (C : FVec Ideal S77824x16 .f32) (x4 : FVec Ideal S2x16x1024x1024 .f32) (x5 : FVec Ideal S2x16x512x1024 .f32)
    (n : Fin 77824) (q : Fin 1024) :
    term e hU hD hC H C x4 x5 (ix2 n q) = C (ix2 n ⟨e, he⟩) * out (fun k => H (ix2 n k)) (upAt x4 ⟨e, he⟩) (downAt x5 ⟨e, he⟩) q := by
  unfold term
  rw [mulf_apply, down_apply]
  refine congrArg₂ (· * ·) ?_ (Finset.sum_congr rfl fun j _ => ?_)
  · refine (broadcastInDim_apply _ bcast_S77824x1_S77824x1024_0_1 _ (ix2 n q) (ix2 n 0) (fun a => ?_)).trans ?_
    · match a with
      | ⟨0, _⟩ => rfl
      | ⟨1, _⟩ => rfl
    · exact extractStridedSlice_apply _ _ _ _ _ fun a => by
        match a with
        | ⟨0, _⟩ => exact (Nat.zero_add _).symm
        | ⟨1, _⟩ => rfl
  · rw [gated_apply, up_apply, up_apply, downMat_apply e he hD]
    refine congrArg₂ (· * ·) (congrArg₂ (· * ·) (congrArg silu ?_) ?_) rfl
    · exact Finset.sum_congr rfl fun k _ => by rw [upMat_apply e he hU]
    · exact Finset.sum_congr rfl fun k _ => by rw [upMat_apply e he hU]

end

end Cert.ReferenceIdeal.Ffn

end
-- ==== Proof.Ffn.RefSum.lean ====
/- The reference's result, index by index: the sum over the sixteen experts leaves the row's two experts' outputs, each
   times its weight. -/
module

public import proofs.«01_k».proof.Proof.Ffn.RefExpert

@[expose] public section

set_option maxRecDepth 16384

noncomputable section

namespace Cert.ReferenceIdeal.Ffn

open Cert.ReferenceIdeal Cert.ReferenceIdeal.Gen Cert.ReferenceIdeal.Read
open Idealize.ShloMosaic Idealize.ShloMosaic.TcCoe Idealize.ShloMosaic.ValueIdx
open Cert.KernelIdeal.Ffn (silu unit out upAt downAt halves words weight expertOf tileOf answer answerAt)

open Cert.KernelIdeal.Ffn (sum_two sum_sixteen Fit)

/-! ## The rows -/

theorem lines_apply (x3 : IVec S622592x128 32) (n : Fin 77824) (l : Fin 8) (k : Fin 128) :
    val_main_v0 (F := Ideal) x3 (ix3 n l k) = x3 (ix2 ⟨8 * n.val + l.val, by omega⟩ k) := by
  rw [val_main_v0_apply]
  refine congrArg x3 (funext fun a => Fin.ext ?_)
  match a with
  | ⟨0, _⟩ => show ((n.val * 8 + l.val) * 128 + k.val) / 128 = 8 * n.val + l.val; omega
  | ⟨1, _⟩ => show ((n.val * 8 + l.val) * 128 + k.val) % 128 = k.val; omega

theorem words_apply (x3 : IVec S622592x128 32) (n : Fin 77824) (k : Fin 512) : val_main_v2 (F := Ideal) x3 (ix2 n k) = words x3 n k := by
  rw [val_main_v2_apply, val_main_v1_apply]
  refine (congrArg (val_main_v0 (F := Ideal) x3) (?_ : _ = ix3 n ⟨k.val / 128, by omega⟩ ⟨k.val % 128, by omega⟩)).trans (lines_apply x3 _ _ _)
  funext a
  apply Fin.ext
  match a with
  | ⟨0, _⟩ => show (n.val * 512 + k.val) / 512 = n.val; omega
  | ⟨1, _⟩ => show (n.val * 512 + k.val) / 128 % 4 = k.val / 128; omega
  | ⟨2, _⟩ => show (n.val * 512 + k.val) % 128 = k.val % 128; omega

theorem low_apply (x3 : IVec S622592x128 32) (n : Fin 77824) (k : Fin 512) :
    val_main_v5 (F := Ideal) x3 (ix2 n k) = Ideal.ofBits .f32 (words x3 n k <<< 16) := by
  rw [val_main_v5_apply, val_main_v4_apply, words_apply, val_main_v3_apply, val_main_c_apply]
  rfl

theorem high_apply (x3 : IVec S622592x128 32) (n : Fin 77824) (k : Fin 512) :
    val_main_v8 (F := Ideal) x3 (ix2 n k) = Ideal.ofBits .f32 (words x3 n k &&& 0xFFFF0000#32) := by
  rw [val_main_v8_apply, val_main_v7_apply, words_apply, val_main_v6_apply, val_main_c_0_apply]
  rfl

theorem hidden_apply (x3 : IVec S622592x128 32) (n : Fin 77824) (k : Fin 1024) : val_main_v9 (F := Ideal) x3 (ix2 n k) = halves (words x3 n) k := by
  unfold val_main_v9 halves
  split
  · next h =>
    refine (concatenate_pair_apply_left (t := S77824x1024) (s₁ := S77824x512) (s₂ := S77824x512) 1 _ _ _ (ix2 n k) rfl (ix2 n ⟨k.val, h⟩) ?_).trans (low_apply x3 n _)
    intro b
    match b with
    | ⟨0, _⟩ => rfl
    | ⟨1, _⟩ => rfl
  · next h =>
    refine (concatenate_pair_apply_right (t := S77824x1024) (s₁ := S77824x512) (s₂ := S77824x512) 1 _ _ _ (ix2 n k) rfl rfl (ix2 n ⟨k.val - 512, by omega⟩) ?_ ?_).trans (high_apply x3 n _)
    · intro b hb
      match b with
      | ⟨0, _⟩ => rfl
      | ⟨1, _⟩ => exact absurd rfl hb
    · show k.val - 512 + 512 = k.val; omega

/-! ## The weights -/

theorem weightA_apply (x3 : IVec S622592x128 32) (n : Fin 77824) : val_main_v12 (F := Ideal) x3 (ix1 n) = weight x3 n 1 := by
  rw [val_main_v12_apply, val_main_v11_apply, val_main_v10_apply]
  refine congrArg (Ideal.ofBits .f32) ((congrArg (val_main_v0 (F := Ideal) x3) (?_ : _ = ix3 n 4 1)).trans (lines_apply x3 _ _ _))
  funext a
  apply Fin.ext
  match a with
  | ⟨0, _⟩ => show n.val / 1 = n.val; omega
  | ⟨1, _⟩ => rfl
  | ⟨2, _⟩ => rfl

theorem weightB_apply (x3 : IVec S622592x128 32) (n : Fin 77824) : val_main_v15 (F := Ideal) x3 (ix1 n) = weight x3 n 2 := by
  rw [val_main_v15_apply, val_main_v14_apply, val_main_v13_apply]
  refine congrArg (Ideal.ofBits .f32) ((congrArg (val_main_v0 (F := Ideal) x3) (?_ : _ = ix3 n 4 2)).trans (lines_apply x3 _ _ _))
  funext a
  apply Fin.ext
  match a with
  | ⟨0, _⟩ => show n.val / 1 = n.val; omega
  | ⟨1, _⟩ => rfl
  | ⟨2, _⟩ => rfl

theorem tableA_apply (x0 : IVec S152 32) (n : Fin 77824) : val_main_v17 (F := Ideal) x0 (ix1 n) = x0 (tileOf n) := by
  rw [val_main_v17_apply, val_main_v16_apply]
  exact congrArg x0 (funext fun a => by match a with | ⟨0, _⟩ => rfl)

theorem tableB_apply (x0 : IVec S152 32) (n : Fin 77824) : val_main_v19 (F := Ideal) x0 (ix1 n) = x0 (tileOf n) := by
  rw [val_main_v19_apply, val_main_v18_apply]
  exact congrArg x0 (funext fun a => by match a with | ⟨0, _⟩ => rfl)

theorem tableLive_apply (x0 : IVec S152 32) (n : Fin 77824) : val_main_v21 (F := Ideal) x0 (ix1 n) = x0 (tileOf n) := by
  rw [val_main_v21_apply, val_main_v20_apply]
  exact congrArg x0 (funext fun a => by match a with | ⟨0, _⟩ => rfl)

/-- A word below 16 compared with the count `e`: one where it is `e`, zero elsewhere. -/
theorem hot (a : BitVec 32) (ha : (expertOf a).val = a.toNat) (e : Fin 16) :
    (FloatOps.uitofp .f32 (IntOp.cmpi .eq a (BitVec.ofNat 32 e.val)) : Ideal .f32) = (if expertOf a = e then (1 : EReal) else 0) := by
  have h : (a = BitVec.ofNat 32 e.val) ↔ expertOf a = e := by
    constructor
    · intro h
      apply Fin.ext
      rw [ha, h, BitVec.toNat_ofNat]
      exact Nat.mod_eq_of_lt (by omega)
    · intro h
      apply BitVec.eq_of_toNat_eq
      rw [BitVec.toNat_ofNat, ← h, ha]
      exact (Nat.mod_eq_of_lt a.isLt).symm
  by_cases hc : expertOf a = e
  · rw [if_pos hc, show IntOp.cmpi .eq a (BitVec.ofNat 32 e.val) = 1#1 by rw [← h.mpr hc]; exact congrArg BitVec.ofBool (beq_self_eq_true a)]
    show ((((1#1 : BitVec 1).toNat : ℝ)) : EReal) = 1
    simp
  · rw [if_neg hc, show IntOp.cmpi .eq a (BitVec.ofNat 32 e.val) = 0#1 from
      congrArg BitVec.ofBool (show (a == BitVec.ofNat 32 e.val) = false from beq_eq_false_iff_ne.mpr fun h' => hc (h.mp h'))]
    show ((((0#1 : BitVec 1).toNat : ℝ)) : EReal) = 0
    simp

theorem hotA_apply (x0 : IVec S152 32) (n : Fin 77824) (e : Fin 16) (ha : (expertOf (x0 (tileOf n))).val = (x0 (tileOf n)).toNat) :
    val_main_v24 (F := Ideal) x0 (ix2 n e) = (if expertOf (x0 (tileOf n)) = e then (1 : EReal) else 0) := by
  rw [val_main_v24_apply, val_main_call0_v4_apply, val_main_call0_v2_apply, val_main_call0_v0_apply, val_main_call0_v3_apply, val_main_call0_v1_apply]
  refine Eq.trans (congrArg (fun w => (FloatOps.uitofp .f32 (IntOp.cmpi .eq w (BitVec.ofNat 32 e.val)) : Ideal .f32)) ?_) (hot _ ha e)
  refine (congrArg (val_main_v17 (F := Ideal) x0) (funext fun a => ?_)).trans (tableA_apply x0 n)
  match a with | ⟨0, _⟩ => rfl

theorem hotB_apply (x0 : IVec S152 32) (n : Fin 77824) (e : Fin 16) (ha : (expertOf (x0 (tileOf n))).val = (x0 (tileOf n)).toNat) :
    val_main_v28 (F := Ideal) x0 (ix2 n e) = (if expertOf (x0 (tileOf n)) = e then (1 : EReal) else 0) := by
  rw [val_main_v28_apply, val_main_call1_v4_apply, val_main_call1_v2_apply, val_main_call1_v0_apply, val_main_call1_v3_apply, val_main_call1_v1_apply]
  refine Eq.trans (congrArg (fun w => (FloatOps.uitofp .f32 (IntOp.cmpi .eq w (BitVec.ofNat 32 e.val)) : Ideal .f32)) ?_) (hot _ ha e)
  refine (congrArg (val_main_v19 (F := Ideal) x0) (funext fun a => ?_)).trans (tableB_apply x0 n)
  match a with | ⟨0, _⟩ => rfl

/-- The combine entry of a row for an expert. -/
theorem combine_apply (x0 x1 : IVec S152 32) (x3 : IVec S622592x128 32) (n : Fin 77824) (e : Fin 16)
    (ha : (expertOf (x0 (tileOf n))).val = (x0 (tileOf n)).toNat) (hb : (expertOf (x1 (tileOf n))).val = (x1 (tileOf n)).toNat) :
    val_main_v32 (F := Ideal) x0 x1 x3 (ix2 n e)
      = (if expertOf (x0 (tileOf n)) = e then 1 else 0) * weight x3 n 1 + (if expertOf (x1 (tileOf n)) = e then 1 else 0) * weight x3 n 2 := by
  rw [val_main_v32_apply, val_main_v27_apply, val_main_v31_apply, hotA_apply x0 n e ha, hotB_apply x1 n e hb, val_main_v26_apply, val_main_v25_apply,
    val_main_v30_apply, val_main_v29_apply, ← weightA_apply, ← weightB_apply]
  rfl

/-! ## The sum over the experts -/

theorem term_0 (x0 x1 : IVec S152 32) (x3 : IVec S622592x128 32) (x4 : FVec Ideal S2x16x1024x1024 .f32) (x5 : FVec Ideal S2x16x512x1024 .f32) :
    val_main_v46 (F := Ideal) x0 x1 x3 x4 x5 = term 0 slices_S2x16x1024x1024_S1x1x1024x1024_0_0_0_0 slices_S2x16x512x1024_S1x1x512x1024_0_0_0_0 slices_S77824x16_S77824x1_0_0
      (val_main_v9 (F := Ideal) x3) (val_main_v32 (F := Ideal) x0 x1 x3) x4 x5 := rfl
theorem term_1 (x0 x1 : IVec S152 32) (x3 : IVec S622592x128 32) (x4 : FVec Ideal S2x16x1024x1024 .f32) (x5 : FVec Ideal S2x16x512x1024 .f32) :
    val_main_v60 (F := Ideal) x0 x1 x3 x4 x5 = term 1 slices_S2x16x1024x1024_S1x1x1024x1024_0_1_0_0 slices_S2x16x512x1024_S1x1x512x1024_0_1_0_0 slices_S77824x16_S77824x1_0_1
      (val_main_v9 (F := Ideal) x3) (val_main_v32 (F := Ideal) x0 x1 x3) x4 x5 := rfl
theorem term_2 (x0 x1 : IVec S152 32) (x3 : IVec S622592x128 32) (x4 : FVec Ideal S2x16x1024x1024 .f32) (x5 : FVec Ideal S2x16x512x1024 .f32) :
    val_main_v74 (F := Ideal) x0 x1 x3 x4 x5 = term 2 slices_S2x16x1024x1024_S1x1x1024x1024_0_2_0_0 slices_S2x16x512x1024_S1x1x512x1024_0_2_0_0 slices_S77824x16_S77824x1_0_2
      (val_main_v9 (F := Ideal) x3) (val_main_v32 (F := Ideal) x0 x1 x3) x4 x5 := rfl
theorem term_3 (x0 x1 : IVec S152 32) (x3 : IVec S622592x128 32) (x4 : FVec Ideal S2x16x1024x1024 .f32) (x5 : FVec Ideal S2x16x512x1024 .f32) :
    val_main_v88 (F := Ideal) x0 x1 x3 x4 x5 = term 3 slices_S2x16x1024x1024_S1x1x1024x1024_0_3_0_0 slices_S2x16x512x1024_S1x1x512x1024_0_3_0_0 slices_S77824x16_S77824x1_0_3
      (val_main_v9 (F := Ideal) x3) (val_main_v32 (F := Ideal) x0 x1 x3) x4 x5 := rfl
theorem term_4 (x0 x1 : IVec S152 32) (x3 : IVec S622592x128 32) (x4 : FVec Ideal S2x16x1024x1024 .f32) (x5 : FVec Ideal S2x16x512x1024 .f32) :
    val_main_v102 (F := Ideal) x0 x1 x3 x4 x5 = term 4 slices_S2x16x1024x1024_S1x1x1024x1024_0_4_0_0 slices_S2x16x512x1024_S1x1x512x1024_0_4_0_0 slices_S77824x16_S77824x1_0_4
      (val_main_v9 (F := Ideal) x3) (val_main_v32 (F := Ideal) x0 x1 x3) x4 x5 := rfl
theorem term_5 (x0 x1 : IVec S152 32) (x3 : IVec S622592x128 32) (x4 : FVec Ideal S2x16x1024x1024 .f32) (x5 : FVec Ideal S2x16x512x1024 .f32) :
    val_main_v116 (F := Ideal) x0 x1 x3 x4 x5 = term 5 slices_S2x16x1024x1024_S1x1x1024x1024_0_5_0_0 slices_S2x16x512x1024_S1x1x512x1024_0_5_0_0 slices_S77824x16_S77824x1_0_5
      (val_main_v9 (F := Ideal) x3) (val_main_v32 (F := Ideal) x0 x1 x3) x4 x5 := rfl
theorem term_6 (x0 x1 : IVec S152 32) (x3 : IVec S622592x128 32) (x4 : FVec Ideal S2x16x1024x1024 .f32) (x5 : FVec Ideal S2x16x512x1024 .f32) :
    val_main_v130 (F := Ideal) x0 x1 x3 x4 x5 = term 6 slices_S2x16x1024x1024_S1x1x1024x1024_0_6_0_0 slices_S2x16x512x1024_S1x1x512x1024_0_6_0_0 slices_S77824x16_S77824x1_0_6
      (val_main_v9 (F := Ideal) x3) (val_main_v32 (F := Ideal) x0 x1 x3) x4 x5 := rfl
theorem term_7 (x0 x1 : IVec S152 32) (x3 : IVec S622592x128 32) (x4 : FVec Ideal S2x16x1024x1024 .f32) (x5 : FVec Ideal S2x16x512x1024 .f32) :
    val_main_v144 (F := Ideal) x0 x1 x3 x4 x5 = term 7 slices_S2x16x1024x1024_S1x1x1024x1024_0_7_0_0 slices_S2x16x512x1024_S1x1x512x1024_0_7_0_0 slices_S77824x16_S77824x1_0_7
      (val_main_v9 (F := Ideal) x3) (val_main_v32 (F := Ideal) x0 x1 x3) x4 x5 := rfl
theorem term_8 (x0 x1 : IVec S152 32) (x3 : IVec S622592x128 32) (x4 : FVec Ideal S2x16x1024x1024 .f32) (x5 : FVec Ideal S2x16x512x1024 .f32) :
    val_main_v158 (F := Ideal) x0 x1 x3 x4 x5 = term 8 slices_S2x16x1024x1024_S1x1x1024x1024_0_8_0_0 slices_S2x16x512x1024_S1x1x512x1024_0_8_0_0 slices_S77824x16_S77824x1_0_8
      (val_main_v9 (F := Ideal) x3) (val_main_v32 (F := Ideal) x0 x1 x3) x4 x5 := rfl
theorem term_9 (x0 x1 : IVec S152 32) (x3 : IVec S622592x128 32) (x4 : FVec Ideal S2x16x1024x1024 .f32) (x5 : FVec Ideal S2x16x512x1024 .f32) :
    val_main_v172 (F := Ideal) x0 x1 x3 x4 x5 = term 9 slices_S2x16x1024x1024_S1x1x1024x1024_0_9_0_0 slices_S2x16x512x1024_S1x1x512x1024_0_9_0_0 slices_S77824x16_S77824x1_0_9
      (val_main_v9 (F := Ideal) x3) (val_main_v32 (F := Ideal) x0 x1 x3) x4 x5 := rfl
theorem term_10 (x0 x1 : IVec S152 32) (x3 : IVec S622592x128 32) (x4 : FVec Ideal S2x16x1024x1024 .f32) (x5 : FVec Ideal S2x16x512x1024 .f32) :
    val_main_v186 (F := Ideal) x0 x1 x3 x4 x5 = term 10 slices_S2x16x1024x1024_S1x1x1024x1024_0_10_0_0 slices_S2x16x512x1024_S1x1x512x1024_0_10_0_0 slices_S77824x16_S77824x1_0_10
      (val_main_v9 (F := Ideal) x3) (val_main_v32 (F := Ideal) x0 x1 x3) x4 x5 := rfl
theorem term_11 (x0 x1 : IVec S152 32) (x3 : IVec S622592x128 32) (x4 : FVec Ideal S2x16x1024x1024 .f32) (x5 : FVec Ideal S2x16x512x1024 .f32) :
    val_main_v200 (F := Ideal) x0 x1 x3 x4 x5 = term 11 slices_S2x16x1024x1024_S1x1x1024x1024_0_11_0_0 slices_S2x16x512x1024_S1x1x512x1024_0_11_0_0 slices_S77824x16_S77824x1_0_11
      (val_main_v9 (F := Ideal) x3) (val_main_v32 (F := Ideal) x0 x1 x3) x4 x5 := rfl
theorem term_12 (x0 x1 : IVec S152 32) (x3 : IVec S622592x128 32) (x4 : FVec Ideal S2x16x1024x1024 .f32) (x5 : FVec Ideal S2x16x512x1024 .f32) :
    val_main_v214 (F := Ideal) x0 x1 x3 x4 x5 = term 12 slices_S2x16x1024x1024_S1x1x1024x1024_0_12_0_0 slices_S2x16x512x1024_S1x1x512x1024_0_12_0_0 slices_S77824x16_S77824x1_0_12
      (val_main_v9 (F := Ideal) x3) (val_main_v32 (F := Ideal) x0 x1 x3) x4 x5 := rfl
theorem term_13 (x0 x1 : IVec S152 32) (x3 : IVec S622592x128 32) (x4 : FVec Ideal S2x16x1024x1024 .f32) (x5 : FVec Ideal S2x16x512x1024 .f32) :
    val_main_v228 (F := Ideal) x0 x1 x3 x4 x5 = term 13 slices_S2x16x1024x1024_S1x1x1024x1024_0_13_0_0 slices_S2x16x512x1024_S1x1x512x1024_0_13_0_0 slices_S77824x16_S77824x1_0_13
      (val_main_v9 (F := Ideal) x3) (val_main_v32 (F := Ideal) x0 x1 x3) x4 x5 := rfl
theorem term_14 (x0 x1 : IVec S152 32) (x3 : IVec S622592x128 32) (x4 : FVec Ideal S2x16x1024x1024 .f32) (x5 : FVec Ideal S2x16x512x1024 .f32) :
    val_main_v242 (F := Ideal) x0 x1 x3 x4 x5 = term 14 slices_S2x16x1024x1024_S1x1x1024x1024_0_14_0_0 slices_S2x16x512x1024_S1x1x512x1024_0_14_0_0 slices_S77824x16_S77824x1_0_14
      (val_main_v9 (F := Ideal) x3) (val_main_v32 (F := Ideal) x0 x1 x3) x4 x5 := rfl
theorem term_15 (x0 x1 : IVec S152 32) (x3 : IVec S622592x128 32) (x4 : FVec Ideal S2x16x1024x1024 .f32) (x5 : FVec Ideal S2x16x512x1024 .f32) :
    val_main_v256 (F := Ideal) x0 x1 x3 x4 x5 = term 15 slices_S2x16x1024x1024_S1x1x1024x1024_0_15_0_0 slices_S2x16x512x1024_S1x1x512x1024_0_15_0_0 slices_S77824x16_S77824x1_0_15
      (val_main_v9 (F := Ideal) x3) (val_main_v32 (F := Ideal) x0 x1 x3) x4 x5 := rfl

theorem sum_apply (x0 x1 : IVec S152 32) (x3 : IVec S622592x128 32) (x4 : FVec Ideal S2x16x1024x1024 .f32) (x5 : FVec Ideal S2x16x512x1024 .f32)
    (n : Fin 77824) (q : Fin 1024) :
    val_main_v257 (F := Ideal) x0 x1 x3 x4 x5 (ix2 n q)
      = ∑ e : Fin 16, val_main_v32 (F := Ideal) x0 x1 x3 (ix2 n e) * out (halves (words x3 n)) (upAt x4 e) (downAt x5 e) q := by
  rw [val_main_v257_apply, term_15, term_apply 15 (by decide), val_main_v243_apply, term_14, term_apply 14 (by decide), val_main_v229_apply, term_13, term_apply 13 (by decide), val_main_v215_apply, term_12, term_apply 12 (by decide), val_main_v201_apply, term_11, term_apply 11 (by decide), val_main_v187_apply, term_10, term_apply 10 (by decide), val_main_v173_apply, term_9, term_apply 9 (by decide), val_main_v159_apply, term_8, term_apply 8 (by decide), val_main_v145_apply, term_7, term_apply 7 (by decide), val_main_v131_apply, term_6, term_apply 6 (by decide), val_main_v117_apply, term_5, term_apply 5 (by decide), val_main_v103_apply, term_4, term_apply 4 (by decide), val_main_v89_apply, term_3, term_apply 3 (by decide), val_main_v75_apply, term_2, term_apply 2 (by decide), val_main_v61_apply, term_1, term_apply 1 (by decide), val_main_v47_apply, term_0, term_apply 0 (by decide), val_main_v33_apply, val_main_cst_apply, ← sum_sixteen]
  rw [show (fun k => val_main_v9 (F := Ideal) x3 (ix2 n k)) = halves (words x3 n) from funext (hidden_apply x3 n)]
  rw [show (FloatOps.ofBits .f32 0x00000000#32 : Ideal .f32) = (0 : EReal) from Ideal.ofBits_zero_f32]
  rfl

theorem live_apply (x2 : IVec S152 32) (n : Fin 77824) (q : Fin 1024) :
    val_main_call18_v1 (F := Ideal) x2 (ix2 n q) = IntOp.cmpi .ne (x2 (tileOf n)) 0#32 := by
  rw [val_main_call18_v1_apply, val_main_v258_apply, val_main_v23_apply, val_main_v22_apply, val_main_c_1_apply]
  refine congrArg (fun w => IntOp.cmpi .ne w 0#32) ?_
  refine (congrArg (val_main_v21 (F := Ideal) x2) (funext fun a => ?_)).trans (tableLive_apply x2 n)
  match a with | ⟨0, _⟩ => rfl

/-- The reference's row, before it is stored in lines. -/
theorem row_apply (x0 x1 x2 : IVec S152 32) (x3 : IVec S622592x128 32) (x4 : FVec Ideal S2x16x1024x1024 .f32) (x5 : FVec Ideal S2x16x512x1024 .f32)
    (h : Fit x0 x1 x2 x3) (n : Fin 77824) (q : Fin 1024) :
    val_main_v259 (F := Ideal) x0 x1 x2 x3 x4 x5 (ix2 n q) = answer x0 x1 x2 x3 x4 x5 n q := by
  rw [val_main_v259_apply, live_apply]
  unfold answer
  by_cases hl : x2 (tileOf n) = 0#32
  · rw [if_pos hl, hl, show (IntOp.cmpi .ne (0#32 : BitVec 32) 0#32) = 0#1 from rfl, val_main_call18_v2_apply, val_main_call18_v0_apply, val_main_cst_2_apply]
    exact Ideal.ofBits_zero_f32
  · rw [if_neg hl, show IntOp.cmpi .ne (x2 (tileOf n)) 0#32 = 1#1 from
      congrArg BitVec.ofBool (show (x2 (tileOf n) != 0#32) = true from bne_iff_ne.mpr hl)]
    refine (sum_apply x0 x1 x3 x4 x5 n q).trans ?_
    refine Eq.trans ?_ (sum_two (expertOf (x0 (tileOf n))) (expertOf (x1 (tileOf n))) (weight x3 n 1) (weight x3 n 2) (h.weight n 0 hl).1 (h.weight n 1 hl).1
      fun e => out (halves (words x3 n)) (upAt x4 e) (downAt x5 e) q)
    exact Finset.sum_congr rfl fun e _ => by rw [combine_apply x0 x1 x3 n e (h.expertA _) (h.expertB _)]

/-- The reference's result. -/
theorem result_eq (x0 x1 x2 : IVec S152 32) (x3 : IVec S622592x128 32) (x4 : FVec Ideal S2x16x1024x1024 .f32) (x5 : FVec Ideal S2x16x512x1024 .f32)
    (h : Fit x0 x1 x2 x3) : val_main_v260 (F := Ideal) x0 x1 x2 x3 x4 x5 = answerAt x0 x1 x2 x3 x4 x5 := by
  funext i
  have b0 : (i 0).val < 622592 := (i 0).isLt
  have b1 : (i 1).val < 128 := (i 1).isLt
  rw [val_main_v260_apply]
  refine (congrArg (val_main_v259 (F := Ideal) x0 x1 x2 x3 x4 x5) (funext fun a => Fin.ext ?_)).trans (row_apply x0 x1 x2 x3 x4 x5 h _ _)
  match a with
  | ⟨0, _⟩ => show ((i 0).val * 128 + (i 1).val) / 1024 = (i 0).val / 8; omega
  | ⟨1, _⟩ => show ((i 0).val * 128 + (i 1).val) % 1024 = 128 * ((i 0).val % 8) + (i 1).val; omega

end Cert.ReferenceIdeal.Ffn

end
-- ==== Proof.Mix.Kit.lean ====
/- The mixer's kernel at a grid point: which tile clears the carried rows, and the staging buffers the body runs on. -/
module

public import proofs.«01_k».proof.Kernel2Ideal
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Pipeline.FrameBody
public import Idealize.ShloMosaic.Lib.Pipeline.Value
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-! ## The staging buffers at a point -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x256x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S16x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8192x128 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x512 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S520x512 .f32 := Memref.whole cc0_scratch0
abbrev scM0_1 : Memref sig .tc .vmem S528x512 .f32 := Memref.whole cc0_scratch1
/-- The scratch `arg17` the kernel carries between points, as a view: what it holds is stated through it. -/
abbrev VS0_0 : View sig .tc .vmem S520x512 .f32 := scM0_0.view
/-- The scratch `arg18` the kernel carries between points, as a view: what it holds is stated through it. -/
abbrev VS0_1 : View sig .tc .vmem S528x512 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel2Ideal.Mix

end
-- ==== Proof.Mix.RunA.lean ====
/- The run of the mixer's body at a sequence's first tile, which clears the rows carried from the tile before. -/
module

public import proofs.«01_k».proof.Proof.Mix.Kit

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores of the body at a first tile, as pieces of each output's block and of each carried buffer (last first), with the proof that the
    body run on whole staging buffers leaves those pieces written and the inputs as they were. The row output's block is
    held through its view as pairs of rows, which is how the body stores the packed words. -/
noncomputable def kernelRun0_A (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x2048 .bf16) (harg6 : arg6.IsWhole) (arg7 : Memref sig .tc .vmem S3x512 .f32) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S1x1024x1024 .bf16) (harg10 : arg10.IsWhole) (arg11 : Memref sig .tc .vmem S16x1024 .bf16) (harg11 : arg11.IsWhole) (arg12 : Memref sig .tc .vmem S16x1 .f32) (harg12 : arg12.IsWhole) (arg13 : Memref sig .tc .vmem S1x512x1024 .f32) (harg13 : arg13.IsWhole) (arg14 : Memref sig .tc .vmem S8192x128 .bf16) (harg14 : arg14.IsWhole) (arg15 : Memref sig .tc .vmem S512x128 .f32) (harg15 : arg15.IsWhole) (arg16 : Memref sig .tc .vmem S8x512 .f32) (harg16 : arg16.IsWhole) (arg17 : Memref sig .tc .vmem S520x512 .f32) (harg17 : arg17.IsWhole) (arg18 : Memref sig .tc .vmem S528x512 .f32) (harg18 : arg18.IsWhole) (hc0 : cond0_0 i)
    (x0 : Vec F S1x512x1024 .f32) (x1 : Vec F S1x6x1024 .f32) (x2 : Vec F S1x1024 .f32) (x3 : Vec F S1x1024 .f32) (x4 : Vec F S1x1024x2048 .bf16) (x5 : Vec F S3x512 .f32) (x6 : Vec F S2x256x256 .bf16) (x7 : Vec F S1x512 .f32) (x8 : Vec F S1x1024x1024 .bf16) (x9 : Vec F S16x1024 .bf16) (x10 : Vec F S16x1 .f32) :
    Σ' (L11 : List (View.Piece (Elt F) S1x512x1024 .f32)), Σ' (L12 : List (View.Piece (Elt F) S4096x2x128 .bf16)), Σ' (L13 : List (View.Piece (Elt F) S512x128 .f32)), Σ' (L14 : List (View.Piece (Elt F) S8x512 .f32)), Σ' (LS0 : List (View.Piece (Elt F) S520x512 .f32)), { LS1 : List (View.Piece (Elt F) S528x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) (arg14.reshape S4096x2x128 reshapes_S8192x128_S4096x2x128.1 reshapes_S8192x128_S4096x2x128.2 harg14.contiguous) fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, (arg14.reshape S4096x2x128 reshapes_S8192x128_S4096x2x128.1 reshapes_S8192x128_S4096x2x128.2 harg14.contiguous).view.loc (c : Thread nD τ) ↦[(arg14.reshape S4096x2x128 reshapes_S8192x128_S4096x2x128.1 reshapes_S8192x128_S4096x2x128.2 harg14.contiguous).view.set]{fullShare} (arg14.reshape S4096x2x128 reshapes_S8192x128_S4096x2x128.1 reshapes_S8192x128_S4096x2x128.2 harg14.contiguous).view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1)) -∗ K ⟨⟩))
          ⊢ wp frame (wpE (defs₀ (F := F)) Variants.none c none) E (cc0_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [cc0_mix_eq_skeleton]; unfold cc0_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [HS0]; · iexists _; iexact HS0
    iexists _; iexact HS1

end Cert.Kernel2Ideal.Mix

end
-- ==== Proof.Mix.RunB.lean ====
/- The run of the mixer's body at a later tile, which reads the rows carried from the tile before. -/
module

public import proofs.«01_k».proof.Proof.Mix.RunA

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores of the body at a later tile, as pieces of each output's block and of each carried buffer (last first), with the proof that the
    body run on whole staging buffers leaves those pieces written and the inputs as they were. The row output's block is
    held through its view as pairs of rows, which is how the body stores the packed words; the carried buffers are held at what the tile before left. -/
noncomputable def kernelRun0_B (c : Dev nD) (i : grid0.Coords) (arg2 : Memref sig .tc .vmem S1x512x1024 .f32) (harg2 : arg2.IsWhole) (arg3 : Memref sig .tc .vmem S1x6x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024x2048 .bf16) (harg6 : arg6.IsWhole) (arg7 : Memref sig .tc .vmem S3x512 .f32) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S1x1024x1024 .bf16) (harg10 : arg10.IsWhole) (arg11 : Memref sig .tc .vmem S16x1024 .bf16) (harg11 : arg11.IsWhole) (arg12 : Memref sig .tc .vmem S16x1 .f32) (harg12 : arg12.IsWhole) (arg13 : Memref sig .tc .vmem S1x512x1024 .f32) (harg13 : arg13.IsWhole) (arg14 : Memref sig .tc .vmem S8192x128 .bf16) (harg14 : arg14.IsWhole) (arg15 : Memref sig .tc .vmem S512x128 .f32) (harg15 : arg15.IsWhole) (arg16 : Memref sig .tc .vmem S8x512 .f32) (harg16 : arg16.IsWhole) (arg17 : Memref sig .tc .vmem S520x512 .f32) (harg17 : arg17.IsWhole) (arg18 : Memref sig .tc .vmem S528x512 .f32) (harg18 : arg18.IsWhole) (hc0 : ¬cond0_0 i)
    (x0 : Vec F S1x512x1024 .f32) (x1 : Vec F S1x6x1024 .f32) (x2 : Vec F S1x1024 .f32) (x3 : Vec F S1x1024 .f32) (x4 : Vec F S1x1024x2048 .bf16) (x5 : Vec F S3x512 .f32) (x6 : Vec F S2x256x256 .bf16) (x7 : Vec F S1x512 .f32) (x8 : Vec F S1x1024x1024 .bf16) (x9 : Vec F S16x1024 .bf16) (x10 : Vec F S16x1 .f32) (xs0 : Vec F S520x512 .f32) (xs1 : Vec F S528x512 .f32) :
    Σ' (L11 : List (View.Piece (Elt F) S1x512x1024 .f32)), Σ' (L12 : List (View.Piece (Elt F) S4096x2x128 .bf16)), Σ' (L13 : List (View.Piece (Elt F) S512x128 .f32)), Σ' (L14 : List (View.Piece (Elt F) S8x512 .f32)), Σ' (LS0 : List (View.Piece (Elt F) S520x512 .f32)), { LS1 : List (View.Piece (Elt F) S528x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) (arg14.reshape S4096x2x128 reshapes_S8192x128_S4096x2x128.1 reshapes_S8192x128_S4096x2x128.2 harg14.contiguous) fullShare d) ∗ (∃ d, owns (c : Thread nD τ) arg15 fullShare d) ∗ (∃ d, owns (c : Thread nD τ) arg16 fullShare d) ∗ owns (c : Thread nD τ) arg17 fullShare xs0 ∗ owns (c : Thread nD τ) arg18 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, (arg14.reshape S4096x2x128 reshapes_S8192x128_S4096x2x128.1 reshapes_S8192x128_S4096x2x128.2 harg14.contiguous).view.loc (c : Thread nD τ) ↦[(arg14.reshape S4096x2x128 reshapes_S8192x128_S4096x2x128.1 reshapes_S8192x128_S4096x2x128.2 harg14.contiguous).view.set]{fullShare} (arg14.reshape S4096x2x128 reshapes_S8192x128_S4096x2x128.1 reshapes_S8192x128_S4096x2x128.2 harg14.contiguous).view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f LS0) ∗ (∃ f, arg18.view.loc (c : Thread nD τ) ↦[arg18.view.set]{fullShare} arg18.view.writes (Elt F) f LS1)) -∗ K ⟨⟩))
          ⊢ wp frame (wpE (defs₀ (F := F)) Variants.none c none) E (cc0_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [cc0_mix_eq_skeleton]; unfold cc0_mix_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg17.eq_unread hfs0; obtain rfl := harg18.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [HS0]; · iexists _; iexact HS0
    iexists _; iexact HS1

end Cert.Kernel2Ideal.Mix

end
-- ==== Proof.Mix.Point.lean ====
/- What the mixer's body leaves at a grid point: its outputs' blocks and the two carried buffers, from the point's input
   blocks and, at a later tile, from what the tile before left in the carried buffers. -/
module

public import proofs.«01_k».proof.Proof.Mix.RunB

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the blocks of the four outputs (the row output's as pairs of rows) and the two carried buffers. -/
structure Left (F : FTy → Type) where
  x1 : Vec F S1x512x1024 .f32
  h : Vec F S4096x2x128 .bf16
  info : Vec F S512x128 .f32
  route : Vec F S8x512 .f32
  g : Vec F S520x512 .f32
  v : Vec F S528x512 .f32

/-- The pieces a point stores into each output and each carried buffer. -/
structure Stores (F : FTy → Type) where
  x1 : List (View.Piece (Elt F) S1x512x1024 .f32)
  h : List (View.Piece (Elt F) S4096x2x128 .bf16)
  info : List (View.Piece (Elt F) S512x128 .f32)
  route : List (View.Piece (Elt F) S8x512 .f32)
  g : List (View.Piece (Elt F) S520x512 .f32)
  v : List (View.Piece (Elt F) S528x512 .f32)

/-- The pieces read back. -/
def Stores.left (s : Stores F) : Left F :=
  ⟨View.canon s.x1, View.canon s.h, View.canon s.info, View.canon s.route, View.canon s.g, View.canon s.v⟩

/-- The pieces cover each block. -/
structure Stores.Covers (s : Stores F) : Prop where
  x1 : ∀ y : S1x512x1024.Idx, ∃ p ∈ s.x1, y ∈ p.1.set
  h : ∀ y : S4096x2x128.Idx, ∃ p ∈ s.h, y ∈ p.1.set
  info : ∀ y : S512x128.Idx, ∃ p ∈ s.info, y ∈ p.1.set
  route : ∀ y : S8x512.Idx, ∃ p ∈ s.route, y ∈ p.1.set
  g : ∀ y : S520x512.Idx, ∃ p ∈ s.g, y ∈ p.1.set
  v : ∀ y : S528x512.Idx, ∃ p ∈ s.v, y ∈ p.1.set

/-- The stores of a first tile. -/
def storesA (c : Dev nD) (t : Fin cfg0.N) (h0 : t.val % 4 = 0) : Stores F :=
  ⟨(kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).1, (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.1, (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.1, (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.1, (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.1, (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.1⟩

/-- The stores of a later tile. -/
def storesB (c : Dev nD) (t : Fin cfg0.N) (h0 : ¬t.val % 4 = 0) (g : Vec F S520x512 .f32) (v : Vec F S528x512 .f32) : Stores F :=
  ⟨(kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) g v).1, (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) g v).2.1, (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) g v).2.2.1, (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) g v).2.2.2.1, (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) g v).2.2.2.2.1, (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) g v).2.2.2.2.2.1⟩

/-- Eight strided stores cover the rows' block: pair `y` lies in the store that starts at pair `y % 8`. -/
theorem mem_strided (y : S4096x2x128.Idx) (j : Nat) (hj : (y 0).val % 8 = j) (hi) (hp) :
    y ∈ (⟨⟨![j, 0, 0], S512x2x128.size, ![8, 1, 1], hi⟩, hp⟩ : Rect S4096x2x128).set := by
  have h0 : (y 0).val < 4096 := (y 0).isLt
  have h1 : (y 1).val < 2 := (y 1).isLt
  have h2 : (y 2).val < 128 := (y 2).isLt
  refine (LoadRect.mem_set _).mpr fun a => ?_
  match a with
  | ⟨0, _⟩ => exact ⟨(y 0).val / 8, (show (y 0).val / 8 < 512 by omega), (show (y 0).val = j + 8 * ((y 0).val / 8) by omega)⟩
  | ⟨1, _⟩ => exact ⟨(y 1).val, (show (y 1).val < 2 by omega), (show (y 1).val = 0 + 1 * (y 1).val by omega)⟩
  | ⟨2, _⟩ => exact ⟨(y 2).val, (show (y 2).val < 128 by omega), (show (y 2).val = 0 + 1 * (y 2).val by omega)⟩

/-- The rectangles of the eight strided stores, last first. -/
def strips : List (Rect S4096x2x128) :=
  [7, 6, 5, 4, 3, 2, 1, 0].pmap (fun j (hj : j < 8) => ⟨⟨![j, 0, 0], S512x2x128.size, ![8, 1, 1], by
    intro a
    match a with
    | ⟨0, _⟩ => exact .inr (show j + 8 * (512 - 1) < 4096 by omega)
    | ⟨1, _⟩ => exact .inr (show 0 + 1 * (2 - 1) < 2 by omega)
    | ⟨2, _⟩ => exact .inr (show 0 + 1 * (128 - 1) < 128 by omega)⟩, by
    intro a
    match a with
    | ⟨0, _⟩ => exact (show 0 < 8 by omega)
    | ⟨1, _⟩ => exact (show 0 < 1 by omega)
    | ⟨2, _⟩ => exact (show 0 < 1 by omega)⟩) (by decide)

theorem covers_of_strips {L : List (View.Piece (Elt F) S4096x2x128 .bf16)} (hL : L.map (·.1) = strips) (y : S4096x2x128.Idx) :
    ∃ p ∈ L, y ∈ p.1.set := by
  suffices h : ∃ r ∈ strips, y ∈ r.set by
    obtain ⟨r, hr, hy⟩ := h
    rw [← hL] at hr
    obtain ⟨p, hp, rfl⟩ := List.mem_map.mp hr
    exact ⟨p, hp, hy⟩
  have h8 : (y 0).val % 8 < 8 := Nat.mod_lt _ (by decide)
  have hj : (y 0).val % 8 ∈ [7, 6, 5, 4, 3, 2, 1, 0] := by
    simp only [List.mem_cons, List.not_mem_nil, or_false]; omega
  exact ⟨_, List.mem_pmap.mpr ⟨_, hj, rfl⟩, mem_strided y _ rfl _ _⟩

theorem strips_A (c : Dev nD) (t : Fin cfg0.N) (h0 : t.val % 4 = 0) : (storesA m c t h0).h.map (·.1) = strips := by sl_kernel_rfl

/-- The stores of a first tile cover every block. -/
theorem coversA (c : Dev nD) (t : Fin cfg0.N) (h0 : t.val % 4 = 0) : (storesA m c t h0).Covers where
  x1 := View.cover_of_tiledL (storesA m c t h0).x1 S1x512x1024.size (by sl_kernel_rfl)
  h := fun y => covers_of_strips (strips_A m c t h0) y
  info := View.cover_of_tiledL (storesA m c t h0).info S512x128.size (by sl_kernel_rfl)
  route := View.cover_of_tiledL (storesA m c t h0).route S8x512.size (by sl_kernel_rfl)
  g := View.cover_of_tiledBy (storesA m c t h0).g ![8, 512] (by sl_kernel_rfl)
  v := View.cover_of_tiledBy (storesA m c t h0).v ![16, 512] (by sl_kernel_rfl)

theorem strips_B (c : Dev nD) (t : Fin cfg0.N) (h0 : ¬t.val % 4 = 0) (g : Vec F S520x512 .f32) (v : Vec F S528x512 .f32) : (storesB m c t h0 g v).h.map (·.1) = strips := by sl_kernel_rfl

/-- The stores of a later tile cover every block. -/
theorem coversB (c : Dev nD) (t : Fin cfg0.N) (h0 : ¬t.val % 4 = 0) (g : Vec F S520x512 .f32) (v : Vec F S528x512 .f32) : (storesB m c t h0 g v).Covers where
  x1 := View.cover_of_tiledL (storesB m c t h0 g v).x1 S1x512x1024.size (by sl_kernel_rfl)
  h := fun y => covers_of_strips (strips_B m c t h0 g v) y
  info := View.cover_of_tiledL (storesB m c t h0 g v).info S512x128.size (by sl_kernel_rfl)
  route := View.cover_of_tiledL (storesB m c t h0 g v).route S8x512.size (by sl_kernel_rfl)
  g := View.cover_of_tiledBy (storesB m c t h0 g v).g ![8, 512] (by sl_kernel_rfl)
  v := View.cover_of_tiledBy (storesB m c t h0 g v).v ![16, 512] (by sl_kernel_rfl)

/-- The rows of a block from its pairs of rows. -/
def unpair (h : Vec F S4096x2x128 .bf16) : Vec F S8192x128 .bf16 := fun y =>
  h ((Shape.reshapeEquiv reshapes_S8192x128_S4096x2x128.1).symm y)

/-- A block read through its rows is its pairs read as rows. -/
theorem read_unpair (arg14 : Memref sig .tc .vmem S8192x128 .bf16) (harg14 : arg14.IsWhole) (f) :
    arg14.view.read (Elt F) f = unpair ((arg14.reshape S4096x2x128 reshapes_S8192x128_S4096x2x128.1 reshapes_S8192x128_S4096x2x128.2 harg14.contiguous).view.read (Elt F) f) := by
  funext y
  unfold unpair
  show arg14.view.read (Elt F) f y = arg14.view.read (Elt F) f (Shape.reshapeEquiv _ ((Shape.reshapeEquiv _).symm y))
  rw [Equiv.apply_symm_apply]

/-- A block's buffer held through its rows is held through its pairs. -/
theorem owns_pairs (c : Dev nD) (arg14 : Memref sig .tc .vmem S8192x128 .bf16) (harg14 : arg14.IsWhole) (d) :
    (owns (c : Thread nD τ) arg14 fullShare d : sProp 𝕄)
      ⊢ iprop(∃ d, owns (c : Thread nD τ) (arg14.reshape S4096x2x128 reshapes_S8192x128_S4096x2x128.1 reshapes_S8192x128_S4096x2x128.2 harg14.contiguous) fullShare d) := by
  unfold owns
  iintro ⟨%f, -, H⟩
  iexists _; iexists f
  isplitr; · ipureintro; rfl
  rw [show ((arg14.reshape S4096x2x128 reshapes_S8192x128_S4096x2x128.1 reshapes_S8192x128_S4096x2x128.2 harg14.contiguous).view.set) = arg14.view.set from View.set_reshape _ _]
  iexact H

/-- Pieces written through the pairs and covering them leave the rows of the pieces read back. -/
theorem owns_rows (c : Dev nD) (arg14 : Memref sig .tc .vmem S8192x128 .bf16) (harg14 : arg14.IsWhole) (L : List (View.Piece (Elt F) S4096x2x128 .bf16))
    (hL : ∀ y : S4096x2x128.Idx, ∃ p ∈ L, y ∈ p.1.set) :
    (iprop(∃ f, (arg14.reshape S4096x2x128 reshapes_S8192x128_S4096x2x128.1 reshapes_S8192x128_S4096x2x128.2 harg14.contiguous).view.loc (c : Thread nD τ) ↦[(arg14.reshape S4096x2x128 reshapes_S8192x128_S4096x2x128.1 reshapes_S8192x128_S4096x2x128.2 harg14.contiguous).view.set]{fullShare} (arg14.reshape S4096x2x128 reshapes_S8192x128_S4096x2x128.1 reshapes_S8192x128_S4096x2x128.2 harg14.contiguous).view.writes (Elt F) f L) : sProp 𝕄)
      ⊢ owns (c : Thread nD τ) arg14 fullShare (unpair (View.canon L)) := by
  unfold owns
  iintro ⟨%f, H⟩
  iexists _; isplitr
  swap
  · rw [show ((arg14.reshape S4096x2x128 reshapes_S8192x128_S4096x2x128.1 reshapes_S8192x128_S4096x2x128.2 harg14.contiguous).view.set) = arg14.view.set from View.set_reshape _ _]
    iexact H
  ipureintro
  rw [read_unpair arg14 harg14, View.read_writes_eq_canon _ _ _ hL]

/-- Pieces that cover a buffer leave the pieces read back. -/
theorem owns_canon {s : Shape} {e : EltTy} (c : Dev nD) (arg : Memref sig .tc .vmem s e) (L : List (View.Piece (Elt F) s e))
    (hL : ∀ y : s.Idx, ∃ p ∈ L, y ∈ p.1.set) :
    (iprop(∃ f, arg.view.loc (c : Thread nD τ) ↦[arg.view.set]{fullShare} arg.view.writes (Elt F) f L) : sProp 𝕄)
      ⊢ owns (c : Thread nD τ) arg fullShare (View.canon L) := by
  unfold owns
  iintro ⟨%f, H⟩
  iexists _; isplitr
  swap; · iexact H
  ipureintro
  exact View.read_writes_eq_canon _ _ _ hL

/-- The inputs' buffers at their blocks. -/
def ins (c : Dev nD) (t : Fin cfg0.N) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t))

/-- The outputs' buffers at anything. -/
def outsAny (c : Dev nD) (t : Fin cfg0.N) : sProp 𝕄 :=
  iprop((∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d))

/-- The outputs' buffers at what a point leaves. -/
def outsAt (c : Dev nD) (t : Fin cfg0.N) (o : Left F) : sProp 𝕄 :=
  iprop(owns (c : Thread nD τ) (ms0_11 t) fullShare o.x1 ∗ owns (c : Thread nD τ) (ms0_12 t) fullShare (unpair o.h) ∗ owns (c : Thread nD τ) (ms0_13 t) fullShare o.info ∗ owns (c : Thread nD τ) (ms0_14 t) fullShare o.route)

/-- The carried buffers at anything. -/
def carryAny (c : Dev nD) : sProp 𝕄 :=
  iprop((∃ d, owns (c : Thread nD τ) scM0_0 fullShare d) ∗ (∃ d, owns (c : Thread nD τ) scM0_1 fullShare d))

/-- The carried buffers at given contents. -/
def carryAt (c : Dev nD) (g : Vec F S520x512 .f32) (v : Vec F S528x512 .f32) : sProp 𝕄 :=
  iprop(owns (c : Thread nD τ) scM0_0 fullShare g ∗ owns (c : Thread nD τ) scM0_1 fullShare v)

set_option maxHeartbeats 3200000 in
/-- The body at a first tile. -/
theorem bodyA (c : Dev nD) (t : Fin cfg0.N) (h0 : t.val % 4 = 0) (K : PUnit → sProp 𝕄) :
    iprop(ins m c t ∗ outsAny c t ∗ carryAny c
        ∗ (iprop(ins m c t ∗ outsAt c t (storesA m c t h0).left ∗ carryAt c (storesA m c t h0).left.g (storesA m c t h0).left.v) -∗ K ⟨⟩))
      ⊢ wp frame (wpE (defs₀ (F := F)) Variants.none c none) Set.univ (bodyAt0 t) K := by
  have hc := coversA m c t h0
  unfold ins outsAny outsAt carryAny carryAt bodyAt0
  iintro ⟨⟨H0, H1, H2, H3, H4, H5, H6, H7, H8, H9, H10⟩, ⟨H11, ⟨%d12, H12⟩, H13, H14⟩, ⟨HS0, HS1⟩, Hk⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (owns_pairs c (ms0_12 t) (hs0_12 t) d12); iexact H12
  isplitl [H13]; · iexact H13
  isplitl [H14]; · iexact H14
  isplitl [HS0]; · iexact HS0
  isplitl [HS1]; · iexact HS1
  iintro ⟨H0, H1, H2, H3, H4, H5, H6, H7, H8, H9, H10, H11, H12, H13, H14, HS0, HS1⟩
  iapply Hk
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 H14]
  · isplitl [H11]; · iapply (owns_canon c (ms0_11 t) _ hc.x1); iexact H11
    isplitl [H12]; · iapply (owns_rows c (ms0_12 t) (hs0_12 t) _ hc.h); iexact H12
    isplitl [H13]; · iapply (owns_canon c (ms0_13 t) _ hc.info); iexact H13
    iapply (owns_canon c (ms0_14 t) _ hc.route); iexact H14
  isplitl [HS0]; · iapply (owns_canon c scM0_0 _ hc.g); iexact HS0
  iapply (owns_canon c scM0_1 _ hc.v); iexact HS1

set_option maxHeartbeats 3200000 in
/-- The body at a later tile. -/
theorem bodyB (c : Dev nD) (t : Fin cfg0.N) (h0 : ¬t.val % 4 = 0) (g : Vec F S520x512 .f32) (v : Vec F S528x512 .f32) (K : PUnit → sProp 𝕄) :
    iprop(ins m c t ∗ outsAny c t ∗ carryAt c g v
        ∗ (iprop(ins m c t ∗ outsAt c t (storesB m c t h0 g v).left ∗ carryAt c (storesB m c t h0 g v).left.g (storesB m c t h0 g v).left.v) -∗ K ⟨⟩))
      ⊢ wp frame (wpE (defs₀ (F := F)) Variants.none c none) Set.univ (bodyAt0 t) K := by
  have hc := coversB m c t h0 g v
  unfold ins outsAny outsAt carryAt bodyAt0
  iintro ⟨⟨H0, H1, H2, H3, H4, H5, H6, H7, H8, H9, H10⟩, ⟨H11, ⟨%d12, H12⟩, H13, H14⟩, ⟨HS0, HS1⟩, Hk⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) g v).2.2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (owns_pairs c (ms0_12 t) (hs0_12 t) d12); iexact H12
  isplitl [H13]; · iexact H13
  isplitl [H14]; · iexact H14
  isplitl [HS0]; · iexact HS0
  isplitl [HS1]; · iexact HS1
  iintro ⟨H0, H1, H2, H3, H4, H5, H6, H7, H8, H9, H10, H11, H12, H13, H14, HS0, HS1⟩
  iapply Hk
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11 H12 H13 H14]
  · isplitl [H11]; · iapply (owns_canon c (ms0_11 t) _ hc.x1); iexact H11
    isplitl [H12]; · iapply (owns_rows c (ms0_12 t) (hs0_12 t) _ hc.h); iexact H12
    isplitl [H13]; · iapply (owns_canon c (ms0_13 t) _ hc.info); iexact H13
    iapply (owns_canon c (ms0_14 t) _ hc.route); iexact H14
  isplitl [HS0]; · iapply (owns_canon c scM0_0 _ hc.g); iexact HS0
  iapply (owns_canon c scM0_1 _ hc.v); iexact HS1

end Cert.Kernel2Ideal.Mix

end
-- ==== Proof.Mix.Frame.lean ====
/- The mixer's pipeline: what every point leaves, the body's obligation, the run of the whole program, and its frame. -/
module

public import proofs.«01_k».proof.Proof.Mix.Point
public import Idealize.ShloMosaic.Lib.Claim

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `n` leaves: at a first tile from its blocks alone, at a later tile over what the point before carried on. -/
def left0 (c : Dev nD) : (n : ℕ) → n < cfg0.N → Left F
  | 0, hn => (storesA m c ⟨0, hn⟩ (Nat.zero_mod _)).left
  | n + 1, hn =>
    if h0 : (n + 1) % 4 = 0 then (storesA m c ⟨n + 1, hn⟩ h0).left
    else (storesB m c ⟨n + 1, hn⟩ h0 (left0 c n (Nat.lt_of_succ_lt hn)).g (left0 c n (Nat.lt_of_succ_lt hn)).v).left

theorem left0_A (c : Dev nD) (t : Fin cfg0.N) (h0 : t.val % 4 = 0) : left0 m c t.val t.isLt = (storesA m c t h0).left := by
  obtain ⟨n, hn⟩ := t
  cases n with
  | zero => rfl
  | succ n => exact dif_pos h0

theorem left0_B (c : Dev nD) (t : Fin cfg0.N) (h0 : ¬t.val % 4 = 0) :
    left0 m c t.val t.isLt = (storesB m c t h0 (left0 m c (t.val - 1) (Nat.lt_of_le_of_lt (Nat.sub_le _ _) t.isLt)).g
      (left0 m c (t.val - 1) (Nat.lt_of_le_of_lt (Nat.sub_le _ _) t.isLt)).v).left := by
  obtain ⟨n, hn⟩ := t
  cases n with
  | zero => exact absurd (Nat.zero_mod _) h0
  | succ n => exact dif_neg h0

/-- The carried buffers and the generator register before position `n`. -/
def Held (c : Dev nD) : (n : ℕ) → n ≤ cfg0.N → sProp 𝕄
  | 0, _ => Pipeline.ΦA spec0 c
  | n + 1, hn => iprop(iprop(owns (c : Thread nD τ) scM0_0 fullShare (left0 m c n hn).g ∗ owns (c : Thread nD τ) scM0_1 fullShare (left0 m c n hn).v) ∗ (∃ r, prngReg c r))

theorem Held_zero (c : Dev nD) (n : ℕ) (h : n ≤ cfg0.N) (hz : n = 0) : Held m c n h = Pipeline.ΦA spec0 c := by
  subst hz; rfl

theorem Held_succ (c : Dev nD) (n : ℕ) (hn : n < cfg0.N) :
    Held m c (n + 1) hn = iprop(iprop(owns (c : Thread nD τ) scM0_0 fullShare (left0 m c n hn).g ∗ owns (c : Thread nD τ) scM0_1 fullShare (left0 m c n hn).v) ∗ (∃ r, prngReg c r)) := rfl

theorem Held_pos (c : Dev nD) (n : ℕ) (h : n ≤ cfg0.N) (hz : n ≠ 0) :
    Held m c n h = iprop(iprop(owns (c : Thread nD τ) scM0_0 fullShare (left0 m c (n - 1) (by omega)).g ∗ owns (c : Thread nD τ) scM0_1 fullShare (left0 m c (n - 1) (by omega)).v) ∗ (∃ r, prngReg c r)) := by
  cases n with
  | zero => exact absurd rfl hz
  | succ n => rfl

/-- The pipeline's proof data: inputs keep their blocks, the outputs' buffers end at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (left0 m c t.val t.isLt).x1
    | ⟨12, _⟩ => unpair (left0 m c t.val t.isLt).h
    | ⟨13, _⟩ => (left0 m c t.val t.isLt).info
    | ⟨14, _⟩ => (left0 m c t.val t.isLt).route
  Φ t := Held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Held_castSucc (c : Dev nD) (t : Fin cfg0.N) : (dats m 0 c).Φ t.castSucc = Held m c t.val (Nat.le_of_lt t.isLt) := by
  dsimp only [dats]; exact Pipeline.Dat.Φ_castSucc (Held m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (left0 m c t.val t.isLt).x1 := by dsimp only [dats]
theorem after0_12 (c : Dev nD) (t : Fin cfg0.N) : (dats m 0 c).after 12 t = unpair (left0 m c t.val t.isLt).h := by dsimp only [dats]
theorem after0_13 (c : Dev nD) (t : Fin cfg0.N) : (dats m 0 c).after 13 t = (left0 m c t.val t.isLt).info := by dsimp only [dats]
theorem after0_14 (c : Dev nD) (t : Fin cfg0.N) : (dats m 0 c).after 14 t = (left0 m c t.val t.isLt).route := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = Held m c (t.val + 1) t.isLt from rfl, Held_succ]
  by_cases h0 : t.val % 4 = 0
  · rw [left0_A m c t h0, Held_castSucc m c t]
    by_cases hz : t.val = 0
    · rw [Held_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (bodyA m c t h0 _)
      isplitl [H0 H1 H2 H3 H4 H5 H6 H7 H8 H9 H10]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      isplitl [H11 H12 H13 H14]
      · unfold outsAny
        isplitl [H11]; · iexists _; iexact H11
        isplitl [H12]; · iexists _; iexact H12
        isplitl [H13]; · iexists _; iexact H13
        iexists _; iexact H14
      isplitl [HS0 HS1]
      · unfold carryAny
        isplitl [HS0]; · iexact HS0
        iexact HS1
      unfold ins outsAt carryAt
      iintro ⟨⟨H0, H1, H2, H3, H4, H5, H6, H7, H8, H9, H10⟩, ⟨H11, H12, H13, H14⟩, ⟨HS0, HS1⟩⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · rw [Held_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (bodyA m c t h0 _)
      isplitl [H0 H1 H2 H3 H4 H5 H6 H7 H8 H9 H10]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      isplitl [H11 H12 H13 H14]
      · unfold outsAny
        isplitl [H11]; · iexists _; iexact H11
        isplitl [H12]; · iexists _; iexact H12
        isplitl [H13]; · iexists _; iexact H13
        iexists _; iexact H14
      isplitl [HS0 HS1]
      · unfold carryAny
        isplitl [HS0]; · iexists _; iexact HS0
        iexists _; iexact HS1
      unfold ins outsAt carryAt
      iintro ⟨⟨H0, H1, H2, H3, H4, H5, H6, H7, H8, H9, H10⟩, ⟨H11, H12, H13, H14⟩, ⟨HS0, HS1⟩⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  · have hz : t.val ≠ 0 := fun h => h0 (by rw [h])
    · rw [left0_B m c t h0, Held_castSucc m c t, Held_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (bodyB m c t h0 _ _ _)
      isplitl [H0 H1 H2 H3 H4 H5 H6 H7 H8 H9 H10]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      isplitl [H11 H12 H13 H14]
      · unfold outsAny
        isplitl [H11]; · iexists _; iexact H11
        isplitl [H12]; · iexists _; iexact H12
        isplitl [H13]; · iexists _; iexact H13
        iexists _; iexact H14
      isplitl [HS0 HS1]
      · unfold carryAt
        isplitl [HS0]; · iexact HS0
        iexact HS1
      unfold ins outsAt carryAt
      iintro ⟨⟨H0, H1, H2, H3, H4, H5, H6, H7, H8, H9, H10⟩, ⟨H11, H12, H13, H14⟩, ⟨HS0, HS1⟩⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14

/-- The body table's row at a point is the body there. -/
theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = Held m c 0 (Nat.zero_le _) from rfl, Held_zero m c 0 _ rfl]

theorem hout (c : Dev nD) : (dats m 0 c).Φ (Fin.last cfg0.N) ⊢ Pipeline.ΦA spec0 c := by
  have hN : cfg0.N = 128 := N_0
  rw [show (dats m 0 c).Φ (Fin.last cfg0.N) = Held m c cfg0.N le_rfl from rfl, Held_pos m c _ _ (by omega), PhiA0_eq]
  iintro ⟨⟨HS0, HS1⟩, Hg⟩
  isplitl [HS0 HS1]
  · isplitl [HS0]
    · iexists _; iexact HS0
    iexists _; iexact HS1
  iexact Hg

/-- What the run ends with: every array of the pipeline at what the library computes from the proof data, every other
    unscoped buffer as the region found it, and every semaphore counter at zero. -/
def Ends (r : PUnit × MemSt nD τ sig (Elt F)) : Prop := Pipeline.FramePost cfgs (dats m) 0 (V m) r ∧ r.2.sem = fun _ => 0

-- the run's implicit arguments are found by unifying its conclusion with this one, which takes unfolding plain
-- definitions in a metavariable's type
set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every execution ends, with the arguments unchanged and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The four result arrays end at what the pipeline leaves in them, with the arguments unchanged. -/
theorem run_arrays : θ_run defs (onTc (τ := τ) (main (F := F))) ⟨m, fun _ => 0, ρ⟩ (fun r => ∀ c : Dev nD,
      r.2.mem ((c.tc : Thread nD τ).loc main_v38_0) = (dats m 0 c).arrAt 11 cfg0.N
      ∧ r.2.mem ((c.tc : Thread nD τ).loc main_v38_1) = (dats m 0 c).arrAt 12 cfg0.N
      ∧ r.2.mem ((c.tc : Thread nD τ).loc main_v38_2) = (dats m 0 c).arrAt 13 cfg0.N
      ∧ r.2.mem ((c.tc : Thread nD τ).loc main_v38_3) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h.2.1 c).1 11, (h.2.1 c).1 12, (h.2.1 c).1 13, (h.2.1 c).1 14, h.1.1 c⟩) (θ_run_and (frame_main m ρ) ((θ_run defs _ _).mono (fun _ h => h) (run_main m ρ)))

end Cert.Kernel2Ideal.Mix

end
-- ==== Proof.Mix.Spec.lean ====
/- The mixer's mathematics on one sequence, index by index: the modulated normalisation, the projections, the gated short
   convolution, the window averages of four lengths, the output projection and the second normalisation. -/
module

public import Idealize.ShloMosaic.PureOps.Ideal
public import Idealize.ShloMosaic.PureOps.Ideal.Laws
public import Idealize.ShloMosaic.Lib.ValueIdx
public import Idealize.ShloMosaic.Lib.IdealHost

@[expose] public section

noncomputable section

namespace Cert.Mixer

open Idealize.ShloMosaic
open scoped BigOperators

/-- The mixer's inputs, by their coordinates. -/
structure Args where
  x : Fin 32 → Fin 2048 → Fin 1024 → EReal
  mod : Fin 32 → Fin 6 → Fin 1024 → EReal
  n1 : Fin 1024 → EReal
  n2 : Fin 1024 → EReal
  win : Fin 1024 → Fin 2048 → EReal
  cw : Fin 3 → Fin 512 → EReal
  pw : Fin 4 → Fin 128 → Fin 128 → EReal
  ps : Fin 512 → EReal
  wout : Fin 1024 → Fin 1024 → EReal

/-- One over the root of a row's mean square and a small constant. -/
def rms (row : Fin 1024 → EReal) : EReal :=
  Ideal.rsqrt (Ideal.div (∑ k, row k * row k) (Ideal.ofBits .f32 0x44800000#32) + Ideal.ofBits .f32 0x358637BD#32)

/-- A row normalised, scaled by a gain and a modulation, and shifted. -/
def normed (row gain sc sh : Fin 1024 → EReal) (d : Fin 1024) : EReal :=
  row d * rms row * (gain d * (Ideal.ofBits .f32 0x3F800000#32 + sc d)) + sh d

variable (A : Args) (b : Fin 32)

/-- The first normalisation at a position. -/
def hid (t : Fin 2048) (d : Fin 1024) : EReal := normed (A.x b t) A.n1 (A.mod b 1) (A.mod b 0) d

/-- The input projection. -/
def proj (t : Fin 2048) (e : Fin 2048) : EReal := ∑ d, hid A b t d * A.win d e

/-- The gate times the value, sixteen zeros before the first position: entry `u` is position `u - 16`. -/
def gp (u : ℕ) (c : Fin 512) : EReal :=
  if h : 16 ≤ u ∧ u < 2064 then
    proj A b ⟨u - 16, by omega⟩ ⟨512 + c.val, by omega⟩ * proj A b ⟨u - 16, by omega⟩ ⟨1024 + c.val, by omega⟩
  else 0

/-- The pooled channels, sixteen zeros before the first position. -/
def vp (u : ℕ) (c : Fin 512) : EReal :=
  if h : 16 ≤ u ∧ u < 2064 then proj A b ⟨u - 16, by omega⟩ ⟨1536 + c.val, by omega⟩ else 0

/-- The gated convolution of three taps. -/
def conv (t : Fin 2048) (c : Fin 512) : EReal :=
  proj A b t ⟨c.val, by omega⟩ * (A.cw 0 c * gp A b (t.val + 14) c + A.cw 1 c * gp A b (t.val + 15) c + A.cw 2 c * gp A b (t.val + 16) c)

/-- How many positions a window of length `w` holds. -/
def cnt (w : ℕ) (t : ℕ) : EReal := min (((t + 1 : ℕ) : ℝ) : EReal) (((w : ℕ) : ℝ) : EReal)

/-- The average over a window of length `w`, less the entry itself. -/
def pooled (w : ℕ) (t : ℕ) (c : Fin 512) : EReal :=
  Ideal.div (∑ k ∈ Finset.range w, vp A b (t + 17 - w + k) c) (cnt w t) - vp A b (t + 16) c

/-- A group's averages through its own matrix, scaled. -/
def pool (t : ℕ) (c : Fin 512) : EReal :=
  (∑ k : Fin 128, pooled A b (2 ^ (c.val / 128 + 1)) t ⟨128 * (c.val / 128) + k.val, by omega⟩
    * A.pw ⟨c.val / 128, by omega⟩ k ⟨c.val % 128, by omega⟩) * A.ps c

/-- The two branches side by side. -/
def mixed (t : Fin 2048) (k : Fin 1024) : EReal :=
  if h : k.val < 512 then conv A b t ⟨k.val, h⟩ else pool A b t.val ⟨k.val - 512, by omega⟩

/-- The residual stream after the mixer. -/
def x1 (t : Fin 2048) (d : Fin 1024) : EReal := A.x b t d + A.mod b 2 d * ∑ k, mixed A b t k * A.wout k d

/-- The second normalisation. -/
def h2 (t : Fin 2048) (d : Fin 1024) : EReal := normed (x1 A b t) A.n2 (A.mod b 4) (A.mod b 3) d

/-! ## Window sums -/

/-- Two windows of `n` entries side by side are a window of `2 n`. -/
theorem window_double (f : ℕ → EReal) (n i : ℕ) :
    (∑ k ∈ Finset.range n, f (i + n + k)) + ∑ k ∈ Finset.range n, f (i + k) = ∑ k ∈ Finset.range (n + n), f (i + k) := by
  rw [Finset.sum_range_add, add_comm]
  simp only [add_assoc]

/-- Multiplying by one over a count is dividing by it. -/
theorem mul_div_one (x y : EReal) (h : y ≠ 0) : x * Ideal.div 1 y = Ideal.div x y := by
  unfold Ideal.div
  rw [if_neg h, if_neg h, one_mul]

theorem cnt_ne (w t : ℕ) (h : 0 < w) : cnt w t ≠ 0 := by
  unfold cnt
  rcases min_choice (((t + 1 : ℕ) : ℝ) : EReal) (((w : ℕ) : ℝ) : EReal) with e | e <;> rw [e]
  · exact_mod_cast (Nat.succ_ne_zero t)
  · exact_mod_cast h.ne'

/-- A sum over two halves against a vector that is zero off half `g`. -/
theorem sum_half (f : Fin 256 → EReal) (w : Fin 128 → EReal) (g : ℕ) (hg : g < 2) :
    (∑ k : Fin 256, f k * (if k.val / 128 = g then w ⟨k.val % 128, by omega⟩ else 0)) = ∑ k : Fin 128, f ⟨128 * g + k.val, by omega⟩ * w k := by
  rw [show (∑ k : Fin 256, f k * (if k.val / 128 = g then w ⟨k.val % 128, by omega⟩ else 0))
      = (∑ k : Fin 128, f ⟨k.val, by omega⟩ * (if k.val / 128 = g then w ⟨k.val % 128, by omega⟩ else 0))
        + ∑ k : Fin 128, f ⟨128 + k.val, by omega⟩ * (if (128 + k.val) / 128 = g then w ⟨(128 + k.val) % 128, by omega⟩ else 0) from
    Fin.sum_univ_add (a := 128) (b := 128) fun k : Fin 256 => f k * (if k.val / 128 = g then w ⟨k.val % 128, by omega⟩ else 0)]
  have hk : ∀ k : Fin 128, k.val / 128 = 0 := fun k => by omega
  have hk' : ∀ k : Fin 128, (128 + k.val) / 128 = 1 := fun k => by omega
  have hm : ∀ k : Fin 128, (⟨k.val % 128, by omega⟩ : Fin 128) = k := fun k => Fin.ext (by show k.val % 128 = k.val; omega)
  have hm' : ∀ k : Fin 128, (⟨(128 + k.val) % 128, by omega⟩ : Fin 128) = k := fun k => Fin.ext (by show (128 + k.val) % 128 = k.val; omega)
  simp only [hk, hk', hm, hm']
  obtain rfl | rfl : g = 0 ∨ g = 1 := by omega
  · simp
  · simp

end Cert.Mixer

end
-- ==== Proof.Mix.Tile.lean ====
/- A tile's computed values read at an index: from the tile's blocks and the carried rows, each stage of the mixer is the
   mathematics of `Spec` at the tile's positions. -/
module

public import proofs.«01_k».proof.Proof.Mix.Kit
public import proofs.«01_k».proof.Proof.Mix.Spec
public import Idealize.ShloMosaic.Lib.Pipeline.Value
public import Idealize.ShloMosaic.Lib.ValueIdx

@[expose] public section

set_option maxRecDepth 16384

noncomputable section

namespace Cert.Kernel2Ideal.Mix

open Cert.Kernel2Ideal Cert.Kernel2Ideal.Gen
open Idealize.ShloMosaic Idealize.ShloMosaic.TcCoe
open Idealize.ShloMosaic.ValueIdx
open Cert.Mixer
open scoped BigOperators

/-! ## Layout operations at an index -/

theorem slice2 {α : Type} {n m p q a b : ℕ} (x : (⟨2, ![n, m]⟩ : Shape).Idx → α) (h : (⟨2, ![n, m]⟩ : Shape).Slices ![a, b] ⟨2, ![p, q]⟩)
    (i : Fin p) (j : Fin q) (i' : Fin n) (j' : Fin m) (hi : i'.val = a + i.val) (hj : j'.val = b + j.val) :
    extractStridedSlice ⟨2, ![p, q]⟩ ![a, b] x h (ix2 i j) = x (ix2 i' j') :=
  extractStridedSlice_apply _ _ _ _ _ fun c => by
    match c with
    | ⟨0, _⟩ => exact hi
    | ⟨1, _⟩ => exact hj

theorem row2 {α : Type} {n m : ℕ} (x : (⟨2, ![1, m]⟩ : Shape).Idx → α) (h : (⟨2, ![1, m]⟩ : Shape).Broadcasts ⟨2, ![n, m]⟩) (i : Fin n) (j : Fin m) :
    broadcastTo ⟨2, ![n, m]⟩ x h (ix2 i j) = x (ix2 0 j) :=
  broadcastTo_apply _ _ _ _ fun c => by
    match c with
    | ⟨0, _⟩ => rfl
    | ⟨1, _⟩ => show j.val = if m = 1 then 0 else j.val; split <;> omega

theorem col2 {α : Type} {n m : ℕ} (x : (⟨2, ![n, 1]⟩ : Shape).Idx → α) (h : (⟨2, ![n, 1]⟩ : Shape).Broadcasts ⟨2, ![n, m]⟩) (i : Fin n) (j : Fin m) :
    broadcastTo ⟨2, ![n, m]⟩ x h (ix2 i j) = x (ix2 i 0) :=
  broadcastTo_apply _ _ _ _ fun c => by
    match c with
    | ⟨0, _⟩ => show i.val = if n = 1 then 0 else i.val; split <;> omega
    | ⟨1, _⟩ => rfl

theorem drop3 {α : Type} {n m : ℕ} (x : (⟨3, ![1, n, m]⟩ : Shape).Idx → α) (h : (⟨3, ![1, n, m]⟩ : Shape).ShapeCasts ⟨2, ![n, m]⟩) (i : Fin n) (j : Fin m) :
    shapeCast ⟨2, ![n, m]⟩ x h (ix2 i j) = x (ix3 0 i j) :=
  shapeCast_apply _ _ _ _ (by
    rewrite [Shape.rowMajor_val_three, Shape.rowMajor_val_two]
    show (0 * n + i.val) * m + j.val = i.val * m + j.val
    rw [Nat.zero_mul, Nat.zero_add])

theorem add3 {α : Type} {n m : ℕ} (x : (⟨2, ![n, m]⟩ : Shape).Idx → α) (h : (⟨2, ![n, m]⟩ : Shape).ShapeCasts ⟨3, ![1, n, m]⟩) (i : Fin n) (j : Fin m) :
    shapeCast ⟨3, ![1, n, m]⟩ x h (ix3 0 i j) = x (ix2 i j) :=
  shapeCast_apply _ _ _ _ (by
    rewrite [Shape.rowMajor_val_three, Shape.rowMajor_val_two]
    show i.val * m + j.val = (0 * n + i.val) * m + j.val
    rw [Nat.zero_mul, Nat.zero_add])

theorem same2 {α : Type} {n m : ℕ} (x : (⟨2, ![n, m]⟩ : Shape).Idx → α) (h : (⟨2, ![n, m]⟩ : Shape).ShapeCasts ⟨2, ![n, m]⟩) (i : (⟨2, ![n, m]⟩ : Shape).Idx) :
    shapeCast ⟨2, ![n, m]⟩ x h i = x i :=
  shapeCast_apply _ _ _ _ rfl

theorem col1 {α : Type} {n : ℕ} (x : (⟨1, ![n]⟩ : Shape).Idx → α) (h : (⟨1, ![n]⟩ : Shape).ShapeCasts ⟨2, ![n, 1]⟩) (i : Fin n) :
    shapeCast ⟨2, ![n, 1]⟩ x h (ix2 i 0) = x (ix1 i) :=
  shapeCast_apply _ _ _ _ (by
    rewrite [Shape.rowMajor_val_one, Shape.rowMajor_val_two]
    show i.val = i.val * 1 + 0
    omega)

theorem sumRow (x : FVec Ideal S512x1024 .f32) (hφ) (hacc) (r : Fin 512) :
    multiReduction .add [1] S512 x 0x00000000#32 reduces_S512x1024_S512 hφ hacc (ix1 r) = ∑ k : Fin 1024, x (ix2 r k) := by
  refine (Ideal.multiReduction_add_single x _ reduces_S512x1024_S512 hφ hacc (ix1 r)).trans ?_
  show (∑ k : Fin 1024, x (reduces_S512x1024_S512.lift (ix1 r) k)) = _
  refine Finset.sum_congr rfl fun k _ => congrArg x (funext fun a => Fin.ext ?_)
  match a with
  | ⟨0, _⟩ => rfl
  | ⟨1, _⟩ => rfl

theorem dotIn (h : FVec Ideal S512x1024 .bf16) (U : FVec Ideal S1024x2048 .bf16) (r : Fin 512) (q : Fin 2048) :
    matmul (F := Ideal) dot_S512x1024_S1024x2048_S512x2048_1_0_0_1_n_n none h U (constant S512x2048 .f32 0x00000000#32) (ix2 r q)
      = ∑ k : Fin 1024, h (ix2 r k) * U (ix2 k q) := by
  simp only [matmul]
  rw [Ideal.matmul_constant_zero_apply, ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  refine congrArg₂ (· * ·) (congrArg h (funext fun a => Fin.ext ?_)) (congrArg U (funext fun a => Fin.ext ?_))
  · match a with
    | ⟨0, _⟩ => rfl
    | ⟨1, _⟩ => exact hk
  · match a with
    | ⟨0, _⟩ => exact hk
    | ⟨1, _⟩ => rfl

theorem dotPool (h : FVec Ideal S512x256 .bf16) (U : FVec Ideal S256x256 .bf16) (r : Fin 512) (q : Fin 256) :
    matmul (F := Ideal) dot_S512x256_S256x256_S512x256_1_0_0_1_n_n none h U (constant S512x256 .f32 0x00000000#32) (ix2 r q)
      = ∑ k : Fin 256, h (ix2 r k) * U (ix2 k q) := by
  simp only [matmul]
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  refine congrArg₂ (· * ·) (congrArg h (funext fun a => Fin.ext ?_)) (congrArg U (funext fun a => Fin.ext ?_))
  · match a with
    | ⟨0, _⟩ => rfl
    | ⟨1, _⟩ => exact hk
  · match a with
    | ⟨0, _⟩ => exact hk
    | ⟨1, _⟩ => rfl

theorem dotOut (h : FVec Ideal S512x1024 .bf16) (U : FVec Ideal S1024x1024 .bf16) (r : Fin 512) (q : Fin 1024) :
    matmul (F := Ideal) dot_S512x1024_S1024x1024_S512x1024_1_0_0_1_n_n none h U (constant S512x1024 .f32 0x00000000#32) (ix2 r q)
      = ∑ k : Fin 1024, h (ix2 r k) * U (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  refine congrArg₂ (· * ·) (congrArg h (funext fun a => Fin.ext ?_)) (congrArg U (funext fun a => Fin.ext ?_))
  · match a with
    | ⟨0, _⟩ => rfl
    | ⟨1, _⟩ => exact hk
  · match a with
    | ⟨0, _⟩ => exact hk
    | ⟨1, _⟩ => rfl

/-! ## The blocks of a tile -/

/-- The blocks of tile `s` of sequence `b` hold the mixer's inputs. -/
structure Blocks (A : Args) (b : Fin 32) (s : ℕ) (x0 : Vec Ideal S1x512x1024 .f32) (x1 : Vec Ideal S1x6x1024 .f32) (x2 x3 : Vec Ideal S1x1024 .f32)
    (x4 : Vec Ideal S1x1024x2048 .bf16) (x5 : Vec Ideal S3x512 .f32) (p0 p1 : Vec Ideal S1x256x256 .bf16) (x7 : Vec Ideal S1x512 .f32)
    (x8 : Vec Ideal S1x1024x1024 .bf16) : Prop where
  hs : s < 4
  x : ∀ (r : Fin 512) (d : Fin 1024), x0 (ix3 0 r d) = A.x b ⟨512 * s + r.val, by omega⟩ d
  mod : ∀ (j : Fin 6) (d : Fin 1024), x1 (ix3 0 j d) = A.mod b j d
  n1 : ∀ d : Fin 1024, x2 (ix2 0 d) = A.n1 d
  n2 : ∀ d : Fin 1024, x3 (ix2 0 d) = A.n2 d
  win : ∀ (d : Fin 1024) (e : Fin 2048), x4 (ix3 0 d e) = A.win d e
  cw : ∀ (j : Fin 3) (k : Fin 512), x5 (ix2 j k) = A.cw j k
  pw0 : ∀ k q : Fin 256, p0 (ix3 0 k q) = if k.val / 128 = q.val / 128 then A.pw ⟨q.val / 128, by omega⟩ ⟨k.val % 128, by omega⟩ ⟨q.val % 128, by omega⟩ else 0
  pw1 : ∀ k q : Fin 256, p1 (ix3 0 k q) = if k.val / 128 = q.val / 128 then A.pw ⟨2 + q.val / 128, by omega⟩ ⟨k.val % 128, by omega⟩ ⟨q.val % 128, by omega⟩ else 0
  ps : ∀ k : Fin 512, x7 (ix2 0 k) = A.ps k
  wout : ∀ k d : Fin 1024, x8 (ix3 0 k d) = A.wout k d

section
variable {A : Args} {b : Fin 32} {s : ℕ} {x0 : Vec Ideal S1x512x1024 .f32} {x1 : Vec Ideal S1x6x1024 .f32} {x2 x3 : Vec Ideal S1x1024 .f32}
    {x4 : Vec Ideal S1x1024x2048 .bf16} {x5 : Vec Ideal S3x512 .f32} {p0 p1 : Vec Ideal S1x256x256 .bf16} {x7 : Vec Ideal S1x512 .f32}
    {x8 : Vec Ideal S1x1024x1024 .bf16} (B : Blocks A b s x0 x1 x2 x3 x4 x5 p0 p1 x7 x8)
include B

/-- Position `r` of the tile. -/
abbrev pos (hs : s < 4) (r : Fin 512) : Fin 2048 := ⟨512 * s + r.val, by omega⟩

theorem modRow (j : ℕ) (hj : j < 6) (h : S6x1024.Slices ![j, 0] S1x1024) (d : Fin 1024) :
    extractStridedSlice S1x1024 ![j, 0] (k0_pay4 x1) h (ix2 0 d) = A.mod b ⟨j, hj⟩ d := by
  refine (slice2 (k0_pay4 x1) h 0 d ⟨j, hj⟩ d rfl (Nat.zero_add _).symm).trans ?_
  exact (drop3 x1 _ _ _).trans (B.mod _ _)

theorem xRow (r : Fin 512) (d : Fin 1024) : k0_pay10 x0 (ix2 r d) = A.x b (pos B.hs r) d :=
  (drop3 x0 _ _ _).trans (B.x _ _)

theorem hid_apply (r : Fin 512) (d : Fin 1024) : k0_pay13 x1 x0 x2 (ix2 r d) = hid A b (pos B.hs r) d := by
  have e1 := sumRow (mulf (k0_pay10 x0) (k0_pay10 x0)) (.inl rfl) rfl r
  unfold k0_pay13
  simp only [truncf_apply, addf_apply, mulf_apply]
  rw [row2, row2, col2, modRow B 0 (by decide), xRow B]
  unfold hid normed rms
  rw [mulf_apply, addf_apply, modRow B 1 (by decide), same2, B.n1]
  refine congrArg₂ (· + ·) (congrArg₂ (· * ·) (congrArg (A.x b (pos B.hs r) d * ·) (congrArg Ideal.rsqrt (congrArg₂ (· + ·) (congrArg₂ Ideal.div ?_ rfl) rfl))) rfl) rfl
  rw [col1, e1]
  exact Finset.sum_congr rfl fun k _ => by rw [mulf_apply, xRow B]

theorem proj_apply (r : Fin 512) (e : Fin 2048) : k0_pay14 (k0_pay13 x1 x0 x2) x4 (ix2 r e) = proj A b (pos B.hs r) e := by
  unfold k0_pay14
  rw [dotIn]
  exact Finset.sum_congr rfl fun k _ => congrArg₂ (· * ·) (hid_apply B r k) ((drop3 x4 _ _ _).trans (B.win _ _))

theorem part_apply (o : ℕ) (ho : o ≤ 1536) (h : S512x2048.Slices ![0, o] S512x512) (r c : Fin 512) :
    extractStridedSlice S512x512 ![0, o] (k0_pay14 (k0_pay13 x1 x0 x2) x4) h (ix2 r c) = proj A b (pos B.hs r) ⟨o + c.val, by omega⟩ :=
  (slice2 _ h r c r ⟨o + c.val, by omega⟩ (Nat.zero_add _).symm rfl).trans (proj_apply B r _)

theorem gate_apply (r c : Fin 512) : k0_pay16 (k0_pay13 x1 x0 x2) x4 (ix2 r c) = gp A b (512 * s + r.val + 16) c := by
  have hs := B.hs
  unfold k0_pay16 gp
  rw [dif_pos (by omega)]
  simp only [mulf_apply]
  rw [part_apply B 512 (by decide), part_apply B 1024 (by decide)]
  exact congrArg₂ (· * ·) (congrArg (proj A b · _) (Fin.ext (by show 512 * s + r.val = 512 * s + r.val + 16 - 16; omega)))
    (congrArg (proj A b · _) (Fin.ext (by show 512 * s + r.val = 512 * s + r.val + 16 - 16; omega)))

theorem vals_apply (r c : Fin 512) : k0_pay15 (k0_pay13 x1 x0 x2) x4 (ix2 r c) = vp A b (512 * s + r.val + 16) c := by
  have hs := B.hs
  unfold k0_pay15 vp
  rw [dif_pos (by omega)]
  rw [part_apply B 1536 (by decide)]
  exact congrArg (proj A b · _) (Fin.ext (by show 512 * s + r.val = 512 * s + r.val + 16 - 16; omega))

theorem conv_apply (v51 v55 : Vec Ideal S512x512 .f32) (h51 : ∀ r c : Fin 512, v51 (ix2 r c) = gp A b (512 * s + r.val + 14) c)
    (h55 : ∀ r c : Fin 512, v55 (ix2 r c) = gp A b (512 * s + r.val + 15) c) (r c : Fin 512) :
    k0_pay19 (k0_pay8 x5) (k0_pay13 x1 x0 x2) x4 v51 v55 (ix2 r c) = conv A b (pos B.hs r) c := by
  have tap (j : ℕ) (hj : j < 3) (h : S3x512.Slices ![j, 0] S1x512) : extractStridedSlice S1x512 ![j, 0] (k0_pay8 x5) h (ix2 0 c) = A.cw ⟨j, hj⟩ c := by
    refine (slice2 (k0_pay8 x5) h 0 c ⟨j, hj⟩ c rfl (Nat.zero_add _).symm).trans ?_
    exact (same2 x5 _ _).trans (B.cw _ _)
  unfold k0_pay19 conv
  simp only [mulf_apply, addf_apply]
  rw [part_apply B 0 (by decide), row2, row2, row2, tap 0 (by decide), tap 1 (by decide), tap 2 (by decide), h51, h55, gate_apply B]
  exact congrArg₂ (· * ·) (congrArg (proj A b _) (Fin.ext (Nat.zero_add _))) rfl

/-! ## The window averages -/

omit B in
theorem count_apply (hs : s < 4) (r : Fin 512) : k0_pay20 (F := Ideal) (BitVec.ofNat 32 s) (ix2 r 0) = (((512 * s + r.val + 1 : ℕ) : ℝ) : EReal) := by
  have ei := iota_single_apply .tc S512x1 32 0 iota_S512x1_d0_w32 (ix2 r 0)
  show (((Scalar.muli (BitVec.ofNat 32 s) 512#32 + iota .tc S512x1 32 [0] iota_S512x1_d0_w32 (ix2 r 0) + 1#32 : BitVec 32).toInt : ℝ) : EReal) = _
  rw [ei]
  have e : (Scalar.muli (BitVec.ofNat 32 s) 512#32 + BitVec.ofNat 32 r.val + 1#32 : BitVec 32).toNat = 512 * s + r.val + 1 := by
    show (BitVec.ofNat 32 s * 512#32 + BitVec.ofNat 32 r.val + 1#32 : BitVec 32).toNat = _
    simp only [BitVec.toNat_add, BitVec.toNat_mul, BitVec.toNat_ofNat]
    omega
  refine (congrArg (fun z : ℤ => ((z : ℝ) : EReal)) (BitVec.toInt_eq_toNat_of_lt (x := Scalar.muli (BitVec.ofNat 32 s) 512#32 + BitVec.ofNat 32 r.val + 1#32) (by rw [e]; omega))).trans ?_
  rw [e]
  simp

omit B in
/-- Adding a shifted copy doubles every row's window. -/
theorem double_apply {n n' a : ℕ} (a' : ℕ) (ha : a' = a + a) (f : Fin 128 → ℕ → EReal) (x : FVec Ideal ⟨2, ![n, 128]⟩ .f32)
    (hx : ∀ (i : Fin n) (l : Fin 128), x (ix2 i l) = ∑ k ∈ Finset.range a, f l (i.val + k))
    (h1 : (⟨2, ![n, 128]⟩ : Shape).Slices ![a, 0] ⟨2, ![n', 128]⟩) (h0 : (⟨2, ![n, 128]⟩ : Shape).Slices ![0, 0] ⟨2, ![n', 128]⟩) (hn : n' + a ≤ n)
    (i : Fin n') (l : Fin 128) :
    (addf (extractStridedSlice ⟨2, ![n', 128]⟩ ![a, 0] x h1) (extractStridedSlice ⟨2, ![n', 128]⟩ ![0, 0] x h0) : FVec Ideal ⟨2, ![n', 128]⟩ .f32) (ix2 i l)
      = ∑ k ∈ Finset.range a', f l (i.val + k) := by
  subst ha
  rw [addf_apply, slice2 x h1 i l ⟨a + i.val, by omega⟩ l rfl (Nat.zero_add _).symm, slice2 x h0 i l ⟨i.val, by omega⟩ l (Nat.zero_add _).symm (Nat.zero_add _).symm,
    hx, hx, ← window_double]
  exact congrArg₂ (· + ·) (Finset.sum_congr rfl fun k _ => congrArg (f l) (by show a + i.val + k = _; omega)) rfl

omit B in
/-- A window's sum over its count, less the entry, is the average of `Spec`. -/
theorem avg_apply (w o : ℕ) (hw : o + w = 17) (w0 : 0 < w) (r : Fin 512) (c : Fin 512) (z : EReal) (hz : z = ((w : ℕ) : ℝ))
    (S v : EReal) (hS : S = ∑ k ∈ Finset.range w, vp A b (512 * s + (o + r.val + k)) c) (hv : v = vp A b (512 * s + r.val + 16) c) :
    S * Ideal.div (Ideal.ofBits .f32 0x3F800000#32) (min ((((512 * s + r.val + 1 : ℕ) : ℝ)) : EReal) z) - v = pooled A b w (512 * s + r.val) c := by
  unfold pooled
  rw [Ideal.ofBits_one_f32, hz]
  show S * Ideal.div 1 (cnt w (512 * s + r.val)) - v = _
  rw [mul_div_one _ _ (cnt_ne w (512 * s + r.val) w0), hS, hv]
  refine congrArg₂ (· - ·) (congrArg₂ Ideal.div (Finset.sum_congr rfl fun k _ => congrArg (vp A b · c) ?_) rfl) rfl
  omega

omit B in
theorem two_eq : Ideal.ofBits .f32 0x40000000#32 = ((2 : ℕ) : ℝ) := by
  simp [Ideal.ofBits, Ideal.ieee, -Nat.cast_ofNat]
  exact (EReal.coe_mul 8388608 _).symm.trans (congrArg _ (by norm_num))
omit B in
theorem four_eq : Ideal.ofBits .f32 0x40800000#32 = ((4 : ℕ) : ℝ) := by
  simp [Ideal.ofBits, Ideal.ieee, -Nat.cast_ofNat]
  exact (EReal.coe_mul 8388608 _).symm.trans (congrArg _ (by norm_num))
omit B in
theorem eight_eq : Ideal.ofBits .f32 0x41000000#32 = ((8 : ℕ) : ℝ) := by
  simp [Ideal.ofBits, Ideal.ieee, -Nat.cast_ofNat]
  exact (EReal.coe_mul 8388608 _).symm.trans (congrArg _ (by norm_num))
omit B in
theorem sixteen_eq : Ideal.ofBits .f32 0x41800000#32 = ((16 : ℕ) : ℝ) := by
  simp [Ideal.ofBits, Ideal.ieee, -Nat.cast_ofNat]
  exact (EReal.coe_mul 8388608 _).symm.trans (congrArg _ (by norm_num))

/-- The tile's pooled channels of one group. -/
theorem group_apply (o : ℕ) (ho : o ≤ 384) (h : S512x512.Slices ![0, o] S512x128) (r : Fin 512) (l : Fin 128) :
    extractStridedSlice S512x128 ![0, o] (k0_pay15 (k0_pay13 x1 x0 x2) x4) h (ix2 r l) = vp A b (512 * s + r.val + 16) ⟨o + l.val, by omega⟩ :=
  (slice2 _ h r l r ⟨o + l.val, by omega⟩ (Nat.zero_add _).symm rfl).trans (vals_apply B r _)

/-- A group's pooled channels from the tile's first carried row on. -/
def lane (A : Args) (b : Fin 32) (s o : ℕ) (ho : o ≤ 384) (l : Fin 128) (u : ℕ) : EReal := vp A b (512 * s + u) ⟨o + l.val, by omega⟩

omit B in
/-- One row's window is the row. -/
theorem single_apply {n : ℕ} (o : ℕ) (ho : o ≤ 384) (v : FVec Ideal ⟨2, ![n, 128]⟩ .f32)
    (hv : ∀ (i : Fin n) (l : Fin 128), v (ix2 i l) = vp A b (512 * s + i.val) ⟨o + l.val, by omega⟩) (i : Fin n) (l : Fin 128) :
    v (ix2 i l) = ∑ k ∈ Finset.range 1, lane A b s o ho l (i.val + k) := by
  unfold lane
  rw [hv, Finset.sum_range_one, Nat.add_zero]

theorem pool0 (v : Vec Ideal S528x128 .f32) (hv : ∀ (i : Fin 528) (l : Fin 128), v (ix2 i l) = vp A b (512 * s + i.val) ⟨0 + l.val, by omega⟩) (r : Fin 512) (l : Fin 128) :
    k0_pay25 (k0_pay21 (k0_pay13 x1 x0 x2) x4) (k0_pay22 v) (k0_pay23 (BitVec.ofNat 32 s)) k0_pay24 (ix2 r l)
      = pooled A b 2 (512 * s + r.val) ⟨0 + l.val, by omega⟩ := by
  unfold k0_pay25 k0_pay21 k0_pay22 k0_pay23 k0_pay24
  simp only [subf_apply, mulf_apply]
  rw [col2]
  simp only [divf_apply, minimumf_apply, broadcast_apply]
  rw [count_apply B.hs r]
  have d1 := double_apply 2 rfl (lane A b s 0 (by decide)) v (single_apply 0 (by decide) v hv)
    slices_S528x128_o1_0_S527x128 slices_S528x128_o0_0_S527x128 (by decide)
  refine avg_apply 2 15 rfl (by decide) r _ _ two_eq _ _ ?_ (group_apply B 0 (by decide) _ r l)
  exact (slice2 _ _ r l ⟨15 + r.val, by omega⟩ l rfl (Nat.zero_add _).symm).trans (d1 _ _)

theorem pool1 (v : Vec Ideal S528x128 .f32) (hv : ∀ (i : Fin 528) (l : Fin 128), v (ix2 i l) = vp A b (512 * s + i.val) ⟨128 + l.val, by omega⟩) (r : Fin 512) (l : Fin 128) :
    k0_pay26 (k0_pay15 (k0_pay13 x1 x0 x2) x4) (k0_pay20 (BitVec.ofNat 32 s)) v (ix2 r l)
      = pooled A b 4 (512 * s + r.val) ⟨128 + l.val, by omega⟩ := by
  unfold k0_pay26
  simp only [subf_apply, mulf_apply]
  rw [col2]
  simp only [divf_apply, minimumf_apply, broadcast_apply]
  rw [count_apply B.hs r]
  have d1 := double_apply 2 rfl (lane A b s 128 (by decide)) v (single_apply 128 (by decide) v hv)
    slices_S528x128_o1_0_S527x128 slices_S528x128_o0_0_S527x128 (by decide)
  have d2 := double_apply 4 rfl (lane A b s 128 (by decide)) _ d1
    slices_S527x128_o2_0_S525x128 slices_S527x128_o0_0_S525x128 (by decide)
  refine avg_apply 4 13 rfl (by decide) r _ _ four_eq _ _ ?_ (group_apply B 128 (by decide) _ r l)
  exact (slice2 _ _ r l ⟨13 + r.val, by omega⟩ l rfl (Nat.zero_add _).symm).trans (d2 _ _)

theorem pool2 (v : Vec Ideal S528x128 .f32) (hv : ∀ (i : Fin 528) (l : Fin 128), v (ix2 i l) = vp A b (512 * s + i.val) ⟨256 + l.val, by omega⟩) (r : Fin 512) (l : Fin 128) :
    k0_pay27 (k0_pay15 (k0_pay13 x1 x0 x2) x4) (k0_pay20 (BitVec.ofNat 32 s)) v (ix2 r l)
      = pooled A b 8 (512 * s + r.val) ⟨256 + l.val, by omega⟩ := by
  unfold k0_pay27
  simp only [subf_apply, mulf_apply]
  rw [col2]
  simp only [divf_apply, minimumf_apply, broadcast_apply]
  rw [count_apply B.hs r]
  have d1 := double_apply 2 rfl (lane A b s 256 (by decide)) v (single_apply 256 (by decide) v hv)
    slices_S528x128_o1_0_S527x128 slices_S528x128_o0_0_S527x128 (by decide)
  have d2 := double_apply 4 rfl (lane A b s 256 (by decide)) _ d1
    slices_S527x128_o2_0_S525x128 slices_S527x128_o0_0_S525x128 (by decide)
  have d3 := double_apply 8 rfl (lane A b s 256 (by decide)) _ d2 slices_S525x128_o4_0_S521x128 slices_S525x128_o0_0_S521x128 (by decide)
  refine avg_apply 8 9 rfl (by decide) r _ _ eight_eq _ _ ?_ (group_apply B 256 (by decide) _ r l)
  exact (slice2 _ _ r l ⟨9 + r.val, by omega⟩ l rfl (Nat.zero_add _).symm).trans (d3 _ _)

/-- The fourth group, its average taken from two halves. -/
def pool16 (v70 : FVec Ideal S512x1 .f32) (v119 : FVec Ideal S512x128 .f32) (v127 v128 : FVec Ideal S521x128 .f32) : FVec Ideal S512x128 .f32 :=
  subf (mulf (extractStridedSlice S512x128 ![1, 0] (addf (extractStridedSlice S513x128 ![8, 0] (addf v127 v128) slices_S521x128_o8_0_S513x128)
      (extractStridedSlice S513x128 ![0, 0] (addf v127 v128) slices_S521x128_o0_0_S513x128)) slices_S513x128_o1_0_S512x128)
    (broadcastTo S512x128 (divf (broadcast S512x1 (Scalar.ofBits (F := Ideal) .f32 0x3F800000#32))
      (minimumf v70 (broadcast S512x1 (Scalar.ofBits (F := Ideal) .f32 0x41800000#32)))) broadcasts_S512x1_S512x128)) v119

theorem pool3 (v : Vec Ideal S528x128 .f32) (hv : ∀ (i : Fin 528) (l : Fin 128), v (ix2 i l) = vp A b (512 * s + i.val) ⟨384 + l.val, by omega⟩) (r : Fin 512) (l : Fin 128) :
    pool16 (k0_pay20 (BitVec.ofNat 32 s)) (k0_pay28 (k0_pay15 (k0_pay13 x1 x0 x2) x4)) (k0_pay30 v) (k0_pay31 v) (ix2 r l)
      = pooled A b 16 (512 * s + r.val) ⟨384 + l.val, by omega⟩ := by
  unfold pool16 k0_pay28 k0_pay30 k0_pay31 k0_pay29
  simp only [subf_apply, mulf_apply]
  rw [col2]
  simp only [divf_apply, minimumf_apply, broadcast_apply]
  rw [count_apply B.hs r]
  have d1 := double_apply 2 rfl (lane A b s 384 (by decide)) v (single_apply 384 (by decide) v hv)
    slices_S528x128_o1_0_S527x128 slices_S528x128_o0_0_S527x128 (by decide)
  have d2 := double_apply 4 rfl (lane A b s 384 (by decide)) _ d1
    slices_S527x128_o2_0_S525x128 slices_S527x128_o0_0_S525x128 (by decide)
  have d3 := double_apply 8 rfl (lane A b s 384 (by decide)) _ d2 slices_S525x128_o4_0_S521x128 slices_S525x128_o0_0_S521x128 (by decide)
  have d4 := double_apply 16 rfl (lane A b s 384 (by decide)) _ d3 slices_S521x128_o8_0_S513x128 slices_S521x128_o0_0_S513x128 (by decide)
  refine avg_apply 16 1 rfl (by decide) r _ _ sixteen_eq _ _ ?_ (group_apply B 384 (by decide) _ r l)
  exact (slice2 _ _ r l ⟨1 + r.val, by omega⟩ l rfl (Nat.zero_add _).symm).trans (d4 _ _)

end

end Cert.Kernel2Ideal.Mix

end
-- ==== Proof.Mix.Out.lean ====
/- A tile's two results read at an index: the branches side by side, the residual stream and its second normalisation. -/
module

public import proofs.«01_k».proof.Proof.Mix.Tile

@[expose] public section

set_option maxRecDepth 16384

noncomputable section

namespace Cert.Kernel2Ideal.Mix

open Cert.Kernel2Ideal Cert.Kernel2Ideal.Gen
open Idealize.ShloMosaic Idealize.ShloMosaic.TcCoe
open Idealize.ShloMosaic.ValueIdx
open Cert.Mixer
open scoped BigOperators

theorem cat4 (v0 v1 v2 v3 : FVec Ideal S512x128 .f32) (r c : Fin 512) :
    concatenate S512x512 1 [⟨S512x128, v0⟩, ⟨S512x128, v1⟩, ⟨S512x128, v2⟩, ⟨S512x128, v3⟩] concatenates_S512x128_S512x128_S512x128_S512x128_S512x512_d1 (ix2 r c)
      = (![v0, v1, v2, v3] : Fin 4 → FVec Ideal S512x128 .f32) ⟨c.val / 128, by omega⟩ (ix2 r ⟨c.val % 128, by omega⟩) :=
  concatenate_ofFn_apply (t := S512x512) (1 : Fin 2) (![v0, v1, v2, v3] : Fin 4 → FVec Ideal S512x128 .f32)
    concatenates_S512x128_S512x128_S512x128_S512x128_S512x512_d1 rfl 128 rfl (ix2 r c) ⟨c.val / 128, by omega⟩ rfl (ix2 r ⟨c.val % 128, by omega⟩) rfl
    (fun a ha => by
      match a with
      | ⟨0, _⟩ => rfl
      | ⟨1, _⟩ => exact absurd rfl ha)

theorem cat256 (v0 v1 : FVec Ideal S512x256 .f32) (r c : Fin 512) :
    concatenate S512x512 1 [⟨S512x256, v0⟩, ⟨S512x256, v1⟩] concatenates_S512x256_S512x256_S512x512_d1 (ix2 r c)
      = (![v0, v1] : Fin 2 → FVec Ideal S512x256 .f32) ⟨c.val / 256, by omega⟩ (ix2 r ⟨c.val % 256, by omega⟩) :=
  concatenate_ofFn_apply (t := S512x512) (1 : Fin 2) (![v0, v1] : Fin 2 → FVec Ideal S512x256 .f32)
    concatenates_S512x256_S512x256_S512x512_d1 rfl 256 rfl (ix2 r c) ⟨c.val / 256, by omega⟩ rfl (ix2 r ⟨c.val % 256, by omega⟩) rfl
    (fun a ha => by
      match a with
      | ⟨0, _⟩ => rfl
      | ⟨1, _⟩ => exact absurd rfl ha)

theorem cat512 (v0 v1 : FVec Ideal S512x512 .f32) (r : Fin 512) (c : Fin 1024) :
    concatenate S512x1024 1 [⟨S512x512, v0⟩, ⟨S512x512, v1⟩] concatenates_S512x512_S512x512_S512x1024_d1 (ix2 r c)
      = (![v0, v1] : Fin 2 → FVec Ideal S512x512 .f32) ⟨c.val / 512, by omega⟩ (ix2 r ⟨c.val % 512, by omega⟩) :=
  concatenate_ofFn_apply (t := S512x1024) (1 : Fin 2) (![v0, v1] : Fin 2 → FVec Ideal S512x512 .f32)
    concatenates_S512x512_S512x512_S512x1024_d1 rfl 512 rfl (ix2 r c) ⟨c.val / 512, by omega⟩ rfl (ix2 r ⟨c.val % 512, by omega⟩) rfl
    (fun a ha => by
      match a with
      | ⟨0, _⟩ => rfl
      | ⟨1, _⟩ => exact absurd rfl ha)

section
variable {A : Args} {b : Fin 32} {s : ℕ} {x0 : Vec Ideal S1x512x1024 .f32} {x1 : Vec Ideal S1x6x1024 .f32} {x2 x3 : Vec Ideal S1x1024 .f32}
    {x4 : Vec Ideal S1x1024x2048 .bf16} {x5 : Vec Ideal S3x512 .f32} {p0 p1 : Vec Ideal S1x256x256 .bf16} {x7 : Vec Ideal S1x512 .f32}
    {x8 : Vec Ideal S1x1024x1024 .bf16} (B : Blocks A b s x0 x1 x2 x3 x4 x5 p0 p1 x7 x8)

/-- The four groups side by side are the averages of every channel. -/
theorem groups_apply (hs : s < 4) (v0 v1 v2 v3 : FVec Ideal S512x128 .f32)
    (h0 : ∀ (r : Fin 512) (l : Fin 128), v0 (ix2 r l) = pooled A b 2 (512 * s + r.val) ⟨0 + l.val, by omega⟩)
    (h1 : ∀ (r : Fin 512) (l : Fin 128), v1 (ix2 r l) = pooled A b 4 (512 * s + r.val) ⟨128 + l.val, by omega⟩)
    (h2 : ∀ (r : Fin 512) (l : Fin 128), v2 (ix2 r l) = pooled A b 8 (512 * s + r.val) ⟨256 + l.val, by omega⟩)
    (h3 : ∀ (r : Fin 512) (l : Fin 128), v3 (ix2 r l) = pooled A b 16 (512 * s + r.val) ⟨384 + l.val, by omega⟩) (r c : Fin 512) :
    concatenate S512x512 1 [⟨S512x128, v0⟩, ⟨S512x128, v1⟩, ⟨S512x128, v2⟩, ⟨S512x128, v3⟩] concatenates_S512x128_S512x128_S512x128_S512x128_S512x512_d1 (ix2 r c)
      = pooled A b (2 ^ (c.val / 128 + 1)) (512 * s + r.val) c := by
  rw [cat4]
  obtain ⟨g, hg, l, hl⟩ : ∃ g : Fin 4, ∃ hg : c.val / 128 = g.val, ∃ l : Fin 128, c.val = 128 * g.val + l.val :=
    ⟨⟨c.val / 128, by omega⟩, rfl, ⟨c.val % 128, by omega⟩, (Nat.div_add_mod _ _).symm⟩
  have e1 : (⟨c.val / 128, by omega⟩ : Fin 4) = g := Fin.ext hg
  have e2 : (⟨c.val % 128, by omega⟩ : Fin 128) = l := Fin.ext (by show c.val % 128 = l.val; omega)
  rw [e1, e2, hg]
  match g, hl with
  | ⟨0, _⟩, hl => exact (h0 r l).trans (congrArg (pooled A b 2 _) (Fin.ext (by show 0 + l.val = c.val; simp only at hl; omega)))
  | ⟨1, _⟩, hl => exact (h1 r l).trans (congrArg (pooled A b 4 _) (Fin.ext (by show 128 + l.val = c.val; simp only at hl; omega)))
  | ⟨2, _⟩, hl => exact (h2 r l).trans (congrArg (pooled A b 8 _) (Fin.ext (by show 256 + l.val = c.val; simp only at hl; omega)))
  | ⟨3, _⟩, hl => exact (h3 r l).trans (congrArg (pooled A b 16 _) (Fin.ext (by show 384 + l.val = c.val; simp only at hl; omega)))

/-- Half of the averages through one matrix of two blocks. -/
theorem half_apply (v : FVec Ideal S512x512 .bf16) (hv : ∀ r c : Fin 512, v (ix2 r c) = pooled A b (2 ^ (c.val / 128 + 1)) (512 * s + r.val) c)
    (o g₀ : ℕ) (hg₀ : g₀ ≤ 2) (ho : o = 128 * g₀) (h : S512x512.Slices ![0, o] S512x256) (p : Vec Ideal S1x256x256 .bf16)
    (hp : ∀ k q : Fin 256, p (ix3 0 k q) = if k.val / 128 = q.val / 128 then A.pw ⟨g₀ + q.val / 128, by omega⟩ ⟨k.val % 128, by omega⟩ ⟨q.val % 128, by omega⟩ else 0)
    (r : Fin 512) (q : Fin 256) (c : Fin 512) (hc : c.val = o + q.val) :
    matmul (F := Ideal) (φ₁ := .bf16) (φ₂ := .bf16) dot_S512x256_S256x256_S512x256_1_0_0_1_n_n none (extractStridedSlice S512x256 ![0, o] v h) (shapeCast S256x256 p shapeCasts_S1x256x256_S256x256 : FVec Ideal S256x256 .bf16)
        (constant S512x256 .f32 0x00000000#32) (ix2 r q)
      = ∑ k : Fin 128, pooled A b (2 ^ (c.val / 128 + 1)) (512 * s + r.val) ⟨128 * (c.val / 128) + k.val, by omega⟩
          * A.pw ⟨c.val / 128, by omega⟩ k ⟨c.val % 128, by omega⟩ := by
  rw [dotPool]
  have e : ∀ k : Fin 256, extractStridedSlice S512x256 ![0, o] v h (ix2 r k) * shapeCast S256x256 p shapeCasts_S1x256x256_S256x256 (ix2 k q)
      = (fun k : Fin 256 => pooled A b (2 ^ ((o + k.val) / 128 + 1)) (512 * s + r.val) ⟨o + k.val, by omega⟩) k
        * (if k.val / 128 = q.val / 128 then (fun j : Fin 128 => A.pw ⟨g₀ + q.val / 128, by omega⟩ j ⟨q.val % 128, by omega⟩) ⟨k.val % 128, by omega⟩ else 0) := fun k => by
    refine congrArg₂ (· * ·) ?_ ((drop3 p _ _ _).trans (hp k q))
    exact (slice2 v h r k r ⟨o + k.val, by omega⟩ (Nat.zero_add _).symm rfl).trans (hv _ _)
  refine (Finset.sum_congr rfl fun k _ => e k).trans ((sum_half (fun k : Fin 256 => pooled A b (2 ^ ((o + k.val) / 128 + 1)) (512 * s + r.val) ⟨o + k.val, by omega⟩)
    (fun j : Fin 128 => A.pw ⟨g₀ + q.val / 128, by omega⟩ j ⟨q.val % 128, by omega⟩) (q.val / 128) (by omega)).trans ?_)
  refine Finset.sum_congr rfl fun k _ => ?_
  have eg : c.val / 128 = g₀ + q.val / 128 := by omega
  have e2 : (o + (128 * (q.val / 128) + k.val)) / 128 = c.val / 128 := by omega
  refine congrArg₂ (· * ·) ?_ ?_
  · show pooled A b (2 ^ ((o + (128 * (q.val / 128) + k.val)) / 128 + 1)) _ _ = _
    rw [e2]
    exact congrArg (pooled A b _ _) (Fin.ext (by show o + (128 * (q.val / 128) + k.val) = 128 * (c.val / 128) + k.val; omega))
  · refine congr (congrFun (congrArg A.pw (Fin.ext eg.symm)) k) (Fin.ext ?_)
    show q.val % 128 = c.val % 128
    omega

include B

theorem mixed_apply (v63 : FVec Ideal S512x512 .f32) (h63 : ∀ r c : Fin 512, v63 (ix2 r c) = conv A b (pos B.hs r) c) (v70 : FVec Ideal S512x1 .f32)
    (v83 v99 v118 v119 : FVec Ideal S512x128 .f32) (v127 v128 : FVec Ideal S521x128 .f32)
    (h0 : ∀ (r : Fin 512) (l : Fin 128), v83 (ix2 r l) = pooled A b 2 (512 * s + r.val) ⟨0 + l.val, by omega⟩)
    (h1 : ∀ (r : Fin 512) (l : Fin 128), v99 (ix2 r l) = pooled A b 4 (512 * s + r.val) ⟨128 + l.val, by omega⟩)
    (h2 : ∀ (r : Fin 512) (l : Fin 128), v118 (ix2 r l) = pooled A b 8 (512 * s + r.val) ⟨256 + l.val, by omega⟩)
    (h3 : ∀ (r : Fin 512) (l : Fin 128), pool16 v70 v119 v127 v128 (ix2 r l) = pooled A b 16 (512 * s + r.val) ⟨384 + l.val, by omega⟩)
    (r : Fin 512) (k : Fin 1024) :
    k0_pay34 (k0_pay9 x7) v63 v70 v83 v99 v118 v119 v127 v128 p0 p1 (ix2 r k) = mixed A b (pos B.hs r) k := by
  have hcat := groups_apply B.hs v83 v99 v118 (pool16 v70 v119 v127 v128) h0 h1 h2 h3
  unfold pool16 at hcat
  unfold k0_pay34 mixed
  simp only [truncf_apply]
  refine (cat512 _ _ r k).trans ?_
  by_cases hk : k.val < 512
  · rw [dif_pos hk]
    have e1 : (⟨k.val / 512, by omega⟩ : Fin 2) = 0 := Fin.ext (by show k.val / 512 = 0; omega)
    have e2 : (⟨k.val % 512, by omega⟩ : Fin 512) = ⟨k.val, hk⟩ := Fin.ext (by show k.val % 512 = k.val; omega)
    rw [e1, e2]
    exact h63 _ _
  · rw [dif_neg hk]
    have e1 : (⟨k.val / 512, by omega⟩ : Fin 2) = 1 := Fin.ext (by show k.val / 512 = 1; omega)
    have e2 : (⟨k.val % 512, by omega⟩ : Fin 512) = ⟨k.val - 512, by omega⟩ := Fin.ext (by show k.val % 512 = k.val - 512; omega)
    rw [e1, e2]
    generalize (⟨k.val - 512, by omega⟩ : Fin 512) = c
    show mulf _ _ (ix2 r c) = _
    rw [mulf_apply, cat256]
    unfold Cert.Mixer.pool
    refine congrArg₂ (· * ·) ?_ ?_
    · by_cases hc : c.val < 256
      · have e1 : (⟨c.val / 256, by omega⟩ : Fin 2) = 0 := Fin.ext (by show c.val / 256 = 0; omega)
        rw [e1]
        exact half_apply _ hcat 0 0 (by decide) rfl _ p0 (fun k q => (B.pw0 k q).trans (by simp only [Nat.zero_add])) r _ c (by show c.val = 0 + c.val % 256; omega)
      · have e1 : (⟨c.val / 256, by omega⟩ : Fin 2) = 1 := Fin.ext (by show c.val / 256 = 1; omega)
        rw [e1]
        exact half_apply _ hcat 256 2 (by decide) rfl _ p1 B.pw1 r _ c (by show c.val = 256 + c.val % 256; omega)
    · rw [row2]
      unfold k0_pay9
      exact (same2 x7 _ _).trans (B.ps _)

theorem x1_apply (m : FVec Ideal S512x1024 .bf16) (hm : ∀ (r : Fin 512) (k : Fin 1024), m (ix2 r k) = mixed A b (pos B.hs r) k) (r : Fin 512) (d : Fin 1024) :
    k0_pay36 (k0_pay5 x1) (k0_pay10 x0) m (k0_pay35 x8) (ix2 r d) = Cert.Mixer.x1 A b (pos B.hs r) d := by
  unfold k0_pay36 Cert.Mixer.x1
  simp only [addf_apply, mulf_apply]
  rw [xRow B, row2, dotOut]
  refine congrArg (_ + ·) (congrArg₂ (· * ·) (modRow B 2 (by decide) slices_S6x1024_o2_0_S1x1024 d) (Finset.sum_congr rfl fun k _ => congrArg₂ (· * ·) (hm r k) ?_))
  exact (drop3 x8 _ _ _).trans (B.wout _ _)

theorem h2_apply (m : FVec Ideal S512x1024 .bf16) (hm : ∀ (r : Fin 512) (k : Fin 1024), m (ix2 r k) = mixed A b (pos B.hs r) k) (r : Fin 512) (d : Fin 1024) :
    k0_pay38 (k0_pay5 x1) (k0_pay6 x1) (k0_pay7 x1) (k0_pay10 x0) m (k0_pay35 x8) x3 (ix2 r d) = h2 A b (pos B.hs r) d := by
  have hx := x1_apply B m hm
  have e1 := sumRow (mulf (k0_pay36 (k0_pay5 x1) (k0_pay10 x0) m (k0_pay35 x8)) (k0_pay36 (k0_pay5 x1) (k0_pay10 x0) m (k0_pay35 x8))) (.inl rfl) rfl r
  unfold k0_pay38
  simp only [addf_apply, mulf_apply]
  rw [row2, row2, col2, hx]
  unfold h2 normed rms
  rw [mulf_apply, addf_apply, same2, B.n2]
  refine congrArg₂ (· + ·) (congrArg₂ (· * ·) (congrArg (Cert.Mixer.x1 A b (pos B.hs r) d * ·) (congrArg Ideal.rsqrt (congrArg₂ (· + ·) (congrArg₂ Ideal.div ?_ rfl) rfl)))
    (congrArg (A.n2 d * ·) (congrArg (_ + ·) (modRow B 4 (by decide) slices_S6x1024_o4_0_S1x1024 d)))) (modRow B 3 (by decide) slices_S6x1024_o3_0_S1x1024 d)
  rw [col1, e1]
  exact Finset.sum_congr rfl fun k _ => by rw [mulf_apply, hx]

end

end Cert.Kernel2Ideal.Mix

end
-- ==== Proof.Mix.Carry.lean ====
/- A tile's run read at an index: what the carried buffers hold while the tile is computed and what they are left at, and the
   values of the tile's two results. At a first tile the carried rows are zero; at a later tile they are what the tile before
   left. -/
module

public import proofs.«01_k».proof.Proof.Mix.Out
public import proofs.«01_k».proof.Proof.Mix.RunB
public import Idealize.ShloMosaic.Lib.WholeRead

@[expose] public section

set_option maxRecDepth 16384

noncomputable section

namespace Cert.Kernel2Ideal.Mix

open Cert.Kernel2Ideal Cert.Kernel2Ideal.Gen
open Idealize.ShloMosaic Idealize.ShloMosaic.TcCoe
open Idealize.ShloMosaic.ValueIdx
open Cert.Mixer
open scoped BigOperators

/-- A whole buffer read through a box at its origin is what it holds. -/
theorem read_whole {S : Shape} {e : EltTy} {arg : Memref sig .tc .vmem S e} (h : arg.IsWhole) (X : S.Idx → Elt Ideal e) {off : Fin S.rank → ℕ} (hz : ∀ a, off a = 0)
    (inb : ∀ a, off a + S.size a ≤ S.size a) :
    View.readAt (Elt Ideal) arg.view (Rect.unit off S.size inb).toLoadRect (h.unread X) = X := by
  funext j
  rw [h.readAt_unread]
  refine congrArg X (funext fun a => Fin.ext ?_)
  show off a + 1 * (j a).val = (j a).val
  rw [hz a]; omega

theorem pair2 {n m : ℕ} (x : (⟨2, ![n, m]⟩ : Shape).Idx) : ∃ (r : Fin n) (c : Fin m), x = ix2 r c :=
  ⟨x 0, x 1, funext fun a => match a with | ⟨0, _⟩ => rfl | ⟨1, _⟩ => rfl⟩

theorem zero3 (a : Fin 3) : (![0, 0, 0] : Fin 3 → ℕ) a = 0 := match a with | ⟨0, _⟩ => rfl | ⟨1, _⟩ => rfl | ⟨2, _⟩ => rfl
theorem zero2 (a : Fin 2) : (![0, 0] : Fin 2 → ℕ) a = 0 := match a with | ⟨0, _⟩ => rfl | ⟨1, _⟩ => rfl

/-- One of the two pooling matrices. -/
def half (x6 : Vec Ideal S2x256x256 .bf16) (g : Fin 2) : Vec Ideal S1x256x256 .bf16 := fun j => x6 (ix3 g (j 1) (j 2))

theorem read_half {arg : Memref sig .tc .vmem S2x256x256 .bf16} (h : arg.IsWhole) (x6 : Vec Ideal S2x256x256 .bf16) (o : ℕ) (ho : o < 2)
    (inb : ∀ a, (![o, 0, 0] : Fin 3 → ℕ) a + S1x256x256.size a ≤ S2x256x256.size a) :
    View.readAt (Elt Ideal) arg.view (Rect.unit (s := S2x256x256) ![o, 0, 0] S1x256x256.size inb).toLoadRect (h.unread x6) = half x6 ⟨o, ho⟩ := by
  funext j
  rw [h.readAt_unread]
  refine congrArg x6 (funext fun a => Fin.ext ?_)
  have h0 : (j 0).val < 1 := (j 0).isLt
  match a with
  | ⟨0, _⟩ => show o + 1 * (j 0).val = o; omega
  | ⟨1, _⟩ => show 0 + 1 * (j 1).val = (j 1).val; omega
  | ⟨2, _⟩ => show 0 + 1 * (j 2).val = (j 2).val; omega

section
variable {A : Args} {b : Fin 32} {s : ℕ} {x0 : Vec Ideal S1x512x1024 .f32} {x1 : Vec Ideal S1x6x1024 .f32} {x2 x3 : Vec Ideal S1x1024 .f32}
    {x4 : Vec Ideal S1x1024x2048 .bf16} {x5 : Vec Ideal S3x512 .f32} {p0 p1 : Vec Ideal S1x256x256 .bf16} {x7 : Vec Ideal S1x512 .f32}
    {x8 : Vec Ideal S1x1024x1024 .bf16} (B : Blocks A b s x0 x1 x2 x3 x4 x5 p0 p1 x7 x8)

/-- The gate rows while a tile is computed: eight carried, then the tile's. -/
def gateRow (A : Args) (b : Fin 32) (s : ℕ) : S520x512.Idx → EReal := fun y => gp A b (512 * s + (y 0).val + 8) (y 1)
/-- The pooled channels' rows while a tile is computed: sixteen carried, then the tile's. -/
def valRow (A : Args) (b : Fin 32) (s : ℕ) : S528x512.Idx → EReal := fun y => vp A b (512 * s + (y 0).val) (y 1)

include B

/-- The tile's own rows, as they are stored. -/
theorem gate_stored (x : S512x512.Idx) (inb) : k0_pay17 (k0_pay13 x1 x0 x2) x4 x = gateRow A b s ((Rect.unit (s := S520x512) ![8, 0] S512x512.size inb).emb x) := by
  obtain ⟨r, c, rfl⟩ := pair2 x
  refine (same2 (k0_pay16 (k0_pay13 x1 x0 x2) x4) shapeCasts_S512x512_S512x512 _).trans ((gate_apply B r c).trans ?_)
  show _ = gp A b (512 * s + (8 + 1 * r.val) + 8) _
  refine congrArg₂ (gp A b) (by omega) (Fin.ext (by show c.val = 0 + 1 * c.val; omega))

theorem val_stored (x : S512x512.Idx) (inb) : k0_pay18 (k0_pay13 x1 x0 x2) x4 x = valRow A b s ((Rect.unit (s := S528x512) ![16, 0] S512x512.size inb).emb x) := by
  obtain ⟨r, c, rfl⟩ := pair2 x
  refine (same2 (k0_pay15 (k0_pay13 x1 x0 x2) x4) shapeCasts_S512x512_S512x512 _).trans ((vals_apply B r c).trans ?_)
  show _ = vp A b (512 * s + (16 + 1 * r.val)) _
  refine congrArg₂ (vp A b) (by omega) (Fin.ext (by show c.val = 0 + 1 * c.val; omega))

end

/-- The carried rows before tile `s`. -/
structure Carried (A : Args) (b : Fin 32) (s : ℕ) (g : Vec Ideal S520x512 .f32) (v : Vec Ideal S528x512 .f32) : Prop where
  g : ∀ (i : Fin 520) (c : Fin 512), i.val < 8 → g (ix2 i c) = gp A b (512 * s + i.val + 8) c
  v : ∀ (i : Fin 528) (c : Fin 512), i.val < 16 → v (ix2 i c) = vp A b (512 * s + i.val) c

section
variable {A : Args} {b : Fin 32} {s : ℕ} {x0 : Vec Ideal S1x512x1024 .f32} {x1 : Vec Ideal S1x6x1024 .f32} {x2 x3 : Vec Ideal S1x1024 .f32}
    {x4 : Vec Ideal S1x1024x2048 .bf16} {x5 : Vec Ideal S3x512 .f32} {x6 : Vec Ideal S2x256x256 .bf16} {x7 : Vec Ideal S1x512 .f32}
    {x8 : Vec Ideal S1x1024x1024 .bf16} (B : Blocks A b s x0 x1 x2 x3 x4 x5 (half x6 0) (half x6 1) x7 x8)
    (c : Dev nD) (i : grid0.Coords)
    {arg2 : Memref sig .tc .vmem S1x512x1024 .f32} (harg2 : arg2.IsWhole) {arg3 : Memref sig .tc .vmem S1x6x1024 .f32} (harg3 : arg3.IsWhole) {arg4 : Memref sig .tc .vmem S1x1024 .f32} (harg4 : arg4.IsWhole) {arg5 : Memref sig .tc .vmem S1x1024 .f32} (harg5 : arg5.IsWhole) {arg6 : Memref sig .tc .vmem S1x1024x2048 .bf16} (harg6 : arg6.IsWhole) {arg7 : Memref sig .tc .vmem S3x512 .f32} (harg7 : arg7.IsWhole) {arg8 : Memref sig .tc .vmem S2x256x256 .bf16} (harg8 : arg8.IsWhole) {arg9 : Memref sig .tc .vmem S1x512 .f32} (harg9 : arg9.IsWhole) {arg10 : Memref sig .tc .vmem S1x1024x1024 .bf16} (harg10 : arg10.IsWhole)
    {arg17 : Memref sig .tc .vmem S520x512 .f32} (harg17 : arg17.IsWhole) {arg18 : Memref sig .tc .vmem S528x512 .f32} (harg18 : arg18.IsWhole)
    {xs0 : Vec Ideal S520x512 .f32} {xs1 : Vec Ideal S528x512 .f32}
include B

/-- The gate rows while a first tile is computed. -/
theorem gateA (h0 : s = 0) (y : S520x512.Idx) : View.canon (kernelRun0_A.sl.HS0_2 c arg2 harg2 arg3 harg3 arg4 harg4 arg6 harg6 x0 x1 x2 x4) y = gateRow A b s y := by
  subst h0
  unfold kernelRun0_A.sl.HS0_2 kernelRun0_A.sl.r_6
  rw [read_whole harg2 x0 (off := ![0, 0, 0]) zero3, read_whole harg3 x1 (off := ![0, 0, 0]) zero3, read_whole harg4 x2 (off := ![0, 0]) zero2, read_whole harg6 x4 (off := ![0, 0, 0]) zero3]
  refine View.canon_apply_of_pieces (Val := Elt Ideal) (e := .f32) (gateRow A b 0) _ ?_ y ?_
  · intro p hp x
    simp only [List.mem_cons, List.not_mem_nil, or_false] at hp
    rcases hp with rfl | rfl
    · exact gate_stored B x inb_S520x512_S512x512_8_0
    · have hx : (x 0).val < 8 := (x 0).isLt
      refine (show k0_pay11 (F := Ideal) x = 0 from ?_).trans (show (0 : EReal) = gp A b (512 * 0 + (0 + 1 * (x 0).val) + 8) _ from ?_)
      · unfold k0_pay11
        rw [same2]
        exact Ideal.ofBits_zero_f32
      · unfold gp
        rw [dif_neg (by omega)]
  · have hy0 : (y 0).val < 520 := (y 0).isLt
    have hy1 : (y 1).val < 512 := (y 1).isLt
    by_cases hy : (y 0).val < 8
    · refine ⟨_, List.mem_cons_of_mem _ List.mem_cons_self, (Rect.mem_set_unit (inb := inb_S520x512_S8x512_0_0)).mpr fun a => ?_⟩
      match a with
      | ⟨0, _⟩ => exact ⟨Nat.zero_le _, by show (y 0).val < 0 + 8; omega⟩
      | ⟨1, _⟩ => exact ⟨Nat.zero_le _, by show (y 1).val < 0 + 512; omega⟩
    · refine ⟨_, List.mem_cons_self, (Rect.mem_set_unit (inb := inb_S520x512_S512x512_8_0)).mpr fun a => ?_⟩
      match a with
      | ⟨0, _⟩ => exact ⟨by show 8 ≤ (y 0).val; omega, by show (y 0).val < 8 + 512; omega⟩
      | ⟨1, _⟩ => exact ⟨Nat.zero_le _, by show (y 1).val < 0 + 512; omega⟩

/-- The gate rows that a later tile itself stores. -/
theorem gateB_own (y : S520x512.Idx) (hy : 8 ≤ (y 0).val) : View.canon (kernelRun0_B.sl.HS0_1 c arg2 harg2 arg3 harg3 arg4 harg4 arg6 harg6 x0 x1 x2 x4) y = gateRow A b s y := by
  unfold kernelRun0_B.sl.HS0_1 kernelRun0_B.sl.r_6
  rw [read_whole harg2 x0 (off := ![0, 0, 0]) zero3, read_whole harg3 x1 (off := ![0, 0, 0]) zero3, read_whole harg4 x2 (off := ![0, 0]) zero2, read_whole harg6 x4 (off := ![0, 0, 0]) zero3]
  refine View.canon_apply_of_pieces (Val := Elt Ideal) (e := .f32) (gateRow A b s) _ ?_ y ?_
  · intro p hp x
    simp only [List.mem_cons, List.not_mem_nil, or_false] at hp
    subst hp
    exact gate_stored B x inb_S520x512_S512x512_8_0
  · have hy0 : (y 0).val < 520 := (y 0).isLt
    have hy1 : (y 1).val < 512 := (y 1).isLt
    refine ⟨_, List.mem_cons_self, (Rect.mem_set_unit (inb := inb_S520x512_S512x512_8_0)).mpr fun a => ?_⟩
    match a with
    | ⟨0, _⟩ => exact ⟨hy, by show (y 0).val < 8 + 512; omega⟩
    | ⟨1, _⟩ => exact ⟨Nat.zero_le _, by show (y 1).val < 0 + 512; omega⟩

/-- The gate rows while a later tile is computed. -/
theorem gateB (hC : Carried A b s xs0 xs1) (y : S520x512.Idx) :
    arg17.view.read (Elt Ideal) (arg17.view.writes (Elt Ideal) (harg17.unread xs0) (kernelRun0_B.sl.HS0_1 c arg2 harg2 arg3 harg3 arg4 harg4 arg6 harg6 x0 x1 x2 x4)) y = gateRow A b s y := by
  by_cases hy : 8 ≤ (y 0).val
  · refine (View.read_writes_apply_eq_canon _ _ y _ ?_).trans (gateB_own B c harg2 harg3 harg4 harg6 y hy)
    have hy0 : (y 0).val < 520 := (y 0).isLt
    have hy1 : (y 1).val < 512 := (y 1).isLt
    unfold kernelRun0_B.sl.HS0_1
    refine ⟨_, List.mem_cons_self, (Rect.mem_set_unit (inb := inb_S520x512_S512x512_8_0)).mpr fun a => ?_⟩
    match a with
    | ⟨0, _⟩ => exact ⟨hy, by show (y 0).val < 8 + 512; omega⟩
    | ⟨1, _⟩ => exact ⟨Nat.zero_le _, by show (y 1).val < 0 + 512; omega⟩
  · unfold kernelRun0_B.sl.HS0_1
    rw [View.read_writes_cons_miss_of_axis _ _ _ _ y 0 8 512 rfl rfl rfl (.inl (by omega)), View.writes_nil, harg17.read_unread]
    obtain ⟨q, d, rfl⟩ := pair2 y
    exact hC.g q d (by show q.val < 8; exact Nat.lt_of_not_le hy)

/-- The pooled rows while a first tile is computed. -/
theorem valA (h0 : s = 0) (y : S528x512.Idx) : View.canon (kernelRun0_A.sl.HS1_2 c arg2 harg2 arg3 harg3 arg4 harg4 arg6 harg6 x0 x1 x2 x4) y = valRow A b s y := by
  subst h0
  unfold kernelRun0_A.sl.HS1_2 kernelRun0_A.sl.r_6
  rw [read_whole harg2 x0 (off := ![0, 0, 0]) zero3, read_whole harg3 x1 (off := ![0, 0, 0]) zero3, read_whole harg4 x2 (off := ![0, 0]) zero2, read_whole harg6 x4 (off := ![0, 0, 0]) zero3]
  refine View.canon_apply_of_pieces (Val := Elt Ideal) (e := .f32) (valRow A b 0) _ ?_ y ?_
  · intro p hp x
    simp only [List.mem_cons, List.not_mem_nil, or_false] at hp
    rcases hp with rfl | rfl
    · exact val_stored B x inb_S528x512_S512x512_16_0
    · have hx : (x 0).val < 16 := (x 0).isLt
      refine (show k0_pay12 (F := Ideal) x = 0 from ?_).trans (show (0 : EReal) = vp A b (512 * 0 + (0 + 1 * (x 0).val)) _ from ?_)
      · unfold k0_pay12
        rw [same2]
        exact Ideal.ofBits_zero_f32
      · unfold vp
        rw [dif_neg (by omega)]
  · have hy0 : (y 0).val < 528 := (y 0).isLt
    have hy1 : (y 1).val < 512 := (y 1).isLt
    by_cases hy : (y 0).val < 16
    · refine ⟨_, List.mem_cons_of_mem _ List.mem_cons_self, (Rect.mem_set_unit (inb := inb_S528x512_S16x512_0_0)).mpr fun a => ?_⟩
      match a with
      | ⟨0, _⟩ => exact ⟨Nat.zero_le _, by show (y 0).val < 0 + 16; omega⟩
      | ⟨1, _⟩ => exact ⟨Nat.zero_le _, by show (y 1).val < 0 + 512; omega⟩
    · refine ⟨_, List.mem_cons_self, (Rect.mem_set_unit (inb := inb_S528x512_S512x512_16_0)).mpr fun a => ?_⟩
      match a with
      | ⟨0, _⟩ => exact ⟨by show 16 ≤ (y 0).val; omega, by show (y 0).val < 16 + 512; omega⟩
      | ⟨1, _⟩ => exact ⟨Nat.zero_le _, by show (y 1).val < 0 + 512; omega⟩

/-- The pooled rows that a later tile itself stores. -/
theorem valB_own (y : S528x512.Idx) (hy : 16 ≤ (y 0).val) : View.canon (kernelRun0_B.sl.HS1_1 c arg2 harg2 arg3 harg3 arg4 harg4 arg6 harg6 x0 x1 x2 x4) y = valRow A b s y := by
  unfold kernelRun0_B.sl.HS1_1 kernelRun0_B.sl.r_6
  rw [read_whole harg2 x0 (off := ![0, 0, 0]) zero3, read_whole harg3 x1 (off := ![0, 0, 0]) zero3, read_whole harg4 x2 (off := ![0, 0]) zero2, read_whole harg6 x4 (off := ![0, 0, 0]) zero3]
  refine View.canon_apply_of_pieces (Val := Elt Ideal) (e := .f32) (valRow A b s) _ ?_ y ?_
  · intro p hp x
    simp only [List.mem_cons, List.not_mem_nil, or_false] at hp
    subst hp
    exact val_stored B x inb_S528x512_S512x512_16_0
  · have hy0 : (y 0).val < 528 := (y 0).isLt
    have hy1 : (y 1).val < 512 := (y 1).isLt
    refine ⟨_, List.mem_cons_self, (Rect.mem_set_unit (inb := inb_S528x512_S512x512_16_0)).mpr fun a => ?_⟩
    match a with
    | ⟨0, _⟩ => exact ⟨hy, by show (y 0).val < 16 + 512; omega⟩
    | ⟨1, _⟩ => exact ⟨Nat.zero_le _, by show (y 1).val < 0 + 512; omega⟩

/-- The pooled rows while a later tile is computed. -/
theorem valB (hC : Carried A b s xs0 xs1) (y : S528x512.Idx) :
    arg18.view.read (Elt Ideal) (arg18.view.writes (Elt Ideal) (harg18.unread xs1) (kernelRun0_B.sl.HS1_1 c arg2 harg2 arg3 harg3 arg4 harg4 arg6 harg6 x0 x1 x2 x4)) y = valRow A b s y := by
  by_cases hy : 16 ≤ (y 0).val
  · refine (View.read_writes_apply_eq_canon _ _ y _ ?_).trans (valB_own B c harg2 harg3 harg4 harg6 y hy)
    have hy0 : (y 0).val < 528 := (y 0).isLt
    have hy1 : (y 1).val < 512 := (y 1).isLt
    unfold kernelRun0_B.sl.HS1_1
    refine ⟨_, List.mem_cons_self, (Rect.mem_set_unit (inb := inb_S528x512_S512x512_16_0)).mpr fun a => ?_⟩
    match a with
    | ⟨0, _⟩ => exact ⟨hy, by show (y 0).val < 16 + 512; omega⟩
    | ⟨1, _⟩ => exact ⟨Nat.zero_le _, by show (y 1).val < 0 + 512; omega⟩
  · unfold kernelRun0_B.sl.HS1_1
    rw [View.read_writes_cons_miss_of_axis _ _ _ _ y 0 16 512 rfl rfl rfl (.inl (by omega)), View.writes_nil, harg18.read_unread]
    obtain ⟨q, d, rfl⟩ := pair2 y
    exact hC.v q d (by show q.val < 16; exact Nat.lt_of_not_le hy)

/-- The two branches' values in a first tile. -/
theorem mixedA (hi : (i 1).val = s) (h0 : s = 0) (r : Fin 512) (k : Fin 1024) :
    kernelRun0_A.sl.r_19 c i arg2 harg2 arg3 harg3 arg4 harg4 arg6 harg6 arg7 harg7 arg8 harg8 arg9 harg9 arg17 arg18 x0 x1 x2 x4 x5 x6 x7 (ix2 r k) = mixed A b (pos B.hs r) k := by
  have v51 (r d : Fin 512) : kernelRun0_A.sl.v51 c arg2 harg2 arg3 harg3 arg4 harg4 arg6 harg6 arg17 x0 x1 x2 x4 (ix2 r d) = gp A b (512 * s + r.val + 14) d := by
    unfold kernelRun0_A.sl.v51
    rw [View.readCov_eq_canon']
    refine (gateA B c harg2 harg3 harg4 harg6 h0 _).trans ?_
    show gp A b (512 * s + (6 + 1 * r.val) + 8) _ = _
    exact congrArg₂ (gp A b) (by omega) (Fin.ext (by show 0 + 1 * d.val = d.val; omega))
  have v55 (r d : Fin 512) : kernelRun0_A.sl.v55 c arg2 harg2 arg3 harg3 arg4 harg4 arg6 harg6 arg17 x0 x1 x2 x4 (ix2 r d) = gp A b (512 * s + r.val + 15) d := by
    unfold kernelRun0_A.sl.v55
    rw [View.readCov_eq_canon']
    refine (gateA B c harg2 harg3 harg4 harg6 h0 _).trans ?_
    show gp A b (512 * s + (7 + 1 * r.val) + 8) _ = _
    exact congrArg₂ (gp A b) (by omega) (Fin.ext (by show 0 + 1 * d.val = d.val; omega))
  have v72 (q : Fin 528) (l : Fin 128) : kernelRun0_A.sl.v72 c arg2 harg2 arg3 harg3 arg4 harg4 arg6 harg6 arg18 x0 x1 x2 x4 (ix2 q l) = vp A b (512 * s + q.val) ⟨0 + l.val, by omega⟩ := by
    unfold kernelRun0_A.sl.v72
    rw [View.readCov_eq_canon']
    refine (valA B c harg2 harg3 harg4 harg6 h0 _).trans ?_
    show vp A b (512 * s + (0 + 1 * q.val)) _ = _
    exact congrArg₂ (vp A b) (by omega) (Fin.ext (by show 0 + 1 * l.val = 0 + l.val; omega))
  have v85 (q : Fin 528) (l : Fin 128) : kernelRun0_A.sl.v85 c arg2 harg2 arg3 harg3 arg4 harg4 arg6 harg6 arg18 x0 x1 x2 x4 (ix2 q l) = vp A b (512 * s + q.val) ⟨128 + l.val, by omega⟩ := by
    unfold kernelRun0_A.sl.v85
    rw [View.readCov_eq_canon']
    refine (valA B c harg2 harg3 harg4 harg6 h0 _).trans ?_
    show vp A b (512 * s + (0 + 1 * q.val)) _ = _
    exact congrArg₂ (vp A b) (by omega) (Fin.ext (by show 128 + 1 * l.val = 128 + l.val; omega))
  have v101 (q : Fin 528) (l : Fin 128) : kernelRun0_A.sl.v101 c arg2 harg2 arg3 harg3 arg4 harg4 arg6 harg6 arg18 x0 x1 x2 x4 (ix2 q l) = vp A b (512 * s + q.val) ⟨256 + l.val, by omega⟩ := by
    unfold kernelRun0_A.sl.v101
    rw [View.readCov_eq_canon']
    refine (valA B c harg2 harg3 harg4 harg6 h0 _).trans ?_
    show vp A b (512 * s + (0 + 1 * q.val)) _ = _
    exact congrArg₂ (vp A b) (by omega) (Fin.ext (by show 256 + 1 * l.val = 256 + l.val; omega))
  have v120 (q : Fin 528) (l : Fin 128) : kernelRun0_A.sl.v120 c arg2 harg2 arg3 harg3 arg4 harg4 arg6 harg6 arg18 x0 x1 x2 x4 (ix2 q l) = vp A b (512 * s + q.val) ⟨384 + l.val, by omega⟩ := by
    unfold kernelRun0_A.sl.v120
    rw [View.readCov_eq_canon']
    refine (valA B c harg2 harg3 harg4 harg6 h0 _).trans ?_
    show vp A b (512 * s + (0 + 1 * q.val)) _ = _
    exact congrArg₂ (vp A b) (by omega) (Fin.ext (by show 384 + 1 * l.val = 384 + l.val; omega))
  subst hi
  unfold kernelRun0_A.sl.r_19 kernelRun0_A.sl.r_4 kernelRun0_A.sl.r_8 kernelRun0_A.sl.r_13 kernelRun0_A.sl.r_14 kernelRun0_A.sl.r_15 kernelRun0_A.sl.r_16 kernelRun0_A.sl.r_17 kernelRun0_A.sl.r_18 kernelRun0_A.sl.r_3 kernelRun0_A.sl.r_7 kernelRun0_A.sl.r_9 kernelRun0_A.sl.r_10 kernelRun0_A.sl.r_11 kernelRun0_A.sl.r_12 kernelRun0_A.sl.r_6
  rw [read_whole harg2 x0 (off := ![0, 0, 0]) zero3, read_whole harg3 x1 (off := ![0, 0, 0]) zero3, read_whole harg4 x2 (off := ![0, 0]) zero2, read_whole harg6 x4 (off := ![0, 0, 0]) zero3, read_whole harg7 x5 (off := ![0, 0]) zero2, read_whole harg9 x7 (off := ![0, 0]) zero2, read_half harg8 x6 0 (by decide), read_half harg8 x6 1 (by decide)]
  exact mixed_apply B _ (conv_apply B _ _ v51 v55) _ _ _ _ _ _ _ (pool0 B _ v72) (pool1 B _ v85) (pool2 B _ v101) (pool3 B _ v120) r k

/-- The two branches' values in a later tile. -/
theorem mixedB (hi : (i 1).val = s) (hC : Carried A b s xs0 xs1) (r : Fin 512) (k : Fin 1024) :
    kernelRun0_B.sl.r_19 c i arg2 harg2 arg3 harg3 arg4 harg4 arg6 harg6 arg7 harg7 arg8 harg8 arg9 harg9 arg17 harg17 arg18 harg18 x0 x1 x2 x4 x5 x6 x7 xs0 xs1 (ix2 r k) = mixed A b (pos B.hs r) k := by
  have v51 (r d : Fin 512) : kernelRun0_B.sl.v51 c arg2 harg2 arg3 harg3 arg4 harg4 arg6 harg6 arg17 harg17 x0 x1 x2 x4 xs0 (ix2 r d) = gp A b (512 * s + r.val + 14) d := by
    unfold kernelRun0_B.sl.v51
    refine (gateB B c harg2 harg3 harg4 harg6 harg17 hC _).trans ?_
    show gp A b (512 * s + (6 + 1 * r.val) + 8) _ = _
    exact congrArg₂ (gp A b) (by omega) (Fin.ext (by show 0 + 1 * d.val = d.val; omega))
  have v55 (r d : Fin 512) : kernelRun0_B.sl.v55 c arg2 harg2 arg3 harg3 arg4 harg4 arg6 harg6 arg17 harg17 x0 x1 x2 x4 xs0 (ix2 r d) = gp A b (512 * s + r.val + 15) d := by
    unfold kernelRun0_B.sl.v55
    refine (gateB B c harg2 harg3 harg4 harg6 harg17 hC _).trans ?_
    show gp A b (512 * s + (7 + 1 * r.val) + 8) _ = _
    exact congrArg₂ (gp A b) (by omega) (Fin.ext (by show 0 + 1 * d.val = d.val; omega))
  have v72 (q : Fin 528) (l : Fin 128) : kernelRun0_B.sl.v72 c arg2 harg2 arg3 harg3 arg4 harg4 arg6 harg6 arg18 harg18 x0 x1 x2 x4 xs1 (ix2 q l) = vp A b (512 * s + q.val) ⟨0 + l.val, by omega⟩ := by
    unfold kernelRun0_B.sl.v72
    refine (valB B c harg2 harg3 harg4 harg6 harg18 hC _).trans ?_
    show vp A b (512 * s + (0 + 1 * q.val)) _ = _
    exact congrArg₂ (vp A b) (by omega) (Fin.ext (by show 0 + 1 * l.val = 0 + l.val; omega))
  have v85 (q : Fin 528) (l : Fin 128) : kernelRun0_B.sl.v85 c arg2 harg2 arg3 harg3 arg4 harg4 arg6 harg6 arg18 harg18 x0 x1 x2 x4 xs1 (ix2 q l) = vp A b (512 * s + q.val) ⟨128 + l.val, by omega⟩ := by
    unfold kernelRun0_B.sl.v85
    refine (valB B c harg2 harg3 harg4 harg6 harg18 hC _).trans ?_
    show vp A b (512 * s + (0 + 1 * q.val)) _ = _
    exact congrArg₂ (vp A b) (by omega) (Fin.ext (by show 128 + 1 * l.val = 128 + l.val; omega))
  have v101 (q : Fin 528) (l : Fin 128) : kernelRun0_B.sl.v101 c arg2 harg2 arg3 harg3 arg4 harg4 arg6 harg6 arg18 harg18 x0 x1 x2 x4 xs1 (ix2 q l) = vp A b (512 * s + q.val) ⟨256 + l.val, by omega⟩ := by
    unfold kernelRun0_B.sl.v101
    refine (valB B c harg2 harg3 harg4 harg6 harg18 hC _).trans ?_
    show vp A b (512 * s + (0 + 1 * q.val)) _ = _
    exact congrArg₂ (vp A b) (by omega) (Fin.ext (by show 256 + 1 * l.val = 256 + l.val; omega))
  have v120 (q : Fin 528) (l : Fin 128) : kernelRun0_B.sl.v120 c arg2 harg2 arg3 harg3 arg4 harg4 arg6 harg6 arg18 harg18 x0 x1 x2 x4 xs1 (ix2 q l) = vp A b (512 * s + q.val) ⟨384 + l.val, by omega⟩ := by
    unfold kernelRun0_B.sl.v120
    refine (valB B c harg2 harg3 harg4 harg6 harg18 hC _).trans ?_
    show vp A b (512 * s + (0 + 1 * q.val)) _ = _
    exact congrArg₂ (vp A b) (by omega) (Fin.ext (by show 384 + 1 * l.val = 384 + l.val; omega))
  subst hi
  unfold kernelRun0_B.sl.r_19 kernelRun0_B.sl.r_4 kernelRun0_B.sl.r_8 kernelRun0_B.sl.r_13 kernelRun0_B.sl.r_14 kernelRun0_B.sl.r_15 kernelRun0_B.sl.r_16 kernelRun0_B.sl.r_17 kernelRun0_B.sl.r_18 kernelRun0_B.sl.r_3 kernelRun0_B.sl.r_7 kernelRun0_B.sl.r_9 kernelRun0_B.sl.r_10 kernelRun0_B.sl.r_11 kernelRun0_B.sl.r_12 kernelRun0_B.sl.r_6
  rw [read_whole harg2 x0 (off := ![0, 0, 0]) zero3, read_whole harg3 x1 (off := ![0, 0, 0]) zero3, read_whole harg4 x2 (off := ![0, 0]) zero2, read_whole harg6 x4 (off := ![0, 0, 0]) zero3, read_whole harg7 x5 (off := ![0, 0]) zero2, read_whole harg9 x7 (off := ![0, 0]) zero2, read_half harg8 x6 0 (by decide), read_half harg8 x6 1 (by decide)]
  exact mixed_apply B _ (conv_apply B _ _ v51 v55) _ _ _ _ _ _ _ (pool0 B _ v72) (pool1 B _ v85) (pool2 B _ v101) (pool3 B _ v120) r k

end

end Cert.Kernel2Ideal.Mix

end
-- ==== Proof.Mix.Rows.lean ====
/- What a tile leaves: the residual rows, the packed pairs of normalised rows, and the rows carried on to the next tile. -/
module

public import proofs.«01_k».proof.Proof.Mix.Carry
public import proofs.«01_k».proof.Proof.Mix.Frame

@[expose] public section

set_option maxRecDepth 16384

noncomputable section

namespace Cert.Kernel2Ideal.Mix

open Cert.Kernel2Ideal Cert.Kernel2Ideal.Gen
open Idealize.ShloMosaic Idealize.ShloMosaic.TcCoe
open Idealize.ShloMosaic.ValueIdx
open Cert.Mixer
open scoped BigOperators

/-! ## The packed pairs -/

/-- The pairs a tile's normalised rows are packed into: row `r` takes the pairs `8 r` to `8 r + 7`, the first four hold its
    eight slabs of 128 lanes (slab `j` beside slab `4 + j`), the last four are zero. -/
def packed (H : Fin 512 → Fin 1024 → EReal) : S4096x2x128.Idx → EReal := fun y =>
  if h : (y 0).val % 8 < 4 then
    H ⟨(y 0).val / 8, by have h0 : (y 0).val < 4096 := (y 0).isLt; omega⟩
      ⟨512 * (y 1).val + 128 * ((y 0).val % 8) + (y 2).val, by
        have h1 : (y 1).val < 2 := (y 1).isLt
        have h2 : (y 2).val < 128 := (y 2).isLt
        omega⟩
  else 0

/-- Two vectors of rows interleaved: the first is the even rows of the pairs, the second the odd ones. -/
theorem woven (lo hi : FVec Ideal S512x128 .bf16) (x : S512x2x128.Idx) :
    interleaveRows S512x2x128 (shapeCast S512x1x128 lo shapeCasts_S512x128_S512x1x128)
      (shapeCast S512x1x128 hi shapeCasts_S512x128_S512x1x128) bitcasts_S512x2x128_w16_S512x1x128_w32 x
      = if (x 1).val = 0 then lo (ix2 (x 0) (x 2)) else hi (ix2 (x 0) (x 2)) := by
  have h1 : (x 1).val < 2 := (x 1).isLt
  have hr : S512x2x128.row x = (x 1).val := rfl
  have key (v : FVec Ideal S512x128 .bf16) (j : S512x1x128.Idx) (h0 : (j 0).val = (x 0).val) (h2 : (j 2).val = (x 2).val) :
      shapeCast S512x1x128 v shapeCasts_S512x128_S512x1x128 j = v (ix2 (x 0) (x 2)) := by
    refine shapeCast_apply _ _ _ _ ?_
    rewrite [Shape.rowMajor_val_three, Shape.rowMajor_val_two]
    have hj : (j 1).val < 1 := (j 1).isLt
    show (x 0).val * 128 + (x 2).val = ((j 0).val * 1 + (j 1).val) * 128 + (j 2).val
    rw [h0, h2]
    omega
  unfold interleaveRows
  dsimp only
  rw [hr]
  by_cases h : (x 1).val = 0
  · rw [if_pos (by omega), if_pos h]
    exact key lo _ rfl rfl
  · rw [if_neg (by omega), if_neg h]
    exact key hi _ rfl rfl

/-- A stored slab of the rows. -/
theorem slab (H : Fin 512 → Fin 1024 → EReal) (j : ℕ) (hj : j < 4) (lo hi : FVec Ideal S512x128 .bf16)
    (hlo : ∀ (r : Fin 512) (l : Fin 128), lo (ix2 r l) = H r ⟨128 * j + l.val, by omega⟩)
    (hhi : ∀ (r : Fin 512) (l : Fin 128), hi (ix2 r l) = H r ⟨512 + (128 * j + l.val), by omega⟩)
    (x : S512x2x128.Idx) (inb) (hp) :
    interleaveRows S512x2x128 (shapeCast S512x1x128 lo shapeCasts_S512x128_S512x1x128)
      (shapeCast S512x1x128 hi shapeCasts_S512x128_S512x1x128) bitcasts_S512x2x128_w16_S512x1x128_w32 x
      = packed H ((⟨⟨![j, 0, 0], S512x2x128.size, ![8, 1, 1], inb⟩, hp⟩ : Rect S4096x2x128).emb x) := by
  have h0 : (x 0).val < 512 := (x 0).isLt
  have h1 : (x 1).val < 2 := (x 1).isLt
  have h2 : (x 2).val < 128 := (x 2).isLt
  rw [woven]
  show _ = if h : (j + 8 * (x 0).val) % 8 < 4 then H ⟨(j + 8 * (x 0).val) / 8, _⟩ ⟨512 * (0 + 1 * (x 1).val) + 128 * ((j + 8 * (x 0).val) % 8) + (0 + 1 * (x 2).val), _⟩ else 0
  rw [dif_pos (by omega)]
  split
  · rename_i h
    refine (hlo _ _).trans (congrArg₂ H (Fin.ext ?_) (Fin.ext ?_))
    · show (x 0).val = (j + 8 * (x 0).val) / 8; omega
    · show 128 * j + (x 2).val = 512 * (0 + 1 * (x 1).val) + 128 * ((j + 8 * (x 0).val) % 8) + (0 + 1 * (x 2).val)
      rw [h]; omega
  · rename_i h
    have h1' : (x 1).val = 1 := by omega
    refine (hhi _ _).trans (congrArg₂ H (Fin.ext ?_) (Fin.ext ?_))
    · show (x 0).val = (j + 8 * (x 0).val) / 8; omega
    · show 512 + (128 * j + (x 2).val) = 512 * (0 + 1 * (x 1).val) + 128 * ((j + 8 * (x 0).val) % 8) + (0 + 1 * (x 2).val)
      rw [h1']; omega

/-- A stored slab of zeros. -/
theorem slab_zero (H : Fin 512 → Fin 1024 → EReal) (j : ℕ) (hj : 4 ≤ j) (hj' : j < 8) (lo hi : FVec Ideal S512x128 .bf16)
    (hlo : ∀ k, lo k = 0) (hhi : ∀ k, hi k = 0) (x : S512x2x128.Idx) (inb) (hp) :
    interleaveRows S512x2x128 (shapeCast S512x1x128 lo shapeCasts_S512x128_S512x1x128)
      (shapeCast S512x1x128 hi shapeCasts_S512x128_S512x1x128) bitcasts_S512x2x128_w16_S512x1x128_w32 x
      = packed H ((⟨⟨![j, 0, 0], S512x2x128.size, ![8, 1, 1], inb⟩, hp⟩ : Rect S4096x2x128).emb x) := by
  have h0 : (x 0).val < 512 := (x 0).isLt
  rw [woven, hlo, hhi, ite_self]
  show _ = if h : (j + 8 * (x 0).val) % 8 < 4 then H ⟨(j + 8 * (x 0).val) / 8, _⟩ ⟨512 * (0 + 1 * (x 1).val) + 128 * ((j + 8 * (x 0).val) % 8) + (0 + 1 * (x 2).val), _⟩ else 0
  rw [dif_neg (by omega)]

/-- A half's slab of 128 lanes. -/
theorem lanes (v : FVec Ideal S512x1024 .f32) (H : Fin 512 → Fin 1024 → EReal) (hv : ∀ r d, v (ix2 r d) = H r d) (o p : ℕ)
    (ho : o + 512 ≤ 1024) (hp : p + 128 ≤ 512) (h : S512x1024.Slices ![0, o] S512x512) (h' : S512x512.Slices ![0, p] S512x128) (r : Fin 512) (l : Fin 128) :
    extractStridedSlice S512x128 ![0, p] (extractStridedSlice S512x512 ![0, o] v h) h' (ix2 r l) = H r ⟨o + (p + l.val), by omega⟩ := by
  refine (slice2 _ h' r l r ⟨p + l.val, by omega⟩ (by omega) rfl).trans ?_
  refine (slice2 v h r ⟨p + l.val, by omega⟩ r ⟨o + (p + l.val), by omega⟩ (by omega) rfl).trans ?_
  exact hv _ _

theorem zeros_apply (k : S512x128.Idx) : (broadcast S512x128 (Scalar.ofBits .f32 0x00000000#32 : Ideal .f32) : FVec Ideal S512x128 .f32) k = 0 := Ideal.ofBits_zero_f32

/-- The eight strided stores of a tile, read back. -/
theorem packed_of (v : FVec Ideal S512x1024 .f32) (H : Fin 512 → Fin 1024 → EReal) (hv : ∀ r d, v (ix2 r d) = H r d)
    (L : List (View.Piece (Elt Ideal) S4096x2x128 .bf16))
    (hL : L = [⟨⟨⟨![7, 0, 0], S512x2x128.size, ![8, 1, 1], inb_S4096x2x128_S512x2x128_7_0_0_s_8_1_1⟩, spos_8_1_1⟩, k0_pay3⟩,
      ⟨⟨⟨![6, 0, 0], S512x2x128.size, ![8, 1, 1], inb_S4096x2x128_S512x2x128_6_0_0_s_8_1_1⟩, spos_8_1_1⟩, k0_pay2⟩,
      ⟨⟨⟨![5, 0, 0], S512x2x128.size, ![8, 1, 1], inb_S4096x2x128_S512x2x128_5_0_0_s_8_1_1⟩, spos_8_1_1⟩, k0_pay1 k0_pay106 k0_pay107⟩,
      ⟨⟨⟨![4, 0, 0], S512x2x128.size, ![8, 1, 1], inb_S4096x2x128_S512x2x128_4_0_0_s_8_1_1⟩, spos_8_1_1⟩, k0_pay105⟩,
      ⟨⟨⟨![3, 0, 0], S512x2x128.size, ![8, 1, 1], inb_S4096x2x128_S512x2x128_3_0_0_s_8_1_1⟩, spos_8_1_1⟩, k0_pay103 (k0_pay96 v) (k0_pay97 v)⟩,
      ⟨⟨⟨![2, 0, 0], S512x2x128.size, ![8, 1, 1], inb_S4096x2x128_S512x2x128_2_0_0_s_8_1_1⟩, spos_8_1_1⟩, k0_pay102 (k0_pay96 v) (k0_pay97 v)⟩,
      ⟨⟨⟨![1, 0, 0], S512x2x128.size, ![8, 1, 1], inb_S4096x2x128_S512x2x128_1_0_0_s_8_1_1⟩, spos_8_1_1⟩, k0_pay101 (k0_pay96 v) (k0_pay97 v)⟩,
      ⟨⟨⟨![0, 0, 0], S512x2x128.size, ![8, 1, 1], inb_S4096x2x128_S512x2x128_0_0_0_s_8_1_1⟩, spos_8_1_1⟩, k0_pay100 (k0_pay98 v) (k0_pay99 v)⟩])
    (y : S4096x2x128.Idx) (hcov : ∃ p ∈ L, y ∈ p.1.set) : View.canon L y = packed H y := by
  refine View.canon_apply_of_pieces (Val := Elt Ideal) (e := .bf16) (packed H) L ?_ y hcov
  intro p hp x
  rw [hL] at hp
  simp only [List.mem_cons, List.not_mem_nil, or_false] at hp
  have fit (r : Fin 512) (o k k' : ℕ) (e : k = k') (hk : k < 1024) : H r ⟨k, hk⟩ = H r ⟨k', by omega⟩ := by subst e; rfl
  rcases hp with rfl | rfl | rfl | rfl | rfl | rfl | rfl | rfl
  · exact slab_zero H 7 (by omega) (by omega) _ _ zeros_apply zeros_apply x _ _
  · exact slab_zero H 6 (by omega) (by omega) _ _ zeros_apply zeros_apply x _ _
  · exact slab_zero H 5 (by omega) (by omega) _ _ zeros_apply zeros_apply x _ _
  · exact slab_zero H 4 (by omega) (by omega) _ _ zeros_apply zeros_apply x _ _
  · exact slab H 3 (by omega) _ _ (fun r l => (lanes v H hv 0 384 (by omega) (by omega) slices_S512x1024_o0_0_S512x512 slices_S512x512_o0_384_S512x128 r l).trans (fit r 0 _ _ (by omega) _)) (fun r l => (lanes v H hv 512 384 (by omega) (by omega) slices_S512x1024_o0_512_S512x512 slices_S512x512_o0_384_S512x128 r l).trans (fit r 0 _ _ (by omega) _)) x _ _
  · exact slab H 2 (by omega) _ _ (fun r l => (lanes v H hv 0 256 (by omega) (by omega) slices_S512x1024_o0_0_S512x512 slices_S512x512_o0_256_S512x128 r l).trans (fit r 0 _ _ (by omega) _)) (fun r l => (lanes v H hv 512 256 (by omega) (by omega) slices_S512x1024_o0_512_S512x512 slices_S512x512_o0_256_S512x128 r l).trans (fit r 0 _ _ (by omega) _)) x _ _
  · exact slab H 1 (by omega) _ _ (fun r l => (lanes v H hv 0 128 (by omega) (by omega) slices_S512x1024_o0_0_S512x512 slices_S512x512_o0_128_S512x128 r l).trans (fit r 0 _ _ (by omega) _)) (fun r l => (lanes v H hv 512 128 (by omega) (by omega) slices_S512x1024_o0_512_S512x512 slices_S512x512_o0_128_S512x128 r l).trans (fit r 0 _ _ (by omega) _)) x _ _
  · exact slab H 0 (by omega) _ _ (fun r l => (lanes v H hv 0 0 (by omega) (by omega) slices_S512x1024_o0_0_S512x512 slices_S512x512_o0_0_S512x128 r l).trans (fit r 0 _ _ (by omega) _)) (fun r l => (lanes v H hv 512 0 (by omega) (by omega) slices_S512x1024_o0_512_S512x512 slices_S512x512_o0_0_S512x128 r l).trans (fit r 0 _ _ (by omega) _)) x _ _

/-! ## A tile's blocks -/

/-- What a tile leaves, by the mathematics. -/
structure Leaves (A : Args) (b : Fin 32) (s : ℕ) (hs : s < 4) (l : Left Ideal) : Prop where
  x1 : ∀ (r : Fin 512) (d : Fin 1024), l.x1 (ix3 0 r d) = Mixer.x1 A b (pos hs r) d
  h : ∀ y, l.h y = packed (fun r d => h2 A b (pos hs r) d) y
  g : ∀ (i : Fin 520) (c : Fin 512), i.val < 8 → l.g (ix2 i c) = gp A b (512 * (s + 1) + i.val + 8) c
  v : ∀ (i : Fin 528) (c : Fin 512), i.val < 16 → l.v (ix2 i c) = vp A b (512 * (s + 1) + i.val) c

/-- The first eight rows, stored last, are the tile's last eight. -/
theorem tail_g {A : Args} {b : Fin 32} {s : ℕ} (w : Vec Ideal S8x512 .f32) (L : List (View.Piece (Elt Ideal) S520x512 .f32)) (inb)
    (hw : ∀ (i : Fin 8) (c : Fin 512), w (ix2 i c) = gateRow A b s (ix2 ⟨512 + i.val, by omega⟩ c)) (i : Fin 520) (c : Fin 512) (hi : i.val < 8) :
    View.canon (⟨Rect.unit (s := S520x512) ![0, 0] S8x512.size inb, k0_pay32 w⟩ :: L) (ix2 i c) = gp A b (512 * (s + 1) + i.val + 8) c := by
  have e : (ix2 i c : S520x512.Idx) = (Rect.unit (s := S520x512) ![0, 0] S8x512.size inb).emb (ix2 ⟨i.val, hi⟩ c : S8x512.Idx) := by
    funext a
    refine Fin.ext ?_
    match a with
    | ⟨0, _⟩ => show i.val = 0 + 1 * i.val; omega
    | ⟨1, _⟩ => show c.val = 0 + 1 * c.val; omega
  rw [e, View.canon_cons_emb]
  refine (same2 w shapeCasts_S8x512_S8x512 _).trans ((hw _ _).trans ?_)
  show gp A b (512 * s + (512 + i.val) + 8) c = _
  exact congrArg (fun n => gp A b n c) (by omega)

/-- The first sixteen rows, stored last, are the tile's last sixteen. -/
theorem tail_v {A : Args} {b : Fin 32} {s : ℕ} (w : Vec Ideal S16x512 .f32) (L : List (View.Piece (Elt Ideal) S528x512 .f32)) (inb)
    (hw : ∀ (i : Fin 16) (c : Fin 512), w (ix2 i c) = valRow A b s (ix2 ⟨512 + i.val, by omega⟩ c)) (i : Fin 528) (c : Fin 512) (hi : i.val < 16) :
    View.canon (⟨Rect.unit (s := S528x512) ![0, 0] S16x512.size inb, k0_pay33 w⟩ :: L) (ix2 i c) = vp A b (512 * (s + 1) + i.val) c := by
  have e : (ix2 i c : S528x512.Idx) = (Rect.unit (s := S528x512) ![0, 0] S16x512.size inb).emb (ix2 ⟨i.val, hi⟩ c : S16x512.Idx) := by
    funext a
    refine Fin.ext ?_
    match a with
    | ⟨0, _⟩ => show i.val = 0 + 1 * i.val; omega
    | ⟨1, _⟩ => show c.val = 0 + 1 * c.val; omega
  rw [e, View.canon_cons_emb]
  refine (same2 w shapeCasts_S16x512_S16x512 _).trans ((hw _ _).trans ?_)
  show vp A b (512 * s + (512 + i.val)) c = _
  exact congrArg (fun n => vp A b n c) (by omega)

variable (m : (ℓ : Loc nD τ sig) → Buf (Elt Ideal) ℓ)

/-- The blocks of a point are a tile's. -/
abbrev TileBlocks (A : Args) (b : Fin 32) (s : ℕ) (c : Dev nD) (t : Fin cfg0.N) : Prop :=
  Blocks A b s (iblk m c 0 t) (iblk m c 1 t) (iblk m c 2 t) (iblk m c 3 t) (iblk m c 4 t) (iblk m c 5 t)
    (half (iblk m c 6 t) 0) (half (iblk m c 6 t) 1) (iblk m c 7 t) (iblk m c 8 t)

theorem leavesA {A : Args} {b : Fin 32} {s : ℕ} (c : Dev nD) (t : Fin cfg0.N) (h0 : t.val % 4 = 0) (B : TileBlocks m A b s c t)
    (hi : (grid0.coords t 1).val = s) (hs : s = 0) : Leaves A b s B.hs (storesA m c t h0).left := by
  have hm := mixedA B c (grid0.coords t) (hs0_0 t) (hs0_1 t) (hs0_2 t) (hs0_4 t) (hs0_5 t) (hs0_6 t) (hs0_7 t) (arg17 := scM0_0) (arg18 := scM0_1) hi hs
  constructor
  · intro r d
    unfold Stores.left storesA kernelRun0_A
    dsimp only
    rw [View.canon_unit_zero (funext zero3)]
    unfold k0_pay37
    refine (add3 _ shapeCasts_S512x1024_S1x512x1024 r d).trans ?_
    unfold kernelRun0_A.sl.r kernelRun0_A.sl.r_5 kernelRun0_A.sl.r_20
    rw [read_whole (hs0_0 t) (iblk m c 0 t) (off := ![0, 0, 0]) zero3, read_whole (hs0_1 t) (iblk m c 1 t) (off := ![0, 0, 0]) zero3, read_whole (hs0_8 t) (iblk m c 8 t) (off := ![0, 0, 0]) zero3]
    exact x1_apply B _ hm r d
  · intro y
    refine packed_of (kernelRun0_A.sl.r_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 scM0_1 (iblk m c 0 t) (iblk m c 1 t) (iblk m c 2 t) (iblk m c 3 t) (iblk m c 4 t) (iblk m c 5 t) (iblk m c 6 t) (iblk m c 7 t) (iblk m c 8 t)) _ ?_ _ ?_ y ((coversA m c t h0).h y)
    · intro r d
      unfold kernelRun0_A.sl.r_21 kernelRun0_A.sl.r kernelRun0_A.sl.r_1 kernelRun0_A.sl.r_2 kernelRun0_A.sl.r_5 kernelRun0_A.sl.r_20
      rw [read_whole (hs0_0 t) (iblk m c 0 t) (off := ![0, 0, 0]) zero3, read_whole (hs0_1 t) (iblk m c 1 t) (off := ![0, 0, 0]) zero3, read_whole (hs0_3 t) (iblk m c 3 t) (off := ![0, 0]) zero2, read_whole (hs0_8 t) (iblk m c 8 t) (off := ![0, 0, 0]) zero3]
      exact h2_apply B _ hm r d
    · rfl
  · intro i k hi8
    unfold Stores.left storesA kernelRun0_A
    dsimp only
    refine tail_g _ _ _ (fun i c' => ?_) i k hi8
    unfold kernelRun0_A.sl.v154
    rw [View.readCov_eq_canon']
    refine (gateA B c (hs0_0 t) (hs0_1 t) (hs0_2 t) (hs0_4 t) hs _).trans (congrArg (gateRow A b s) ?_)
    funext a
    refine Fin.ext ?_
    match a with
    | ⟨0, _⟩ => show 512 + 1 * i.val = 512 + i.val; omega
    | ⟨1, _⟩ => show 0 + 1 * c'.val = c'.val; omega
  · intro i k hi8
    unfold Stores.left storesA kernelRun0_A
    dsimp only
    refine tail_v _ _ _ (fun i c' => ?_) i k hi8
    unfold kernelRun0_A.sl.v158
    rw [View.readCov_eq_canon']
    refine (valA B c (hs0_0 t) (hs0_1 t) (hs0_2 t) (hs0_4 t) hs _).trans (congrArg (valRow A b s) ?_)
    funext a
    refine Fin.ext ?_
    match a with
    | ⟨0, _⟩ => show 512 + 1 * i.val = 512 + i.val; omega
    | ⟨1, _⟩ => show 0 + 1 * c'.val = c'.val; omega

theorem leavesB {A : Args} {b : Fin 32} {s : ℕ} (c : Dev nD) (t : Fin cfg0.N) (h0 : ¬t.val % 4 = 0) (B : TileBlocks m A b s c t)
    (hi : (grid0.coords t 1).val = s) (g : Vec Ideal S520x512 .f32) (v : Vec Ideal S528x512 .f32) (hC : Carried A b s g v) :
    Leaves A b s B.hs (storesB m c t h0 g v).left := by
  have hm := mixedB B c (grid0.coords t) (hs0_0 t) (hs0_1 t) (hs0_2 t) (hs0_4 t) (hs0_5 t) (hs0_6 t) (hs0_7 t) (arg17 := scM0_0) (Memref.isWhole_whole _) (arg18 := scM0_1) (Memref.isWhole_whole _) hi hC
  constructor
  · intro r d
    unfold Stores.left storesB kernelRun0_B
    dsimp only
    rw [View.canon_unit_zero (funext zero3)]
    unfold k0_pay37
    refine (add3 _ shapeCasts_S512x1024_S1x512x1024 r d).trans ?_
    unfold kernelRun0_B.sl.r kernelRun0_B.sl.r_5 kernelRun0_B.sl.r_20
    rw [read_whole (hs0_0 t) (iblk m c 0 t) (off := ![0, 0, 0]) zero3, read_whole (hs0_1 t) (iblk m c 1 t) (off := ![0, 0, 0]) zero3, read_whole (hs0_8 t) (iblk m c 8 t) (off := ![0, 0, 0]) zero3]
    exact x1_apply B _ hm r d
  · intro y
    refine packed_of (kernelRun0_B.sl.r_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) g v) _ ?_ _ ?_ y ((coversB m c t h0 g v).h y)
    · intro r d
      unfold kernelRun0_B.sl.r_21 kernelRun0_B.sl.r kernelRun0_B.sl.r_1 kernelRun0_B.sl.r_2 kernelRun0_B.sl.r_5 kernelRun0_B.sl.r_20
      rw [read_whole (hs0_0 t) (iblk m c 0 t) (off := ![0, 0, 0]) zero3, read_whole (hs0_1 t) (iblk m c 1 t) (off := ![0, 0, 0]) zero3, read_whole (hs0_3 t) (iblk m c 3 t) (off := ![0, 0]) zero2, read_whole (hs0_8 t) (iblk m c 8 t) (off := ![0, 0, 0]) zero3]
      exact h2_apply B _ hm r d
    · rfl
  · intro i k hi8
    unfold Stores.left storesB kernelRun0_B
    dsimp only
    refine tail_g _ _ _ (fun i c' => ?_) i k hi8
    unfold kernelRun0_B.sl.v154
    rw [View.readCov_eq_canon']
    refine (gateB_own B c (hs0_0 t) (hs0_1 t) (hs0_2 t) (hs0_4 t) _ ?_).trans (congrArg (gateRow A b s) ?_)
    · show 8 ≤ 512 + 1 * i.val; omega
    funext a
    refine Fin.ext ?_
    match a with
    | ⟨0, _⟩ => show 512 + 1 * i.val = 512 + i.val; omega
    | ⟨1, _⟩ => show 0 + 1 * c'.val = c'.val; omega
  · intro i k hi8
    unfold Stores.left storesB kernelRun0_B
    dsimp only
    refine tail_v _ _ _ (fun i c' => ?_) i k hi8
    unfold kernelRun0_B.sl.v158
    rw [View.readCov_eq_canon']
    refine (valB_own B c (hs0_0 t) (hs0_1 t) (hs0_2 t) (hs0_4 t) _ ?_).trans (congrArg (valRow A b s) ?_)
    · show 16 ≤ 512 + 1 * i.val; omega
    funext a
    refine Fin.ext ?_
    match a with
    | ⟨0, _⟩ => show 512 + 1 * i.val = 512 + i.val; omega
    | ⟨1, _⟩ => show 0 + 1 * c'.val = c'.val; omega

end Cert.Kernel2Ideal.Mix

end
-- ==== Proof.Mix.Whole.lean ====
/- The mixer's two results as whole arrays, from its argument arrays: the residual stream, and the packed rows. -/
module

public import proofs.«01_k».proof.Proof.Mix.Spec

@[expose] public section

noncomputable section

namespace Cert.Mixer

open Idealize.ShloMosaic Idealize.ShloMosaic.ValueIdx
open scoped BigOperators

/-- The inputs by coordinates, from the argument arrays: the stream, the modulation, the two gains, the projection, the taps, the
    pooling matrices and their scale, and the output projection. The first of two layers' weights are the ones used. -/
def argsOf (a0 : (⟨3, ![32, 2048, 1024]⟩ : Shape).Idx → EReal) (a1 : (⟨2, ![32, 6144]⟩ : Shape).Idx → EReal)
    (a2 a3 : (⟨2, ![2, 1024]⟩ : Shape).Idx → EReal) (a4 : (⟨3, ![2, 1024, 2048]⟩ : Shape).Idx → EReal)
    (a5 : (⟨3, ![2, 3, 512]⟩ : Shape).Idx → EReal) (a6 : (⟨4, ![2, 4, 128, 128]⟩ : Shape).Idx → EReal)
    (a7 : (⟨2, ![2, 512]⟩ : Shape).Idx → EReal) (a8 : (⟨3, ![2, 1024, 1024]⟩ : Shape).Idx → EReal) : Args where
  x b t d := a0 (ix3 b t d)
  mod b j d := a1 (ix2 b ⟨1024 * j.val + d.val, by omega⟩)
  n1 d := a2 (ix2 0 d)
  n2 d := a3 (ix2 0 d)
  win d e := a4 (ix3 0 d e)
  cw j k := a5 (ix3 0 j k)
  pw g k q := a6 (ix4 0 g k q)
  ps k := a7 (ix2 0 k)
  wout k d := a8 (ix3 0 k d)

/-- The residual stream. -/
def stream (A : Args) : (⟨3, ![32, 2048, 1024]⟩ : Shape).Idx → EReal := fun y => x1 A (y 0) (y 1) (y 2)

/-- The packed rows: token `n` takes rows `16 n` to `16 n + 15`; row `16 n + 2 j + p` holds lanes `512 p + 128 j` to
    `512 p + 128 j + 127` of its normalised row for `j < 4`, and zeros for the others. -/
def rows (A : Args) : (⟨2, ![1048576, 128]⟩ : Shape).Idx → EReal := fun y =>
  if h : (y 0).val % 16 < 8 then
    h2 A ⟨(y 0).val / 16 / 2048, by have h0 : (y 0).val < 1048576 := (y 0).isLt; omega⟩ ⟨(y 0).val / 16 % 2048, Nat.mod_lt _ (by omega)⟩
      ⟨512 * ((y 0).val % 2) + 128 * ((y 0).val % 16 / 2) + (y 1).val, by have h1 : (y 1).val < 128 := (y 1).isLt; omega⟩
  else 0

end Cert.Mixer

end
-- ==== Proof.Mix.Arrays.lean ====
/- The kernel's two result arrays, index by index, at the ideal values: the tiles' blocks hold the mixer's inputs, each tile finds
   the rows the tile before carried on, and the arrays end at the mixer's mathematics. -/
module

public import proofs.«01_k».proof.Proof.Mix.Rows
public import proofs.«01_k».proof.Proof.Mix.Whole
public import Idealize.ShloMosaic.Lib.Pipeline.ValueKit.Geometry

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Idealize.ShloMosaic.ValueIdx
open Idealize.ShloMosaic.Pipeline (Dat Cfg Window BodyObligation cellOf)
open Cert.Mixer
open scoped BigOperators

variable (m : (ℓ : Loc nD τ sig) → Buf (Elt Ideal) ℓ) (c : Dev nD)

/-- Argument `b` of device `c` as the run finds it. -/
abbrev arg (b : Ref sig .tc) : Buf (Elt Ideal) ((c : Thread nD τ).loc b) := m ((c : Thread nD τ).loc b)

/-- The mixer's inputs on device `c`. -/
abbrev argsAt : Args := argsOf (arg m c main_arg0) (arg m c main_arg1) (arg m c main_arg2) (arg m c main_arg3) (arg m c main_arg4) (arg m c main_arg5)
  (arg m c main_arg6) (arg m c main_arg7) (arg m c main_arg8)

/-! ## What the host hands the call -/

/-- A matrix's block diagonal of two: the top rows. -/
theorem diag_top (a z z' b : Vec Ideal S2x128x128 .f32) (k q : Fin 256) (hk : k.val < 128) :
    concatenate S2x256x256 1 [⟨S2x128x256, concatenate S2x128x256 2 [⟨S2x128x128, a⟩, ⟨S2x128x128, z⟩] concatenates_S2x128x128_S2x128x128_S2x128x256_d2⟩,
      ⟨S2x128x256, concatenate S2x128x256 2 [⟨S2x128x128, z'⟩, ⟨S2x128x128, b⟩] concatenates_S2x128x128_S2x128x128_S2x128x256_d2⟩]
      concatenates_S2x128x256_S2x128x256_S2x256x256_d1 (ix3 0 k q)
      = if h : q.val < 128 then a (ix3 0 ⟨k.val, hk⟩ ⟨q.val, h⟩) else z (ix3 0 ⟨k.val, hk⟩ ⟨q.val - 128, by omega⟩) := by
  refine (concatenate_pair_apply_left (s₁ := S2x128x256) (s₂ := S2x128x256) 1 _ _ _ (ix3 0 k q : S2x256x256.Idx) rfl (ix3 0 ⟨k.val, hk⟩ q : S2x128x256.Idx) fun c => ?_).trans ?_
  · match c with | ⟨0, _⟩ => rfl | ⟨1, _⟩ => rfl | ⟨2, _⟩ => rfl
  by_cases h : q.val < 128
  · rw [dif_pos h]
    refine concatenate_pair_apply_left (s₁ := S2x128x128) (s₂ := S2x128x128) 2 _ _ _ (ix3 0 ⟨k.val, hk⟩ q : S2x128x256.Idx) rfl (ix3 0 ⟨k.val, hk⟩ ⟨q.val, h⟩ : S2x128x128.Idx) fun c => ?_
    match c with | ⟨0, _⟩ => rfl | ⟨1, _⟩ => rfl | ⟨2, _⟩ => rfl
  · rw [dif_neg h]
    refine concatenate_pair_apply_right (s₁ := S2x128x128) (s₂ := S2x128x128) 2 _ _ _ (ix3 0 ⟨k.val, hk⟩ q : S2x128x256.Idx) rfl rfl (ix3 0 ⟨k.val, hk⟩ ⟨q.val - 128, by omega⟩ : S2x128x128.Idx) (fun c hc => ?_) ?_
    · match c with | ⟨0, _⟩ => rfl | ⟨1, _⟩ => rfl | ⟨2, _⟩ => exact absurd rfl hc
    · show q.val - 128 + 128 = q.val; omega

/-- The bottom rows. -/
theorem diag_bottom (a z z' b : Vec Ideal S2x128x128 .f32) (k q : Fin 256) (hk : ¬k.val < 128) :
    concatenate S2x256x256 1 [⟨S2x128x256, concatenate S2x128x256 2 [⟨S2x128x128, a⟩, ⟨S2x128x128, z⟩] concatenates_S2x128x128_S2x128x128_S2x128x256_d2⟩,
      ⟨S2x128x256, concatenate S2x128x256 2 [⟨S2x128x128, z'⟩, ⟨S2x128x128, b⟩] concatenates_S2x128x128_S2x128x128_S2x128x256_d2⟩]
      concatenates_S2x128x256_S2x128x256_S2x256x256_d1 (ix3 0 k q)
      = if h : q.val < 128 then z' (ix3 0 ⟨k.val - 128, by omega⟩ ⟨q.val, h⟩) else b (ix3 0 ⟨k.val - 128, by omega⟩ ⟨q.val - 128, by omega⟩) := by
  refine (concatenate_pair_apply_right (s₁ := S2x128x256) (s₂ := S2x128x256) 1 _ _ _ (ix3 0 k q : S2x256x256.Idx) rfl rfl (ix3 0 ⟨k.val - 128, by omega⟩ q : S2x128x256.Idx) (fun c hc => ?_) ?_).trans ?_
  · match c with | ⟨0, _⟩ => rfl | ⟨1, _⟩ => exact absurd rfl hc | ⟨2, _⟩ => rfl
  · show k.val - 128 + 128 = k.val; omega
  by_cases h : q.val < 128
  · rw [dif_pos h]
    refine concatenate_pair_apply_left (s₁ := S2x128x128) (s₂ := S2x128x128) 2 _ _ _ (ix3 0 ⟨k.val - 128, by omega⟩ q : S2x128x256.Idx) rfl (ix3 0 ⟨k.val - 128, by omega⟩ ⟨q.val, h⟩ : S2x128x128.Idx) fun c => ?_
    match c with | ⟨0, _⟩ => rfl | ⟨1, _⟩ => rfl | ⟨2, _⟩ => rfl
  · rw [dif_neg h]
    refine concatenate_pair_apply_right (s₁ := S2x128x128) (s₂ := S2x128x128) 2 _ _ _ (ix3 0 ⟨k.val - 128, by omega⟩ q : S2x128x256.Idx) rfl rfl (ix3 0 ⟨k.val - 128, by omega⟩ ⟨q.val - 128, by omega⟩ : S2x128x128.Idx) (fun c hc => ?_) ?_
    · match c with | ⟨0, _⟩ => rfl | ⟨1, _⟩ => rfl | ⟨2, _⟩ => exact absurd rfl hc
    · show q.val - 128 + 128 = q.val; omega

/-- Zeros. -/
abbrev zeros : Vec Ideal S2x128x128 .f32 := broadcastInDim S2x128x128 ![] bcast_S_S2x128x128 (broadcast S_ (Scalar.ofBits .f32 0x00000000#32 : Ideal .f32))

theorem zeros_at (y : S2x128x128.Idx) : zeros y = 0 := Ideal.ofBits_zero_f32

/-- One pooling matrix of each layer. -/
abbrev poolAt (o : ℕ) (h : S2x4x128x128.Slices ![0, o, 0, 0] S2x1x128x128) : Vec Ideal S2x128x128 .f32 :=
  shapeCast S2x128x128 (extractStridedSlice S2x1x128x128 ![0, o, 0, 0] (arg m c main_arg6 : Vec Ideal S2x4x128x128 .f32) h) shapeCasts_S2x1x128x128_S2x128x128

theorem poolAt_apply (o : Fin 4) (h) (k q : Fin 128) : poolAt m c o.val h (ix3 0 k q) = (argsAt m c).pw o k q := by
  refine (shapeCast_apply _ _ _ (ix4 0 0 k q : S2x1x128x128.Idx) ?_).trans ?_
  · rewrite [Shape.rowMajor_val_three, Shape.rowMajor_val_four]
    show ((0 * 1 + 0) * 128 + k.val) * 128 + q.val = (0 * 128 + k.val) * 128 + q.val
    omega
  refine extractStridedSlice_apply _ _ _ _ (ix4 0 o k q : S2x4x128x128.Idx) fun c => ?_
  match c with
  | ⟨0, _⟩ => rfl
  | ⟨1, _⟩ => rfl
  | ⟨2, _⟩ => show k.val = 0 + k.val; omega
  | ⟨3, _⟩ => show q.val = 0 + q.val; omega

/-- Two matrices on a diagonal. -/
abbrev diag (a b : Vec Ideal S2x128x128 .f32) : Vec Ideal S2x256x256 .f32 :=
  concatenate S2x256x256 1 [⟨S2x128x256, concatenate S2x128x256 2 [⟨S2x128x128, a⟩, ⟨S2x128x128, zeros⟩] concatenates_S2x128x128_S2x128x128_S2x128x256_d2⟩,
      ⟨S2x128x256, concatenate S2x128x256 2 [⟨S2x128x128, zeros⟩, ⟨S2x128x128, b⟩] concatenates_S2x128x128_S2x128x128_S2x128x256_d2⟩]
      concatenates_S2x128x256_S2x128x256_S2x256x256_d1

/-- The diagonal of two of the pooling matrices, at an index. -/
theorem diag_apply (g : ℕ) (hg : g ≤ 2) (h h') (k q : Fin 256) :
    diag (poolAt m c g h) (poolAt m c (g + 1) h') (ix3 0 k q)
      = if k.val / 128 = q.val / 128 then (argsAt m c).pw ⟨g + q.val / 128, by omega⟩ ⟨k.val % 128, by omega⟩ ⟨q.val % 128, by omega⟩ else 0 := by
  have fit (o o' : Fin 4) (k k' q q' : Fin 128) (e : o.val = o'.val) (e1 : k.val = k'.val) (e2 : q.val = q'.val) :
      (argsAt m c).pw o k q = (argsAt m c).pw o' k' q' := by rw [Fin.ext e, Fin.ext e1, Fin.ext e2]
  by_cases hk : k.val < 128
  · refine (diag_top _ _ _ _ k q hk).trans ?_
    by_cases hq : q.val < 128
    · rw [dif_pos hq, if_pos (by omega)]
      refine (poolAt_apply m c ⟨g, by omega⟩ h _ _).trans (fit _ _ _ _ _ _ ?_ ?_ ?_)
      · show g = g + q.val / 128; omega
      · show k.val = k.val % 128; omega
      · show q.val = q.val % 128; omega
    · rw [dif_neg hq, if_neg (by omega)]
      exact zeros_at _
  · refine (diag_bottom _ _ _ _ k q hk).trans ?_
    by_cases hq : q.val < 128
    · rw [dif_pos hq, if_neg (by omega)]
      exact zeros_at _
    · rw [dif_neg hq, if_pos (by omega)]
      refine (poolAt_apply m c ⟨g + 1, by omega⟩ h' _ _).trans (fit _ _ _ _ _ _ ?_ ?_ ?_)
      · show g + 1 = g + q.val / 128; omega
      · show k.val - 128 = k.val % 128; omega
      · show q.val - 128 = q.val % 128; omega

/-- A row of a table of two, taken apart and put together again. -/
theorem rowOf {n : ℕ} (x : (⟨2, ![2, n]⟩ : Shape).Idx → EReal) (h : (⟨2, ![2, n]⟩ : Shape).Slices ![0, 0] ⟨2, ![1, n]⟩)
    (h1 : (⟨2, ![1, n]⟩ : Shape).ShapeCasts ⟨1, ![n]⟩) (h2 : (⟨1, ![n]⟩ : Shape).ShapeCasts ⟨2, ![1, n]⟩) (d : Fin n) :
    shapeCast ⟨2, ![1, n]⟩ (shapeCast ⟨1, ![n]⟩ (extractStridedSlice ⟨2, ![1, n]⟩ ![0, 0] x h) h1) h2 (ix2 0 d) = x (ix2 0 d) := by
  refine (shapeCast_apply _ _ _ (ix1 d) ?_).trans ((shapeCast_apply _ _ _ (ix2 0 d) ?_).trans (slice2 x h 0 d 0 d rfl (by omega)))
  · rewrite [Shape.rowMajor_val_one, Shape.rowMajor_val_two]
    show d.val = 0 * n + d.val
    omega
  · rewrite [Shape.rowMajor_val_one, Shape.rowMajor_val_two]
    show 0 * n + d.val = d.val
    omega

theorem V_main_v22 : V m c main_v22 = shapeCast S32x6x1024 (arg m c main_arg1 : Vec Ideal S32x6144 .f32) shapeCasts_S32x6144_S32x6x1024 := by
  with_unfolding_all rfl
theorem V_main_v25 : V m c main_v25 = shapeCast S1x1024 (shapeCast S1024 (extractStridedSlice S1x1024 ![0, 0] (arg m c main_arg2 : Vec Ideal S2x1024 .f32) slices_S2x1024_S1x1024_0_0)
    shapeCasts_S1x1024_S1024) shapeCasts_S1024_S1x1024 := by
  with_unfolding_all rfl
theorem V_main_v28 : V m c main_v28 = shapeCast S1x1024 (shapeCast S1024 (extractStridedSlice S1x1024 ![0, 0] (arg m c main_arg3 : Vec Ideal S2x1024 .f32) slices_S2x1024_S1x1024_0_0)
    shapeCasts_S1x1024_S1024) shapeCasts_S1024_S1x1024 := by
  with_unfolding_all rfl
theorem V_main_v29 : V m c main_v29 = arg m c main_arg4 := by
  with_unfolding_all rfl
theorem V_main_v31 : V m c main_v31 = shapeCast S3x512 (extractStridedSlice S1x3x512 ![0, 0, 0] (arg m c main_arg5 : Vec Ideal S2x3x512 .f32) slices_S2x3x512_S1x3x512_0_0_0)
    shapeCasts_S1x3x512_S3x512 := by
  with_unfolding_all rfl
set_option maxHeartbeats 6400000 in
theorem V_main_v33 : V m c main_v33 = shapeCast S2x256x256 (extractStridedSlice S1x2x256x256 ![0, 0, 0, 0]
    (concatenate S2x2x256x256 1 [⟨S2x1x256x256, broadcastInDim S2x1x256x256 ![0, 2, 3] bcast_S2x256x256_S2x1x256x256_0_2_3
        (diag (poolAt m c 0 slices_S2x4x128x128_S2x1x128x128_0_0_0_0) (poolAt m c 1 slices_S2x4x128x128_S2x1x128x128_0_1_0_0))⟩,
      ⟨S2x1x256x256, broadcastInDim S2x1x256x256 ![0, 2, 3] bcast_S2x256x256_S2x1x256x256_0_2_3
        (diag (poolAt m c 2 slices_S2x4x128x128_S2x1x128x128_0_2_0_0) (poolAt m c 3 slices_S2x4x128x128_S2x1x128x128_0_3_0_0))⟩]
      concatenates_S2x1x256x256_S2x1x256x256_S2x2x256x256_d1) slices_S2x2x256x256_S1x2x256x256_0_0_0_0) shapeCasts_S1x2x256x256_S2x256x256 := by
  with_unfolding_all rfl
theorem V_main_v36 : V m c main_v36 = shapeCast S1x512 (shapeCast S512 (extractStridedSlice S1x512 ![0, 0] (arg m c main_arg7 : Vec Ideal S2x512 .f32) slices_S2x512_S1x512_0_0)
    shapeCasts_S1x512_S512) shapeCasts_S512_S1x512 := by
  with_unfolding_all rfl
theorem V_main_v37 : V m c main_v37 = arg m c main_arg8 := by
  with_unfolding_all rfl

theorem pooled_weights (k q : Fin 256) : V m c main_v33 (ix3 0 k q : S2x256x256.Idx)
    = if k.val / 128 = q.val / 128 then (argsAt m c).pw ⟨q.val / 128, by omega⟩ ⟨k.val % 128, by omega⟩ ⟨q.val % 128, by omega⟩ else 0 := by
  rw [V_main_v33]
  refine (shapeCast_apply _ _ _ (ix4 0 0 k q : S1x2x256x256.Idx) ?_).trans ?_
  · rewrite [Shape.rowMajor_val_three, Shape.rowMajor_val_four]
    show ((0 * 2 + 0) * 256 + k.val) * 256 + q.val = (0 * 256 + k.val) * 256 + q.val
    omega
  refine (extractStridedSlice_apply _ _ _ _ (ix4 0 0 k q : S2x2x256x256.Idx) fun c => ?_).trans ?_
  · match c with
    | ⟨0, _⟩ => rfl
    | ⟨1, _⟩ => rfl
    | ⟨2, _⟩ => show k.val = 0 + k.val; omega
    | ⟨3, _⟩ => show q.val = 0 + q.val; omega
  refine (concatenate_pair_apply_left (s₁ := S2x1x256x256) (s₂ := S2x1x256x256) 1 _ _ _ (ix4 0 0 k q : S2x2x256x256.Idx) rfl (ix4 0 0 k q : S2x1x256x256.Idx) fun c => ?_).trans ?_
  · match c with | ⟨0, _⟩ => rfl | ⟨1, _⟩ => rfl | ⟨2, _⟩ => rfl | ⟨3, _⟩ => rfl
  refine (broadcastInDim_apply _ _ _ _ (ix3 0 k q : S2x256x256.Idx) fun c => ?_).trans ?_
  · match c with | ⟨0, _⟩ => rfl | ⟨1, _⟩ => rfl | ⟨2, _⟩ => rfl
  refine (diag_apply m c 0 (by omega) _ _ k q).trans ?_
  simp only [Nat.zero_add]

theorem pooled_weights' (k q : Fin 256) : V m c main_v33 (ix3 1 k q : S2x256x256.Idx)
    = if k.val / 128 = q.val / 128 then (argsAt m c).pw ⟨2 + q.val / 128, by omega⟩ ⟨k.val % 128, by omega⟩ ⟨q.val % 128, by omega⟩ else 0 := by
  rw [V_main_v33]
  refine (shapeCast_apply _ _ _ (ix4 0 1 k q : S1x2x256x256.Idx) ?_).trans ?_
  · rewrite [Shape.rowMajor_val_three, Shape.rowMajor_val_four]
    show ((0 * 2 + 1) * 256 + k.val) * 256 + q.val = (1 * 256 + k.val) * 256 + q.val
    omega
  refine (extractStridedSlice_apply _ _ _ _ (ix4 0 1 k q : S2x2x256x256.Idx) fun c => ?_).trans ?_
  · match c with
    | ⟨0, _⟩ => rfl
    | ⟨1, _⟩ => rfl
    | ⟨2, _⟩ => show k.val = 0 + k.val; omega
    | ⟨3, _⟩ => show q.val = 0 + q.val; omega
  refine (concatenate_pair_apply_right (s₁ := S2x1x256x256) (s₂ := S2x1x256x256) 1 _ _ _ (ix4 0 1 k q : S2x2x256x256.Idx) rfl rfl (ix4 0 0 k q : S2x1x256x256.Idx) (fun c hc => ?_) rfl).trans ?_
  · match c with | ⟨0, _⟩ => rfl | ⟨1, _⟩ => exact absurd rfl hc | ⟨2, _⟩ => rfl | ⟨3, _⟩ => rfl
  refine (broadcastInDim_apply _ _ _ _ (ix3 0 k q : S2x256x256.Idx) fun c => ?_).trans ?_
  · match c with | ⟨0, _⟩ => rfl | ⟨1, _⟩ => rfl | ⟨2, _⟩ => rfl
  exact diag_apply m c 2 (by omega) _ _ k q

/-! ## The grid and the blocks -/

/-- Point `t` is tile `t % 4` of sequence `t / 4`. -/
theorem coord0 (t : Fin cfg0.N) : (grid0.coords t 0).val = t.val / 4 :=
  (by decide +kernel : ∀ t : Fin grid0.N, (grid0.coords t 0).val = t.val / 4) t
theorem coord1 (t : Fin cfg0.N) : (grid0.coords t 1).val = t.val % 4 :=
  (by decide +kernel : ∀ t : Fin grid0.N, (grid0.coords t 1).val = t.val % 4) t
theorem points (t : Fin cfg0.N) : t.val < 128 := lt_of_lt_of_eq t.isLt (by decide +kernel : grid0.N = 128)

theorem index_0 (t : Fin cfg0.N) : (cfg0.win 0).index t = ![t.val / 4, t.val % 4, 0] :=
  (by decide +kernel : ∀ t : Fin grid0.N, cc0_transform_0 (grid0.coords t) = ![t.val / 4, t.val % 4, 0]) t

theorem blk0_apply (t : Fin cfg0.N) (y : S1x512x1024.Idx) (i : S32x2048x1024.Idx) (h0 : (i 0).val = t.val / 4) (h1 : (i 1).val = 512 * (t.val % 4) + (y 1).val) (h2 : (i 2).val = (y 2).val) :
    iblk m c 0 t y = V m c main_arg0 i := by
  show V m c main_arg0 (((cfg0.win 0).blk t).view.emb y) = _
  congr 1
  funext a
  apply Fin.ext
  match a with
  | ⟨0, _⟩ => blk_simp; exact (congrFun (index_0 t) (0 : Fin 3)).trans h0.symm
  | ⟨1, _⟩ => blk_simp; refine (congrArg (fun n : Nat => n * 512 + (y 1).val) (congrFun (index_0 t) (1 : Fin 3))).trans ?_; exact (by omega : (t.val % 4) * 512 + (y 1).val = (i 1).val)
  | ⟨2, _⟩ => blk_simp; refine (congrArg (fun n : Nat => n * 1024 + (y 2).val) (congrFun (index_0 t) (2 : Fin 3))).trans ?_; exact (by omega : (0) * 1024 + (y 2).val = (i 2).val)

theorem index_1 (t : Fin cfg0.N) : (cfg0.win 1).index t = ![t.val / 4, 0, 0] :=
  (by decide +kernel : ∀ t : Fin grid0.N, cc0_transform_1 (grid0.coords t) = ![t.val / 4, 0, 0]) t

theorem blk1_apply (t : Fin cfg0.N) (y : S1x6x1024.Idx) (i : S32x6x1024.Idx) (h0 : (i 0).val = t.val / 4) (h1 : (i 1).val = (y 1).val) (h2 : (i 2).val = (y 2).val) :
    iblk m c 1 t y = V m c main_v22 i := by
  show V m c main_v22 (((cfg0.win 1).blk t).view.emb y) = _
  congr 1
  funext a
  apply Fin.ext
  match a with
  | ⟨0, _⟩ => blk_simp; exact (congrFun (index_1 t) (0 : Fin 3)).trans h0.symm
  | ⟨1, _⟩ => blk_simp; refine (congrArg (fun n : Nat => n * 6 + (y 1).val) (congrFun (index_1 t) (1 : Fin 3))).trans ?_; exact (by omega : (0) * 6 + (y 1).val = (i 1).val)
  | ⟨2, _⟩ => blk_simp; refine (congrArg (fun n : Nat => n * 1024 + (y 2).val) (congrFun (index_1 t) (2 : Fin 3))).trans ?_; exact (by omega : (0) * 1024 + (y 2).val = (i 2).val)

theorem index_2 (t : Fin cfg0.N) : (cfg0.win 2).index t = ![0, 0] :=
  (by decide +kernel : ∀ t : Fin grid0.N, cc0_transform_2 (grid0.coords t) = ![0, 0]) t

theorem blk2_apply (t : Fin cfg0.N) (y : S1x1024.Idx) (i : S1x1024.Idx) (h0 : (i 0).val = 0) (h1 : (i 1).val = (y 1).val) :
    iblk m c 2 t y = V m c main_v25 i := by
  show V m c main_v25 (((cfg0.win 2).blk t).view.emb y) = _
  congr 1
  funext a
  apply Fin.ext
  match a with
  | ⟨0, _⟩ => blk_simp; exact congrFun (index_2 t) (0 : Fin 2)
  | ⟨1, _⟩ => blk_simp; refine (congrArg (fun n : Nat => n * 1024 + (y 1).val) (congrFun (index_2 t) (1 : Fin 2))).trans ?_; exact (by omega : (0) * 1024 + (y 1).val = (i 1).val)

theorem index_3 (t : Fin cfg0.N) : (cfg0.win 3).index t = ![0, 0] :=
  (by decide +kernel : ∀ t : Fin grid0.N, cc0_transform_3 (grid0.coords t) = ![0, 0]) t

theorem blk3_apply (t : Fin cfg0.N) (y : S1x1024.Idx) (i : S1x1024.Idx) (h0 : (i 0).val = 0) (h1 : (i 1).val = (y 1).val) :
    iblk m c 3 t y = V m c main_v28 i := by
  show V m c main_v28 (((cfg0.win 3).blk t).view.emb y) = _
  congr 1
  funext a
  apply Fin.ext
  match a with
  | ⟨0, _⟩ => blk_simp; exact congrFun (index_3 t) (0 : Fin 2)
  | ⟨1, _⟩ => blk_simp; refine (congrArg (fun n : Nat => n * 1024 + (y 1).val) (congrFun (index_3 t) (1 : Fin 2))).trans ?_; exact (by omega : (0) * 1024 + (y 1).val = (i 1).val)

theorem index_4 (t : Fin cfg0.N) : (cfg0.win 4).index t = ![0, 0, 0] :=
  (by decide +kernel : ∀ t : Fin grid0.N, cc0_transform_4 (grid0.coords t) = ![0, 0, 0]) t

theorem blk4_apply (t : Fin cfg0.N) (y : S1x1024x2048.Idx) (i : S2x1024x2048.Idx) (h0 : (i 0).val = 0) (h1 : (i 1).val = (y 1).val) (h2 : (i 2).val = (y 2).val) :
    iblk m c 4 t y = V m c main_v29 i := by
  show V m c main_v29 (((cfg0.win 4).blk t).view.emb y) = _
  congr 1
  funext a
  apply Fin.ext
  match a with
  | ⟨0, _⟩ => blk_simp; exact (congrFun (index_4 t) (0 : Fin 3)).trans h0.symm
  | ⟨1, _⟩ => blk_simp; refine (congrArg (fun n : Nat => n * 1024 + (y 1).val) (congrFun (index_4 t) (1 : Fin 3))).trans ?_; exact (by omega : (0) * 1024 + (y 1).val = (i 1).val)
  | ⟨2, _⟩ => blk_simp; refine (congrArg (fun n : Nat => n * 2048 + (y 2).val) (congrFun (index_4 t) (2 : Fin 3))).trans ?_; exact (by omega : (0) * 2048 + (y 2).val = (i 2).val)

theorem index_5 (t : Fin cfg0.N) : (cfg0.win 5).index t = ![0, 0] :=
  (by decide +kernel : ∀ t : Fin grid0.N, cc0_transform_5 (grid0.coords t) = ![0, 0]) t

theorem blk5_apply (t : Fin cfg0.N) (y : S3x512.Idx) (i : S3x512.Idx) (h0 : (i 0).val = (y 0).val) (h1 : (i 1).val = (y 1).val) :
    iblk m c 5 t y = V m c main_v31 i := by
  show V m c main_v31 (((cfg0.win 5).blk t).view.emb y) = _
  congr 1
  funext a
  apply Fin.ext
  match a with
  | ⟨0, _⟩ => blk_simp; refine (congrArg (fun n : Nat => n * 3 + (y 0).val) (congrFun (index_5 t) (0 : Fin 2))).trans ?_; exact (by omega : (0) * 3 + (y 0).val = (i 0).val)
  | ⟨1, _⟩ => blk_simp; refine (congrArg (fun n : Nat => n * 512 + (y 1).val) (congrFun (index_5 t) (1 : Fin 2))).trans ?_; exact (by omega : (0) * 512 + (y 1).val = (i 1).val)

theorem index_6 (t : Fin cfg0.N) : (cfg0.win 6).index t = ![0, 0, 0] :=
  (by decide +kernel : ∀ t : Fin grid0.N, cc0_transform_6 (grid0.coords t) = ![0, 0, 0]) t

theorem blk6_apply (t : Fin cfg0.N) (y : S2x256x256.Idx) (i : S2x256x256.Idx) (h0 : (i 0).val = (y 0).val) (h1 : (i 1).val = (y 1).val) (h2 : (i 2).val = (y 2).val) :
    iblk m c 6 t y = V m c main_v33 i := by
  show V m c main_v33 (((cfg0.win 6).blk t).view.emb y) = _
  congr 1
  funext a
  apply Fin.ext
  match a with
  | ⟨0, _⟩ => blk_simp; refine (congrArg (fun n : Nat => n * 2 + (y 0).val) (congrFun (index_6 t) (0 : Fin 3))).trans ?_; exact (by omega : (0) * 2 + (y 0).val = (i 0).val)
  | ⟨1, _⟩ => blk_simp; refine (congrArg (fun n : Nat => n * 256 + (y 1).val) (congrFun (index_6 t) (1 : Fin 3))).trans ?_; exact (by omega : (0) * 256 + (y 1).val = (i 1).val)
  | ⟨2, _⟩ => blk_simp; refine (congrArg (fun n : Nat => n * 256 + (y 2).val) (congrFun (index_6 t) (2 : Fin 3))).trans ?_; exact (by omega : (0) * 256 + (y 2).val = (i 2).val)

theorem index_7 (t : Fin cfg0.N) : (cfg0.win 7).index t = ![0, 0] :=
  (by decide +kernel : ∀ t : Fin grid0.N, cc0_transform_7 (grid0.coords t) = ![0, 0]) t

theorem blk7_apply (t : Fin cfg0.N) (y : S1x512.Idx) (i : S1x512.Idx) (h0 : (i 0).val = 0) (h1 : (i 1).val = (y 1).val) :
    iblk m c 7 t y = V m c main_v36 i := by
  show V m c main_v36 (((cfg0.win 7).blk t).view.emb y) = _
  congr 1
  funext a
  apply Fin.ext
  match a with
  | ⟨0, _⟩ => blk_simp; exact congrFun (index_7 t) (0 : Fin 2)
  | ⟨1, _⟩ => blk_simp; refine (congrArg (fun n : Nat => n * 512 + (y 1).val) (congrFun (index_7 t) (1 : Fin 2))).trans ?_; exact (by omega : (0) * 512 + (y 1).val = (i 1).val)

theorem index_8 (t : Fin cfg0.N) : (cfg0.win 8).index t = ![0, 0, 0] :=
  (by decide +kernel : ∀ t : Fin grid0.N, cc0_transform_8 (grid0.coords t) = ![0, 0, 0]) t

theorem blk8_apply (t : Fin cfg0.N) (y : S1x1024x1024.Idx) (i : S2x1024x1024.Idx) (h0 : (i 0).val = 0) (h1 : (i 1).val = (y 1).val) (h2 : (i 2).val = (y 2).val) :
    iblk m c 8 t y = V m c main_v37 i := by
  show V m c main_v37 (((cfg0.win 8).blk t).view.emb y) = _
  congr 1
  funext a
  apply Fin.ext
  match a with
  | ⟨0, _⟩ => blk_simp; exact (congrFun (index_8 t) (0 : Fin 3)).trans h0.symm
  | ⟨1, _⟩ => blk_simp; refine (congrArg (fun n : Nat => n * 1024 + (y 1).val) (congrFun (index_8 t) (1 : Fin 3))).trans ?_; exact (by omega : (0) * 1024 + (y 1).val = (i 1).val)
  | ⟨2, _⟩ => blk_simp; refine (congrArg (fun n : Nat => n * 1024 + (y 2).val) (congrFun (index_8 t) (2 : Fin 3))).trans ?_; exact (by omega : (0) * 1024 + (y 2).val = (i 2).val)

/-- The blocks of point `t` are tile `t % 4` of sequence `t / 4`. -/
theorem blocks (t : Fin cfg0.N) : TileBlocks m (argsAt m c) ⟨t.val / 4, by have := points t; omega⟩ (t.val % 4) c t where
  hs := Nat.mod_lt _ (by omega)
  x r d := (blk0_apply m c t (ix3 0 r d) (ix3 ⟨t.val / 4, by have := points t; omega⟩ ⟨512 * (t.val % 4) + r.val, by omega⟩ d) rfl rfl rfl).trans
    (congrFun (V_main_arg0 m c) _)
  mod j d := by
    refine (blk1_apply m c t (ix3 0 j d) (ix3 ⟨t.val / 4, by have := points t; omega⟩ j d) rfl rfl rfl).trans ?_
    rw [V_main_v22]
    refine shapeCast_apply _ _ _ (ix2 ⟨t.val / 4, by have := points t; omega⟩ ⟨1024 * j.val + d.val, by omega⟩ : S32x6144.Idx) ?_
    rewrite [Shape.rowMajor_val_two, Shape.rowMajor_val_three]
    show t.val / 4 * 6144 + (1024 * j.val + d.val) = (t.val / 4 * 6 + j.val) * 1024 + d.val
    omega
  n1 d := by
    refine (blk2_apply m c t (ix2 0 d) (ix2 0 d) rfl rfl).trans ?_
    rw [V_main_v25]
    exact rowOf _ _ _ _ d
  n2 d := by
    refine (blk3_apply m c t (ix2 0 d) (ix2 0 d) rfl rfl).trans ?_
    rw [V_main_v28]
    exact rowOf _ _ _ _ d
  win d e := by
    refine (blk4_apply m c t (ix3 0 d e) (ix3 0 d e) rfl rfl rfl).trans ?_
    rw [V_main_v29]
    rfl
  cw j k := by
    refine (blk5_apply m c t (ix2 j k) (ix2 j k) rfl rfl).trans ?_
    rw [V_main_v31]
    refine (drop3 _ shapeCasts_S1x3x512_S3x512 j k).trans ?_
    refine extractStridedSlice_apply _ _ _ _ (ix3 0 j k : S2x3x512.Idx) fun c => ?_
    match c with
    | ⟨0, _⟩ => rfl
    | ⟨1, _⟩ => show j.val = 0 + j.val; omega
    | ⟨2, _⟩ => show k.val = 0 + k.val; omega
  pw0 k q := (blk6_apply m c t (ix3 0 k q) (ix3 0 k q) rfl rfl rfl).trans (pooled_weights m c k q)
  pw1 k q := (blk6_apply m c t (ix3 1 k q) (ix3 1 k q) rfl rfl rfl).trans (pooled_weights' m c k q)
  ps k := by
    refine (blk7_apply m c t (ix2 0 k) (ix2 0 k) rfl rfl).trans ?_
    rw [V_main_v36]
    exact rowOf _ _ _ _ k
  wout k d := by
    refine (blk8_apply m c t (ix3 0 k d) (ix3 0 k d) rfl rfl rfl).trans ?_
    rw [V_main_v37]
    rfl

/-! ## Every point -/

/-- What point `t` leaves. -/
theorem leaves (n : ℕ) (hn : n < cfg0.N) :
    Leaves (argsAt m c) ⟨n / 4, by have := points ⟨n, hn⟩; simp only at this; omega⟩ (n % 4) (Nat.mod_lt _ (by omega)) (left0 m c n hn) := by
  induction n with
  | zero =>
    have h := leavesA m c (⟨0, hn⟩ : Fin cfg0.N) rfl (blocks m c ⟨0, hn⟩) (coord1 _) rfl
    exact h
  | succ n ih =>
    by_cases h0 : (n + 1) % 4 = 0
    · have h := leavesA m c (⟨n + 1, hn⟩ : Fin cfg0.N) h0 (blocks m c ⟨n + 1, hn⟩) (coord1 _) h0
      rw [← left0_A m c ⟨n + 1, hn⟩ h0] at h
      exact h
    · have ih := ih (Nat.lt_of_succ_lt hn)
      have hC : Carried (argsAt m c) ⟨(n + 1) / 4, by have := points ⟨n + 1, hn⟩; simp only at this; omega⟩ ((n + 1) % 4) (left0 m c n (Nat.lt_of_succ_lt hn)).g (left0 m c n (Nat.lt_of_succ_lt hn)).v := by
        have e : (n + 1) % 4 = n % 4 + 1 := by omega
        have e' : (n + 1) / 4 = n / 4 := by omega
        simp only [e, e']
        exact ⟨ih.g, ih.v⟩
      have h := leavesB m c (⟨n + 1, hn⟩ : Fin cfg0.N) h0 (blocks m c ⟨n + 1, hn⟩) (coord1 _) _ _ hC
      exact (left0_B m c ⟨n + 1, hn⟩ h0) ▸ h

/-! ## The result arrays -/

theorem index_11 (t : Fin cfg0.N) : (cfg0.win 11).index t = ![t.val / 4, t.val % 4, 0] :=
  (by decide +kernel : ∀ t : Fin grid0.N, cc0_transform_11 (grid0.coords t) = ![t.val / 4, t.val % 4, 0]) t
theorem index_12 (t : Fin cfg0.N) : (cfg0.win 12).index t = ![t.val, 0] :=
  (by decide +kernel : ∀ t : Fin grid0.N, cc0_transform_12 (grid0.coords t) = ![t.val, 0]) t

theorem covers11 : (cfg0.win 11).Covers := by
  refine ⟨fun a => (by decide : ∀ a : Fin 3, 0 < S1x512x1024.size a) a, fun β => ?_⟩
  have b0 : (β (0 : Fin 3)).val < 32 := lt_of_lt_of_eq (β (0 : Fin 3)).isLt (by decide +kernel : (32 + 1 - 1) / 1 = 32)
  have b1 : (β (1 : Fin 3)).val < 4 := lt_of_lt_of_eq (β (1 : Fin 3)).isLt (by decide +kernel : (2048 + 512 - 1) / 512 = 4)
  have b2 : (β (2 : Fin 3)).val < 1 := lt_of_lt_of_eq (β (2 : Fin 3)).isLt (by decide +kernel : (1024 + 1024 - 1) / 1024 = 1)
  refine ⟨⟨4 * (β (0 : Fin 3)).val + (β (1 : Fin 3)).val, lt_of_lt_of_eq (by omega : _ < 128) (by decide +kernel : 128 = grid0.N)⟩, flush0_11 _, fun a => ⟨?_, Or.inl rfl⟩⟩
  match a with
  | ⟨0, _⟩ =>
    refine (congrFun (index_11 _) (0 : Fin 3)).trans ?_
    show (4 * (β (0 : Fin 3)).val + (β (1 : Fin 3)).val) / 4 = (β (0 : Fin 3)).val
    omega
  | ⟨1, _⟩ =>
    refine (congrFun (index_11 _) (1 : Fin 3)).trans ?_
    show (4 * (β (0 : Fin 3)).val + (β (1 : Fin 3)).val) % 4 = (β (1 : Fin 3)).val
    omega
  | ⟨2, _⟩ =>
    refine (congrFun (index_11 _) (2 : Fin 3)).trans ?_
    exact (by omega : 0 = (β (2 : Fin 3)).val)

theorem covers12 : (cfg0.win 12).Covers := by
  refine ⟨fun a => (by decide : ∀ a : Fin 2, 0 < S8192x128.size a) a, fun β => ⟨⟨(β (0 : Fin 2)).val, lt_of_lt_of_eq (β (0 : Fin 2)).isLt (by decide +kernel : (1048576 + 8192 - 1) / 8192 = grid0.N)⟩, flush0_12 _, fun a => ⟨?_, Or.inl rfl⟩⟩⟩
  match a with
  | ⟨0, _⟩ => exact congrFun (index_12 _) (0 : Fin 2)
  | ⟨1, _⟩ =>
    refine (congrFun (index_12 _) (1 : Fin 2)).trans ?_
    have h : (β (1 : Fin 2)).val < 1 := lt_of_lt_of_eq (β (1 : Fin 2)).isLt (by decide +kernel : (128 + 128 - 1) / 128 = 1)
    exact (by omega : 0 = (β (1 : Fin 2)).val)

/-- The residual stream after the run. -/
theorem final0 : (dats m 0 c).arrAt 11 cfg0.N = stream (argsAt m c) := by
  refine (dats m 0 c).arrAt_eq_of_covers 11 _ covers11 fun t hf y => ?_
  have e0 : (((cfg0.win 11).blk t).view.emb y (0 : Fin 3)).val = t.val / 4 := by
    blk_simp
    exact congrFun (index_11 t) (0 : Fin 3)
  have e1 : (((cfg0.win 11).blk t).view.emb y (1 : Fin 3)).val = t.val % 4 * 512 + (y (1 : Fin 3)).val := by
    blk_simp
    exact congrArg (fun n : Nat => n * 512 + (y (1 : Fin 3)).val) (congrFun (index_11 t) (1 : Fin 3))
  have e2 : (((cfg0.win 11).blk t).view.emb y (2 : Fin 3)).val = (y (2 : Fin 3)).val := by
    blk_simp
    refine (congrArg (fun n : Nat => n * 1024 + (y (2 : Fin 3)).val) (congrFun (index_11 t) (2 : Fin 3))).trans ?_
    exact (by omega : 0 * 1024 + (y (2 : Fin 3)).val = (y (2 : Fin 3)).val)
  have bt := points t
  have b1 : (y (1 : Fin 3)).val < 512 := (y (1 : Fin 3)).isLt
  have b2 : (y (2 : Fin 3)).val < 1024 := (y (2 : Fin 3)).isLt
  generalize hi : ((cfg0.win 11).blk t).view.emb y = i at e0 e1 e2 ⊢
  blk_simp
  rw [after0_11]
  have hy : (y : S1x512x1024.Idx) = ix3 0 ⟨(y (1 : Fin 3)).val, b1⟩ ⟨(y (2 : Fin 3)).val, b2⟩ := by
    funext a
    refine Fin.ext ?_
    have b0 : (y (0 : Fin 3)).val < 1 := (y (0 : Fin 3)).isLt
    match a with
    | ⟨0, _⟩ => show (y (0 : Fin 3)).val = 0; omega
    | ⟨1, _⟩ => rfl
    | ⟨2, _⟩ => rfl
  refine ((congrArg (left0 m c t.val t.isLt).x1 hy).trans ((leaves m c t.val t.isLt).x1 _ _)).trans ?_
  show Mixer.x1 (argsAt m c) _ _ _ = Mixer.x1 (argsAt m c) (i 0) (i 1) (i 2)
  have f0 : (⟨t.val / 4, by omega⟩ : Fin 32) = i 0 := Fin.ext e0.symm
  have f1 : (⟨512 * (t.val % 4) + (y (1 : Fin 3)).val, by omega⟩ : Fin 2048) = i 1 := Fin.ext (by show 512 * (t.val % 4) + (y (1 : Fin 3)).val = (i (1 : Fin 3)).val; omega)
  have f2 : (⟨(y (2 : Fin 3)).val, b2⟩ : Fin 1024) = i 2 := Fin.ext e2.symm
  rw [← f0, ← f1, ← f2]

/-- The packed rows after the run. -/
theorem final1 : (dats m 0 c).arrAt 12 cfg0.N = rows (argsAt m c) := by
  refine (dats m 0 c).arrAt_eq_of_covers 12 _ covers12 fun t hf y => ?_
  have e0 : (((cfg0.win 12).blk t).view.emb y (0 : Fin 2)).val = t.val * 8192 + (y (0 : Fin 2)).val := by
    blk_simp
    exact congrArg (fun n : Nat => n * 8192 + (y (0 : Fin 2)).val) (congrFun (index_12 t) (0 : Fin 2))
  have e1 : (((cfg0.win 12).blk t).view.emb y (1 : Fin 2)).val = (y (1 : Fin 2)).val := by
    blk_simp
    refine (congrArg (fun n : Nat => n * 128 + (y (1 : Fin 2)).val) (congrFun (index_12 t) (1 : Fin 2))).trans ?_
    exact (by omega : 0 * 128 + (y (1 : Fin 2)).val = (y (1 : Fin 2)).val)
  have bt := points t
  have b0 : (y (0 : Fin 2)).val < 8192 := (y (0 : Fin 2)).isLt
  have b1 : (y (1 : Fin 2)).val < 128 := (y (1 : Fin 2)).isLt
  generalize hi : ((cfg0.win 12).blk t).view.emb y = i at e0 e1 ⊢
  blk_simp
  rw [after0_12]
  have hx : (Shape.reshapeEquiv reshapes_S8192x128_S4096x2x128.1).symm (y : S8192x128.Idx)
      = (ix3 ⟨(y (0 : Fin 2)).val / 2, by omega⟩ ⟨(y (0 : Fin 2)).val % 2, by omega⟩ ⟨(y (1 : Fin 2)).val, b1⟩ : S4096x2x128.Idx) := by
    rw [Equiv.symm_apply_eq]
    refine (Shape.reshapeEquiv_eq_of_rowMajor _ ?_).symm
    show ((⟨2, ![8192, 128]⟩ : Shape).rowMajor (y : S8192x128.Idx)).val = _
    rewrite [Shape.rowMajor_val_two, Shape.rowMajor_val_three]
    show (y (0 : Fin 2)).val * 128 + (y (1 : Fin 2)).val = ((y (0 : Fin 2)).val / 2 * 2 + (y (0 : Fin 2)).val % 2) * 128 + (y (1 : Fin 2)).val
    omega
  refine ((congrArg (left0 m c t.val t.isLt).h hx).trans ((leaves m c t.val t.isLt).h _)).trans ?_
  unfold packed Mixer.rows
  have g0 : (i (0 : Fin 2)).val % 16 = (y (0 : Fin 2)).val % 16 := by omega
  by_cases h : (y (0 : Fin 2)).val % 16 < 8
  · rw [dif_pos (by show (y (0 : Fin 2)).val / 2 % 8 < 4; omega), dif_pos (by omega)]
    have fit (b b' : Fin 32) (t t' : Fin 2048) (d d' : Fin 1024) (e : b.val = b'.val) (e1 : t.val = t'.val) (e2 : d.val = d'.val) :
        h2 (argsAt m c) b t d = h2 (argsAt m c) b' t' d' := by rw [Fin.ext e, Fin.ext e1, Fin.ext e2]
    refine fit _ _ _ _ _ _ ?_ ?_ ?_
    · show t.val / 4 = (i (0 : Fin 2)).val / 16 / 2048; omega
    · show 512 * (t.val % 4) + (y (0 : Fin 2)).val / 2 / 8 = (i (0 : Fin 2)).val / 16 % 2048; omega
    · show 512 * ((y (0 : Fin 2)).val % 2) + 128 * ((y (0 : Fin 2)).val / 2 % 8) + (y (1 : Fin 2)).val = 512 * ((i (0 : Fin 2)).val % 2) + 128 * ((i (0 : Fin 2)).val % 16 / 2) + (i (1 : Fin 2)).val
      omega
  · rw [dif_neg (by show ¬(y (0 : Fin 2)).val / 2 % 8 < 4; omega), dif_neg (by omega)]

end Cert.Kernel2Ideal.Mix

end
-- ==== Proof.Mix.Choice.lean ====
/- The choice of a token's experts, on the scores alone: the group whose two greatest scores have the greatest sum, and the two
   greatest scores inside it, ties in index order. -/
module

public import Mathlib.Data.EReal.Operations
public import Mathlib.Algebra.BigOperators.Fin
public import Idealize.ShloMosaic.PureOps.Ideal

@[expose] public section

noncomputable section

namespace Cert.Mixer

open Idealize.ShloMosaic
open scoped BigOperators

/-! ## Counting, for an order on four -/

/-- How many of four come before `i` in falling order, ties in index order. -/
def beatenBy (lt : Fin 4 → Fin 4 → Bool) (i : Fin 4) : ℕ :=
  ∑ j, if (lt i j || (!lt i j && !lt j i && decide (j < i))) then 1 else 0

/-- The first greatest of four, by a scan. -/
def leaderBy (lt : Fin 4 → Fin 4 → Bool) : Fin 4 :=
  let k1 : Fin 4 := if lt 0 1 then 1 else 0
  let k2 : Fin 4 := if lt k1 2 then 2 else k1
  if lt k2 3 then 3 else k2

/-- The order of four values. -/
def less (v : Fin 4 → EReal) (i j : Fin 4) : Bool := decide (v i < v j)

/-- Four values are ordered as four ranks are. -/
theorem exists_rank (v : Fin 4 → EReal) : ∃ f : Fin 4 → Fin 4, less v = fun i j => decide (f i < f j) := by
  have bound (i : Fin 4) : (Finset.univ.filter fun k => v k < v i).card < 4 := by
    have : (Finset.univ.filter fun k => v k < v i) ⊂ Finset.univ := by
      refine Finset.ssubset_univ_iff.mpr fun h => ?_
      have hi : i ∈ (Finset.univ : Finset (Fin 4)) := Finset.mem_univ i
      rw [← h] at hi
      exact lt_irrefl _ (Finset.mem_filter.mp hi).2
    exact lt_of_lt_of_eq (Finset.card_lt_card this) (Finset.card_fin 4)
  refine ⟨fun i => ⟨_, bound i⟩, ?_⟩
  funext i j
  refine decide_eq_decide.mpr ⟨fun h => ?_, fun h => ?_⟩
  · show (Finset.univ.filter fun k => v k < v i).card < (Finset.univ.filter fun k => v k < v j).card
    refine Finset.card_lt_card (Finset.ssubset_iff_subset_ne.mpr ⟨fun k hk => ?_, fun hs => ?_⟩)
    · exact Finset.mem_filter.mpr ⟨Finset.mem_univ k, (Finset.mem_filter.mp hk).2.trans h⟩
    · have hi : i ∈ Finset.univ.filter fun k => v k < v j := Finset.mem_filter.mpr ⟨Finset.mem_univ i, h⟩
      rw [← hs] at hi
      exact lt_irrefl _ (Finset.mem_filter.mp hi).2
  · by_contra hn
    have h' : (Finset.univ.filter fun k => v k < v i).card < (Finset.univ.filter fun k => v k < v j).card := h
    refine absurd h' (not_lt.mpr (Finset.card_le_card fun k hk => ?_))
    exact Finset.mem_filter.mpr ⟨Finset.mem_univ k, lt_of_lt_of_le (Finset.mem_filter.mp hk).2 (not_lt.mp hn)⟩

theorem leader_rank : ∀ f : Fin 4 → Fin 4, ∀ g : Fin 4,
    beatenBy (fun i j => decide (f i < f j)) g < 1 ↔ g = leaderBy fun i j => decide (f i < f j) := by decide +kernel

theorem pair_rank : ∀ f : Fin 4 → Fin 4, ∃ a b : Fin 4, a < b ∧ (∀ i, beatenBy (fun i j => decide (f i < f j)) i < 2 ↔ i = a ∨ i = b)
    ∧ ∀ c, c ≠ a → c ≠ b → ¬f a < f c ∧ ¬f b < f c := by decide +kernel

/-! ## Four values -/

/-- How many of four values come before entry `i`. -/
def beaten (v : Fin 4 → EReal) (i : Fin 4) : ℕ := beatenBy (less v) i

/-- The first greatest of four values. -/
def leader (v : Fin 4 → EReal) : Fin 4 := leaderBy (less v)

/-- Entry `j` comes before entry `i`. -/
def Ahead (v : Fin 4 → EReal) (i j : Fin 4) : Prop := v i < v j ∨ (v j = v i ∧ j < i)

theorem beaten_eq (v : Fin 4 → EReal) (i : Fin 4) [∀ j, Decidable (Ahead v i j)] :
    ((beaten v i : ℕ) : EReal) = ∑ j, if Ahead v i j then (1 : EReal) else 0 := by
  unfold beaten beatenBy
  push_cast
  refine Finset.sum_congr rfl fun j _ => ?_
  refine if_congr ?_ rfl rfl
  unfold less Ahead
  rcases lt_trichotomy (v i) (v j) with h | h | h
  · simp [h]
  · simp [h]
  · simp [h, h.le, h.not_gt, h.ne]

theorem leader_iff (v : Fin 4 → EReal) (g : Fin 4) : beaten v g < 1 ↔ g = leader v := by
  obtain ⟨f, hf⟩ := exists_rank v
  unfold beaten leader
  rw [hf]
  exact leader_rank f g

/-- Two of four values come before the others. -/
theorem exists_pair (v : Fin 4 → EReal) : ∃ a b : Fin 4, a < b ∧ (∀ i, beaten v i < 2 ↔ i = a ∨ i = b)
    ∧ ∀ c, c ≠ a → c ≠ b → v c ≤ v a ∧ v c ≤ v b := by
  obtain ⟨f, hf⟩ := exists_rank v
  obtain ⟨a, b, hab, hi, hc⟩ := pair_rank f
  have hl (i j : Fin 4) : ¬f i < f j → v j ≤ v i := fun h => by
    have e := congrFun (congrFun hf i) j
    unfold less at e
    exact not_lt.mp fun h' => h ((decide_eq_decide.mp e).mp h')
  refine ⟨a, b, hab, fun i => ?_, fun c h1 h2 => ⟨hl a c (hc c h1 h2).1, hl b c (hc c h1 h2).2⟩⟩
  unfold beaten
  rw [hf]
  exact hi i

theorem sum_two (x : Fin 4 → EReal) (a b : Fin 4) (h : a ≠ b) : (∑ i, if i = a ∨ i = b then x i else 0) = x a + x b := by
  rw [← Finset.sum_filter, ← Finset.sum_pair h]
  refine Finset.sum_congr ?_ fun _ _ => rfl
  ext i
  simp

/-- The greatest sum of two of four values. -/
def best2 (v : Fin 4 → EReal) : EReal :=
  max (max (max (max (max (v 0 + v 1) (v 0 + v 2)) (v 0 + v 3)) (v 1 + v 2)) (v 1 + v 3)) (v 2 + v 3)

theorem best2_eq (v : Fin 4 → EReal) (a b : Fin 4) (hab : a < b) (hc : ∀ c, c ≠ a → c ≠ b → v c ≤ v a ∧ v c ≤ v b) : best2 v = v a + v b := by
  have up (i j : Fin 4) (h : i ≠ j) : v i + v j ≤ v a + v b := by
    by_cases h1 : i = a
    · subst h1
      by_cases h2 : j = b
      · rw [h2]
      · exact add_le_add le_rfl (hc j (Ne.symm h) h2).2
    · by_cases h2 : i = b
      · subst h2
        rw [add_comm]
        by_cases h3 : j = a
        · rw [h3]
        · exact add_le_add (hc j h3 (Ne.symm h)).1 le_rfl
      · by_cases h3 : j = a
        · subst h3
          rw [add_comm]
          exact add_le_add le_rfl (hc i h1 h2).2
        · exact add_le_add (hc i h1 h2).1 (by
            by_cases h4 : j = b
            · rw [h4]
            · exact (hc j h3 h4).2)
  unfold best2
  refine le_antisymm ?_ ?_
  · exact max_le (max_le (max_le (max_le (max_le (up _ _ (by decide)) (up _ _ (by decide))) (up _ _ (by decide))) (up _ _ (by decide))) (up _ _ (by decide)))
      (up _ _ (by decide))
  · have h : (a = 0 ∧ b = 1) ∨ (a = 0 ∧ b = 2) ∨ (a = 0 ∧ b = 3) ∨ (a = 1 ∧ b = 2) ∨ (a = 1 ∧ b = 3) ∨ (a = 2 ∧ b = 3) := by clear up hc; revert a b; decide
    rcases h with ⟨rfl, rfl⟩ | ⟨rfl, rfl⟩ | ⟨rfl, rfl⟩ | ⟨rfl, rfl⟩ | ⟨rfl, rfl⟩ | ⟨rfl, rfl⟩ <;> simp

/-- The sum of the values that fewer than two come before is the greatest sum of two. -/
theorem sum_top (v : Fin 4 → EReal) : (∑ i, if beaten v i < 2 then v i else 0) = best2 v := by
  obtain ⟨a, b, hab, hi, hc⟩ := exists_pair v
  rw [best2_eq v a b hab hc, ← sum_two v a b hab.ne]
  exact Finset.sum_congr rfl fun i _ => if_congr (hi i) rfl rfl

/-- The lower and the upper index of the two values that come first. -/
def lower (v : Fin 4 → EReal) : Fin 4 := if beaten v 0 < 2 then 0 else if beaten v 1 < 2 then 1 else 2
def upper (v : Fin 4 → EReal) : Fin 4 := if beaten v 3 < 2 then 3 else if beaten v 2 < 2 then 2 else 1

theorem pair_spec (v : Fin 4 → EReal) : lower v < upper v ∧ ∀ i, beaten v i < 2 ↔ i = lower v ∨ i = upper v := by
  obtain ⟨a, b, hab, hi, hc⟩ := exists_pair v
  have h : (a = 0 ∧ b = 1) ∨ (a = 0 ∧ b = 2) ∨ (a = 0 ∧ b = 3) ∨ (a = 1 ∧ b = 2) ∨ (a = 1 ∧ b = 3) ∨ (a = 2 ∧ b = 3) := by
    clear hi hc; revert a b; decide
  have e : lower v = a ∧ upper v = b := by
    unfold lower upper
    rcases h with ⟨rfl, rfl⟩ | ⟨rfl, rfl⟩ | ⟨rfl, rfl⟩ | ⟨rfl, rfl⟩ | ⟨rfl, rfl⟩ | ⟨rfl, rfl⟩ <;> simp only [hi] <;> decide
  rw [e.1, e.2]
  exact ⟨hab, hi⟩

/-- A pair's number among the six, in order. -/
def pairNo (a b : Fin 4) : ℕ := a.val * (5 - a.val) / 2 + b.val - 1

/-! ## A token -/

/-- The chosen group. -/
def groupOf (sel : Fin 4 → Fin 4 → EReal) : Fin 4 := leader fun g => best2 (sel g)

/-- What a token's eight entries hold: the number of its group and pair, the two experts' shares in index order, and zeros. -/
def info (sel s : Fin 4 → Fin 4 → EReal) (j : ℕ) : EReal :=
  let g := groupOf sel
  let a := s g (lower (sel g))
  let b := s g (upper (sel g))
  if j = 0 then ((g.val * 6 + pairNo (lower (sel g)) (upper (sel g)) : ℕ) : EReal)
  else if j = 1 then Ideal.div a (a + b) else if j = 2 then Ideal.div b (a + b) else 0

end Cert.Mixer

end
-- ==== Proof.Mix.Sent.lean ====
/- Where the mixer sends its tokens: the router's scores of the normalised rows, and the two arrays of what a token's expert
   is told, one by rows and one by columns. -/
module

public import proofs.«01_k».proof.Proof.Mix.Whole
public import proofs.«01_k».proof.Proof.Mix.Choice

@[expose] public section

noncomputable section

namespace Cert.Mixer

open Idealize.ShloMosaic Idealize.ShloMosaic.ValueIdx
open scoped BigOperators

/-- The router: a weight for each feature and expert, and a bias for each expert. -/
structure Router where
  w : Fin 1024 → Fin 16 → EReal
  bias : Fin 16 → EReal

/-- The router, from its two arrays. -/
def routerOf (a9 : (⟨2, ![1024, 16]⟩ : Shape).Idx → EReal) (a10 : (⟨1, ![16]⟩ : Shape).Idx → EReal) : Router where
  w k e := a9 (ix2 k e)
  bias e := a10 (ix1 e)

variable (A : Args) (R : Router)

/-- Expert `i` of group `g`. -/
def expert (g i : Fin 4) : Fin 16 := ⟨4 * g.val + i.val, by omega⟩

/-- The score of an expert at a position, and the score the choice is made on. -/
def score (b : Fin 32) (t : Fin 2048) (g i : Fin 4) : EReal := Ideal.logistic (∑ k, h2 A b t k * R.w k (expert g i))
def biased (b : Fin 32) (t : Fin 2048) (g i : Fin 4) : EReal := score A R b t g i + R.bias (expert g i)

/-- What is told of token `n`: its position is `n % 2048` of sequence `n / 2048`. -/
def told (n : Fin 65536) (j : ℕ) : EReal :=
  info (biased A R ⟨n.val / 2048, by omega⟩ ⟨n.val % 2048, Nat.mod_lt _ (by omega)⟩) (score A R ⟨n.val / 2048, by omega⟩ ⟨n.val % 2048, Nat.mod_lt _ (by omega)⟩) j

/-- A token to a row, in 128 lanes, and a token to a column, in eight rows. -/
def toldRows : (⟨2, ![65536, 128]⟩ : Shape).Idx → EReal := fun y => told A R (y 0) (y 1).val
def toldColumns : (⟨2, ![8, 65536]⟩ : Shape).Idx → EReal := fun y => told A R (y 1) (y 0).val

theorem info_rest (sel s : Fin 4 → Fin 4 → EReal) (j : ℕ) (h : 3 ≤ j) : info sel s j = 0 := by
  unfold info
  rw [if_neg (by omega), if_neg (by omega), if_neg (by omega)]

end Cert.Mixer

end
-- ==== Proof.Mix.Info.lean ====
/- The experts a tile's tokens are sent to: the kernel's comparisons and selections at a token are the choice of `Choice`. -/
module

public import proofs.«01_k».proof.Proof.Mix.Out
public import proofs.«01_k».proof.Proof.Mix.Sent
public import Idealize.ShloMosaic.Lib.IdealHost

@[expose] public section

set_option maxRecDepth 16384

noncomputable section

namespace Cert.Kernel2Ideal.Mix

open Cert.Kernel2Ideal Cert.Kernel2Ideal.Gen
open Idealize.ShloMosaic Idealize.ShloMosaic.TcCoe
open Idealize.ShloMosaic.ValueIdx
open Cert.Mixer
open scoped BigOperators

/-! ## The stages, from the scores `x` and the biased scores `y` of a tile -/

def kBest (y : FVec Ideal S16x512 .f32) : FVec Ideal S1x512 .f32 :=
  k0_pay80 (k0_pay51 y) (k0_pay52 y) (k0_pay53 y) (k0_pay54 y) (k0_pay55 y) (k0_pay56 y) (k0_pay76 (extractStridedSlice S1x512 ![0, 0] y slices_S16x512_o0_0_S1x512) (extractStridedSlice S1x512 ![1, 0] y slices_S16x512_o1_0_S1x512) (extractStridedSlice S1x512 ![2, 0] y slices_S16x512_o2_0_S1x512) (extractStridedSlice S1x512 ![3, 0] y slices_S16x512_o3_0_S1x512) (extractStridedSlice S1x512 ![4, 0] y slices_S16x512_o4_0_S1x512) (extractStridedSlice S1x512 ![5, 0] y slices_S16x512_o5_0_S1x512) (extractStridedSlice S1x512 ![6, 0] y slices_S16x512_o6_0_S1x512) (extractStridedSlice S1x512 ![7, 0] y slices_S16x512_o7_0_S1x512)) (k0_pay77 (extractStridedSlice S1x512 ![0, 0] y slices_S16x512_o0_0_S1x512) (extractStridedSlice S1x512 ![1, 0] y slices_S16x512_o1_0_S1x512) (extractStridedSlice S1x512 ![2, 0] y slices_S16x512_o2_0_S1x512) (extractStridedSlice S1x512 ![3, 0] y slices_S16x512_o3_0_S1x512) (extractStridedSlice S1x512 ![4, 0] y slices_S16x512_o4_0_S1x512) (extractStridedSlice S1x512 ![5, 0] y slices_S16x512_o5_0_S1x512) (extractStridedSlice S1x512 ![6, 0] y slices_S16x512_o6_0_S1x512) (extractStridedSlice S1x512 ![7, 0] y slices_S16x512_o7_0_S1x512)) (k0_pay78 y (extractStridedSlice S1x512 ![8, 0] y slices_S16x512_o8_0_S1x512)) (k0_pay79 y)

def kSel0 (y : FVec Ideal S16x512 .f32) : FVec Ideal S1x512 .f32 :=
  k0_pay81 (extractStridedSlice S1x512 ![0, 0] y slices_S16x512_o0_0_S1x512) (extractStridedSlice S1x512 ![4, 0] y slices_S16x512_o4_0_S1x512) (extractStridedSlice S1x512 ![8, 0] y slices_S16x512_o8_0_S1x512) (k0_pay51 y) (k0_pay52 y) (k0_pay53 y) (k0_pay54 y) (k0_pay55 y) (k0_pay56 y) (k0_pay76 (extractStridedSlice S1x512 ![0, 0] y slices_S16x512_o0_0_S1x512) (extractStridedSlice S1x512 ![1, 0] y slices_S16x512_o1_0_S1x512) (extractStridedSlice S1x512 ![2, 0] y slices_S16x512_o2_0_S1x512) (extractStridedSlice S1x512 ![3, 0] y slices_S16x512_o3_0_S1x512) (extractStridedSlice S1x512 ![4, 0] y slices_S16x512_o4_0_S1x512) (extractStridedSlice S1x512 ![5, 0] y slices_S16x512_o5_0_S1x512) (extractStridedSlice S1x512 ![6, 0] y slices_S16x512_o6_0_S1x512) (extractStridedSlice S1x512 ![7, 0] y slices_S16x512_o7_0_S1x512)) (k0_pay77 (extractStridedSlice S1x512 ![0, 0] y slices_S16x512_o0_0_S1x512) (extractStridedSlice S1x512 ![1, 0] y slices_S16x512_o1_0_S1x512) (extractStridedSlice S1x512 ![2, 0] y slices_S16x512_o2_0_S1x512) (extractStridedSlice S1x512 ![3, 0] y slices_S16x512_o3_0_S1x512) (extractStridedSlice S1x512 ![4, 0] y slices_S16x512_o4_0_S1x512) (extractStridedSlice S1x512 ![5, 0] y slices_S16x512_o5_0_S1x512) (extractStridedSlice S1x512 ![6, 0] y slices_S16x512_o6_0_S1x512) (extractStridedSlice S1x512 ![7, 0] y slices_S16x512_o7_0_S1x512)) (k0_pay78 y (extractStridedSlice S1x512 ![8, 0] y slices_S16x512_o8_0_S1x512)) (k0_pay79 y)

def kSel1 (y : FVec Ideal S16x512 .f32) : FVec Ideal S1x512 .f32 :=
  k0_pay82 (extractStridedSlice S1x512 ![1, 0] y slices_S16x512_o1_0_S1x512) (extractStridedSlice S1x512 ![5, 0] y slices_S16x512_o5_0_S1x512) (k0_pay50 y) (k0_pay51 y) (k0_pay52 y) (k0_pay53 y) (k0_pay54 y) (k0_pay55 y) (k0_pay56 y) (k0_pay76 (extractStridedSlice S1x512 ![0, 0] y slices_S16x512_o0_0_S1x512) (extractStridedSlice S1x512 ![1, 0] y slices_S16x512_o1_0_S1x512) (extractStridedSlice S1x512 ![2, 0] y slices_S16x512_o2_0_S1x512) (extractStridedSlice S1x512 ![3, 0] y slices_S16x512_o3_0_S1x512) (extractStridedSlice S1x512 ![4, 0] y slices_S16x512_o4_0_S1x512) (extractStridedSlice S1x512 ![5, 0] y slices_S16x512_o5_0_S1x512) (extractStridedSlice S1x512 ![6, 0] y slices_S16x512_o6_0_S1x512) (extractStridedSlice S1x512 ![7, 0] y slices_S16x512_o7_0_S1x512)) (k0_pay77 (extractStridedSlice S1x512 ![0, 0] y slices_S16x512_o0_0_S1x512) (extractStridedSlice S1x512 ![1, 0] y slices_S16x512_o1_0_S1x512) (extractStridedSlice S1x512 ![2, 0] y slices_S16x512_o2_0_S1x512) (extractStridedSlice S1x512 ![3, 0] y slices_S16x512_o3_0_S1x512) (extractStridedSlice S1x512 ![4, 0] y slices_S16x512_o4_0_S1x512) (extractStridedSlice S1x512 ![5, 0] y slices_S16x512_o5_0_S1x512) (extractStridedSlice S1x512 ![6, 0] y slices_S16x512_o6_0_S1x512) (extractStridedSlice S1x512 ![7, 0] y slices_S16x512_o7_0_S1x512)) (k0_pay78 y (extractStridedSlice S1x512 ![8, 0] y slices_S16x512_o8_0_S1x512)) (k0_pay79 y)

def kSel2 (y : FVec Ideal S16x512 .f32) : FVec Ideal S1x512 .f32 :=
  k0_pay83 (extractStridedSlice S1x512 ![2, 0] y slices_S16x512_o2_0_S1x512) (extractStridedSlice S1x512 ![6, 0] y slices_S16x512_o6_0_S1x512) (k0_pay51 y) (k0_pay52 y) (k0_pay53 y) (k0_pay54 y) (k0_pay55 y) (k0_pay56 y) (k0_pay76 (extractStridedSlice S1x512 ![0, 0] y slices_S16x512_o0_0_S1x512) (extractStridedSlice S1x512 ![1, 0] y slices_S16x512_o1_0_S1x512) (extractStridedSlice S1x512 ![2, 0] y slices_S16x512_o2_0_S1x512) (extractStridedSlice S1x512 ![3, 0] y slices_S16x512_o3_0_S1x512) (extractStridedSlice S1x512 ![4, 0] y slices_S16x512_o4_0_S1x512) (extractStridedSlice S1x512 ![5, 0] y slices_S16x512_o5_0_S1x512) (extractStridedSlice S1x512 ![6, 0] y slices_S16x512_o6_0_S1x512) (extractStridedSlice S1x512 ![7, 0] y slices_S16x512_o7_0_S1x512)) (k0_pay77 (extractStridedSlice S1x512 ![0, 0] y slices_S16x512_o0_0_S1x512) (extractStridedSlice S1x512 ![1, 0] y slices_S16x512_o1_0_S1x512) (extractStridedSlice S1x512 ![2, 0] y slices_S16x512_o2_0_S1x512) (extractStridedSlice S1x512 ![3, 0] y slices_S16x512_o3_0_S1x512) (extractStridedSlice S1x512 ![4, 0] y slices_S16x512_o4_0_S1x512) (extractStridedSlice S1x512 ![5, 0] y slices_S16x512_o5_0_S1x512) (extractStridedSlice S1x512 ![6, 0] y slices_S16x512_o6_0_S1x512) (extractStridedSlice S1x512 ![7, 0] y slices_S16x512_o7_0_S1x512)) (k0_pay78 y (extractStridedSlice S1x512 ![8, 0] y slices_S16x512_o8_0_S1x512)) (k0_pay79 y)

def kSel3 (y : FVec Ideal S16x512 .f32) : FVec Ideal S1x512 .f32 :=
  k0_pay84 (extractStridedSlice S1x512 ![3, 0] y slices_S16x512_o3_0_S1x512) (extractStridedSlice S1x512 ![7, 0] y slices_S16x512_o7_0_S1x512) (k0_pay52 y) (k0_pay56 y) (kBest y) (Scalar.ofBits .f32 0x3F800000#32)

def kS0 (x y : FVec Ideal S16x512 .f32) : FVec Ideal S1x512 .f32 :=
  k0_pay85 (k0_pay57 x) (k0_pay61 x) (k0_pay65 x) (k0_pay69 x) (kBest y)

def kS1 (x y : FVec Ideal S16x512 .f32) : FVec Ideal S1x512 .f32 :=
  k0_pay86 (k0_pay58 x) (k0_pay62 x) (k0_pay66 x) (k0_pay70 x) (kBest y)

def kS2 (x y : FVec Ideal S16x512 .f32) : FVec Ideal S1x512 .f32 :=
  k0_pay87 (k0_pay59 x) (k0_pay63 x) (k0_pay67 x) (k0_pay71 x) (kBest y)

def kS3 (x y : FVec Ideal S16x512 .f32) : FVec Ideal S1x512 .f32 :=
  k0_pay88 (k0_pay60 x) (k0_pay64 x) (k0_pay68 x) (k0_pay72 x) (kBest y)

def kTop0 (y : FVec Ideal S16x512 .f32) : IVec S1x512 1 := k0_pay89 (kSel0 y) (kSel1 y) (kSel2 y) (kSel3 y) (Scalar.ofBits .f32 0x00000000#32)

def kTop1 (y : FVec Ideal S16x512 .f32) : IVec S1x512 1 := k0_pay90 (kSel0 y) (kSel1 y) (kSel2 y) (kSel3 y)

def kTop2 (y : FVec Ideal S16x512 .f32) : IVec S1x512 1 := k0_pay91 (kSel0 y) (kSel1 y) (kSel2 y) (kSel3 y)

def kInfo (x y : FVec Ideal S16x512 .f32) : FVec Ideal S8x512 .f32 :=
  k0_pay95 (kBest y) (kSel1 y) (kSel2 y) (kSel3 y) (kS0 x y) (kS1 x y) (kS2 x y) (kS3 x y) (kTop0 y) (kTop1 y) (kTop2 y) k0_pay92 (k0_pay93 (kSel0 y) (kSel3 y)) (k0_pay94 (kSel0 y) (kSel3 y))

/-! ## Comparisons at an index -/

section
variable {s : Shape} (p q a b : FVec Ideal s .f32) (i : s.Idx)

theorem select_gt : select (cmpf .ogt p q) a b i = if q i < p i then a i else b i := by
  show (if BitVec.ofBool (decide (q i < p i)) = 1#1 then a i else b i) = _
  by_cases h : q i < p i <;> simp [h]

theorem select_lt : select (cmpf .olt p q) a b i = if p i < q i then a i else b i := by
  show (if BitVec.ofBool (decide (p i < q i)) = 1#1 then a i else b i) = _
  by_cases h : p i < q i <;> simp [h]

theorem select_eq : select (cmpf .oeq p q) a b i = if p i = q i then a i else b i := by
  show (if BitVec.ofBool (decide (p i = q i)) = 1#1 then a i else b i) = _
  by_cases h : p i = q i <;> simp [h]

theorem count_gt (h : 1 < 32) : (sitofp .f32 (extui 32 (cmpf .ogt p q) h) : FVec Ideal s .f32) i = if q i < p i then (1 : EReal) else 0 := by
  show (((((BitVec.ofBool (decide (q i < p i))).setWidth 32).toInt : ℤ) : ℝ) : EReal) = _
  by_cases h : q i < p i <;> simp [h]

theorem count_ge (h : 1 < 32) : (sitofp .f32 (extui 32 (ori (cmpf .ogt p q) (cmpf .oeq p q)) h) : FVec Ideal s .f32) i = if q i < p i ∨ p i = q i then (1 : EReal) else 0 := by
  show (((((BitVec.ofBool (decide (q i < p i)) ||| BitVec.ofBool (decide (p i = q i))).setWidth 32).toInt : ℤ) : ℝ) : EReal) = _
  by_cases h : q i < p i <;> by_cases h' : p i = q i <;> simp [h, h']

theorem div_at : divf p q i = Ideal.div (p i) (q i) := rfl
theorem max_at : maximumf p q i = max (p i) (q i) := rfl

end

theorem zero_word : (Scalar.ofBits .f32 0x00000000#32 : Ideal .f32) = (0 : EReal) := Ideal.ofBits_zero_f32
theorem one_word : (Scalar.ofBits .f32 0x3F800000#32 : Ideal .f32) = (1 : EReal) := Ideal.ofBits_one_f32
theorem two_word : (Scalar.ofBits .f32 0x40000000#32 : Ideal .f32) = (2 : EReal) := by
  show Ideal.ofBits .f32 0x40000000#32 = _
  rw [two_eq]; rfl
theorem three_word : (Scalar.ofBits .f32 0x40400000#32 : Ideal .f32) = (3 : EReal) := by
  show Ideal.ofBits .f32 0x40400000#32 = (((3 : ℕ) : ℝ) : EReal)
  simp [Ideal.ofBits, Ideal.ieee, -Nat.cast_ofNat]
  exact (EReal.coe_mul 12582912 _).symm.trans (congrArg _ (by norm_num))
theorem four_word : (Scalar.ofBits .f32 0x40800000#32 : Ideal .f32) = (4 : EReal) := by
  show Ideal.ofBits .f32 0x40800000#32 = _
  rw [four_eq]; rfl
theorem five_word : (Scalar.ofBits .f32 0x40A00000#32 : Ideal .f32) = (5 : EReal) := by
  show Ideal.ofBits .f32 0x40A00000#32 = (((5 : ℕ) : ℝ) : EReal)
  simp [Ideal.ofBits, Ideal.ieee, -Nat.cast_ofNat]
  exact (EReal.coe_mul 10485760 _).symm.trans (congrArg _ (by norm_num))
theorem six_word : (Scalar.ofBits .f32 0x40C00000#32 : Ideal .f32) = (6 : EReal) := by
  show Ideal.ofBits .f32 0x40C00000#32 = (((6 : ℕ) : ℝ) : EReal)
  simp [Ideal.ofBits, Ideal.ieee, -Nat.cast_ofNat]
  exact (EReal.coe_mul 12582912 _).symm.trans (congrArg _ (by norm_num))

section
variable (x y : FVec Ideal S16x512 .f32) (r : Fin 512)

theorem yrow0 : (extractStridedSlice S1x512 ![0, 0] y slices_S16x512_o0_0_S1x512) (ix2 0 r) = y (ix2 0 r) := slice2 y slices_S16x512_o0_0_S1x512 0 r 0 r rfl (Nat.zero_add _).symm
theorem xrow0 : (k0_pay57 x) (ix2 0 r) = x (ix2 0 r) := slice2 x slices_S16x512_o0_0_S1x512 0 r 0 r rfl (Nat.zero_add _).symm
theorem yrow1 : (extractStridedSlice S1x512 ![1, 0] y slices_S16x512_o1_0_S1x512) (ix2 0 r) = y (ix2 1 r) := slice2 y slices_S16x512_o1_0_S1x512 0 r 1 r rfl (Nat.zero_add _).symm
theorem xrow1 : (k0_pay58 x) (ix2 0 r) = x (ix2 1 r) := slice2 x slices_S16x512_o1_0_S1x512 0 r 1 r rfl (Nat.zero_add _).symm
theorem yrow2 : (extractStridedSlice S1x512 ![2, 0] y slices_S16x512_o2_0_S1x512) (ix2 0 r) = y (ix2 2 r) := slice2 y slices_S16x512_o2_0_S1x512 0 r 2 r rfl (Nat.zero_add _).symm
theorem xrow2 : (k0_pay59 x) (ix2 0 r) = x (ix2 2 r) := slice2 x slices_S16x512_o2_0_S1x512 0 r 2 r rfl (Nat.zero_add _).symm
theorem yrow3 : (extractStridedSlice S1x512 ![3, 0] y slices_S16x512_o3_0_S1x512) (ix2 0 r) = y (ix2 3 r) := slice2 y slices_S16x512_o3_0_S1x512 0 r 3 r rfl (Nat.zero_add _).symm
theorem xrow3 : (k0_pay60 x) (ix2 0 r) = x (ix2 3 r) := slice2 x slices_S16x512_o3_0_S1x512 0 r 3 r rfl (Nat.zero_add _).symm
theorem yrow4 : (extractStridedSlice S1x512 ![4, 0] y slices_S16x512_o4_0_S1x512) (ix2 0 r) = y (ix2 4 r) := slice2 y slices_S16x512_o4_0_S1x512 0 r 4 r rfl (Nat.zero_add _).symm
theorem xrow4 : (k0_pay61 x) (ix2 0 r) = x (ix2 4 r) := slice2 x slices_S16x512_o4_0_S1x512 0 r 4 r rfl (Nat.zero_add _).symm
theorem yrow5 : (extractStridedSlice S1x512 ![5, 0] y slices_S16x512_o5_0_S1x512) (ix2 0 r) = y (ix2 5 r) := slice2 y slices_S16x512_o5_0_S1x512 0 r 5 r rfl (Nat.zero_add _).symm
theorem xrow5 : (k0_pay62 x) (ix2 0 r) = x (ix2 5 r) := slice2 x slices_S16x512_o5_0_S1x512 0 r 5 r rfl (Nat.zero_add _).symm
theorem yrow6 : (extractStridedSlice S1x512 ![6, 0] y slices_S16x512_o6_0_S1x512) (ix2 0 r) = y (ix2 6 r) := slice2 y slices_S16x512_o6_0_S1x512 0 r 6 r rfl (Nat.zero_add _).symm
theorem xrow6 : (k0_pay63 x) (ix2 0 r) = x (ix2 6 r) := slice2 x slices_S16x512_o6_0_S1x512 0 r 6 r rfl (Nat.zero_add _).symm
theorem yrow7 : (extractStridedSlice S1x512 ![7, 0] y slices_S16x512_o7_0_S1x512) (ix2 0 r) = y (ix2 7 r) := slice2 y slices_S16x512_o7_0_S1x512 0 r 7 r rfl (Nat.zero_add _).symm
theorem xrow7 : (k0_pay64 x) (ix2 0 r) = x (ix2 7 r) := slice2 x slices_S16x512_o7_0_S1x512 0 r 7 r rfl (Nat.zero_add _).symm
theorem yrow8 : (extractStridedSlice S1x512 ![8, 0] y slices_S16x512_o8_0_S1x512) (ix2 0 r) = y (ix2 8 r) := slice2 y slices_S16x512_o8_0_S1x512 0 r 8 r rfl (Nat.zero_add _).symm
theorem xrow8 : (k0_pay65 x) (ix2 0 r) = x (ix2 8 r) := slice2 x slices_S16x512_o8_0_S1x512 0 r 8 r rfl (Nat.zero_add _).symm
theorem yrow9 : (k0_pay50 y) (ix2 0 r) = y (ix2 9 r) := slice2 y slices_S16x512_o9_0_S1x512 0 r 9 r rfl (Nat.zero_add _).symm
theorem xrow9 : (k0_pay66 x) (ix2 0 r) = x (ix2 9 r) := slice2 x slices_S16x512_o9_0_S1x512 0 r 9 r rfl (Nat.zero_add _).symm
theorem yrow10 : (k0_pay51 y) (ix2 0 r) = y (ix2 10 r) := slice2 y slices_S16x512_o10_0_S1x512 0 r 10 r rfl (Nat.zero_add _).symm
theorem xrow10 : (k0_pay67 x) (ix2 0 r) = x (ix2 10 r) := slice2 x slices_S16x512_o10_0_S1x512 0 r 10 r rfl (Nat.zero_add _).symm
theorem yrow11 : (k0_pay52 y) (ix2 0 r) = y (ix2 11 r) := slice2 y slices_S16x512_o11_0_S1x512 0 r 11 r rfl (Nat.zero_add _).symm
theorem xrow11 : (k0_pay68 x) (ix2 0 r) = x (ix2 11 r) := slice2 x slices_S16x512_o11_0_S1x512 0 r 11 r rfl (Nat.zero_add _).symm
theorem yrow12 : (k0_pay53 y) (ix2 0 r) = y (ix2 12 r) := slice2 y slices_S16x512_o12_0_S1x512 0 r 12 r rfl (Nat.zero_add _).symm
theorem xrow12 : (k0_pay69 x) (ix2 0 r) = x (ix2 12 r) := slice2 x slices_S16x512_o12_0_S1x512 0 r 12 r rfl (Nat.zero_add _).symm
theorem yrow13 : (k0_pay54 y) (ix2 0 r) = y (ix2 13 r) := slice2 y slices_S16x512_o13_0_S1x512 0 r 13 r rfl (Nat.zero_add _).symm
theorem xrow13 : (k0_pay70 x) (ix2 0 r) = x (ix2 13 r) := slice2 x slices_S16x512_o13_0_S1x512 0 r 13 r rfl (Nat.zero_add _).symm
theorem yrow14 : (k0_pay55 y) (ix2 0 r) = y (ix2 14 r) := slice2 y slices_S16x512_o14_0_S1x512 0 r 14 r rfl (Nat.zero_add _).symm
theorem xrow14 : (k0_pay71 x) (ix2 0 r) = x (ix2 14 r) := slice2 x slices_S16x512_o14_0_S1x512 0 r 14 r rfl (Nat.zero_add _).symm
theorem yrow15 : (k0_pay56 y) (ix2 0 r) = y (ix2 15 r) := slice2 y slices_S16x512_o15_0_S1x512 0 r 15 r rfl (Nat.zero_add _).symm
theorem xrow15 : (k0_pay72 x) (ix2 0 r) = x (ix2 15 r) := slice2 x slices_S16x512_o15_0_S1x512 0 r 15 r rfl (Nat.zero_add _).symm

/-- The token's biased scores, and its scores, as groups of four. -/
def four (x : FVec Ideal S16x512 .f32) (r : Fin 512) (g i : Fin 4) : EReal := x (ix2 ⟨4 * g.val + i.val, by omega⟩ r)

theorem best_at : kBest y (ix2 0 r) = (((groupOf (four y r)).val : ℕ) : EReal) := by
  unfold kBest k0_pay80 k0_pay76 k0_pay77 k0_pay75 k0_pay74 k0_pay73 k0_pay78 k0_pay79
  simp only [select_gt, max_at, addf_apply, broadcast_apply, zero_word, one_word, two_word, three_word,
    yrow0, yrow1, yrow2, yrow3, yrow4, yrow5, yrow6, yrow7, yrow8, yrow9, yrow10, yrow11, yrow12, yrow13, yrow14, yrow15]
  have e0 : best2 (four y r 0) = max (max (max (max (max (y (ix2 0 r) + y (ix2 1 r)) (y (ix2 0 r) + y (ix2 2 r))) (y (ix2 0 r) + y (ix2 3 r))) (y (ix2 1 r) + y (ix2 2 r))) (y (ix2 1 r) + y (ix2 3 r))) (y (ix2 2 r) + y (ix2 3 r)) := rfl
  have e1 : best2 (four y r 1) = max (max (max (max (max (y (ix2 4 r) + y (ix2 5 r)) (y (ix2 4 r) + y (ix2 6 r))) (y (ix2 4 r) + y (ix2 7 r))) (y (ix2 5 r) + y (ix2 6 r))) (y (ix2 5 r) + y (ix2 7 r))) (y (ix2 6 r) + y (ix2 7 r)) := rfl
  have e2 : best2 (four y r 2) = max (max (max (max (max (y (ix2 8 r) + y (ix2 9 r)) (y (ix2 8 r) + y (ix2 10 r))) (y (ix2 8 r) + y (ix2 11 r))) (y (ix2 9 r) + y (ix2 10 r))) (y (ix2 9 r) + y (ix2 11 r))) (y (ix2 10 r) + y (ix2 11 r)) := rfl
  have e3 : best2 (four y r 3) = max (max (max (max (max (y (ix2 12 r) + y (ix2 13 r)) (y (ix2 12 r) + y (ix2 14 r))) (y (ix2 12 r) + y (ix2 15 r))) (y (ix2 13 r) + y (ix2 14 r))) (y (ix2 13 r) + y (ix2 15 r))) (y (ix2 14 r) + y (ix2 15 r)) := rfl
  rw [← e0, ← e1, ← e2, ← e3]
  unfold groupOf leader leaderBy less
  by_cases h0 : best2 (four y r 0) < best2 (four y r 1) <;> simp only [h0, if_true, if_false, decide_true, decide_false, Bool.false_eq_true] <;>
    (first
      | (by_cases h1 : best2 (four y r 1) < best2 (four y r 2) <;> simp only [h1, if_true, if_false, decide_true, decide_false, Bool.false_eq_true] <;>
          (first
            | (by_cases h2 : best2 (four y r 2) < best2 (four y r 3) <;> simp [h2]; done)
            | (by_cases h2 : best2 (four y r 1) < best2 (four y r 3) <;> simp [h2]; done)))
      | (by_cases h1 : best2 (four y r 0) < best2 (four y r 2) <;> simp only [h1, if_true, if_false, decide_true, decide_false, Bool.false_eq_true] <;>
          (first
            | (by_cases h2 : best2 (four y r 2) < best2 (four y r 3) <;> simp [h2]; done)
            | (by_cases h2 : best2 (four y r 0) < best2 (four y r 3) <;> simp [h2]; done))))

/-- A value picked by the group's number. -/
theorem pick_four (k : Fin 4) (f : Fin 4 → EReal) :
    (if ((k.val : ℕ) : EReal) = 3 then f 3 else if ((k.val : ℕ) : EReal) = 2 then f 2 else if ((k.val : ℕ) : EReal) = 1 then f 1 else f 0) = f k := by
  have n32 : ¬(3 : EReal) = 2 := by exact_mod_cast (by decide : ¬(3 : ℕ) = 2)
  have n23 : ¬(2 : EReal) = 3 := by exact_mod_cast (by decide : ¬(2 : ℕ) = 3)
  have n21 : ¬(2 : EReal) = 1 := by exact_mod_cast (by decide : ¬(2 : ℕ) = 1)
  have n12 : ¬(1 : EReal) = 2 := by exact_mod_cast (by decide : ¬(1 : ℕ) = 2)
  have n13 : ¬(1 : EReal) = 3 := by exact_mod_cast (by decide : ¬(1 : ℕ) = 3)
  have n03 : ¬(0 : EReal) = 3 := by exact_mod_cast (by decide : ¬(0 : ℕ) = 3)
  have n02 : ¬(0 : EReal) = 2 := by exact_mod_cast (by decide : ¬(0 : ℕ) = 2)
  have n01 : ¬(0 : EReal) = 1 := by exact_mod_cast (by decide : ¬(0 : ℕ) = 1)
  match k with
  | ⟨0, _⟩ => simp [n03, n02]
  | ⟨1, _⟩ => simp [n13, n12]
  | ⟨2, _⟩ => simp [n23, n21]
  | ⟨3, _⟩ => simp

theorem sel0_at : kSel0 y (ix2 0 r) = four y r (groupOf (four y r)) 0 := by
  refine Eq.trans ?_ (pick_four (groupOf (four y r)) fun g => four y r g 0)
  rw [← best_at]
  unfold kSel0 k0_pay81
  simp only [select_eq, broadcast_apply, one_word, two_word, three_word, yrow0, yrow4, yrow8, yrow12]
  rfl

theorem s0_at : kS0 x y (ix2 0 r) = four x r (groupOf (four y r)) 0 := by
  refine Eq.trans ?_ (pick_four (groupOf (four y r)) fun g => four x r g 0)
  rw [← best_at]
  unfold kS0 k0_pay85
  simp only [select_eq, broadcast_apply, one_word, two_word, three_word, xrow0, xrow4, xrow8, xrow12]
  rfl

theorem sel1_at : kSel1 y (ix2 0 r) = four y r (groupOf (four y r)) 1 := by
  refine Eq.trans ?_ (pick_four (groupOf (four y r)) fun g => four y r g 1)
  rw [← best_at]
  unfold kSel1 k0_pay82
  simp only [select_eq, broadcast_apply, one_word, two_word, three_word, yrow1, yrow5, yrow9, yrow13]
  rfl

theorem s1_at : kS1 x y (ix2 0 r) = four x r (groupOf (four y r)) 1 := by
  refine Eq.trans ?_ (pick_four (groupOf (four y r)) fun g => four x r g 1)
  rw [← best_at]
  unfold kS1 k0_pay86
  simp only [select_eq, broadcast_apply, one_word, two_word, three_word, xrow1, xrow5, xrow9, xrow13]
  rfl

theorem sel2_at : kSel2 y (ix2 0 r) = four y r (groupOf (four y r)) 2 := by
  refine Eq.trans ?_ (pick_four (groupOf (four y r)) fun g => four y r g 2)
  rw [← best_at]
  unfold kSel2 k0_pay83
  simp only [select_eq, broadcast_apply, one_word, two_word, three_word, yrow2, yrow6, yrow10, yrow14]
  rfl

theorem s2_at : kS2 x y (ix2 0 r) = four x r (groupOf (four y r)) 2 := by
  refine Eq.trans ?_ (pick_four (groupOf (four y r)) fun g => four x r g 2)
  rw [← best_at]
  unfold kS2 k0_pay87
  simp only [select_eq, broadcast_apply, one_word, two_word, three_word, xrow2, xrow6, xrow10, xrow14]
  rfl

theorem sel3_at : kSel3 y (ix2 0 r) = four y r (groupOf (four y r)) 3 := by
  refine Eq.trans ?_ (pick_four (groupOf (four y r)) fun g => four y r g 3)
  rw [← best_at]
  unfold kSel3 k0_pay84
  simp only [select_eq, broadcast_apply, one_word, two_word, three_word, yrow3, yrow7, yrow11, yrow15]
  rfl

theorem s3_at : kS3 x y (ix2 0 r) = four x r (groupOf (four y r)) 3 := by
  refine Eq.trans ?_ (pick_four (groupOf (four y r)) fun g => four x r g 3)
  rw [← best_at]
  unfold kS3 k0_pay88
  simp only [select_eq, broadcast_apply, one_word, two_word, three_word, xrow3, xrow7, xrow11, xrow15]
  rfl

theorem count0 (v : Fin 4 → EReal) : (((0 : EReal) + if v 0 < v 1 then 1 else 0) + if v 0 < v 2 then 1 else 0) + (if v 0 < v 3 then 1 else 0) = ((beaten v 0 : ℕ) : EReal) := by
  classical
  rw [beaten_eq, Fin.sum_univ_four]
  simp [Ahead]
theorem count1 (v : Fin 4 → EReal) : (((0 : EReal) + if v 1 < v 0 ∨ v 0 = v 1 then 1 else 0) + if v 1 < v 2 then 1 else 0) + (if v 1 < v 3 then 1 else 0) = ((beaten v 1 : ℕ) : EReal) := by
  classical
  rw [beaten_eq, Fin.sum_univ_four]
  simp [Ahead]
theorem count2 (v : Fin 4 → EReal) : (((0 : EReal) + if v 2 < v 0 ∨ v 0 = v 2 then 1 else 0) + if v 2 < v 1 ∨ v 1 = v 2 then 1 else 0) + (if v 2 < v 3 then 1 else 0) = ((beaten v 2 : ℕ) : EReal) := by
  classical
  rw [beaten_eq, Fin.sum_univ_four]
  simp [Ahead]
theorem count3 (v : Fin 4 → EReal) : (((0 : EReal) + if v 3 < v 0 ∨ v 0 = v 3 then 1 else 0) + if v 3 < v 1 ∨ v 1 = v 3 then 1 else 0) + (if v 3 < v 2 ∨ v 2 = v 3 then 1 else 0) = ((beaten v 3 : ℕ) : EReal) := by
  classical
  rw [beaten_eq, Fin.sum_univ_four]
  simp [Ahead]

theorem under_two (n : ℕ) : ((n : ℕ) : EReal) < 2 ↔ n < 2 := by
  exact_mod_cast Iff.rfl

/-- The pair's number from who is among the first two. -/
theorem pair_at (v : Fin 4 → EReal) :
    (if beaten v 0 < 2 then (if beaten v 1 < 2 then (0 : EReal) else if beaten v 2 < 2 then 1 else 2)
      else if beaten v 1 < 2 then (if beaten v 2 < 2 then 3 else 4) else 5) = ((pairNo (lower v) (upper v) : ℕ) : EReal) := by
  obtain ⟨hl, h⟩ := pair_spec v
  rw [if_congr (h 0) (if_congr (h 1) rfl (if_congr (h 2) rfl rfl)) (if_congr (h 1) (if_congr (h 2) rfl rfl) rfl)]
  clear h
  generalize lower v = a at hl ⊢
  generalize upper v = b at hl ⊢
  have h : (a = 0 ∧ b = 1) ∨ (a = 0 ∧ b = 2) ∨ (a = 0 ∧ b = 3) ∨ (a = 1 ∧ b = 2) ∨ (a = 1 ∧ b = 3) ∨ (a = 2 ∧ b = 3) := by revert a b; decide
  rcases h with ⟨rfl, rfl⟩ | ⟨rfl, rfl⟩ | ⟨rfl, rfl⟩ | ⟨rfl, rfl⟩ | ⟨rfl, rfl⟩ | ⟨rfl, rfl⟩ <;> simp [pairNo]

theorem low_at (v w : Fin 4 → EReal) : (if beaten v 0 < 2 then w 0 else if beaten v 1 < 2 then w 1 else w 2) = w (lower v) := by
  unfold lower
  split_ifs <;> rfl
theorem high_at (v w : Fin 4 → EReal) : (if beaten v 3 < 2 then w 3 else if beaten v 2 < 2 then w 2 else w 1) = w (upper v) := by
  unfold upper
  split_ifs <;> rfl

theorem kInfo_at (j : Fin 8) : kInfo x y (ix2 j r) = info (four y r) (four x r) j.val := by
  have piece (f : Fin 8 → FVec Ideal S1x512 .f32) (h) :
      concatenate S8x512 0 (List.ofFn fun n : Fin 8 => (⟨S1x512, f n⟩ : (s : Shape) × (s.Idx → EReal))) h (ix2 j r) = f j (ix2 0 r) :=
    concatenate_ofFn_apply (t := S8x512) (0 : Fin 2) f h rfl 1 rfl (ix2 j r) j (Nat.div_one _) (ix2 0 r) (by show 0 = j.val % 1; omega)
      (fun a ha => by match a with | ⟨0, _⟩ => exact absurd rfl ha | ⟨1, _⟩ => rfl)
  have c0 := count0 (four y r (groupOf (four y r)))
  have c1 := count1 (four y r (groupOf (four y r)))
  have c2 := count2 (four y r (groupOf (four y r)))
  have c3 := count3 (four y r (groupOf (four y r)))
  have pa := pair_at (four y r (groupOf (four y r)))
  have la := low_at (four y r (groupOf (four y r))) (four x r (groupOf (four y r)))
  have ha := high_at (four y r (groupOf (four y r))) (four x r (groupOf (four y r)))
  unfold kInfo k0_pay95 k0_pay92 k0_pay93 k0_pay94
  refine (piece ![_, _, _, _, _, _, _, _] _).trans ?_
  unfold kTop0 kTop1 kTop2 k0_pay89 k0_pay90 k0_pay91
  have z3 : ∀ j : Fin 8, 3 ≤ j.val → info (four y r) (four x r) j.val = 0 := fun j hj => by
    unfold info
    rw [if_neg (by omega), if_neg (by omega), if_neg (by omega)]
  match j with
  | ⟨0, _⟩ =>
    refine (show _ = addf (mulf (kBest y) _) _ (ix2 0 r) from rfl).trans ?_
    simp only [div_at, addf_apply, mulf_apply, select_lt, count_gt, count_ge, broadcast_apply, zero_word, one_word, two_word, three_word, four_word, five_word, six_word, best_at, sel0_at, sel1_at, sel2_at, sel3_at, s0_at, s1_at, s2_at, s3_at, c0, c1, c2, c3, under_two]
    rw [pa]
    unfold info
    rw [if_pos rfl]
    push_cast
    rfl
  | ⟨1, _⟩ =>
    refine (show _ = divf (F := Ideal) (φ := .f32) (select _ _ _) (addf (select _ _ _) (select _ _ _)) (ix2 0 r) from rfl).trans ?_
    simp only [div_at, addf_apply, mulf_apply, select_lt, count_gt, count_ge, broadcast_apply, zero_word, one_word, two_word, three_word, four_word, five_word, six_word, best_at, sel0_at, sel1_at, sel2_at, sel3_at, s0_at, s1_at, s2_at, s3_at, c0, c1, c2, c3, under_two]
    rw [la, ha]
    unfold info
    rw [if_neg (by decide), if_pos rfl]
  | ⟨2, _⟩ =>
    refine (show _ = divf (F := Ideal) (φ := .f32) (select _ _ _) (addf (select _ _ _) (select _ _ _)) (ix2 0 r) from rfl).trans ?_
    simp only [div_at, addf_apply, mulf_apply, select_lt, count_gt, count_ge, broadcast_apply, zero_word, one_word, two_word, three_word, four_word, five_word, six_word, best_at, sel0_at, sel1_at, sel2_at, sel3_at, s0_at, s1_at, s2_at, s3_at, c0, c1, c2, c3, under_two]
    rw [la, ha]
    unfold info
    rw [if_neg (by decide), if_neg (by decide), if_pos rfl]
  | ⟨3, _⟩ => exact zero_word.trans (z3 3 (by decide)).symm
  | ⟨4, _⟩ => exact zero_word.trans (z3 4 (by decide)).symm
  | ⟨5, _⟩ => exact zero_word.trans (z3 5 (by decide)).symm
  | ⟨6, _⟩ => exact zero_word.trans (z3 6 (by decide)).symm
  | ⟨7, _⟩ => exact zero_word.trans (z3 7 (by decide)).symm

/-- The table a token to a row: the columns turned, then zeros. -/
theorem turned_at (l : Fin 128) : k0_pay104 (kInfo x y) (ix2 r l) = info (four y r) (four x r) l.val := by
  unfold k0_pay104
  refine (transpose_apply [1, 0] _ transposes_S128x512_p1_0_S512x128 (ix2 r l : S512x128.Idx) (ix2 l r : S128x512.Idx) fun b => ?_).trans ?_
  · match b with
    | ⟨0, _⟩ => rfl
    | ⟨1, _⟩ => rfl
  by_cases h : l.val < 8
  · refine (concatenate_pair_apply_left (s₁ := S8x512) (s₂ := S120x512) 0 _ _ _ (ix2 l r : S128x512.Idx) rfl (ix2 ⟨l.val, h⟩ r : S8x512.Idx) fun c => ?_).trans (kInfo_at x y r ⟨l.val, h⟩)
    match c with | ⟨0, _⟩ => rfl | ⟨1, _⟩ => rfl
  · refine (concatenate_pair_apply_right (s₁ := S8x512) (s₂ := S120x512) 0 _ _ _ (ix2 l r : S128x512.Idx) rfl rfl (ix2 ⟨l.val - 8, by omega⟩ r : S120x512.Idx) (fun c hc => ?_) ?_).trans ?_
    · match c with | ⟨0, _⟩ => exact absurd rfl hc | ⟨1, _⟩ => rfl
    · show l.val - 8 + 8 = l.val; omega
    · rw [info_rest _ _ _ (by omega)]
      exact zero_word

end

/-! ## The scores of a tile -/

theorem dotRouter (w : FVec Ideal S16x1024 .bf16) (h : FVec Ideal S512x1024 .bf16) (e : Fin 16) (r : Fin 512) :
    matmul (F := Ideal) dot_S16x1024_S512x1024_S16x512_1_1_0_0_n_n none w h (constant S16x512 .f32 0x00000000#32) (ix2 e r)
      = ∑ k : Fin 1024, w (ix2 e k) * h (ix2 r k) := by
  simp only [matmul]
  rw [Ideal.matmul_constant_zero_apply, ← Equiv.sum_comp (contrEquiv1 dot_S16x1024_S512x1024_S16x512_1_1_0_0_n_n 1024 rfl rfl).symm]
  refine Finset.sum_congr rfl fun k _ => ?_
  have hk := contrEquiv1_symm_val dot_S16x1024_S512x1024_S16x512_1_1_0_0_n_n 1024 rfl rfl k
  refine congrArg₂ (· * ·) (congrArg w (funext fun a => Fin.ext ?_)) (congrArg h (funext fun a => Fin.ext ?_))
  · match a with
    | ⟨0, _⟩ => rfl
    | ⟨1, _⟩ => exact hk
  · match a with
    | ⟨0, _⟩ => rfl
    | ⟨1, _⟩ => exact hk

section
variable {A : Args} {R : Router} {b : Fin 32} {s : ℕ} (hs : s < 4)
  {v4 v5 v6 : FVec Ideal S1x1024 .f32} {v12 : FVec Ideal S512x1024 .f32} {v163 : FVec Ideal S512x1024 .bf16} {v165 : FVec Ideal S1024x1024 .bf16} {v173 : Vec Ideal S1x1024 .f32}
  (hh : ∀ (r : Fin 512) (d : Fin 1024), k0_pay38 v4 v5 v6 v12 v163 v165 v173 (ix2 r d) = h2 A b (pos hs r) d)
  {x9 : Vec Ideal S16x1024 .bf16} {x10 : Vec Ideal S16x1 .f32} (hw : ∀ e k, x9 (ix2 e k) = R.w k e) (hb : ∀ e, x10 (ix2 e 0) = R.bias e)

include hh hw in
theorem score_at (r : Fin 512) : four (k0_pay39 v4 v5 v6 v12 v163 v165 v173 x9) r = score A R b (pos hs r) := by
  funext g i
  unfold four k0_pay39 score
  refine congrArg Ideal.logistic ((dotRouter _ _ _ r).trans (Finset.sum_congr rfl fun k _ => (mul_comm _ _).trans (congrArg₂ (· * ·) (hh r k) ?_)))
  exact (same2 _ _ _).trans (hw (expert g i) k)

include hh hw hb in
theorem biased_at (r : Fin 512) : four (k0_pay40 v4 v5 v6 v12 v163 v165 v173 x9 x10) r = biased A R b (pos hs r) := by
  funext g i
  unfold four k0_pay40 biased
  refine congrArg₂ (· + ·) (congrFun (congrFun (score_at hs hh hw r) g) i) ?_
  exact (col2 _ broadcasts_S16x1_S16x512 _ r).trans ((same2 _ _ _).trans (hb (expert g i)))

end

end Cert.Kernel2Ideal.Mix

end
-- ==== Proof.Mix.Leave.lean ====
/- What a point of the grid leaves of the experts' choice: its block of either array is told of the tile's tokens. -/
module

public import proofs.«01_k».proof.Proof.Mix.Rows
public import proofs.«01_k».proof.Proof.Mix.Info

@[expose] public section

set_option maxRecDepth 65536

noncomputable section

namespace Cert.Kernel2Ideal.Mix

open Cert.Kernel2Ideal Cert.Kernel2Ideal.Gen
open Idealize.ShloMosaic Idealize.ShloMosaic.TcCoe
open Idealize.ShloMosaic.ValueIdx
open Idealize.ShloMosaic.Pipeline (Dat Cfg Window BodyObligation cellOf)
open Cert.Mixer
open scoped BigOperators

variable (m : (ℓ : Loc nD τ sig) → Buf (Elt Ideal) ℓ)

/-- The blocks of a point that hold the router. -/
structure RouterBlocks (R : Router) (c : Dev nD) (t : Fin cfg0.N) : Prop where
  w : ∀ e k, iblk m c 9 t (ix2 e k : S16x1024.Idx) = R.w k e
  bias : ∀ e, iblk m c 10 t (ix2 e 0 : S16x1.Idx) = R.bias e

/-- The choice a tile leaves, by columns and by rows. -/
structure Tells (A : Args) (R : Router) (b : Fin 32) (s : ℕ) (hs : s < 4) (o : Left Ideal) : Prop where
  route : ∀ (j : Fin 8) (r : Fin 512), o.route (ix2 j r) = info (biased A R b (pos hs r)) (score A R b (pos hs r)) j.val
  info : ∀ (r : Fin 512) (l : Fin 128), o.info (ix2 r l) = info (biased A R b (pos hs r)) (score A R b (pos hs r)) l.val

set_option maxHeartbeats 2000000 in
theorem tellsA {A : Args} {R : Router} {b : Fin 32} {s : ℕ} (c : Dev nD) (t : Fin cfg0.N) (h0 : t.val % 4 = 0) (B : TileBlocks m A b s c t) (RB : RouterBlocks m R c t)
    (hi : (grid0.coords t 1).val = s) (hs : s = 0) : Tells A R b s B.hs (storesA m c t h0).left := by
  have hm := mixedA B c (grid0.coords t) (hs0_0 t) (hs0_1 t) (hs0_2 t) (hs0_4 t) (hs0_5 t) (hs0_6 t) (hs0_7 t) (arg17 := scM0_0) (arg18 := scM0_1) hi hs
  have hh := h2_apply B _ hm
  have hS := score_at B.hs hh RB.w
  have hY := biased_at B.hs hh RB.w RB.bias
  constructor
  · intro j r
    unfold Stores.left storesA kernelRun0_A
    dsimp only
    rw [View.canon_unit_zero (funext zero2)]
    refine (kInfo_at _ _ r j).trans ?_
    rw [← hS r, ← hY r]
    unfold kernelRun0_A.sl.r_22 kernelRun0_A.sl.r_23 kernelRun0_A.sl.r kernelRun0_A.sl.r_1 kernelRun0_A.sl.r_2 kernelRun0_A.sl.r_5 kernelRun0_A.sl.r_20
    rw [read_whole (hs0_0 t) (iblk m c 0 t) (off := ![0, 0, 0]) zero3, read_whole (hs0_1 t) (iblk m c 1 t) (off := ![0, 0, 0]) zero3, read_whole (hs0_3 t) (iblk m c 3 t) (off := ![0, 0]) zero2, read_whole (hs0_8 t) (iblk m c 8 t) (off := ![0, 0, 0]) zero3,
      read_whole (hs0_9 t) (iblk m c 9 t) (off := ![0, 0]) zero2, read_whole (hs0_10 t) (iblk m c 10 t) (off := ![0, 0]) zero2]
  · intro r l
    unfold Stores.left storesA kernelRun0_A
    dsimp only
    rw [View.canon_unit_zero (funext zero2)]
    refine (turned_at _ _ r l).trans ?_
    rw [← hS r, ← hY r]
    unfold kernelRun0_A.sl.r_22 kernelRun0_A.sl.r_23 kernelRun0_A.sl.r kernelRun0_A.sl.r_1 kernelRun0_A.sl.r_2 kernelRun0_A.sl.r_5 kernelRun0_A.sl.r_20
    rw [read_whole (hs0_0 t) (iblk m c 0 t) (off := ![0, 0, 0]) zero3, read_whole (hs0_1 t) (iblk m c 1 t) (off := ![0, 0, 0]) zero3, read_whole (hs0_3 t) (iblk m c 3 t) (off := ![0, 0]) zero2, read_whole (hs0_8 t) (iblk m c 8 t) (off := ![0, 0, 0]) zero3,
      read_whole (hs0_9 t) (iblk m c 9 t) (off := ![0, 0]) zero2, read_whole (hs0_10 t) (iblk m c 10 t) (off := ![0, 0]) zero2]

set_option maxHeartbeats 2000000 in
theorem tellsB {A : Args} {R : Router} {b : Fin 32} {s : ℕ} (c : Dev nD) (t : Fin cfg0.N) (h0 : ¬t.val % 4 = 0) (B : TileBlocks m A b s c t) (RB : RouterBlocks m R c t)
    (hi : (grid0.coords t 1).val = s) (g : Vec Ideal S520x512 .f32) (v : Vec Ideal S528x512 .f32) (hC : Carried A b s g v) :
    Tells A R b s B.hs (storesB m c t h0 g v).left := by
  have hm := mixedB B c (grid0.coords t) (hs0_0 t) (hs0_1 t) (hs0_2 t) (hs0_4 t) (hs0_5 t) (hs0_6 t) (hs0_7 t) (arg17 := scM0_0) (Memref.isWhole_whole _) (arg18 := scM0_1) (Memref.isWhole_whole _) hi hC
  have hh := h2_apply B _ hm
  have hS := score_at B.hs hh RB.w
  have hY := biased_at B.hs hh RB.w RB.bias
  constructor
  · intro j r
    unfold Stores.left storesB kernelRun0_B
    dsimp only
    rw [View.canon_unit_zero (funext zero2)]
    refine (kInfo_at _ _ r j).trans ?_
    rw [← hS r, ← hY r]
    unfold kernelRun0_B.sl.r_22 kernelRun0_B.sl.r_23 kernelRun0_B.sl.r kernelRun0_B.sl.r_1 kernelRun0_B.sl.r_2 kernelRun0_B.sl.r_5 kernelRun0_B.sl.r_20
    rw [read_whole (hs0_0 t) (iblk m c 0 t) (off := ![0, 0, 0]) zero3, read_whole (hs0_1 t) (iblk m c 1 t) (off := ![0, 0, 0]) zero3, read_whole (hs0_3 t) (iblk m c 3 t) (off := ![0, 0]) zero2, read_whole (hs0_8 t) (iblk m c 8 t) (off := ![0, 0, 0]) zero3,
      read_whole (hs0_9 t) (iblk m c 9 t) (off := ![0, 0]) zero2, read_whole (hs0_10 t) (iblk m c 10 t) (off := ![0, 0]) zero2]
  · intro r l
    unfold Stores.left storesB kernelRun0_B
    dsimp only
    rw [View.canon_unit_zero (funext zero2)]
    refine (turned_at _ _ r l).trans ?_
    rw [← hS r, ← hY r]
    unfold kernelRun0_B.sl.r_22 kernelRun0_B.sl.r_23 kernelRun0_B.sl.r kernelRun0_B.sl.r_1 kernelRun0_B.sl.r_2 kernelRun0_B.sl.r_5 kernelRun0_B.sl.r_20
    rw [read_whole (hs0_0 t) (iblk m c 0 t) (off := ![0, 0, 0]) zero3, read_whole (hs0_1 t) (iblk m c 1 t) (off := ![0, 0, 0]) zero3, read_whole (hs0_3 t) (iblk m c 3 t) (off := ![0, 0]) zero2, read_whole (hs0_8 t) (iblk m c 8 t) (off := ![0, 0, 0]) zero3,
      read_whole (hs0_9 t) (iblk m c 9 t) (off := ![0, 0]) zero2, read_whole (hs0_10 t) (iblk m c 10 t) (off := ![0, 0]) zero2]

end Cert.Kernel2Ideal.Mix

end
-- ==== Proof.Mix.Arrays2.lean ====
/- The kernel's two arrays of where its tokens are sent, index by index, at the ideal values. -/
module

public import proofs.«01_k».proof.Proof.Mix.Arrays
public import proofs.«01_k».proof.Proof.Mix.Leave

@[expose] public section

set_option maxRecDepth 16384

noncomputable section

namespace Cert.Kernel2Ideal.Mix

open Cert.Kernel2Ideal Cert.Kernel2Ideal.Gen
open Idealize.ShloMosaic Idealize.ShloMosaic.TcCoe Idealize.ShloMosaic.Tactic
open Idealize.ShloMosaic.ValueIdx
open Idealize.ShloMosaic.Pipeline (Dat Cfg Window BodyObligation cellOf)
open Cert.Mixer
open scoped BigOperators

variable (m : (ℓ : Loc nD τ sig) → Buf (Elt Ideal) ℓ) (c : Dev nD)

/-- The router on device `c`. -/
abbrev routerAt : Router := routerOf (arg m c main_arg9) (arg m c main_arg10)

/-! ## The router's blocks -/

theorem V_main_v20 : V m c main_v20 = (truncf .bf16 (transpose S16x1024 [1, 0] (arg m c main_arg9 : FVec Ideal S1024x16 .f32) transposes_S1024x16_S16x1024_1_0) bitsLt_bf16_f32 : FVec Ideal S16x1024 .bf16) := by
  with_unfolding_all rfl
theorem V_main_v21 : V m c main_v21 = shapeCast S16x1 (arg m c main_arg10 : Vec Ideal S16 .f32) shapeCasts_S16_S16x1 := by
  with_unfolding_all rfl

theorem index_9 (t : Fin cfg0.N) : (cfg0.win 9).index t = ![0, 0] :=
  (by decide +kernel : ∀ t : Fin grid0.N, cc0_transform_9 (grid0.coords t) = ![0, 0]) t
theorem index_10 (t : Fin cfg0.N) : (cfg0.win 10).index t = ![0, 0] :=
  (by decide +kernel : ∀ t : Fin grid0.N, cc0_transform_10 (grid0.coords t) = ![0, 0]) t

theorem blk9_apply (t : Fin cfg0.N) (y : S16x1024.Idx) : iblk m c 9 t y = V m c main_v20 y := by
  show V m c main_v20 (((cfg0.win 9).blk t).view.emb y) = _
  congr 1
  funext a
  apply Fin.ext
  match a with
  | ⟨0, _⟩ => blk_simp; refine (congrArg (fun n : Nat => n * 16 + (y 0).val) (congrFun (index_9 t) (0 : Fin 2))).trans ?_; exact (by omega : (0) * 16 + (y 0).val = (y 0).val)
  | ⟨1, _⟩ => blk_simp; refine (congrArg (fun n : Nat => n * 1024 + (y 1).val) (congrFun (index_9 t) (1 : Fin 2))).trans ?_; exact (by omega : (0) * 1024 + (y 1).val = (y 1).val)

theorem blk10_apply (t : Fin cfg0.N) (y : S16x1.Idx) (i : S16x1.Idx) (h0 : (i 0).val = (y 0).val) (h1 : (i 1).val = 0) : iblk m c 10 t y = V m c main_v21 i := by
  show V m c main_v21 (((cfg0.win 10).blk t).view.emb y) = _
  congr 1
  funext a
  apply Fin.ext
  match a with
  | ⟨0, _⟩ => blk_simp; refine (congrArg (fun n : Nat => n * 16 + (y 0).val) (congrFun (index_10 t) (0 : Fin 2))).trans ?_; exact (by omega : (0) * 16 + (y 0).val = (i 0).val)
  | ⟨1, _⟩ => blk_simp; exact congrFun (index_10 t) (1 : Fin 2)

theorem routerBlocks (t : Fin cfg0.N) : RouterBlocks m (routerAt m c) c t where
  w e k := by
    refine (blk9_apply m c t (ix2 e k)).trans ?_
    rw [V_main_v20]
    refine transpose_apply [1, 0] (arg m c main_arg9 : Vec Ideal S1024x16 .f32) transposes_S1024x16_S16x1024_1_0 (ix2 e k : S16x1024.Idx) (ix2 k e : S1024x16.Idx) fun d => ?_
    match d with | ⟨0, _⟩ => rfl | ⟨1, _⟩ => rfl
  bias e := by
    refine (blk10_apply m c t (ix2 e 0) (ix2 e 0) rfl rfl).trans ?_
    rw [V_main_v21]
    refine shapeCast_apply _ _ _ (ix1 e : S16.Idx) ?_
    rewrite [Shape.rowMajor_val_one, Shape.rowMajor_val_two]
    show e.val = e.val * 1 + 0
    omega

/-! ## Every point -/

/-- What point `n` tells. -/
theorem tells (n : ℕ) (hn : n < cfg0.N) :
    Tells (argsAt m c) (routerAt m c) ⟨n / 4, by have := points ⟨n, hn⟩; simp only at this; omega⟩ (n % 4) (Nat.mod_lt _ (by omega)) (left0 m c n hn) := by
  by_cases h0 : n % 4 = 0
  · have h := tellsA m c (⟨n, hn⟩ : Fin cfg0.N) h0 (blocks m c ⟨n, hn⟩) (routerBlocks m c ⟨n, hn⟩) (coord1 _) h0
    rw [← left0_A m c ⟨n, hn⟩ h0] at h
    exact h
  · match n, hn, h0 with
    | 0, hn, h0 => exact absurd rfl h0
    | n + 1, hn, h0 =>
      have ih := leaves m c n (Nat.lt_of_succ_lt hn)
      have hC : Carried (argsAt m c) ⟨(n + 1) / 4, by have := points ⟨n + 1, hn⟩; simp only at this; omega⟩ ((n + 1) % 4) (left0 m c n (Nat.lt_of_succ_lt hn)).g (left0 m c n (Nat.lt_of_succ_lt hn)).v := by
        have e : (n + 1) % 4 = n % 4 + 1 := by omega
        have e' : (n + 1) / 4 = n / 4 := by omega
        simp only [e, e']
        exact ⟨ih.g, ih.v⟩
      have h := tellsB m c (⟨n + 1, hn⟩ : Fin cfg0.N) h0 (blocks m c ⟨n + 1, hn⟩) (routerBlocks m c ⟨n + 1, hn⟩) (coord1 _) _ _ hC
      exact (left0_B m c ⟨n + 1, hn⟩ h0) ▸ h

/-! ## The arrays -/

theorem index_13 (t : Fin cfg0.N) : (cfg0.win 13).index t = ![t.val, 0] :=
  (by decide +kernel : ∀ t : Fin grid0.N, cc0_transform_13 (grid0.coords t) = ![t.val, 0]) t
theorem index_14 (t : Fin cfg0.N) : (cfg0.win 14).index t = ![0, t.val] :=
  (by decide +kernel : ∀ t : Fin grid0.N, cc0_transform_14 (grid0.coords t) = ![0, t.val]) t

theorem covers13 : (cfg0.win 13).Covers := by
  refine ⟨fun a => (by decide : ∀ a : Fin 2, 0 < S512x128.size a) a, fun β => ⟨⟨(β (0 : Fin 2)).val, lt_of_lt_of_eq (β (0 : Fin 2)).isLt (by decide +kernel : (65536 + 512 - 1) / 512 = grid0.N)⟩, flush0_13 _, fun a => ⟨?_, Or.inl rfl⟩⟩⟩
  match a with
  | ⟨0, _⟩ => exact congrFun (index_13 _) (0 : Fin 2)
  | ⟨1, _⟩ =>
    refine (congrFun (index_13 _) (1 : Fin 2)).trans ?_
    have h : (β (1 : Fin 2)).val < 1 := lt_of_lt_of_eq (β (1 : Fin 2)).isLt (by decide +kernel : (128 + 128 - 1) / 128 = 1)
    exact (by omega : 0 = (β (1 : Fin 2)).val)

theorem covers14 : (cfg0.win 14).Covers := by
  refine ⟨fun a => (by decide : ∀ a : Fin 2, 0 < S8x512.size a) a, fun β => ⟨⟨(β (1 : Fin 2)).val, lt_of_lt_of_eq (β (1 : Fin 2)).isLt (by decide +kernel : (65536 + 512 - 1) / 512 = grid0.N)⟩, flush0_14 _, fun a => ⟨?_, Or.inl rfl⟩⟩⟩
  match a with
  | ⟨0, _⟩ =>
    refine (congrFun (index_14 _) (0 : Fin 2)).trans ?_
    have h : (β (0 : Fin 2)).val < 1 := lt_of_lt_of_eq (β (0 : Fin 2)).isLt (by decide +kernel : (8 + 8 - 1) / 8 = 1)
    exact (by omega : 0 = (β (0 : Fin 2)).val)
  | ⟨1, _⟩ => exact congrFun (index_14 _) (1 : Fin 2)

/-- A token's place in its tile, and the tile's in its sequence, are its place in the sequence. -/
theorem told_of (t : Fin cfg0.N) (r : Fin 512) (n : Fin 65536) (hn : n.val = t.val * 512 + r.val) (j : ℕ) :
    info (biased (argsAt m c) (routerAt m c) ⟨t.val / 4, by have := points t; omega⟩ (pos (Nat.mod_lt t.val (by omega : 0 < 4)) r))
      (score (argsAt m c) (routerAt m c) ⟨t.val / 4, by have := points t; omega⟩ (pos (Nat.mod_lt t.val (by omega : 0 < 4)) r)) j
      = told (argsAt m c) (routerAt m c) n j := by
  have bt := points t
  unfold told
  have e1 : (⟨t.val / 4, by omega⟩ : Fin 32) = ⟨n.val / 2048, by omega⟩ := Fin.ext (by show t.val / 4 = n.val / 2048; omega)
  have e2 : pos (Nat.mod_lt t.val (by omega : 0 < 4)) r = ⟨n.val % 2048, Nat.mod_lt _ (by omega)⟩ :=
    Fin.ext (by show 512 * (t.val % 4) + r.val = n.val % 2048; omega)
  rw [e1, e2]

/-- What is told, a token to a row, after the run. -/
theorem final2 : (dats m 0 c).arrAt 13 cfg0.N = toldRows (argsAt m c) (routerAt m c) := by
  refine (dats m 0 c).arrAt_eq_of_covers 13 _ covers13 fun t hf y => ?_
  have e0 : (((cfg0.win 13).blk t).view.emb y (0 : Fin 2)).val = t.val * 512 + (y (0 : Fin 2)).val := by
    blk_simp
    exact congrArg (fun n : Nat => n * 512 + (y (0 : Fin 2)).val) (congrFun (index_13 t) (0 : Fin 2))
  have e1 : (((cfg0.win 13).blk t).view.emb y (1 : Fin 2)).val = (y (1 : Fin 2)).val := by
    blk_simp
    refine (congrArg (fun n : Nat => n * 128 + (y (1 : Fin 2)).val) (congrFun (index_13 t) (1 : Fin 2))).trans ?_
    exact (by omega : 0 * 128 + (y (1 : Fin 2)).val = (y (1 : Fin 2)).val)
  generalize hi : ((cfg0.win 13).blk t).view.emb y = i at e0 e1 ⊢
  blk_simp
  rw [after0_13]
  have hy : (y : S512x128.Idx) = ix2 (y (0 : Fin 2)) (y (1 : Fin 2)) := by
    funext a; match a with | ⟨0, _⟩ => rfl | ⟨1, _⟩ => rfl
  refine ((congrArg (left0 m c t.val t.isLt).info hy).trans ((tells m c t.val t.isLt).info _ _)).trans ?_
  refine (told_of m c t (y (0 : Fin 2)) (i (0 : Fin 2)) e0 _).trans ?_
  exact congrArg (told (argsAt m c) (routerAt m c) (i (0 : Fin 2))) e1.symm

/-- What is told, a token to a column, after the run. -/
theorem final3 : (dats m 0 c).arrAt 14 cfg0.N = toldColumns (argsAt m c) (routerAt m c) := by
  refine (dats m 0 c).arrAt_eq_of_covers 14 _ covers14 fun t hf y => ?_
  have e0 : (((cfg0.win 14).blk t).view.emb y (0 : Fin 2)).val = (y (0 : Fin 2)).val := by
    blk_simp
    refine (congrArg (fun n : Nat => n * 8 + (y (0 : Fin 2)).val) (congrFun (index_14 t) (0 : Fin 2))).trans ?_
    exact (by omega : 0 * 8 + (y (0 : Fin 2)).val = (y (0 : Fin 2)).val)
  have e1 : (((cfg0.win 14).blk t).view.emb y (1 : Fin 2)).val = t.val * 512 + (y (1 : Fin 2)).val := by
    blk_simp
    exact congrArg (fun n : Nat => n * 512 + (y (1 : Fin 2)).val) (congrFun (index_14 t) (1 : Fin 2))
  generalize hi : ((cfg0.win 14).blk t).view.emb y = i at e0 e1 ⊢
  blk_simp
  rw [after0_14]
  have hy : (y : S8x512.Idx) = ix2 (y (0 : Fin 2)) (y (1 : Fin 2)) := by
    funext a; match a with | ⟨0, _⟩ => rfl | ⟨1, _⟩ => rfl
  refine ((congrArg (left0 m c t.val t.isLt).route hy).trans ((tells m c t.val t.isLt).route _ _)).trans ?_
  refine (told_of m c t (y (1 : Fin 2)) (i (1 : Fin 2)) e1 _).trans ?_
  exact congrArg (told (argsAt m c) (routerAt m c) (i (1 : Fin 2))) e0.symm

end Cert.Kernel2Ideal.Mix

end
-- ==== Proof.Mix.Ref1.lean ====
/- The reference's first half read index by index: the first normalisation, the projection, the arrays padded in front, and the
   gated convolution. -/
module

public import proofs.«01_k».proof.Proof.Gen.Reference2Ideal.Read
public import proofs.«01_k».proof.Proof.Mix.Whole
public import Idealize.ShloMosaic.Lib.KernelVsHost
public import Idealize.ShloMosaic.Lib.IdealHost
public import Idealize.ShloMosaic.Lib.WordCmp

@[expose] public section

set_option maxRecDepth 16384

noncomputable section

namespace Cert.Reference2Ideal.Mix

open Cert.Reference2Ideal Cert.Reference2Ideal.Gen Cert.Reference2Ideal.Read
open Idealize.ShloMosaic Idealize.ShloMosaic.TcCoe Idealize.ShloMosaic.ValueIdx
open Cert.Mixer
open scoped BigOperators

/-- The mixer's argument arrays: the stream, the modulation, the two gains, the projection, the taps, the pooling matrices and
    their scale, and the output projection. -/
structure In where
  x0 : (⟨S32x2048x1024, .f32⟩ : BufTy).Contents (Elt Ideal)
  x1 : (⟨S32x6144, .f32⟩ : BufTy).Contents (Elt Ideal)
  x2 : (⟨S2x1024, .f32⟩ : BufTy).Contents (Elt Ideal)
  x3 : (⟨S2x1024, .f32⟩ : BufTy).Contents (Elt Ideal)
  x4 : (⟨S2x1024x2048, .f32⟩ : BufTy).Contents (Elt Ideal)
  x5 : (⟨S2x3x512, .f32⟩ : BufTy).Contents (Elt Ideal)
  x6 : (⟨S2x4x128x128, .f32⟩ : BufTy).Contents (Elt Ideal)
  x7 : (⟨S2x512, .f32⟩ : BufTy).Contents (Elt Ideal)
  x8 : (⟨S2x1024x1024, .f32⟩ : BufTy).Contents (Elt Ideal)

/-- The same by coordinates. -/
abbrev In.args (a : In) : Args := argsOf a.x0 a.x1 a.x2 a.x3 a.x4 a.x5 a.x6 a.x7 a.x8

variable (a : In)

/-! ## The normalisation -/

/-- The normaliser's arithmetic, for a row of either normalisation. -/
theorem normed_of (row gain sc sh : Fin 1024 → EReal) (d : Fin 1024) (x g s h : EReal) (hx : x = row d) (hg : g = gain d) (hs : s = sc d) (hh : h = sh d) :
    x * Ideal.rsqrt (Ideal.div (Ideal.ofBits .f32 0x00000000#32 + ∑ k : Fin 1024, row k * row k) (Ideal.ofBits .f32 0x44800000#32) + Ideal.ofBits .f32 0x358637BD#32)
      * g * (Ideal.ofBits .f32 0x3F800000#32 + s) + h = normed row gain sc sh d := by
  subst hx hg hs hh
  unfold normed rms
  rw [Ideal.ofBits_zero_f32, zero_add, mul_assoc (row d * _)]

theorem hid_eq (b : Fin 32) (t : Fin 2048) (d : Fin 1024) : val_main_v32 (F := Ideal) a.x0 a.x1 a.x2 (ix3 b t d) = hid a.args b t d := by
  rw [val_main_v32_apply, val_main_v30_apply, val_main_v26_apply, val_main_v23_apply, val_main_v22_apply, val_main_v21_apply, val_main_v20_apply,
    val_main_v18_apply, val_main_v19_apply, val_main_v17_apply, val_main_v16_apply, val_main_v15_apply, val_main_v25_apply, val_main_v24_apply,
    val_main_v13_apply, val_main_v12_apply, val_main_v29_apply, val_main_v28_apply, val_main_v27_apply, val_main_v7_apply, val_main_v1_apply,
    val_main_v31_apply, val_main_v6_apply, val_main_v0_apply]
  refine Eq.trans ?_ (normed_of (a.args.x b t) a.args.n1 (a.args.mod b 1) (a.args.mod b 0) d (a.x0 (ix3 b t d))
    (a.x2 (idx_main_v12 (idx_main_v13 (idx_main_v24 (idx_main_v25 (ix3 b t d)))))) (a.x1 (idx_main_v1 (idx_main_v7 (idx_main_v29 (ix3 b t d)))))
    (a.x1 (idx_main_v0 (idx_main_v6 (idx_main_v31 (ix3 b t d))))) rfl
    (congrArg a.x2 (funext fun c => Fin.ext (by
      match c with
      | ⟨0, _⟩ => rfl
      | ⟨1, _⟩ => exact Nat.mod_eq_of_lt d.isLt)))
    (congrArg a.x1 (funext fun c => Fin.ext (by
      match c with
      | ⟨0, _⟩ => rfl
      | ⟨1, _⟩ => rfl)))
    (congrArg a.x1 (funext fun c => Fin.ext (by
      match c with
      | ⟨0, _⟩ => rfl
      | ⟨1, _⟩ => show d.val = 1024 * 0 + d.val; omega))))
  have e : ∀ k : Fin 1024, idx_main_v15 (idx_main_v16 (idx_main_v22 (ix3 b t d))) k = ix3 b t k := fun k => funext fun c => Fin.ext (by
    match c with
    | ⟨0, _⟩ => rfl
    | ⟨1, _⟩ => rfl
    | ⟨2, _⟩ => rfl)
  simp only [val_main_v14_apply, e]
  rfl

/-! ## The projection -/

theorem proj_eq (b : Fin 32) (t e : Fin 2048) : val_main_v35 (F := Ideal) a.x0 a.x1 a.x2 a.x4 (ix3 b t e) = proj a.args b t e := by
  rw [val_main_v35_apply]
  unfold proj
  refine Finset.sum_congr rfl fun k _ => congrArg₂ (· * ·) ?_ ?_
  · refine (congrArg (val_main_v32 (F := Ideal) a.x0 a.x1 a.x2) (funext fun c => Fin.ext ?_)).trans (hid_eq a b t k)
    match c with
    | ⟨0, _⟩ => rfl
    | ⟨1, _⟩ => rfl
    | ⟨2, _⟩ => rfl
  · rw [val_main_v34_apply, val_main_v33_apply]
    refine congrArg a.x4 (funext fun c => Fin.ext ?_)
    have hk := k.isLt
    have he := e.isLt
    match c with
    | ⟨0, _⟩ => first | rfl | (show _ / _ = 0; omega)
    | ⟨1, _⟩ => show (k.val * 2048 + e.val) / 2048 % 1024 = k.val; omega
    | ⟨2, _⟩ => show (k.val * 2048 + e.val) % 2048 = e.val; omega

/-- A projected entry read at an index given by its coordinates. -/
theorem proj_at (b : Fin 32) (t e : Fin 2048) (i : S32x2048x2048.Idx) (h0 : (i 0).val = b.val) (h1 : (i 1).val = t.val) (h2 : (i 2).val = e.val) :
    val_main_v35 (F := Ideal) a.x0 a.x1 a.x2 a.x4 i = proj a.args b t e := by
  refine (congrArg _ (funext fun c => Fin.ext ?_)).trans (proj_eq a b t e)
  match c with
  | ⟨0, _⟩ => exact h0
  | ⟨1, _⟩ => exact h1
  | ⟨2, _⟩ => exact h2

/-! ## Arrays padded in front -/

/-- An array with `p` rows of zeros in front of its 2048, read at a row. -/
theorem front_apply (n C p : ℕ) (x : (⟨3, ![32, 2048, C]⟩ : Shape).Idx → EReal) {u : Shape} (v : u.Idx → EReal)
    (h : (⟨3, ![32, 2048, C]⟩ : Shape).Pads ![0, p, 0] ![0, 0, 0] ![0, 0, 0] ⟨3, ![32, n, C]⟩) (hu : 0 < u.numel) (hv : v (Shape.Idx.first hu) = 0)
    (i : (⟨3, ![32, n, C]⟩ : Shape).Idx) (b : Fin 32) (r : ℕ) (c : Fin C) (h0 : (i 0).val = b.val) (h1 : (i 1).val = r) (h2 : (i 2).val = c.val)
    (hr : r < p + 2048) :
    pad ⟨3, ![32, n, C]⟩ ![0, p, 0] ![0, 0, 0] ![0, 0, 0] x v h hu i = if g : p ≤ r then x (ix3 b ⟨r - p, by omega⟩ c) else 0 := by
  by_cases g : p ≤ r
  · rw [dif_pos g]
    refine pad_apply_of_inside ![0, p, 0] ![0, 0, 0] ![0, 0, 0] x v h hu i (ix3 b ⟨r - p, by omega⟩ c) fun d => ?_
    match d with
    | ⟨0, _⟩ => show (i 0).val = 0 + b.val * (0 + 1); omega
    | ⟨1, _⟩ => show (i 1).val = p + (r - p) * (0 + 1); omega
    | ⟨2, _⟩ => show (i 2).val = 0 + c.val * (0 + 1); omega
  · rw [dif_neg g]
    refine (pad_apply_of_not_inside ![0, p, 0] ![0, 0, 0] ![0, 0, 0] x v h hu i (1 : Fin 3) fun hin => g ?_).trans hv
    have := hin.1
    rw [← h1]
    exact this

theorem word_zero : FloatOps.sitofp (F := Ideal) .f32 0#32 = 0 := by
  show ((((0#32 : BitVec 32).toInt : ℤ) : ℝ) : EReal) = 0
  simp

theorem gate_at (i : S32x2050x512.Idx) (b : Fin 32) (u : ℕ) (c : Fin 512) (h0 : (i 0).val = b.val) (h1 : (i 1).val + 14 = u) (h2 : (i 2).val = c.val) :
    val_main_v41 (F := Ideal) a.x0 a.x1 a.x2 a.x4 i = gp a.args b u c := by
  have hi : (i 1).val < 2050 := (i 1).isLt
  refine (front_apply 2050 512 2 (val_main_v40 (F := Ideal) a.x0 a.x1 a.x2 a.x4) (val_main_call0_v0 (F := Ideal)) pads_S32x2048x512_S32x2050x512_000_200_000 h_S_
    word_zero i b (i 1).val c h0 rfl h2 (by omega)).trans ?_
  unfold gp
  by_cases g : 2 ≤ (i 1).val
  · rw [dif_pos g, dif_pos (⟨by omega, by omega⟩ : 16 ≤ u ∧ u < 2064), val_main_v40_apply, val_main_v37_apply, val_main_v38_apply]
    refine congrArg₂ (· * ·) (proj_at a b _ _ _ rfl ?_ ?_) (proj_at a b _ _ _ rfl ?_ ?_)
    · show (i 1).val - 2 = u - 16; omega
    · show 512 + c.val = 512 + c.val; rfl
    · show (i 1).val - 2 = u - 16; omega
    · show 1024 + c.val = 1024 + c.val; rfl
  · rw [dif_neg g, dif_neg (fun h => g (by omega))]

/-! ## The convolution -/

theorem conv_eq (b : Fin 32) (t : Fin 2048) (c : Fin 512) : val_main_v64 (F := Ideal) a.x0 a.x1 a.x2 a.x4 a.x5 (ix3 b t c) = conv a.args b t c := by
  have ht := t.isLt
  have hc := c.isLt
  rw [val_main_v64_apply, val_main_v63_apply, val_main_v56_apply, val_main_v49_apply, val_main_v55_apply, val_main_v62_apply, val_main_v36_apply]
  unfold conv
  refine congrArg₂ (· * ·) (proj_at a b _ _ _ rfl rfl rfl) (congrArg₂ (· + ·) (congrArg₂ (· + ·) ?_ ?_) ?_)
  · refine congrArg₂ (· * ·) ?_ ?_
    · rw [val_main_v48_apply, val_main_v47_apply, val_main_v45_apply, val_main_v44_apply, val_main_v43_apply, val_main_v42_apply]
      refine congrArg a.x5 (funext fun d => Fin.ext ?_)
      match d with
      | ⟨0, _⟩ => first | rfl | (show _ / _ = 0; omega)
      | ⟨1, _⟩ => show ((0 + 0) * 512 + c.val % 512) / 512 % 3 = 0; omega
      | ⟨2, _⟩ => show ((0 + 0) * 512 + c.val % 512) % 512 = c.val; omega
    · rw [val_main_v46_apply]
      exact gate_at a _ b _ c rfl (by show t.val + 14 = t.val + 14; omega) rfl
  · refine congrArg₂ (· * ·) ?_ ?_
    · rw [val_main_v54_apply, val_main_v53_apply, val_main_v51_apply, val_main_v50_apply, val_main_v43_apply, val_main_v42_apply]
      refine congrArg a.x5 (funext fun d => Fin.ext ?_)
      match d with
      | ⟨0, _⟩ => first | rfl | (show _ / _ = 0; omega)
      | ⟨1, _⟩ => show ((1 + 0) * 512 + c.val % 512) / 512 % 3 = 1; omega
      | ⟨2, _⟩ => show ((1 + 0) * 512 + c.val % 512) % 512 = c.val; omega
    · rw [val_main_v52_apply]
      exact gate_at a _ b _ c rfl (by show 1 + t.val + 14 = t.val + 15; omega) rfl
  · refine congrArg₂ (· * ·) ?_ ?_
    · rw [val_main_v61_apply, val_main_v60_apply, val_main_v58_apply, val_main_v57_apply, val_main_v43_apply, val_main_v42_apply]
      refine congrArg a.x5 (funext fun d => Fin.ext ?_)
      match d with
      | ⟨0, _⟩ => first | rfl | (show _ / _ = 0; omega)
      | ⟨1, _⟩ => show ((2 + 0) * 512 + c.val % 512) / 512 % 3 = 2; omega
      | ⟨2, _⟩ => show ((2 + 0) * 512 + c.val % 512) % 512 = c.val; omega
    · rw [val_main_v59_apply]
      exact gate_at a _ b _ c rfl (by show 2 + t.val + 14 = t.val + 16; omega) rfl

end Cert.Reference2Ideal.Mix

end
-- ==== Proof.Mix.Ref2.lean ====
/- The reference's pooling branch read index by index: the sums over the last two, four, eight and sixteen positions, the counts they
   are divided by, and each group's averages through its own matrix. -/
module

public import proofs.«01_k».proof.Proof.Mix.Ref1

@[expose] public section

set_option maxRecDepth 16384

noncomputable section

namespace Cert.Reference2Ideal.Mix

open Cert.Reference2Ideal Cert.Reference2Ideal.Gen Cert.Reference2Ideal.Read
open Idealize.ShloMosaic Idealize.ShloMosaic.TcCoe Idealize.ShloMosaic.ValueIdx
open Cert.Mixer
open scoped BigOperators

variable (a : In)

/-- The count at a position, as the words compute it. -/
theorem count_word (t w : ℕ) (ht : t < 2048) (hw : w ≤ 16) :
    FloatOps.sitofp (F := Ideal) .f32 (IntOp.minsi (IntOp.addi 1#32 (BitVec.ofNat 32 t)) (BitVec.ofNat 32 w)) = cnt w t := by
  have e1 : IntOp.addi 1#32 (BitVec.ofNat 32 t) = BitVec.ofNat 32 (t + 1) := by
    show 1#32 + BitVec.ofNat 32 t = _
    rw [Nat.add_comm t 1, BitVec.ofNat_add]
  have i1 : (BitVec.ofNat 32 (t + 1)).toInt = ((t + 1 : ℕ) : ℤ) := Idealize.ShloMosaic.WordCmp.toInt_ofNat_of_lt (by show t + 1 < 2 ^ 31; omega)
  have i2 : (BitVec.ofNat 32 w).toInt = ((w : ℕ) : ℤ) := Idealize.ShloMosaic.WordCmp.toInt_ofNat_of_lt (by show w < 2 ^ 31; omega)
  rw [e1]
  unfold cnt IntOp.minsi
  by_cases h : (BitVec.ofNat 32 (t + 1)).slt (BitVec.ofNat 32 w) = true
  · rw [if_pos h]
    rw [BitVec.slt_iff_toInt_lt, i1, i2] at h
    show ((((BitVec.ofNat 32 (t + 1)).toInt : ℤ) : ℝ) : EReal) = _
    rw [i1, min_eq_left]
    · simp
    · exact_mod_cast h.le
  · rw [if_neg h]
    rw [BitVec.slt_iff_toInt_lt, i1, i2] at h
    show ((((BitVec.ofNat 32 w).toInt : ℤ) : ℝ) : EReal) = _
    rw [i2, min_eq_right]
    · simp
    · exact_mod_cast not_lt.mp h

/-- An entry of the pooled channels read at an index given by its coordinates. -/
theorem chan_at (b : Fin 32) (t : Fin 2048) (c : Fin 512) (i : S32x2048x512.Idx) (h0 : (i 0).val = b.val) (h1 : (i 1).val = t.val) (h2 : (i 2).val = c.val) :
    val_main_v39 (F := Ideal) a.x0 a.x1 a.x2 a.x4 i = vp a.args b (t.val + 16) c := by
  have ht := t.isLt
  rw [val_main_v39_apply]
  unfold vp
  rw [dif_pos (⟨by omega, by omega⟩ : 16 ≤ t.val + 16 ∧ t.val + 16 < 2064)]
  refine proj_at a b _ _ _ h0 ?_ ?_
  · show (i 1).val = t.val + 16 - 16; omega
  · show 1536 + (i 2).val = 1536 + c.val; omega

/-! ## A window of two -/

theorem own0 (b : Fin 32) (t : Fin 2048) (c : Fin 128) :
    val_main_v68 (F := Ideal) a.x0 a.x1 a.x2 a.x4 (ix3 b t c) = vp a.args b (t.val + 16) ⟨128 * 0 + c.val, by omega⟩ := by
  rw [val_main_v68_apply]
  exact chan_at a b t ⟨128 * 0 + c.val, by omega⟩ _ rfl rfl (by show c.val = 128 * 0 + c.val; omega)

theorem past0 (i : S32x2049x128.Idx) (b : Fin 32) (u : ℕ) (c : Fin 128) (h0 : (i 0).val = b.val) (h1 : (i 1).val + 15 = u) (h2 : (i 2).val = c.val) :
    val_main_v69 (F := Ideal) a.x0 a.x1 a.x2 a.x4 i = vp a.args b u ⟨128 * 0 + c.val, by omega⟩ := by
  have hi : (i 1).val < 2049 := (i 1).isLt
  refine (front_apply 2049 128 1 (val_main_v68 (F := Ideal) a.x0 a.x1 a.x2 a.x4) (val_main_call1_v0 (F := Ideal)) pads_S32x2048x128_S32x2049x128_000_100_000 h_S_
    word_zero i b (i 1).val c h0 rfl h2 (by omega)).trans ?_
  by_cases g : 1 ≤ (i 1).val
  · rw [dif_pos g, own0]
    exact congrArg (fun r => vp a.args b r _) (by show (i 1).val - 1 + 16 = u; omega)
  · rw [dif_neg g]
    unfold vp
    rw [dif_neg (fun h => g (by omega))]

theorem tap0_0 (b : Fin 32) (t : Fin 2048) (c : Fin 128) :
    val_main_v70 (F := Ideal) a.x0 a.x1 a.x2 a.x4 (ix3 b t c) = vp a.args b (t.val + 17 - 2 + 0) ⟨128 * 0 + c.val, by omega⟩ := by
  rw [val_main_v70_apply]
  exact past0 a _ b _ c rfl (by show t.val + 15 = t.val + 17 - 2 + 0; omega) rfl

theorem tap0_1 (b : Fin 32) (t : Fin 2048) (c : Fin 128) :
    val_main_v71 (F := Ideal) a.x0 a.x1 a.x2 a.x4 (ix3 b t c) = vp a.args b (t.val + 17 - 2 + 1) ⟨128 * 0 + c.val, by omega⟩ := by
  rw [val_main_v71_apply]
  exact past0 a _ b _ c rfl (by show 1 + t.val + 15 = t.val + 17 - 2 + 1; omega) rfl

theorem count0 (b : Fin 32) (t : Fin 2048) (c : Fin 128) : val_main_v78 (F := Ideal) (ix3 b t c) = cnt 2 t.val := by
  rw [val_main_v78_apply, val_main_v77_apply, val_main_v76_apply, val_main_v75_apply, val_main_v74_apply, val_main_v67_apply, val_main_v66_apply,
    val_main_v65_apply, val_main_v73_apply]
  exact count_word t.val 2 t.isLt (by omega)

theorem pooled0 (b : Fin 32) (t : Fin 2048) (c : Fin 128) :
    val_main_v80 (F := Ideal) a.x0 a.x1 a.x2 a.x4 (ix3 b t c) = pooled a.args b 2 t.val ⟨128 * 0 + c.val, by omega⟩ := by
  rw [val_main_v80_apply, val_main_v79_apply, own0, count0]
  unfold pooled
  refine congrArg₂ (fun x y : EReal => x - y) (congrArg₂ Ideal.div ?_ rfl) rfl
  rw [val_main_v72_apply,
    tap0_0, tap0_1]
  simp only [Finset.sum_range_succ, Finset.sum_range_zero, zero_add]
  rfl

/-! ## A window of four -/

theorem own1 (b : Fin 32) (t : Fin 2048) (c : Fin 128) :
    val_main_v81 (F := Ideal) a.x0 a.x1 a.x2 a.x4 (ix3 b t c) = vp a.args b (t.val + 16) ⟨128 * 1 + c.val, by omega⟩ := by
  rw [val_main_v81_apply]
  exact chan_at a b t ⟨128 * 1 + c.val, by omega⟩ _ rfl rfl (by show 128 + c.val = 128 * 1 + c.val; omega)

theorem past1 (i : S32x2051x128.Idx) (b : Fin 32) (u : ℕ) (c : Fin 128) (h0 : (i 0).val = b.val) (h1 : (i 1).val + 13 = u) (h2 : (i 2).val = c.val) :
    val_main_v82 (F := Ideal) a.x0 a.x1 a.x2 a.x4 i = vp a.args b u ⟨128 * 1 + c.val, by omega⟩ := by
  have hi : (i 1).val < 2051 := (i 1).isLt
  refine (front_apply 2051 128 3 (val_main_v81 (F := Ideal) a.x0 a.x1 a.x2 a.x4) (val_main_call2_v0 (F := Ideal)) pads_S32x2048x128_S32x2051x128_000_300_000 h_S_
    word_zero i b (i 1).val c h0 rfl h2 (by omega)).trans ?_
  by_cases g : 3 ≤ (i 1).val
  · rw [dif_pos g, own1]
    exact congrArg (fun r => vp a.args b r _) (by show (i 1).val - 3 + 16 = u; omega)
  · rw [dif_neg g]
    unfold vp
    rw [dif_neg (fun h => g (by omega))]

theorem tap1_0 (b : Fin 32) (t : Fin 2048) (c : Fin 128) :
    val_main_v83 (F := Ideal) a.x0 a.x1 a.x2 a.x4 (ix3 b t c) = vp a.args b (t.val + 17 - 4 + 0) ⟨128 * 1 + c.val, by omega⟩ := by
  rw [val_main_v83_apply]
  exact past1 a _ b _ c rfl (by show t.val + 13 = t.val + 17 - 4 + 0; omega) rfl

theorem tap1_1 (b : Fin 32) (t : Fin 2048) (c : Fin 128) :
    val_main_v84 (F := Ideal) a.x0 a.x1 a.x2 a.x4 (ix3 b t c) = vp a.args b (t.val + 17 - 4 + 1) ⟨128 * 1 + c.val, by omega⟩ := by
  rw [val_main_v84_apply]
  exact past1 a _ b _ c rfl (by show 1 + t.val + 13 = t.val + 17 - 4 + 1; omega) rfl

theorem tap1_2 (b : Fin 32) (t : Fin 2048) (c : Fin 128) :
    val_main_v86 (F := Ideal) a.x0 a.x1 a.x2 a.x4 (ix3 b t c) = vp a.args b (t.val + 17 - 4 + 2) ⟨128 * 1 + c.val, by omega⟩ := by
  rw [val_main_v86_apply]
  exact past1 a _ b _ c rfl (by show 2 + t.val + 13 = t.val + 17 - 4 + 2; omega) rfl

theorem tap1_3 (b : Fin 32) (t : Fin 2048) (c : Fin 128) :
    val_main_v88 (F := Ideal) a.x0 a.x1 a.x2 a.x4 (ix3 b t c) = vp a.args b (t.val + 17 - 4 + 3) ⟨128 * 1 + c.val, by omega⟩ := by
  rw [val_main_v88_apply]
  exact past1 a _ b _ c rfl (by show 3 + t.val + 13 = t.val + 17 - 4 + 3; omega) rfl

theorem count1 (b : Fin 32) (t : Fin 2048) (c : Fin 128) : val_main_v95 (F := Ideal) (ix3 b t c) = cnt 4 t.val := by
  rw [val_main_v95_apply, val_main_v94_apply, val_main_v93_apply, val_main_v92_apply, val_main_v91_apply, val_main_v67_apply, val_main_v66_apply,
    val_main_v65_apply, val_main_v90_apply]
  exact count_word t.val 4 t.isLt (by omega)

theorem pooled1 (b : Fin 32) (t : Fin 2048) (c : Fin 128) :
    val_main_v97 (F := Ideal) a.x0 a.x1 a.x2 a.x4 (ix3 b t c) = pooled a.args b 4 t.val ⟨128 * 1 + c.val, by omega⟩ := by
  rw [val_main_v97_apply, val_main_v96_apply, own1, count1]
  unfold pooled
  refine congrArg₂ (fun x y : EReal => x - y) (congrArg₂ Ideal.div ?_ rfl) rfl
  rw [val_main_v89_apply, val_main_v87_apply, val_main_v85_apply,
    tap1_0, tap1_1, tap1_2, tap1_3]
  simp only [Finset.sum_range_succ, Finset.sum_range_zero, zero_add]
  rfl

/-! ## A window of eight -/

theorem own2 (b : Fin 32) (t : Fin 2048) (c : Fin 128) :
    val_main_v98 (F := Ideal) a.x0 a.x1 a.x2 a.x4 (ix3 b t c) = vp a.args b (t.val + 16) ⟨128 * 2 + c.val, by omega⟩ := by
  rw [val_main_v98_apply]
  exact chan_at a b t ⟨128 * 2 + c.val, by omega⟩ _ rfl rfl (by show 256 + c.val = 128 * 2 + c.val; omega)

theorem past2 (i : S32x2055x128.Idx) (b : Fin 32) (u : ℕ) (c : Fin 128) (h0 : (i 0).val = b.val) (h1 : (i 1).val + 9 = u) (h2 : (i 2).val = c.val) :
    val_main_v99 (F := Ideal) a.x0 a.x1 a.x2 a.x4 i = vp a.args b u ⟨128 * 2 + c.val, by omega⟩ := by
  have hi : (i 1).val < 2055 := (i 1).isLt
  refine (front_apply 2055 128 7 (val_main_v98 (F := Ideal) a.x0 a.x1 a.x2 a.x4) (val_main_call3_v0 (F := Ideal)) pads_S32x2048x128_S32x2055x128_000_700_000 h_S_
    word_zero i b (i 1).val c h0 rfl h2 (by omega)).trans ?_
  by_cases g : 7 ≤ (i 1).val
  · rw [dif_pos g, own2]
    exact congrArg (fun r => vp a.args b r _) (by show (i 1).val - 7 + 16 = u; omega)
  · rw [dif_neg g]
    unfold vp
    rw [dif_neg (fun h => g (by omega))]

theorem tap2_0 (b : Fin 32) (t : Fin 2048) (c : Fin 128) :
    val_main_v100 (F := Ideal) a.x0 a.x1 a.x2 a.x4 (ix3 b t c) = vp a.args b (t.val + 17 - 8 + 0) ⟨128 * 2 + c.val, by omega⟩ := by
  rw [val_main_v100_apply]
  exact past2 a _ b _ c rfl (by show t.val + 9 = t.val + 17 - 8 + 0; omega) rfl

theorem tap2_1 (b : Fin 32) (t : Fin 2048) (c : Fin 128) :
    val_main_v101 (F := Ideal) a.x0 a.x1 a.x2 a.x4 (ix3 b t c) = vp a.args b (t.val + 17 - 8 + 1) ⟨128 * 2 + c.val, by omega⟩ := by
  rw [val_main_v101_apply]
  exact past2 a _ b _ c rfl (by show 1 + t.val + 9 = t.val + 17 - 8 + 1; omega) rfl

theorem tap2_2 (b : Fin 32) (t : Fin 2048) (c : Fin 128) :
    val_main_v103 (F := Ideal) a.x0 a.x1 a.x2 a.x4 (ix3 b t c) = vp a.args b (t.val + 17 - 8 + 2) ⟨128 * 2 + c.val, by omega⟩ := by
  rw [val_main_v103_apply]
  exact past2 a _ b _ c rfl (by show 2 + t.val + 9 = t.val + 17 - 8 + 2; omega) rfl

theorem tap2_3 (b : Fin 32) (t : Fin 2048) (c : Fin 128) :
    val_main_v105 (F := Ideal) a.x0 a.x1 a.x2 a.x4 (ix3 b t c) = vp a.args b (t.val + 17 - 8 + 3) ⟨128 * 2 + c.val, by omega⟩ := by
  rw [val_main_v105_apply]
  exact past2 a _ b _ c rfl (by show 3 + t.val + 9 = t.val + 17 - 8 + 3; omega) rfl

theorem tap2_4 (b : Fin 32) (t : Fin 2048) (c : Fin 128) :
    val_main_v107 (F := Ideal) a.x0 a.x1 a.x2 a.x4 (ix3 b t c) = vp a.args b (t.val + 17 - 8 + 4) ⟨128 * 2 + c.val, by omega⟩ := by
  rw [val_main_v107_apply]
  exact past2 a _ b _ c rfl (by show 4 + t.val + 9 = t.val + 17 - 8 + 4; omega) rfl

theorem tap2_5 (b : Fin 32) (t : Fin 2048) (c : Fin 128) :
    val_main_v109 (F := Ideal) a.x0 a.x1 a.x2 a.x4 (ix3 b t c) = vp a.args b (t.val + 17 - 8 + 5) ⟨128 * 2 + c.val, by omega⟩ := by
  rw [val_main_v109_apply]
  exact past2 a _ b _ c rfl (by show 5 + t.val + 9 = t.val + 17 - 8 + 5; omega) rfl

theorem tap2_6 (b : Fin 32) (t : Fin 2048) (c : Fin 128) :
    val_main_v111 (F := Ideal) a.x0 a.x1 a.x2 a.x4 (ix3 b t c) = vp a.args b (t.val + 17 - 8 + 6) ⟨128 * 2 + c.val, by omega⟩ := by
  rw [val_main_v111_apply]
  exact past2 a _ b _ c rfl (by show 6 + t.val + 9 = t.val + 17 - 8 + 6; omega) rfl

theorem tap2_7 (b : Fin 32) (t : Fin 2048) (c : Fin 128) :
    val_main_v113 (F := Ideal) a.x0 a.x1 a.x2 a.x4 (ix3 b t c) = vp a.args b (t.val + 17 - 8 + 7) ⟨128 * 2 + c.val, by omega⟩ := by
  rw [val_main_v113_apply]
  exact past2 a _ b _ c rfl (by show 7 + t.val + 9 = t.val + 17 - 8 + 7; omega) rfl

theorem count2 (b : Fin 32) (t : Fin 2048) (c : Fin 128) : val_main_v120 (F := Ideal) (ix3 b t c) = cnt 8 t.val := by
  rw [val_main_v120_apply, val_main_v119_apply, val_main_v118_apply, val_main_v117_apply, val_main_v116_apply, val_main_v67_apply, val_main_v66_apply,
    val_main_v65_apply, val_main_v115_apply]
  exact count_word t.val 8 t.isLt (by omega)

theorem pooled2 (b : Fin 32) (t : Fin 2048) (c : Fin 128) :
    val_main_v122 (F := Ideal) a.x0 a.x1 a.x2 a.x4 (ix3 b t c) = pooled a.args b 8 t.val ⟨128 * 2 + c.val, by omega⟩ := by
  rw [val_main_v122_apply, val_main_v121_apply, own2, count2]
  unfold pooled
  refine congrArg₂ (fun x y : EReal => x - y) (congrArg₂ Ideal.div ?_ rfl) rfl
  rw [val_main_v114_apply, val_main_v112_apply, val_main_v110_apply, val_main_v108_apply, val_main_v106_apply, val_main_v104_apply, val_main_v102_apply,
    tap2_0, tap2_1, tap2_2, tap2_3, tap2_4, tap2_5, tap2_6, tap2_7]
  simp only [Finset.sum_range_succ, Finset.sum_range_zero, zero_add]
  rfl

/-! ## A window of sixteen -/

theorem own3 (b : Fin 32) (t : Fin 2048) (c : Fin 128) :
    val_main_v123 (F := Ideal) a.x0 a.x1 a.x2 a.x4 (ix3 b t c) = vp a.args b (t.val + 16) ⟨128 * 3 + c.val, by omega⟩ := by
  rw [val_main_v123_apply]
  exact chan_at a b t ⟨128 * 3 + c.val, by omega⟩ _ rfl rfl (by show 384 + c.val = 128 * 3 + c.val; omega)

theorem past3 (i : S32x2063x128.Idx) (b : Fin 32) (u : ℕ) (c : Fin 128) (h0 : (i 0).val = b.val) (h1 : (i 1).val + 1 = u) (h2 : (i 2).val = c.val) :
    val_main_v124 (F := Ideal) a.x0 a.x1 a.x2 a.x4 i = vp a.args b u ⟨128 * 3 + c.val, by omega⟩ := by
  have hi : (i 1).val < 2063 := (i 1).isLt
  refine (front_apply 2063 128 15 (val_main_v123 (F := Ideal) a.x0 a.x1 a.x2 a.x4) (val_main_call4_v0 (F := Ideal)) pads_S32x2048x128_S32x2063x128_000_1500_000 h_S_
    word_zero i b (i 1).val c h0 rfl h2 (by omega)).trans ?_
  by_cases g : 15 ≤ (i 1).val
  · rw [dif_pos g, own3]
    exact congrArg (fun r => vp a.args b r _) (by show (i 1).val - 15 + 16 = u; omega)
  · rw [dif_neg g]
    unfold vp
    rw [dif_neg (fun h => g (by omega))]

theorem tap3_0 (b : Fin 32) (t : Fin 2048) (c : Fin 128) :
    val_main_v125 (F := Ideal) a.x0 a.x1 a.x2 a.x4 (ix3 b t c) = vp a.args b (t.val + 17 - 16 + 0) ⟨128 * 3 + c.val, by omega⟩ := by
  rw [val_main_v125_apply]
  exact past3 a _ b _ c rfl (by show t.val + 1 = t.val + 17 - 16 + 0; omega) rfl

theorem tap3_1 (b : Fin 32) (t : Fin 2048) (c : Fin 128) :
    val_main_v126 (F := Ideal) a.x0 a.x1 a.x2 a.x4 (ix3 b t c) = vp a.args b (t.val + 17 - 16 + 1) ⟨128 * 3 + c.val, by omega⟩ := by
  rw [val_main_v126_apply]
  exact past3 a _ b _ c rfl (by show 1 + t.val + 1 = t.val + 17 - 16 + 1; omega) rfl

theorem tap3_2 (b : Fin 32) (t : Fin 2048) (c : Fin 128) :
    val_main_v128 (F := Ideal) a.x0 a.x1 a.x2 a.x4 (ix3 b t c) = vp a.args b (t.val + 17 - 16 + 2) ⟨128 * 3 + c.val, by omega⟩ := by
  rw [val_main_v128_apply]
  exact past3 a _ b _ c rfl (by show 2 + t.val + 1 = t.val + 17 - 16 + 2; omega) rfl

theorem tap3_3 (b : Fin 32) (t : Fin 2048) (c : Fin 128) :
    val_main_v130 (F := Ideal) a.x0 a.x1 a.x2 a.x4 (ix3 b t c) = vp a.args b (t.val + 17 - 16 + 3) ⟨128 * 3 + c.val, by omega⟩ := by
  rw [val_main_v130_apply]
  exact past3 a _ b _ c rfl (by show 3 + t.val + 1 = t.val + 17 - 16 + 3; omega) rfl

theorem tap3_4 (b : Fin 32) (t : Fin 2048) (c : Fin 128) :
    val_main_v132 (F := Ideal) a.x0 a.x1 a.x2 a.x4 (ix3 b t c) = vp a.args b (t.val + 17 - 16 + 4) ⟨128 * 3 + c.val, by omega⟩ := by
  rw [val_main_v132_apply]
  exact past3 a _ b _ c rfl (by show 4 + t.val + 1 = t.val + 17 - 16 + 4; omega) rfl

theorem tap3_5 (b : Fin 32) (t : Fin 2048) (c : Fin 128) :
    val_main_v134 (F := Ideal) a.x0 a.x1 a.x2 a.x4 (ix3 b t c) = vp a.args b (t.val + 17 - 16 + 5) ⟨128 * 3 + c.val, by omega⟩ := by
  rw [val_main_v134_apply]
  exact past3 a _ b _ c rfl (by show 5 + t.val + 1 = t.val + 17 - 16 + 5; omega) rfl

theorem tap3_6 (b : Fin 32) (t : Fin 2048) (c : Fin 128) :
    val_main_v136 (F := Ideal) a.x0 a.x1 a.x2 a.x4 (ix3 b t c) = vp a.args b (t.val + 17 - 16 + 6) ⟨128 * 3 + c.val, by omega⟩ := by
  rw [val_main_v136_apply]
  exact past3 a _ b _ c rfl (by show 6 + t.val + 1 = t.val + 17 - 16 + 6; omega) rfl

theorem tap3_7 (b : Fin 32) (t : Fin 2048) (c : Fin 128) :
    val_main_v138 (F := Ideal) a.x0 a.x1 a.x2 a.x4 (ix3 b t c) = vp a.args b (t.val + 17 - 16 + 7) ⟨128 * 3 + c.val, by omega⟩ := by
  rw [val_main_v138_apply]
  exact past3 a _ b _ c rfl (by show 7 + t.val + 1 = t.val + 17 - 16 + 7; omega) rfl

theorem tap3_8 (b : Fin 32) (t : Fin 2048) (c : Fin 128) :
    val_main_v140 (F := Ideal) a.x0 a.x1 a.x2 a.x4 (ix3 b t c) = vp a.args b (t.val + 17 - 16 + 8) ⟨128 * 3 + c.val, by omega⟩ := by
  rw [val_main_v140_apply]
  exact past3 a _ b _ c rfl (by show 8 + t.val + 1 = t.val + 17 - 16 + 8; omega) rfl

theorem tap3_9 (b : Fin 32) (t : Fin 2048) (c : Fin 128) :
    val_main_v142 (F := Ideal) a.x0 a.x1 a.x2 a.x4 (ix3 b t c) = vp a.args b (t.val + 17 - 16 + 9) ⟨128 * 3 + c.val, by omega⟩ := by
  rw [val_main_v142_apply]
  exact past3 a _ b _ c rfl (by show 9 + t.val + 1 = t.val + 17 - 16 + 9; omega) rfl

theorem tap3_10 (b : Fin 32) (t : Fin 2048) (c : Fin 128) :
    val_main_v144 (F := Ideal) a.x0 a.x1 a.x2 a.x4 (ix3 b t c) = vp a.args b (t.val + 17 - 16 + 10) ⟨128 * 3 + c.val, by omega⟩ := by
  rw [val_main_v144_apply]
  exact past3 a _ b _ c rfl (by show 10 + t.val + 1 = t.val + 17 - 16 + 10; omega) rfl

theorem tap3_11 (b : Fin 32) (t : Fin 2048) (c : Fin 128) :
    val_main_v146 (F := Ideal) a.x0 a.x1 a.x2 a.x4 (ix3 b t c) = vp a.args b (t.val + 17 - 16 + 11) ⟨128 * 3 + c.val, by omega⟩ := by
  rw [val_main_v146_apply]
  exact past3 a _ b _ c rfl (by show 11 + t.val + 1 = t.val + 17 - 16 + 11; omega) rfl

theorem tap3_12 (b : Fin 32) (t : Fin 2048) (c : Fin 128) :
    val_main_v148 (F := Ideal) a.x0 a.x1 a.x2 a.x4 (ix3 b t c) = vp a.args b (t.val + 17 - 16 + 12) ⟨128 * 3 + c.val, by omega⟩ := by
  rw [val_main_v148_apply]
  exact past3 a _ b _ c rfl (by show 12 + t.val + 1 = t.val + 17 - 16 + 12; omega) rfl

theorem tap3_13 (b : Fin 32) (t : Fin 2048) (c : Fin 128) :
    val_main_v150 (F := Ideal) a.x0 a.x1 a.x2 a.x4 (ix3 b t c) = vp a.args b (t.val + 17 - 16 + 13) ⟨128 * 3 + c.val, by omega⟩ := by
  rw [val_main_v150_apply]
  exact past3 a _ b _ c rfl (by show 13 + t.val + 1 = t.val + 17 - 16 + 13; omega) rfl

theorem tap3_14 (b : Fin 32) (t : Fin 2048) (c : Fin 128) :
    val_main_v152 (F := Ideal) a.x0 a.x1 a.x2 a.x4 (ix3 b t c) = vp a.args b (t.val + 17 - 16 + 14) ⟨128 * 3 + c.val, by omega⟩ := by
  rw [val_main_v152_apply]
  exact past3 a _ b _ c rfl (by show 14 + t.val + 1 = t.val + 17 - 16 + 14; omega) rfl

theorem tap3_15 (b : Fin 32) (t : Fin 2048) (c : Fin 128) :
    val_main_v154 (F := Ideal) a.x0 a.x1 a.x2 a.x4 (ix3 b t c) = vp a.args b (t.val + 17 - 16 + 15) ⟨128 * 3 + c.val, by omega⟩ := by
  rw [val_main_v154_apply]
  exact past3 a _ b _ c rfl (by show 15 + t.val + 1 = t.val + 17 - 16 + 15; omega) rfl

theorem count3 (b : Fin 32) (t : Fin 2048) (c : Fin 128) : val_main_v161 (F := Ideal) (ix3 b t c) = cnt 16 t.val := by
  rw [val_main_v161_apply, val_main_v160_apply, val_main_v159_apply, val_main_v158_apply, val_main_v157_apply, val_main_v67_apply, val_main_v66_apply,
    val_main_v65_apply, val_main_v156_apply]
  exact count_word t.val 16 t.isLt (by omega)

theorem pooled3 (b : Fin 32) (t : Fin 2048) (c : Fin 128) :
    val_main_v163 (F := Ideal) a.x0 a.x1 a.x2 a.x4 (ix3 b t c) = pooled a.args b 16 t.val ⟨128 * 3 + c.val, by omega⟩ := by
  rw [val_main_v163_apply, val_main_v162_apply, own3, count3]
  unfold pooled
  refine congrArg₂ (fun x y : EReal => x - y) (congrArg₂ Ideal.div ?_ rfl) rfl
  rw [val_main_v155_apply, val_main_v153_apply, val_main_v151_apply, val_main_v149_apply, val_main_v147_apply, val_main_v145_apply, val_main_v143_apply, val_main_v141_apply, val_main_v139_apply, val_main_v137_apply, val_main_v135_apply, val_main_v133_apply, val_main_v131_apply, val_main_v129_apply, val_main_v127_apply,
    tap3_0, tap3_1, tap3_2, tap3_3, tap3_4, tap3_5, tap3_6, tap3_7, tap3_8, tap3_9, tap3_10, tap3_11, tap3_12, tap3_13, tap3_14, tap3_15]
  simp only [Finset.sum_range_succ, Finset.sum_range_zero, zero_add]
  rfl

/-! ## The groups together -/

theorem stack_eq (b : Fin 32) (t : Fin 2048) (g : Fin 4) (q : Fin 128) :
    val_main_v168 (F := Ideal) a.x0 a.x1 a.x2 a.x4 (ix4 b t g q) = pooled a.args b (2 ^ (g.val + 1)) t.val ⟨128 * g.val + q.val, by omega⟩ := by
  refine (concatenate_ofFn_apply (t := S32x2048x4x128) (s₁ := S32x2048x1x128) 2
    ![val_main_v164 (F := Ideal) a.x0 a.x1 a.x2 a.x4, val_main_v165 (F := Ideal) a.x0 a.x1 a.x2 a.x4, val_main_v166 (F := Ideal) a.x0 a.x1 a.x2 a.x4,
      val_main_v167 (F := Ideal) a.x0 a.x1 a.x2 a.x4]
    concatenates_S32x2048x1x128_S32x2048x1x128_S32x2048x1x128_S32x2048x1x128_S32x2048x4x128_d2 rfl 1 rfl (ix4 b t g q) g (Nat.div_one _) (ix4 b t 0 q)
    (by show 0 = g.val % 1; omega) (fun d hd => by match d with | ⟨0, _⟩ => rfl | ⟨1, _⟩ => rfl | ⟨2, _⟩ => exact absurd rfl hd | ⟨3, _⟩ => rfl)).trans ?_
  match g with
  | ⟨0, _⟩ =>
    show val_main_v164 (F := Ideal) a.x0 a.x1 a.x2 a.x4 (ix4 b t 0 q) = _
    rw [val_main_v164_apply]
    refine (congrArg _ (funext fun d => Fin.ext ?_)).trans (pooled0 a b t q)
    match d with | ⟨0, _⟩ => rfl | ⟨1, _⟩ => rfl | ⟨2, _⟩ => rfl
  | ⟨1, _⟩ =>
    show val_main_v165 (F := Ideal) a.x0 a.x1 a.x2 a.x4 (ix4 b t 0 q) = _
    rw [val_main_v165_apply]
    refine (congrArg _ (funext fun d => Fin.ext ?_)).trans (pooled1 a b t q)
    match d with | ⟨0, _⟩ => rfl | ⟨1, _⟩ => rfl | ⟨2, _⟩ => rfl
  | ⟨2, _⟩ =>
    show val_main_v166 (F := Ideal) a.x0 a.x1 a.x2 a.x4 (ix4 b t 0 q) = _
    rw [val_main_v166_apply]
    refine (congrArg _ (funext fun d => Fin.ext ?_)).trans (pooled2 a b t q)
    match d with | ⟨0, _⟩ => rfl | ⟨1, _⟩ => rfl | ⟨2, _⟩ => rfl
  | ⟨3, _⟩ =>
    show val_main_v167 (F := Ideal) a.x0 a.x1 a.x2 a.x4 (ix4 b t 0 q) = _
    rw [val_main_v167_apply]
    refine (congrArg _ (funext fun d => Fin.ext ?_)).trans (pooled3 a b t q)
    match d with | ⟨0, _⟩ => rfl | ⟨1, _⟩ => rfl | ⟨2, _⟩ => rfl

theorem pool_eq (b : Fin 32) (t : Fin 2048) (c : Fin 512) :
    val_main_v178 (F := Ideal) a.x0 a.x1 a.x2 a.x4 a.x6 a.x7 (ix3 b t c) = Cert.Mixer.pool a.args b t.val c := by
  have hb := b.isLt
  have ht := t.isLt
  have hc := c.isLt
  rw [val_main_v178_apply, val_main_v173_apply, val_main_v172_apply, val_main_v171_apply, val_main_v177_apply, val_main_v176_apply, val_main_v175_apply,
    val_main_v174_apply]
  unfold Cert.Mixer.pool
  refine congrArg₂ (· * ·) (Finset.sum_congr rfl fun k _ => (mul_comm _ _).trans (congrArg₂ (· * ·) ?_ ?_)) ?_
  · refine (congrArg (val_main_v168 (F := Ideal) a.x0 a.x1 a.x2 a.x4) (funext fun d => Fin.ext ?_)).trans (stack_eq a b t ⟨c.val / 128, by omega⟩ k)
    match d with
    | ⟨0, _⟩ => show ((b.val * 2048 + t.val) * 512 + c.val) / 1048576 = b.val; omega
    | ⟨1, _⟩ => show ((b.val * 2048 + t.val) * 512 + c.val) / 512 % 2048 = t.val; omega
    | ⟨2, _⟩ => show ((b.val * 2048 + t.val) * 512 + c.val) / 128 % 4 = c.val / 128; omega
    | ⟨3, _⟩ => rfl
  · rw [val_main_v170_apply, val_main_v169_apply]
    have hk := k.isLt
    refine congrArg a.x6 (funext fun d => Fin.ext ?_)
    match d with
    | ⟨0, _⟩ => rfl
    | ⟨1, _⟩ => show ((((b.val * 2048 + t.val) * 512 + c.val) / 128 % 4 * 128 + k.val) * 128 + ((b.val * 2048 + t.val) * 512 + c.val) % 128) / 16384 % 4 = c.val / 128; omega
    | ⟨2, _⟩ => show ((((b.val * 2048 + t.val) * 512 + c.val) / 128 % 4 * 128 + k.val) * 128 + ((b.val * 2048 + t.val) * 512 + c.val) % 128) / 128 % 128 = k.val; omega
    | ⟨3, _⟩ => show ((((b.val * 2048 + t.val) * 512 + c.val) / 128 % 4 * 128 + k.val) * 128 + ((b.val * 2048 + t.val) * 512 + c.val) % 128) % 128 = c.val % 128; omega
  · refine congrArg a.x7 (funext fun d => Fin.ext ?_)
    match d with
    | ⟨0, _⟩ => rfl
    | ⟨1, _⟩ => show c.val % 512 = c.val; omega

end Cert.Reference2Ideal.Mix

end
-- ==== Proof.Mix.Ref3.lean ====
/- The reference's two results as whole arrays: the residual stream, and the normalised rows packed sixteen to a token. -/
module

public import proofs.«01_k».proof.Proof.Mix.Ref2

@[expose] public section

set_option maxRecDepth 16384

noncomputable section

namespace Cert.Reference2Ideal.Mix

open Cert.Reference2Ideal Cert.Reference2Ideal.Gen Cert.Reference2Ideal.Read
open Idealize.ShloMosaic Idealize.ShloMosaic.TcCoe Idealize.ShloMosaic.ValueIdx
open Cert.Mixer
open scoped BigOperators

variable (a : In)

/-! ## The residual stream -/

/-- The two branches side by side. -/
theorem mixed_eq (b : Fin 32) (t : Fin 2048) (k : Fin 1024) :
    val_main_v179 (F := Ideal) a.x0 a.x1 a.x2 a.x4 a.x5 a.x6 a.x7 (ix3 b t k) = mixed a.args b t k := by
  unfold val_main_v179 mixed
  by_cases h : k.val < 512
  · rw [dif_pos h]
    refine (concatenate_pair_apply_left (s₁ := S32x2048x512) (s₂ := S32x2048x512) 2 _ _ _ (ix3 b t k : S32x2048x1024.Idx) rfl (ix3 b t ⟨k.val, h⟩ : S32x2048x512.Idx) fun c => ?_).trans
      (conv_eq a b t ⟨k.val, h⟩)
    match c with | ⟨0, _⟩ => rfl | ⟨1, _⟩ => rfl | ⟨2, _⟩ => rfl
  · rw [dif_neg h]
    refine (concatenate_pair_apply_right (s₁ := S32x2048x512) (s₂ := S32x2048x512) 2 _ _ _ (ix3 b t k : S32x2048x1024.Idx) rfl rfl
      (ix3 b t ⟨k.val - 512, by omega⟩ : S32x2048x512.Idx) (fun c hc => ?_) ?_).trans (pool_eq a b t ⟨k.val - 512, by omega⟩)
    · match c with | ⟨0, _⟩ => rfl | ⟨1, _⟩ => rfl | ⟨2, _⟩ => exact absurd rfl hc
    · show k.val - 512 + 512 = k.val; omega

theorem x1_eq (b : Fin 32) (t : Fin 2048) (d : Fin 1024) :
    val_main_v185 (F := Ideal) a.x0 a.x1 a.x2 a.x4 a.x5 a.x6 a.x7 a.x8 (ix3 b t d) = x1 a.args b t d := by
  have hd := d.isLt
  rw [val_main_v185_apply, val_main_v184_apply, val_main_v183_apply, val_main_v8_apply, val_main_v2_apply, val_main_v182_apply]
  unfold x1
  refine congrArg₂ (· + ·) rfl (congrArg₂ (· * ·) ?_ (Finset.sum_congr rfl fun k _ => congrArg₂ (· * ·) ?_ ?_))
  · refine congrArg a.x1 (funext fun c => Fin.ext ?_)
    match c with
    | ⟨0, _⟩ => rfl
    | ⟨1, _⟩ => rfl
  · refine (congrArg (val_main_v179 (F := Ideal) a.x0 a.x1 a.x2 a.x4 a.x5 a.x6 a.x7) (funext fun c => Fin.ext ?_)).trans (mixed_eq a b t k)
    match c with
    | ⟨0, _⟩ => rfl
    | ⟨1, _⟩ => rfl
    | ⟨2, _⟩ => rfl
  · have hk := k.isLt
    rw [val_main_v181_apply, val_main_v180_apply]
    refine congrArg a.x8 (funext fun c => Fin.ext ?_)
    match c with
    | ⟨0, _⟩ => rfl
    | ⟨1, _⟩ => show (k.val * 1024 + d.val) / 1024 % 1024 = k.val; omega
    | ⟨2, _⟩ => show (k.val * 1024 + d.val) % 1024 = d.val; omega

/-- The first result is the residual stream. -/
theorem stream_eq : val_main_v185 (F := Ideal) a.x0 a.x1 a.x2 a.x4 a.x5 a.x6 a.x7 a.x8 = stream a.args := by
  funext y
  refine (congrArg _ (funext fun c => Fin.ext ?_)).trans (x1_eq a (y 0) (y 1) (y 2))
  match c with
  | ⟨0, _⟩ => rfl
  | ⟨1, _⟩ => rfl
  | ⟨2, _⟩ => rfl

/-! ## The packed rows -/

theorem h2_eq (b : Fin 32) (t : Fin 2048) (d : Fin 1024) :
    val_main_v206 (F := Ideal) a.x0 a.x1 a.x2 a.x3 a.x4 a.x5 a.x6 a.x7 a.x8 (ix3 b t d) = h2 a.args b t d := by
  rw [val_main_v206_apply, val_main_v204_apply, val_main_v200_apply, val_main_v197_apply, val_main_v196_apply, val_main_v195_apply, val_main_v194_apply,
    val_main_v192_apply, val_main_v193_apply, val_main_v191_apply, val_main_v190_apply, val_main_v189_apply, val_main_v199_apply, val_main_v198_apply,
    val_main_v187_apply, val_main_v186_apply, val_main_v203_apply, val_main_v202_apply, val_main_v201_apply, val_main_v10_apply, val_main_v4_apply,
    val_main_v205_apply, val_main_v9_apply, val_main_v3_apply, x1_eq]
  refine Eq.trans ?_ (normed_of (x1 a.args b t) a.args.n2 (a.args.mod b 4) (a.args.mod b 3) d (x1 a.args b t d)
    (a.x3 (idx_main_v186 (idx_main_v187 (idx_main_v198 (idx_main_v199 (ix3 b t d)))))) (a.x1 (idx_main_v4 (idx_main_v10 (idx_main_v203 (ix3 b t d)))))
    (a.x1 (idx_main_v3 (idx_main_v9 (idx_main_v205 (ix3 b t d))))) rfl
    (congrArg a.x3 (funext fun c => Fin.ext (by
      match c with
      | ⟨0, _⟩ => rfl
      | ⟨1, _⟩ => exact Nat.mod_eq_of_lt d.isLt)))
    (congrArg a.x1 (funext fun c => Fin.ext (by
      match c with
      | ⟨0, _⟩ => rfl
      | ⟨1, _⟩ => rfl)))
    (congrArg a.x1 (funext fun c => Fin.ext (by
      match c with
      | ⟨0, _⟩ => rfl
      | ⟨1, _⟩ => rfl))))
  have e : ∀ k : Fin 1024, idx_main_v189 (idx_main_v190 (idx_main_v196 (ix3 b t d))) k = ix3 b t k := fun k => funext fun c => Fin.ext (by
    match c with
    | ⟨0, _⟩ => rfl
    | ⟨1, _⟩ => rfl
    | ⟨2, _⟩ => rfl)
  simp only [val_main_v188_apply, e, x1_eq]
  rfl

/-- The rows before they are lined up: token, slab, half and lane. -/
theorem slab_at (i : S65536x8x2x128.Idx) :
    val_main_v209 (F := Ideal) a.x0 a.x1 a.x2 a.x3 a.x4 a.x5 a.x6 a.x7 a.x8 i
      = if g : (i 1).val < 4 then
          h2 a.args ⟨(i 0).val / 2048, by have h0 : (i 0).val < 65536 := (i 0).isLt; omega⟩ ⟨(i 0).val % 2048, Nat.mod_lt _ (by omega)⟩
            ⟨512 * (i 2).val + 128 * (i 1).val + (i 3).val, by
              have h2 : (i 2).val < 2 := (i 2).isLt
              have h3 : (i 3).val < 128 := (i 3).isLt
              omega⟩
        else 0 := by
  have h0 : (i 0).val < 65536 := (i 0).isLt
  have h2' : (i 2).val < 2 := (i 2).isLt
  have h3 : (i 3).val < 128 := (i 3).isLt
  unfold val_main_v209
  by_cases g : (i 1).val < 4
  · rw [dif_pos g]
    refine (pad_apply_of_inside ![0, 0, 0, 0] ![0, 4, 0, 0] ![0, 0, 0, 0] _ _ _ _ i (ix4 ⟨(i 0).val, h0⟩ ⟨(i 1).val, g⟩ ⟨(i 2).val, h2'⟩ ⟨(i 3).val, h3⟩ : S65536x4x2x128.Idx) fun c => ?_).trans ?_
    · match c with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega
      | ⟨3, _⟩ => show (i 3).val = 0 + (i 3).val * (0 + 1); omega
    · rw [val_main_v208_apply, val_main_v207_apply]
      refine (congrArg (val_main_v206 (F := Ideal) a.x0 a.x1 a.x2 a.x3 a.x4 a.x5 a.x6 a.x7 a.x8) (funext fun c => Fin.ext ?_)).trans (h2_eq a _ _ _)
      match c with
      | ⟨0, _⟩ => show ((((i 0).val * 2 + (i 2).val) * 4 + (i 1).val) * 128 + (i 3).val) / 2097152 = (i 0).val / 2048; omega
      | ⟨1, _⟩ => show ((((i 0).val * 2 + (i 2).val) * 4 + (i 1).val) * 128 + (i 3).val) / 1024 % 2048 = (i 0).val % 2048; omega
      | ⟨2, _⟩ => show ((((i 0).val * 2 + (i 2).val) * 4 + (i 1).val) * 128 + (i 3).val) % 1024 = 512 * (i 2).val + 128 * (i 1).val + (i 3).val; omega
  · rw [dif_neg g]
    have e := pad_apply_of_not_inside ![0, 0, 0, 0] ![0, 4, 0, 0] ![0, 0, 0, 0] (val_main_v208 (F := Ideal) a.x0 a.x1 a.x2 a.x3 a.x4 a.x5 a.x6 a.x7 a.x8)
      (val_main_call5_v0 (F := Ideal)) pads_S65536x4x2x128_S65536x8x2x128_000_040_000_000 h_S_ i (1 : Fin 4) fun hin => g (by
        have h : ((i 1).val - 0) / (0 + 1) < 4 := hin.2.2
        omega)
    exact e.trans word_zero

/-- The second result is the packed rows. -/
theorem rows_eq : val_main_v332 (F := Ideal) a.x0 a.x1 a.x2 a.x3 a.x4 a.x5 a.x6 a.x7 a.x8 = rows a.args := by
  funext y
  have h0 : (y 0).val < 1048576 := (y 0).isLt
  have h1 : (y 1).val < 128 := (y 1).isLt
  rw [val_main_v332_apply, val_main_v331_apply, slab_at]
  show (if g : ((y 0).val * 128 + (y 1).val) / 256 % 8 < 4 then _ else (0 : EReal)) = _
  unfold rows
  by_cases g : (y 0).val % 16 < 8
  · rw [dif_pos g, dif_pos (by omega)]
    refine congr (congr (congrArg (h2 a.args) (Fin.ext ?_)) (Fin.ext ?_)) (Fin.ext ?_)
    · show ((y 0).val * 128 + (y 1).val) / 2048 / 2048 = (y 0).val / 16 / 2048; omega
    · show ((y 0).val * 128 + (y 1).val) / 2048 % 2048 = (y 0).val / 16 % 2048; omega
    · show 512 * (((y 0).val * 128 + (y 1).val) / 128 % 2) + 128 * (((y 0).val * 128 + (y 1).val) / 256 % 8) + ((y 0).val * 128 + (y 1).val) % 128
        = 512 * ((y 0).val % 2) + 128 * ((y 0).val % 16 / 2) + (y 1).val
      omega
  · rw [dif_neg g, dif_neg (by omega)]

end Cert.Reference2Ideal.Mix

end
-- ==== Proof.Mix.Ref4.lean ====
/- The reference's choice of experts read index by index: the scores, the two best of each group, the best group, and the class
   and the shares it tells. -/
module

public import proofs.«01_k».proof.Proof.Mix.Ref3
public import proofs.«01_k».proof.Proof.Mix.Sent

@[expose] public section

set_option maxRecDepth 16384

noncomputable section

namespace Cert.Reference2Ideal.Mix

open Cert.Reference2Ideal Cert.Reference2Ideal.Gen Cert.Reference2Ideal.Read
open Idealize.ShloMosaic Idealize.ShloMosaic.TcCoe Idealize.ShloMosaic.ValueIdx
open Cert.Mixer
open scoped BigOperators Classical

/-! ## Bits that say something -/

/-- The bit `c` is set exactly when `p`. -/
def Says (c : BitVec 1) (p : Prop) : Prop := c = 1#1 ↔ p

theorem bit_cases (c : BitVec 1) : c = 1#1 ∨ c = 0#1 := by
  revert c; decide

theorem says_olt (x y : EReal) : Says (FloatOps.cmpf (F := Ideal) (φ := .f32) .olt x y) (x < y) := by
  show BitVec.ofBool (decide (x < y)) = 1#1 ↔ _
  by_cases h : x < y <;> simp [h]

theorem says_ogt (x y : EReal) : Says (FloatOps.cmpf (F := Ideal) (φ := .f32) .ogt x y) (y < x) := by
  show BitVec.ofBool (decide (x > y)) = 1#1 ↔ _
  by_cases h : y < x <;> simp [h]

theorem says_oeq (x y : EReal) : Says (FloatOps.cmpf (F := Ideal) (φ := .f32) .oeq x y) (x = y) := by
  show BitVec.ofBool (decide (x = y)) = 1#1 ↔ _
  by_cases h : x = y <;> simp [h]

theorem says_and {c d : BitVec 1} {p q : Prop} (hc : Says c p) (hd : Says d q) : Says (IntOp.andi c d) (p ∧ q) := by
  unfold Says at *
  rw [← hc, ← hd]
  rcases bit_cases c with rfl | rfl <;> rcases bit_cases d with rfl | rfl <;> decide

theorem says_or {c d : BitVec 1} {p q : Prop} (hc : Says c p) (hd : Says d q) : Says (IntOp.ori c d) (p ∨ q) := by
  unfold Says at *
  rw [← hc, ← hd]
  rcases bit_cases c with rfl | rfl <;> rcases bit_cases d with rfl | rfl <;> decide

theorem says_less (i j : Fin 4) : Says (IntOp.cmpi .slt (BitVec.ofNat 32 i.val) (BitVec.ofNat 32 j.val)) (i < j) := by
  unfold Says
  revert i j; decide

theorem says_select {c : BitVec 1} {p : Prop} [Decidable p] (h : Says c p) (x y : EReal) : Scalar.select c x y = if p then x else y := by
  show (if c = 1#1 then x else y) = _
  by_cases hp : p
  · rw [if_pos hp, if_pos (h.2 hp)]
  · rw [if_neg hp, if_neg fun e => hp (h.1 e)]

theorem says_number {c : BitVec 1} {p : Prop} [Decidable p] (h : Says c p) : FloatOps.uitofp (F := Ideal) .f32 c = if p then (1 : EReal) else 0 := by
  show (((c.toNat : ℝ)) : EReal) = _
  rcases bit_cases c with rfl | rfl
  · rw [if_pos (h.1 rfl)]; simp
  · rw [if_neg fun hp => absurd (h.2 hp) (by decide)]; simp

theorem zero_f32 : (FloatOps.ofBits (F := Ideal) .f32 0x00000000#32 : EReal) = 0 := Ideal.ofBits_zero_f32
theorem one_f32 : (FloatOps.ofBits (F := Ideal) .f32 0x3F800000#32 : EReal) = 1 := Ideal.ofBits_one_f32

variable (a : In) (x9 : (⟨S1024x16, .f32⟩ : BufTy).Contents (Elt Ideal)) (x10 : (⟨S16, .f32⟩ : BufTy).Contents (Elt Ideal))

/-- The sequence and the position of a token. -/
def seqOf (n : Fin 65536) : Fin 32 := ⟨n.val / 2048, by omega⟩
def posOf (n : Fin 65536) : Fin 2048 := ⟨n.val % 2048, Nat.mod_lt _ (by omega)⟩

/-- The scores of a token, and the scores the choice is made on. -/
def sc (n : Fin 65536) : Fin 4 → Fin 4 → EReal := score a.args (routerOf x9 x10) (seqOf n) (posOf n)
def se (n : Fin 65536) : Fin 4 → Fin 4 → EReal := biased a.args (routerOf x9 x10) (seqOf n) (posOf n)

/-! ## The scores -/

theorem logit_eq (n : Fin 65536) (g i : Fin 4) :
    val_main_v211 (F := Ideal) a.x0 a.x1 a.x2 a.x3 a.x4 a.x5 a.x6 a.x7 a.x8 x9 (ix3 n g i)
      = ∑ k, h2 a.args (seqOf n) (posOf n) k * (routerOf x9 x10).w k (expert g i) := by
  rw [val_main_v211_apply, val_main_v210_apply]
  refine Finset.sum_congr rfl fun k _ => ?_
  refine congr (congrArg HMul.hMul ?_) ?_
  · refine (congrArg (val_main_v206 (F := Ideal) a.x0 a.x1 a.x2 a.x3 a.x4 a.x5 a.x6 a.x7 a.x8) (funext fun c => Fin.ext ?_)).trans (h2_eq a _ _ k)
    match c with
    | ⟨0, _⟩ => show ((n.val * 4 + g.val) * 4 + i.val) / 32768 = n.val / 2048; omega
    | ⟨1, _⟩ => show ((n.val * 4 + g.val) * 4 + i.val) / 16 % 2048 = n.val % 2048; omega
    | ⟨2, _⟩ => rfl
  · refine congrArg x9 (funext fun c => Fin.ext ?_)
    match c with
    | ⟨0, _⟩ => rfl
    | ⟨1, _⟩ => show ((n.val * 4 + g.val) * 4 + i.val) % 16 = 4 * g.val + i.val; omega

theorem score_eq (n : Fin 65536) (g i : Fin 4) :
    val_main_v217 (F := Ideal) a.x0 a.x1 a.x2 a.x3 a.x4 a.x5 a.x6 a.x7 a.x8 x9 (ix3 n g i) = sc a x9 x10 n g i := by
  rw [val_main_v217_apply, val_main_v215_apply, val_main_v216_apply, val_main_v214_apply, val_main_cst_17_apply, val_main_cst_18_apply, one_f32,
    val_main_v213_apply, val_main_v212_apply, logit_eq a x9 x10]
  rfl

theorem biased_eq (n : Fin 65536) (g i : Fin 4) :
    val_main_v221 (F := Ideal) a.x0 a.x1 a.x2 a.x3 a.x4 a.x5 a.x6 a.x7 a.x8 x9 x10 (ix3 n g i) = se a x9 x10 n g i := by
  rw [val_main_v221_apply, score_eq a x9 x10, val_main_v220_apply, val_main_v219_apply, val_main_v218_apply]
  refine congrArg (sc a x9 x10 n g i + ·) (congrArg x10 (funext fun c => Fin.ext ?_))
  match c with
  | ⟨0, _⟩ => show g.val * 4 + i.val = 4 * g.val + i.val; omega

/-! ## The two best of each group -/

theorem ahead_eq (n : Fin 65536) (g i j : Fin 4) :
    Says (val_main_v240 (F := Ideal) a.x0 a.x1 a.x2 a.x3 a.x4 a.x5 a.x6 a.x7 a.x8 x9 x10 (ix4 n g i j)) (Ahead (se a x9 x10 n g) i j) := by
  rw [val_main_v240_apply, val_main_v239_apply, val_main_v233_apply, val_main_v236_apply, val_main_v231_apply, val_main_v232_apply, val_main_v234_apply,
    val_main_v235_apply, val_main_v223_apply, val_main_v222_apply, val_main_v238_apply, val_main_v237_apply, val_main_v230_apply,
    val_main_v228_apply, val_main_v229_apply, val_main_v225_apply, val_main_v227_apply, val_main_v224_apply, val_main_v226_apply]
  have ei : ∀ q : S65536x4x4.Idx, (∀ c, (q c).val = ((ix3 n g i : S65536x4x4.Idx) c).val) →
      val_main_v221 (F := Ideal) a.x0 a.x1 a.x2 a.x3 a.x4 a.x5 a.x6 a.x7 a.x8 x9 x10 q = se a x9 x10 n g i :=
    fun q hq => (congrArg _ (funext fun c => Fin.ext (hq c))).trans (biased_eq a x9 x10 n g i)
  have ej : ∀ q : S65536x4x4.Idx, (∀ c, (q c).val = ((ix3 n g j : S65536x4x4.Idx) c).val) →
      val_main_v221 (F := Ideal) a.x0 a.x1 a.x2 a.x3 a.x4 a.x5 a.x6 a.x7 a.x8 x9 x10 q = se a x9 x10 n g j :=
    fun q hq => (congrArg _ (funext fun c => Fin.ext (hq c))).trans (biased_eq a x9 x10 n g j)
  rw [ej (idx_main_v223 (idx_main_v231 (ix4 n g i j))) fun c => match c with | ⟨0, _⟩ => rfl | ⟨1, _⟩ => rfl | ⟨2, _⟩ => rfl,
    ei (idx_main_v222 (idx_main_v232 (ix4 n g i j))) fun c => match c with | ⟨0, _⟩ => rfl | ⟨1, _⟩ => rfl | ⟨2, _⟩ => rfl]
  exact says_or (says_ogt _ _) (says_and (says_oeq _ _) (says_less j i))

theorem beaten_at (n : Fin 65536) (g i : Fin 4) :
    val_main_v242 (F := Ideal) a.x0 a.x1 a.x2 a.x3 a.x4 a.x5 a.x6 a.x7 a.x8 x9 x10 (ix3 n g i) = ((beaten (se a x9 x10 n g) i : ℕ) : EReal) := by
  rw [val_main_v242_apply, val_main_cst_19_apply, zero_f32, zero_add, beaten_eq]
  refine Finset.sum_congr rfl fun j _ => ?_
  rw [val_main_v241_apply]
  refine says_number ?_
  refine (congrArg (fun q => Says (val_main_v240 (F := Ideal) a.x0 a.x1 a.x2 a.x3 a.x4 a.x5 a.x6 a.x7 a.x8 x9 x10 q) (Ahead (se a x9 x10 n g) i j))
    (funext fun c => Fin.ext ?_)).mpr (ahead_eq a x9 x10 n g i j)
  match c with | ⟨0, _⟩ => rfl | ⟨1, _⟩ => rfl | ⟨2, _⟩ => rfl | ⟨3, _⟩ => rfl

end Cert.Reference2Ideal.Mix

end
-- ==== Proof.Mix.Ref5.lean ====
/- The reference's choice from its scores on: the best group, the two chosen experts in order, and their scores. -/
module

public import proofs.«01_k».proof.Proof.Mix.Ref4

@[expose] public section

set_option maxRecDepth 16384

noncomputable section

namespace Cert.Reference2Ideal.Mix

open Cert.Reference2Ideal Cert.Reference2Ideal.Gen Cert.Reference2Ideal.Read
open Idealize.ShloMosaic Idealize.ShloMosaic.TcCoe Idealize.ShloMosaic.ValueIdx
open Cert.Mixer
open scoped BigOperators Classical

/-! ## Numbers -/

theorem two_f32 : (FloatOps.ofBits (F := Ideal) .f32 0x40000000#32 : EReal) = 2 := by
  show Ideal.ofBits .f32 0x40000000#32 = (((2 : ℕ) : ℝ) : EReal)
  simp [Ideal.ofBits, Ideal.ieee, -Nat.cast_ofNat]
  exact (EReal.coe_mul 8388608 _).symm.trans (congrArg _ (by norm_num))
theorem five_f32 : (FloatOps.ofBits (F := Ideal) .f32 0x40A00000#32 : EReal) = ((5 : ℝ) : EReal) := by
  show Ideal.ofBits .f32 0x40A00000#32 = ((5 : ℝ) : EReal)
  simp [Ideal.ofBits, Ideal.ieee, -Nat.cast_ofNat]
  exact (EReal.coe_mul 10485760 _).symm.trans (congrArg _ (by norm_num))
theorem six_f32 : (FloatOps.ofBits (F := Ideal) .f32 0x40C00000#32 : EReal) = ((6 : ℝ) : EReal) := by
  show Ideal.ofBits .f32 0x40C00000#32 = ((6 : ℝ) : EReal)
  simp [Ideal.ofBits, Ideal.ieee, -Nat.cast_ofNat]
  exact (EReal.coe_mul 12582912 _).symm.trans (congrArg _ (by norm_num))
theorem half_f32 : (FloatOps.ofBits (F := Ideal) .f32 0x3F000000#32 : EReal) = ((1 / 2 : ℝ) : EReal) := by
  show Ideal.ofBits .f32 0x3F000000#32 = ((1 / 2 : ℝ) : EReal)
  simp [Ideal.ofBits, Ideal.ieee, -Nat.cast_ofNat]
  exact (EReal.coe_mul 8388608 _).symm.trans (congrArg _ (by norm_num))

theorem below_two (n : ℕ) : ((n : ℕ) : EReal) < 2 ↔ n < 2 := by
  exact_mod_cast Iff.rfl
theorem below_one (n : ℕ) : ((n : ℕ) : EReal) < 1 ↔ n < 1 := by
  exact_mod_cast Iff.rfl

/-- Of two marked places, the first has none marked before it and the second has one. -/
theorem first_of (p q i : Fin 4) (h : p < q) :
    ((if i = p ∨ i = q then (1 : EReal) else 0) = 1 ∧ (∑ j, if j < i then (if j = p ∨ j = q then (1 : EReal) else 0) else 0) = 0) ↔ i = p := by
  have e : (∑ j, if j < i then (if j = p ∨ j = q then (1 : EReal) else 0) else 0) = (((∑ j, if j < i then (if j = p ∨ j = q then 1 else 0) else 0 : ℕ) : ℕ) : EReal) := by
    push_cast; rfl
  have e' : (if i = p ∨ i = q then (1 : EReal) else 0) = ((if i = p ∨ i = q then 1 else 0 : ℕ) : EReal) := by
    push_cast; rfl
  rw [e, e', Nat.cast_eq_one, Nat.cast_eq_zero]
  clear e e'; revert p q i; decide
theorem second_of (p q i : Fin 4) (h : p < q) :
    ((if i = p ∨ i = q then (1 : EReal) else 0) = 1 ∧ (∑ j, if j < i then (if j = p ∨ j = q then (1 : EReal) else 0) else 0) = 1) ↔ i = q := by
  have e : (∑ j, if j < i then (if j = p ∨ j = q then (1 : EReal) else 0) else 0) = (((∑ j, if j < i then (if j = p ∨ j = q then 1 else 0) else 0 : ℕ) : ℕ) : EReal) := by
    push_cast; rfl
  have e' : (if i = p ∨ i = q then (1 : EReal) else 0) = ((if i = p ∨ i = q then 1 else 0 : ℕ) : EReal) := by
    push_cast; rfl
  rw [e, e', Nat.cast_eq_one, Nat.cast_eq_one]
  clear e e'; revert p q i; decide

variable (a : In) (x9 : (⟨S1024x16, .f32⟩ : BufTy).Contents (Elt Ideal)) (x10 : (⟨S16, .f32⟩ : BufTy).Contents (Elt Ideal))

/-! ## The best group -/

theorem top_at (n : Fin 65536) (g i : Fin 4) :
    Says (val_main_v244 (F := Ideal) a.x0 a.x1 a.x2 a.x3 a.x4 a.x5 a.x6 a.x7 a.x8 x9 x10 (ix3 n g i)) (beaten (se a x9 x10 n g) i < 2) := by
  rw [val_main_v244_apply, beaten_at, val_main_v243_apply, val_main_cst_20_apply, two_f32]
  unfold Says
  rw [← below_two]
  exact says_olt _ _

theorem group_score (n : Fin 65536) (g : Fin 4) :
    val_main_v246 (F := Ideal) a.x0 a.x1 a.x2 a.x3 a.x4 a.x5 a.x6 a.x7 a.x8 x9 x10 (ix2 n g) = best2 (se a x9 x10 n g) := by
  rw [val_main_v246_apply, val_main_cst_22_apply, zero_f32, zero_add, ← sum_top]
  refine Finset.sum_congr rfl fun i _ => ?_
  have e : idx_main_v246 (ix2 n g) i = ix3 n g i := funext fun c => Fin.ext (match c with | ⟨0, _⟩ => rfl | ⟨1, _⟩ => rfl | ⟨2, _⟩ => rfl)
  rw [e, val_main_v245_apply, says_select (top_at a x9 x10 n g i), biased_eq, val_main_call6_v1_apply, val_main_call6_v0_apply, val_main_cst_21_apply, zero_f32]

theorem group_ahead (n : Fin 65536) (i j : Fin 4) :
    Says (val_main_v265 (F := Ideal) a.x0 a.x1 a.x2 a.x3 a.x4 a.x5 a.x6 a.x7 a.x8 x9 x10 (ix3 n i j)) (Ahead (fun g => best2 (se a x9 x10 n g)) i j) := by
  rw [val_main_v265_apply, val_main_v264_apply, val_main_v258_apply, val_main_v261_apply, val_main_v256_apply, val_main_v257_apply, val_main_v259_apply,
    val_main_v260_apply, val_main_v248_apply, val_main_v247_apply, val_main_v263_apply, val_main_v262_apply, val_main_v255_apply,
    val_main_v253_apply, val_main_v254_apply, val_main_v250_apply, val_main_v252_apply, val_main_v249_apply, val_main_v251_apply]
  have ei : ∀ (k : Fin 4) (q : S65536x4.Idx), (∀ c, (q c).val = ((ix2 n k : S65536x4.Idx) c).val) →
      val_main_v246 (F := Ideal) a.x0 a.x1 a.x2 a.x3 a.x4 a.x5 a.x6 a.x7 a.x8 x9 x10 q = best2 (se a x9 x10 n k) :=
    fun k q hq => (congrArg _ (funext fun c => Fin.ext (hq c))).trans (group_score a x9 x10 n k)
  rw [ei j (idx_main_v248 (idx_main_v256 (ix3 n i j))) fun c => match c with | ⟨0, _⟩ => rfl | ⟨1, _⟩ => rfl,
    ei i (idx_main_v247 (idx_main_v257 (ix3 n i j))) fun c => match c with | ⟨0, _⟩ => rfl | ⟨1, _⟩ => rfl]
  exact says_or (says_ogt _ _) (says_and (says_oeq _ _) (says_less j i))

/-- The chosen group of a token. -/
abbrev gr (n : Fin 65536) : Fin 4 := groupOf (se a x9 x10 n)

theorem best_at (n : Fin 65536) (g : Fin 4) :
    Says (val_main_v269 (F := Ideal) a.x0 a.x1 a.x2 a.x3 a.x4 a.x5 a.x6 a.x7 a.x8 x9 x10 (ix2 n g)) (g = gr a x9 x10 n) := by
  have e : val_main_v267 (F := Ideal) a.x0 a.x1 a.x2 a.x3 a.x4 a.x5 a.x6 a.x7 a.x8 x9 x10 (ix2 n g) = ((beaten (fun g => best2 (se a x9 x10 n g)) g : ℕ) : EReal) := by
    rw [val_main_v267_apply, val_main_cst_23_apply, zero_f32, zero_add, beaten_eq]
    refine Finset.sum_congr rfl fun j _ => ?_
    have e : idx_main_v267 (ix2 n g) j = ix3 n g j := funext fun c => Fin.ext (match c with | ⟨0, _⟩ => rfl | ⟨1, _⟩ => rfl | ⟨2, _⟩ => rfl)
    rw [e, val_main_v266_apply]
    exact says_number (group_ahead a x9 x10 n g j)
  rw [val_main_v269_apply, e, val_main_v268_apply, val_main_cst_24_apply, one_f32]
  unfold Says
  rw [show (g = gr a x9 x10 n) ↔ _ from (leader_iff _ g).symm, ← below_one]
  exact says_olt _ _

/-! ## The chosen group's experts -/

theorem score_at (n : Fin 65536) (i : Fin 4) :
    val_main_v272 (F := Ideal) a.x0 a.x1 a.x2 a.x3 a.x4 a.x5 a.x6 a.x7 a.x8 x9 x10 (ix2 n i) = sc a x9 x10 n (gr a x9 x10 n) i := by
  rw [val_main_v272_apply, val_main_cst_26_apply, zero_f32, zero_add]
  refine (Finset.sum_congr rfl fun g _ => ?_).trans (Finset.sum_ite_eq' Finset.univ (gr a x9 x10 n) fun g => sc a x9 x10 n g i) |>.trans (if_pos (Finset.mem_univ _))
  have e : idx_main_v272 (ix2 n i) g = ix3 n g i := funext fun c => Fin.ext (match c with | ⟨0, _⟩ => rfl | ⟨1, _⟩ => rfl | ⟨2, _⟩ => rfl)
  have hc : Says (val_main_call7_v1 (F := Ideal) a.x0 a.x1 a.x2 a.x3 a.x4 a.x5 a.x6 a.x7 a.x8 x9 x10 (ix3 n g i)) (g = gr a x9 x10 n) := by
    rw [val_main_call7_v1_apply, val_main_v270_apply]
    have e : idx_main_v270 (idx_main_call7_v1 (ix3 n g i)) = ix2 n g := funext fun c => Fin.ext (match c with | ⟨0, _⟩ => rfl | ⟨1, _⟩ => rfl)
    rw [e]
    exact best_at a x9 x10 n g
  rw [e, val_main_v271_apply, says_select hc, score_eq a x9 x10, val_main_call7_v2_apply, val_main_call7_v0_apply, val_main_cst_25_apply, zero_f32]

/-- The two chosen experts. -/
abbrev lo (n : Fin 65536) : Fin 4 := lower (se a x9 x10 n (gr a x9 x10 n))
abbrev up (n : Fin 65536) : Fin 4 := upper (se a x9 x10 n (gr a x9 x10 n))

theorem chosen_at (n : Fin 65536) (i : Fin 4) :
    val_main_v278 (F := Ideal) a.x0 a.x1 a.x2 a.x3 a.x4 a.x5 a.x6 a.x7 a.x8 x9 x10 (ix2 n i) = if i = lo a x9 x10 n ∨ i = up a x9 x10 n then 1 else 0 := by
  rw [val_main_v278_apply, val_main_cst_29_apply, zero_f32, zero_add]
  have hs : ∀ g : Fin 4, (val_main_v277 (F := Ideal) a.x0 a.x1 a.x2 a.x3 a.x4 a.x5 a.x6 a.x7 a.x8 x9 x10) (idx_main_v278 (ix2 n i) g)
      = if g = gr a x9 x10 n then (if beaten (se a x9 x10 n g) i < 2 then (1 : EReal) else 0) else 0 := by
    intro g
    have e : idx_main_v278 (ix2 n i) g = ix3 n g i := funext fun c => Fin.ext (match c with | ⟨0, _⟩ => rfl | ⟨1, _⟩ => rfl | ⟨2, _⟩ => rfl)
    have hb : Says (val_main_v274 (F := Ideal) a.x0 a.x1 a.x2 a.x3 a.x4 a.x5 a.x6 a.x7 a.x8 x9 x10 (ix3 n g i)) (g = gr a x9 x10 n) := by
      rw [val_main_v274_apply, val_main_v273_apply]
      have e : idx_main_v273 (idx_main_v274 (ix3 n g i)) = ix2 n g := funext fun c => Fin.ext (match c with | ⟨0, _⟩ => rfl | ⟨1, _⟩ => rfl)
      rw [e]
      exact best_at a x9 x10 n g
    rw [e, val_main_v277_apply, val_main_v276_apply, val_main_v275_apply, says_select (says_and hb (top_at a x9 x10 n g i)), val_main_call8_v0_apply,
      val_main_cst_27_apply, val_main_call8_v1_apply, val_main_cst_28_apply, one_f32, zero_f32, ite_and]
  rw [Finset.sum_congr rfl fun g _ => hs g, Finset.sum_ite_eq', if_pos (Finset.mem_univ _)]
  exact if_congr ((pair_spec (se a x9 x10 n (gr a x9 x10 n))).2 i) rfl rfl

theorem before_at (n : Fin 65536) (i : Fin 4) :
    val_main_v288 (F := Ideal) a.x0 a.x1 a.x2 a.x3 a.x4 a.x5 a.x6 a.x7 a.x8 x9 x10 (ix2 n i)
      = ∑ j, if j < i then (if j = lo a x9 x10 n ∨ j = up a x9 x10 n then (1 : EReal) else 0) else 0 := by
  rw [val_main_v288_apply, val_main_cst_31_apply, zero_f32, zero_add]
  refine Finset.sum_congr rfl fun j _ => ?_
  have e : idx_main_v288 (ix2 n i) j = ix3 n i j := funext fun c => Fin.ext (match c with | ⟨0, _⟩ => rfl | ⟨1, _⟩ => rfl | ⟨2, _⟩ => rfl)
  have hl : Says (val_main_call9_v1 (F := Ideal) (ix3 n i j)) (j < i) := by
    rw [val_main_call9_v1_apply, val_main_v285_apply, val_main_v283_apply, val_main_v284_apply, val_main_v281_apply, val_main_v282_apply, val_main_v279_apply, val_main_v279_apply]
    exact says_less j i
  have hc : val_main_call9_v2 (F := Ideal) a.x0 a.x1 a.x2 a.x3 a.x4 a.x5 a.x6 a.x7 a.x8 x9 x10 (ix3 n i j) = if j = lo a x9 x10 n ∨ j = up a x9 x10 n then 1 else 0 := by
    rw [val_main_call9_v2_apply, val_main_v286_apply]
    have e : idx_main_v286 (idx_main_call9_v2 (ix3 n i j)) = ix2 n j := funext fun c => Fin.ext (match c with | ⟨0, _⟩ => rfl | ⟨1, _⟩ => rfl)
    rw [e]
    exact chosen_at a x9 x10 n j
  rw [e, val_main_v287_apply, says_select hl, hc, val_main_call9_v3_apply, val_main_call9_v0_apply, val_main_cst_30_apply, zero_f32]

theorem first_at (n : Fin 65536) (i : Fin 4) :
    Says (val_main_v293 (F := Ideal) a.x0 a.x1 a.x2 a.x3 a.x4 a.x5 a.x6 a.x7 a.x8 x9 x10 (ix2 n i)) (i = lo a x9 x10 n) := by
  rw [val_main_v293_apply, val_main_v290_apply, val_main_v292_apply, val_main_v289_apply, val_main_cst_32_apply, val_main_v291_apply, val_main_cst_33_apply,
    one_f32, zero_f32, chosen_at, before_at]
  exact Iff.trans (says_and (says_oeq _ _) (says_oeq _ _)) (first_of _ _ i (pair_spec (se a x9 x10 n (gr a x9 x10 n))).1)

theorem second_at (n : Fin 65536) (i : Fin 4) :
    Says (val_main_v298 (F := Ideal) a.x0 a.x1 a.x2 a.x3 a.x4 a.x5 a.x6 a.x7 a.x8 x9 x10 (ix2 n i)) (i = up a x9 x10 n) := by
  rw [val_main_v298_apply, val_main_v295_apply, val_main_v297_apply, val_main_v294_apply, val_main_cst_34_apply, val_main_v296_apply, val_main_cst_35_apply,
    one_f32, chosen_at, before_at]
  exact Iff.trans (says_and (says_oeq _ _) (says_oeq _ _)) (second_of _ _ i (pair_spec (se a x9 x10 n (gr a x9 x10 n))).1)

end Cert.Reference2Ideal.Mix

end
-- ==== Proof.Mix.Ref6.lean ====
/- The reference's two arrays of where its tokens are sent: the class and the shares of every token, by columns and by rows. -/
module

public import proofs.«01_k».proof.Proof.Mix.Ref5

@[expose] public section

set_option maxRecDepth 16384

noncomputable section

namespace Cert.Reference2Ideal.Mix

open Cert.Reference2Ideal Cert.Reference2Ideal.Gen Cert.Reference2Ideal.Read
open Idealize.ShloMosaic Idealize.ShloMosaic.TcCoe Idealize.ShloMosaic.ValueIdx
open Cert.Mixer
open scoped BigOperators

/-- The class by its arithmetic is the class by its number. -/
theorem class_of (g p q : Fin 4) (h : p < q) :
    ((g.val : ℝ) : EReal) * ((6 : ℝ) : EReal)
      + (((p.val : ℝ) : EReal) * (((5 : ℝ) : EReal) - ((p.val : ℝ) : EReal)) * ((1 / 2 : ℝ) : EReal) + ((q.val : ℝ) : EReal) - ((1 : ℝ) : EReal))
      = ((g.val * 6 + pairNo p q : ℕ) : EReal) := by
  show _ = (((g.val * 6 + pairNo p q : ℕ) : ℝ) : EReal)
  rw [← EReal.coe_sub, ← EReal.coe_mul, ← EReal.coe_mul, ← EReal.coe_mul, ← EReal.coe_add, ← EReal.coe_sub, ← EReal.coe_add]
  refine congrArg _ ?_
  have e : (p = 0 ∧ q = 1) ∨ (p = 0 ∧ q = 2) ∨ (p = 0 ∧ q = 3) ∨ (p = 1 ∧ q = 2) ∨ (p = 1 ∧ q = 3) ∨ (p = 2 ∧ q = 3) := by
    revert p q; decide
  rcases e with ⟨rfl, rfl⟩ | ⟨rfl, rfl⟩ | ⟨rfl, rfl⟩ | ⟨rfl, rfl⟩ | ⟨rfl, rfl⟩ | ⟨rfl, rfl⟩ <;> simp [pairNo] <;> norm_num

/-- A sum with one place marked. -/
theorem sum_marked (f : Fin 4 → EReal) (x : Fin 4 → EReal) (k : Fin 4) (h : ∀ i, f i = if i = k then x i else 0) : ∑ i, f i = x k := by
  rw [Finset.sum_congr rfl fun i _ => h i, Finset.sum_ite_eq', if_pos (Finset.mem_univ _)]

variable (a : In) (x9 : (⟨S1024x16, .f32⟩ : BufTy).Contents (Elt Ideal)) (x10 : (⟨S16, .f32⟩ : BufTy).Contents (Elt Ideal))

theorem number_at (i : Fin 4) (q : S4.Idx) (hq : (q 0).val = i.val) : val_main_v280 (F := Ideal) q = ((i.val : ℝ) : EReal) := by
  rw [val_main_v280_apply, val_main_v279_apply, hq]
  show (((BitVec.ofNat 32 i.val).toInt : ℝ) : EReal) = _
  have e : (BitVec.ofNat 32 i.val).toInt = (i.val : ℤ) := by clear hq; revert i; decide
  rw [e]; simp

theorem group_no (n : Fin 65536) :
    val_main_v300 (F := Ideal) a.x0 a.x1 a.x2 a.x3 a.x4 a.x5 a.x6 a.x7 a.x8 x9 x10 (ix1 n) = (((gr a x9 x10 n).val : ℝ) : EReal) := by
  rw [val_main_v300_apply, val_main_cst_37_apply, zero_f32, zero_add]
  refine sum_marked _ (fun i => ((i.val : ℝ) : EReal)) _ fun i => ?_
  have e : idx_main_v300 (ix1 n) i = ix2 n i := funext fun c => Fin.ext (match c with | ⟨0, _⟩ => rfl | ⟨1, _⟩ => rfl)
  rw [e, val_main_v299_apply, says_select (best_at a x9 x10 n i), val_main_call10_v1_apply, number_at i _ rfl, val_main_call10_v2_apply, val_main_call10_v0_apply,
    val_main_cst_36_apply, zero_f32]

theorem first_no (n : Fin 65536) :
    val_main_v302 (F := Ideal) a.x0 a.x1 a.x2 a.x3 a.x4 a.x5 a.x6 a.x7 a.x8 x9 x10 (ix1 n) = (((lo a x9 x10 n).val : ℝ) : EReal) := by
  rw [val_main_v302_apply, val_main_cst_39_apply, zero_f32, zero_add]
  refine sum_marked _ (fun i => ((i.val : ℝ) : EReal)) _ fun i => ?_
  have e : idx_main_v302 (ix1 n) i = ix2 n i := funext fun c => Fin.ext (match c with | ⟨0, _⟩ => rfl | ⟨1, _⟩ => rfl)
  rw [e, val_main_v301_apply, says_select (first_at a x9 x10 n i), val_main_call11_v1_apply, number_at i _ rfl, val_main_call11_v2_apply, val_main_call11_v0_apply,
    val_main_cst_38_apply, zero_f32]

theorem second_no (n : Fin 65536) :
    val_main_v304 (F := Ideal) a.x0 a.x1 a.x2 a.x3 a.x4 a.x5 a.x6 a.x7 a.x8 x9 x10 (ix1 n) = (((up a x9 x10 n).val : ℝ) : EReal) := by
  rw [val_main_v304_apply, val_main_cst_41_apply, zero_f32, zero_add]
  refine sum_marked _ (fun i => ((i.val : ℝ) : EReal)) _ fun i => ?_
  have e : idx_main_v304 (ix1 n) i = ix2 n i := funext fun c => Fin.ext (match c with | ⟨0, _⟩ => rfl | ⟨1, _⟩ => rfl)
  rw [e, val_main_v303_apply, says_select (second_at a x9 x10 n i), val_main_call12_v1_apply, number_at i _ rfl, val_main_call12_v2_apply, val_main_call12_v0_apply,
    val_main_cst_40_apply, zero_f32]

theorem first_score (n : Fin 65536) :
    val_main_v306 (F := Ideal) a.x0 a.x1 a.x2 a.x3 a.x4 a.x5 a.x6 a.x7 a.x8 x9 x10 (ix1 n) = sc a x9 x10 n (gr a x9 x10 n) (lo a x9 x10 n) := by
  rw [val_main_v306_apply, val_main_cst_43_apply, zero_f32, zero_add]
  refine sum_marked _ (fun i => sc a x9 x10 n (gr a x9 x10 n) i) _ fun i => ?_
  have e : idx_main_v306 (ix1 n) i = ix2 n i := funext fun c => Fin.ext (match c with | ⟨0, _⟩ => rfl | ⟨1, _⟩ => rfl)
  rw [e, val_main_v305_apply, says_select (first_at a x9 x10 n i), score_at, val_main_call13_v1_apply, val_main_call13_v0_apply, val_main_cst_42_apply, zero_f32]

theorem second_score (n : Fin 65536) :
    val_main_v308 (F := Ideal) a.x0 a.x1 a.x2 a.x3 a.x4 a.x5 a.x6 a.x7 a.x8 x9 x10 (ix1 n) = sc a x9 x10 n (gr a x9 x10 n) (up a x9 x10 n) := by
  rw [val_main_v308_apply, val_main_cst_45_apply, zero_f32, zero_add]
  refine sum_marked _ (fun i => sc a x9 x10 n (gr a x9 x10 n) i) _ fun i => ?_
  have e : idx_main_v308 (ix1 n) i = ix2 n i := funext fun c => Fin.ext (match c with | ⟨0, _⟩ => rfl | ⟨1, _⟩ => rfl)
  rw [e, val_main_v307_apply, says_select (second_at a x9 x10 n i), score_at, val_main_call14_v1_apply, val_main_call14_v0_apply, val_main_cst_44_apply, zero_f32]

/-! ## What is told -/

/-- What the reference tells of a token. -/
abbrev tell (n : Fin 65536) (j : ℕ) : EReal := told a.args (routerOf x9 x10) n j

theorem class_at (n : Fin 65536) :
    val_main_v319 (F := Ideal) a.x0 a.x1 a.x2 a.x3 a.x4 a.x5 a.x6 a.x7 a.x8 x9 x10 (ix1 n) = tell a x9 x10 n 0 := by
  rw [val_main_v319_apply, val_main_v310_apply, val_main_v318_apply, val_main_v316_apply, val_main_v315_apply, val_main_v313_apply, val_main_v312_apply,
    group_no, first_no, second_no, val_main_v309_apply, val_main_cst_46_apply, val_main_v311_apply, val_main_cst_47_apply, val_main_v314_apply, val_main_cst_48_apply,
    val_main_v317_apply, val_main_cst_49_apply, five_f32, six_f32, half_f32, one_f32]
  exact class_of (gr a x9 x10 n) (lo a x9 x10 n) (up a x9 x10 n) (pair_spec (se a x9 x10 n (gr a x9 x10 n))).1

theorem first_share (n : Fin 65536) :
    val_main_v321 (F := Ideal) a.x0 a.x1 a.x2 a.x3 a.x4 a.x5 a.x6 a.x7 a.x8 x9 x10 (ix1 n) = tell a x9 x10 n 1 := by
  rw [val_main_v321_apply, val_main_v320_apply, first_score, second_score]
  rfl

theorem second_share (n : Fin 65536) :
    val_main_v323 (F := Ideal) a.x0 a.x1 a.x2 a.x3 a.x4 a.x5 a.x6 a.x7 a.x8 x9 x10 (ix1 n) = tell a x9 x10 n 2 := by
  rw [val_main_v323_apply, val_main_v322_apply, first_score, second_score]
  rfl

theorem three_at (j : Fin 3) (n : Fin 65536) :
    val_main_v327 (F := Ideal) a.x0 a.x1 a.x2 a.x3 a.x4 a.x5 a.x6 a.x7 a.x8 x9 x10 (ix2 j n) = tell a x9 x10 n j.val := by
  have e : ∀ q : S65536.Idx, (q 0).val = n.val → q = ix1 n := fun q hq => funext fun c => match c with | ⟨0, _⟩ => Fin.ext hq
  unfold val_main_v327
  refine (concatenate_ofFn_apply (t := S3x65536) (s₁ := S1x65536) (0 : Fin 2)
    (![(val_main_v324 (F := Ideal) a.x0 a.x1 a.x2 a.x3 a.x4 a.x5 a.x6 a.x7 a.x8 x9 x10 : S1x65536.Idx → EReal),
      (val_main_v325 (F := Ideal) a.x0 a.x1 a.x2 a.x3 a.x4 a.x5 a.x6 a.x7 a.x8 x9 x10 : S1x65536.Idx → EReal),
      (val_main_v326 (F := Ideal) a.x0 a.x1 a.x2 a.x3 a.x4 a.x5 a.x6 a.x7 a.x8 x9 x10 : S1x65536.Idx → EReal)] : Fin 3 → S1x65536.Idx → EReal)
    concatenates_S1x65536_S1x65536_S1x65536_S3x65536_d0 rfl 1 rfl (ix2 j n) j (Nat.div_one _) (ix2 0 n) (by show 0 = j.val % 1; omega)
    (fun a ha => by match a with | ⟨0, _⟩ => exact absurd rfl ha | ⟨1, _⟩ => rfl)).trans ?_
  match j with
  | ⟨0, _⟩ => exact (val_main_v324_apply ..).trans ((congrArg _ (e _ rfl)).trans (class_at a x9 x10 n))
  | ⟨1, _⟩ => exact (val_main_v325_apply ..).trans ((congrArg _ (e _ rfl)).trans (first_share a x9 x10 n))
  | ⟨2, _⟩ => exact (val_main_v326_apply ..).trans ((congrArg _ (e _ rfl)).trans (second_share a x9 x10 n))

theorem columns_at (y : S8x65536.Idx) :
    val_main_v328 (F := Ideal) a.x0 a.x1 a.x2 a.x3 a.x4 a.x5 a.x6 a.x7 a.x8 x9 x10 y = tell a x9 x10 (y 1) (y 0).val := by
  have h1 : (y 1).val < 65536 := (y 1).isLt
  unfold val_main_v328
  by_cases g : (y 0).val < 3
  · refine (pad_apply_of_inside ![0, 0] ![5, 0] ![0, 0] _ _ _ _ y (ix2 ⟨(y 0).val, g⟩ ⟨(y 1).val, h1⟩ : S3x65536.Idx) fun c => ?_).trans ?_
    · match c with
      | ⟨0, _⟩ => show (y 0).val = 0 + (y 0).val * (0 + 1); omega
      | ⟨1, _⟩ => show (y 1).val = 0 + (y 1).val * (0 + 1); omega
    · exact three_at a x9 x10 ⟨(y 0).val, g⟩ ⟨(y 1).val, h1⟩
  · have e := pad_apply_of_not_inside ![0, 0] ![5, 0] ![0, 0] (val_main_v327 (F := Ideal) a.x0 a.x1 a.x2 a.x3 a.x4 a.x5 a.x6 a.x7 a.x8 x9 x10)
      (val_main_call15_v0 (F := Ideal)) pads_S3x65536_S8x65536_050_000 h_S_ y (0 : Fin 2) fun hin => g (by
        have h : ((y 0).val - 0) / (0 + 1) < 3 := hin.2.2
        omega)
    exact (e.trans word_zero).trans (info_rest _ _ _ (by omega)).symm

theorem columns_eq : val_main_v328 (F := Ideal) a.x0 a.x1 a.x2 a.x3 a.x4 a.x5 a.x6 a.x7 a.x8 x9 x10 = toldColumns a.args (routerOf x9 x10) :=
  funext fun y => columns_at a x9 x10 y

theorem told_rows_eq : val_main_v330 (F := Ideal) a.x0 a.x1 a.x2 a.x3 a.x4 a.x5 a.x6 a.x7 a.x8 x9 x10 = toldRows a.args (routerOf x9 x10) := by
  funext y
  have h0 : (y 0).val < 65536 := (y 0).isLt
  unfold val_main_v330
  by_cases g : (y 1).val < 8
  · refine (pad_apply_of_inside ![0, 0] ![0, 120] ![0, 0] _ _ _ _ y (ix2 ⟨(y 0).val, h0⟩ ⟨(y 1).val, g⟩ : S65536x8.Idx) fun c => ?_).trans ?_
    · match c with
      | ⟨0, _⟩ => show (y 0).val = 0 + (y 0).val * (0 + 1); omega
      | ⟨1, _⟩ => show (y 1).val = 0 + (y 1).val * (0 + 1); omega
    · rw [val_main_v329_apply]
      exact columns_at a x9 x10 _
  · have e := pad_apply_of_not_inside ![0, 0] ![0, 120] ![0, 0] (val_main_v329 (F := Ideal) a.x0 a.x1 a.x2 a.x3 a.x4 a.x5 a.x6 a.x7 a.x8 x9 x10)
      (val_main_call16_v0 (F := Ideal)) pads_S65536x8_S65536x128_000_01200 h_S_ y (1 : Fin 2) fun hin => g (by
        have h : ((y 1).val - 0) / (0 + 1) < 8 := hin.2.2
        omega)
    exact (e.trans word_zero).trans (info_rest _ _ _ (by omega)).symm

end Cert.Reference2Ideal.Mix

end
-- ==== Proof.Ada.Spec.lean ====
/- The modulation maps by coordinates: of a sequence's conditioning vector through `g · sigmoid g`, each layer's linear map and bias. -/
module

public import Idealize.ShloMosaic.PureOps.Ideal.Laws
public import Idealize.ShloMosaic.Lib.ValueIdx

@[expose] public section

noncomputable section

namespace Cert.Ada

open Idealize.ShloMosaic Idealize.ShloMosaic.ValueIdx
open scoped BigOperators

/-- `g · sigmoid g`. -/
def act (g : EReal) : EReal := g * Ideal.div 1 (1 + Ideal.exp (-g))

/-- Entry `e` of layer `l`'s map of sequence `b`. -/
def entry (x : (⟨2, ![32, 1024]⟩ : Shape).Idx → EReal) (w : (⟨3, ![2, 1024, 6144]⟩ : Shape).Idx → EReal) (v : (⟨2, ![2, 6144]⟩ : Shape).Idx → EReal)
    (l : Fin 2) (b : Fin 32) (e : Fin 6144) : EReal :=
  (∑ k : Fin 1024, act (x (ix2 b k)) * w (ix3 l k e)) + v (ix2 l e)

/-- The array of all maps. -/
def maps (x : (⟨2, ![32, 1024]⟩ : Shape).Idx → EReal) (w : (⟨3, ![2, 1024, 6144]⟩ : Shape).Idx → EReal) (v : (⟨2, ![2, 6144]⟩ : Shape).Idx → EReal) :
    (⟨3, ![2, 32, 6144]⟩ : Shape).Idx → EReal :=
  fun i => entry x w v (i 0) (i 1) (i 2)

end Cert.Ada

end
-- ==== Proof.Ada.Arrays.lean ====
/- The modulation call's result array, index by index, at the ideal values: each block of 1024 columns of a layer is the product
   of the activated conditioning vectors with the layer's columns, plus the bias. -/
module

public import proofs.«01_k».proof.Proof.Gen.Kernel3Ideal.Value
public import proofs.«01_k».proof.Proof.Ada.Spec
public import Idealize.ShloMosaic.Lib.Pipeline.Value
public import Idealize.ShloMosaic.Lib.Pipeline.ValueKit.Geometry

@[expose] public section

set_option maxRecDepth 16384

noncomputable section

namespace Cert.Kernel3Ideal.Ada

open Cert.Kernel3Ideal Cert.Kernel3Ideal.Gen
open Idealize.ShloMosaic Idealize.ShloMosaic.TcCoe Idealize.ShloMosaic.Tactic
open Idealize.ShloMosaic.ValueIdx
open Idealize.ShloMosaic.Pipeline (Dat Cfg Window)
open scoped BigOperators

variable (m : (ℓ : Loc nD τ sig) → Buf (Elt Ideal) ℓ) (c : Dev nD)

/-- Argument `b` of device `c` as the run finds it. -/
abbrev arg (b : Ref sig .tc) : Buf (Elt Ideal) ((c : Thread nD τ).loc b) := m ((c : Thread nD τ).loc b)

/-! ## One point's product -/

theorem dot_apply (h : FVec Ideal S32x1024 .bf16) (U : FVec Ideal S1024x1024 .bf16) (r : Fin 32) (q : Fin 1024) :
    matmul (F := Ideal) dot_S32x1024_S1024x1024_S32x1024_1_0_0_1_n_n none h U (constant S32x1024 .f32 0x00000000#32) (ix2 r q)
      = ∑ k : Fin 1024, h (ix2 r k) * U (ix2 k q) := by
  simp only [matmul]
  rw [Ideal.matmul_constant_zero_apply, ← Equiv.sum_comp (contrEquiv1 dot_S32x1024_S1024x1024_S32x1024_1_0_0_1_n_n 1024 rfl rfl).symm]
  refine Finset.sum_congr rfl fun k _ => ?_
  have hk := contrEquiv1_symm_val dot_S32x1024_S1024x1024_S32x1024_1_0_0_1_n_n 1024 rfl rfl k
  refine congrArg₂ (· * ·) (congrArg h (funext fun a => Fin.ext ?_)) (congrArg U (funext fun a => Fin.ext ?_))
  · match a with
    | ⟨0, _⟩ => rfl
    | ⟨1, _⟩ => exact hk
  · match a with
    | ⟨0, _⟩ => exact hk
    | ⟨1, _⟩ => rfl

/-- What a point stores, at a row and a column. -/
theorem pay_apply (x0 : Vec Ideal S32x1024 .f32) (x1 : Vec Ideal S1x1024x1024 .f32) (x2 : Vec Ideal S1x1x1024 .f32) (r : Fin 32) (q : Fin 1024) :
    k0_pay1 (F := Ideal) x0 x1 x2 (ix3 0 r q) = (∑ k : Fin 1024, Cert.Ada.act (x0 (ix2 r k)) * x1 (ix3 0 k q)) + x2 (ix3 0 0 q) := by
  unfold k0_pay1
  refine (shapeCast_apply _ _ _ (ix2 r q : S32x1024.Idx) (by
    rewrite [Shape.rowMajor_val_three, Shape.rowMajor_val_two]
    show r.val * 1024 + q.val = (0 * 32 + r.val) * 1024 + q.val
    omega)).trans ?_
  refine congrArg₂ (· + ·) ((dot_apply _ _ r q).trans (Finset.sum_congr rfl fun k _ => congrArg₂ (· * ·) rfl ?_)) ?_
  · exact shapeCast_apply x1 _ _ (ix3 0 k q : S1x1024x1024.Idx) (by
      rewrite [Shape.rowMajor_val_three, Shape.rowMajor_val_two]
      show (0 * 1024 + k.val) * 1024 + q.val = k.val * 1024 + q.val
      omega)
  · refine (broadcastTo_apply _ _ _ (ix2 0 q : S1x1024.Idx) fun a => ?_).trans ?_
    · match a with
      | ⟨0, _⟩ => rfl
      | ⟨1, _⟩ => rfl
    · exact shapeCast_apply x2 _ _ (ix3 0 0 q : S1x1x1024.Idx) (by
        rewrite [Shape.rowMajor_val_three, Shape.rowMajor_val_two]
        show (0 * 1 + 0) * 1024 + q.val = 0 * 1024 + q.val
        omega)

theorem out_apply (x0 : Vec Ideal S32x1024 .f32) (x1 : Vec Ideal S1x1024x1024 .f32) (x2 : Vec Ideal S1x1x1024 .f32) (r : Fin 32) (q : Fin 1024) :
    out0_3 (F := Ideal) x0 x1 x2 (ix3 0 r q) = (∑ k : Fin 1024, Cert.Ada.act (x0 (ix2 r k)) * x1 (ix3 0 k q)) + x2 (ix3 0 0 q) := by
  have z2 : (![0, 0] : Fin 2 → Nat) = fun _ => 0 := by decide
  have z3 : (![0, 0, 0] : Fin 3 → Nat) = fun _ => 0 := by decide
  unfold out0_3
  rw [View.canon_unit_zero (S := S1x32x1024) z3, View.ld_unit_zero (S := S32x1024) z2, View.ld_unit_zero (S := S1x1024x1024) z3, View.ld_unit_zero (S := S1x1x1024) z3]
  exact pay_apply x0 x1 x2 r q

/-! ## The blocks -/

theorem points (t : Fin cfg0.N) : t.val < 12 := lt_of_lt_of_eq t.isLt (by decide +kernel : grid0.N = 12)

theorem index_0 (t : Fin cfg0.N) : (cfg0.win 0).index t = ![0, 0] :=
  (by decide +kernel : ∀ t : Fin grid0.N, cc0_transform_0 (grid0.coords t) = ![0, 0]) t
theorem index_1 (t : Fin cfg0.N) : (cfg0.win 1).index t = ![t.val / 6, 0, t.val % 6] :=
  (by decide +kernel : ∀ t : Fin grid0.N, cc0_transform_1 (grid0.coords t) = ![t.val / 6, 0, t.val % 6]) t
theorem index_2 (t : Fin cfg0.N) : (cfg0.win 2).index t = ![t.val / 6, 0, t.val % 6] :=
  (by decide +kernel : ∀ t : Fin grid0.N, cc0_transform_2 (grid0.coords t) = ![t.val / 6, 0, t.val % 6]) t
theorem index_3 (t : Fin cfg0.N) : (cfg0.win 3).index t = ![t.val / 6, 0, t.val % 6] :=
  (by decide +kernel : ∀ t : Fin grid0.N, cc0_transform_3 (grid0.coords t) = ![t.val / 6, 0, t.val % 6]) t

/-- The bias as the call finds it: its rows, each a block of one row. -/
theorem V_main_v0 : V m c main_v0 = shapeCast S2x1x6144 (arg m c main_arg2) shapeCasts_S2x6144_S2x1x6144 := rfl

theorem blk0_apply (t : Fin cfg0.N) (r : Fin 32) (k : Fin 1024) : iblk m c 0 t (ix2 r k : S32x1024.Idx) = arg m c main_arg0 (ix2 r k : S32x1024.Idx) := by
  refine Eq.trans ?_ (congrFun (V_main_arg0 m c) _)
  show V m c main_arg0 (((cfg0.win 0).blk t).view.emb (ix2 r k : S32x1024.Idx)) = _
  congr 1
  funext a
  apply Fin.ext
  match a with
  | ⟨0, _⟩ => blk_simp; refine (congrArg (fun n : Nat => n * 32 + r.val) (congrFun (index_0 t) (0 : Fin 2))).trans ?_; exact (by omega : 0 * 32 + r.val = r.val)
  | ⟨1, _⟩ => blk_simp; refine (congrArg (fun n : Nat => n * 1024 + k.val) (congrFun (index_0 t) (1 : Fin 2))).trans ?_; exact (by omega : 0 * 1024 + k.val = k.val)

theorem blk1_apply (t : Fin cfg0.N) (k q : Fin 1024) (l : Fin 2) (e : Fin 6144) (hl : l.val = t.val / 6) (he : e.val = t.val % 6 * 1024 + q.val) :
    iblk m c 1 t (ix3 0 k q : S1x1024x1024.Idx) = arg m c main_arg1 (ix3 l k e : S2x1024x6144.Idx) := by
  refine Eq.trans ?_ (congrFun (V_main_arg1 m c) _)
  show V m c main_arg1 (((cfg0.win 1).blk t).view.emb (ix3 0 k q : S1x1024x1024.Idx)) = _
  congr 1
  funext a
  apply Fin.ext
  match a with
  | ⟨0, _⟩ => blk_simp; exact (congrFun (index_1 t) (0 : Fin 3)).trans hl.symm
  | ⟨1, _⟩ => blk_simp; refine (congrArg (fun n : Nat => n * 1024 + k.val) (congrFun (index_1 t) (1 : Fin 3))).trans ?_; exact (by omega : 0 * 1024 + k.val = k.val)
  | ⟨2, _⟩ => blk_simp; exact (congrArg (fun n : Nat => n * 1024 + q.val) (congrFun (index_1 t) (2 : Fin 3))).trans he.symm

theorem blk2_apply (t : Fin cfg0.N) (q : Fin 1024) (l : Fin 2) (e : Fin 6144) (hl : l.val = t.val / 6) (he : e.val = t.val % 6 * 1024 + q.val) :
    iblk m c 2 t (ix3 0 0 q : S1x1x1024.Idx) = arg m c main_arg2 (ix2 l e : S2x6144.Idx) := by
  have h : (((cfg0.win 2).blk t).view.emb (ix3 0 0 q : S1x1x1024.Idx) : S2x1x6144.Idx) = ix3 l 0 e := by
    funext a
    apply Fin.ext
    match a with
    | ⟨0, _⟩ => blk_simp; exact (congrFun (index_2 t) (0 : Fin 3)).trans hl.symm
    | ⟨1, _⟩ => blk_simp; exact congrFun (index_2 t) (1 : Fin 3)
    | ⟨2, _⟩ => blk_simp; exact (congrArg (fun n : Nat => n * 1024 + q.val) (congrFun (index_2 t) (2 : Fin 3))).trans he.symm
  show V m c main_v0 (((cfg0.win 2).blk t).view.emb (ix3 0 0 q : S1x1x1024.Idx)) = _
  refine (congrArg (V m c main_v0) h).trans ((congrFun (V_main_v0 m c) _).trans ?_)
  exact shapeCast_apply _ _ _ (ix2 l e : S2x6144.Idx) (by
    rewrite [Shape.rowMajor_val_three, Shape.rowMajor_val_two]
    show l.val * 6144 + e.val = (l.val * 1 + 0) * 6144 + e.val
    omega)

/-- The points' blocks cover the result. -/
theorem covers3 : (cfg0.win 3).Covers := by
  refine ⟨fun a => (by decide : ∀ a : Fin 3, 0 < S1x32x1024.size a) a, fun β => ?_⟩
  have b0 : (β (0 : Fin 3)).val < 2 := lt_of_lt_of_eq (β (0 : Fin 3)).isLt (by decide +kernel : (2 + 1 - 1) / 1 = 2)
  have b1 : (β (1 : Fin 3)).val < 1 := lt_of_lt_of_eq (β (1 : Fin 3)).isLt (by decide +kernel : (32 + 32 - 1) / 32 = 1)
  have b2 : (β (2 : Fin 3)).val < 6 := lt_of_lt_of_eq (β (2 : Fin 3)).isLt (by decide +kernel : (6144 + 1024 - 1) / 1024 = 6)
  refine ⟨⟨6 * (β (0 : Fin 3)).val + (β (2 : Fin 3)).val, lt_of_lt_of_eq (by omega : _ < 12) (by decide +kernel : 12 = grid0.N)⟩, flush0_3 _, fun a => ⟨?_, Or.inl rfl⟩⟩
  match a with
  | ⟨0, _⟩ =>
    refine (congrFun (index_3 _) (0 : Fin 3)).trans ?_
    show (6 * (β (0 : Fin 3)).val + (β (2 : Fin 3)).val) / 6 = (β (0 : Fin 3)).val
    omega
  | ⟨1, _⟩ =>
    refine (congrFun (index_3 _) (1 : Fin 3)).trans ?_
    exact (by omega : 0 = (β (1 : Fin 3)).val)
  | ⟨2, _⟩ =>
    refine (congrFun (index_3 _) (2 : Fin 3)).trans ?_
    show (6 * (β (0 : Fin 3)).val + (β (2 : Fin 3)).val) % 6 = (β (2 : Fin 3)).val
    omega

/-- The result array after the run. -/
theorem final : (dats m 0 c).arrAt 3 cfg0.N = Cert.Ada.maps (arg m c main_arg0) (arg m c main_arg1) (arg m c main_arg2) := by
  refine (dats m 0 c).arrAt_eq_of_covers 3 _ covers3 fun t hf y => ?_
  have e0 : (((cfg0.win 3).blk t).view.emb y (0 : Fin 3)).val = t.val / 6 := by
    blk_simp
    exact congrFun (index_3 t) (0 : Fin 3)
  have e1 : (((cfg0.win 3).blk t).view.emb y (1 : Fin 3)).val = (y (1 : Fin 3)).val := by
    blk_simp
    refine (congrArg (fun n : Nat => n * 32 + (y (1 : Fin 3)).val) (congrFun (index_3 t) (1 : Fin 3))).trans ?_
    exact (by omega : 0 * 32 + (y (1 : Fin 3)).val = (y (1 : Fin 3)).val)
  have e2 : (((cfg0.win 3).blk t).view.emb y (2 : Fin 3)).val = t.val % 6 * 1024 + (y (2 : Fin 3)).val := by
    blk_simp
    exact congrArg (fun n : Nat => n * 1024 + (y (2 : Fin 3)).val) (congrFun (index_3 t) (2 : Fin 3))
  have b1 : (y (1 : Fin 3)).val < 32 := (y (1 : Fin 3)).isLt
  have b2 : (y (2 : Fin 3)).val < 1024 := (y (2 : Fin 3)).isLt
  generalize hi : ((cfg0.win 3).blk t).view.emb y = i at e0 e1 e2 ⊢
  blk_simp
  rw [after0_3]
  have hy : (y : S1x32x1024.Idx) = ix3 0 ⟨(y (1 : Fin 3)).val, b1⟩ ⟨(y (2 : Fin 3)).val, b2⟩ := by
    funext a
    refine Fin.ext ?_
    have b0 : (y (0 : Fin 3)).val < 1 := (y (0 : Fin 3)).isLt
    match a with
    | ⟨0, _⟩ => show (y (0 : Fin 3)).val = 0; omega
    | ⟨1, _⟩ => rfl
    | ⟨2, _⟩ => rfl
  refine ((congrArg (out0_3 (iblk m c 0 t) (iblk m c 1 t) (iblk m c 2 t)) hy).trans (out_apply _ _ _ _ _)).trans ?_
  have f1 : (⟨(y (1 : Fin 3)).val, b1⟩ : Fin 32) = i 1 := Fin.ext e1.symm
  show _ = Cert.Ada.entry _ _ _ (i 0) (i 1) (i 2)
  unfold Cert.Ada.entry
  rw [f1]
  refine congrArg₂ (· + ·) (Finset.sum_congr rfl fun k _ => congrArg₂ (· * ·) (congrArg Cert.Ada.act (blk0_apply m c t _ k)) ?_) ?_
  · exact blk1_apply m c t k _ (i 0) (i 2) e0 e2
  · exact blk2_apply m c t _ (i 0) (i 2) e0 e2

end Cert.Kernel3Ideal.Ada

end
-- ==== Proof.Ada.Ref.lean ====
/- The modulation reference read index by index: it is the maps of `Spec`. -/
module

public import proofs.«01_k».proof.Proof.Gen.Reference3Ideal.Read
public import proofs.«01_k».proof.Proof.Ada.Spec
public import Idealize.ShloMosaic.Lib.IdealHost

@[expose] public section

noncomputable section

namespace Cert.Reference3Ideal.Ada

open Cert.Reference3Ideal Cert.Reference3Ideal.Gen Cert.Reference3Ideal.Read
open Idealize.ShloMosaic Idealize.ShloMosaic.TcCoe Idealize.ShloMosaic.ValueIdx
open scoped BigOperators

variable (x0 : (⟨S32x1024, .f32⟩ : BufTy).Contents (Elt Ideal)) (x1 : (⟨S2x1024x6144, .f32⟩ : BufTy).Contents (Elt Ideal))
  (x2 : (⟨S2x6144, .f32⟩ : BufTy).Contents (Elt Ideal))

/-- The activated conditioning vector. -/
theorem act_at (i : S32x1024.Idx) : val_main_v0 (F := Ideal) x0 i = Cert.Ada.act (x0 i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  show x0 i * Ideal.div (Ideal.ofBits .f32 0x3F800000#32) (Ideal.ofBits .f32 0x3F800000#32 + Ideal.exp (-(x0 i))) = _
  rw [Ideal.ofBits_one_f32]
  rfl

/-- The reference's result. -/
theorem result_eq : val_main_v5 (F := Ideal) x0 x1 x2 = Cert.Ada.maps x0 x1 x2 := by
  funext i
  rw [val_main_v5_apply, val_main_v2_apply, val_main_v1_apply, val_main_v4_apply, val_main_v3_apply]
  refine congrArg₂ (· + ·) (Finset.sum_congr rfl fun k _ => ?_) (congrArg x2 (funext fun a => Fin.ext ?_))
  · rw [act_at]
    refine (mul_comm _ _).trans (congrArg₂ (· * ·) (congrArg (fun j => Cert.Ada.act (x0 j)) (funext fun a => Fin.ext ?_)) (congrArg x1 (funext fun a => Fin.ext ?_)))
    · match a with
      | ⟨0, _⟩ => rfl
      | ⟨1, _⟩ => rfl
    · match a with
      | ⟨0, _⟩ => rfl
      | ⟨1, _⟩ => rfl
      | ⟨2, _⟩ => rfl
  · match a with
    | ⟨0, _⟩ => rfl
    | ⟨1, _⟩ => rfl

end Cert.Reference3Ideal.Ada

end
-- ==== Proof.lean ====
/- The certificate, for three calls of the kernel: the expert feed-forward, the mixer and the modulation maps. Of each call the frames of the kernel, the
   reference's frame from its run, and the kernel's result arrays equal to the reference's at the ideal values. -/
module

public import proofs.«01_k».proof.Defs
public import proofs.«01_k».proof.Proof.Ffn.Pre
public import proofs.«01_k».proof.Proof.Ffn.Blocks
public import proofs.«01_k».proof.Proof.Ffn.RefSum
public import proofs.«01_k».proof.Proof.Mix2.Frame
public import proofs.«01_k».proof.Proof.Mix.Frame
public import proofs.«01_k».proof.Proof.Mix.Arrays2
public import proofs.«01_k».proof.Proof.Mix.Ref6
public import proofs.«01_k».proof.Proof.Ada.Arrays
public import proofs.«01_k».proof.Proof.Ada.Ref
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2.Skeleton
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_experts_in_range
public import proofs.«01_k».proof.Proof.Gen.Pre_experts_and_shares
public import Idealize.ShloMosaic.Lib.Quiescent
public import Idealize.ShloMosaic.Lib.Claim
public import Idealize.ShloMosaic.Lib.Bf16Pair

@[expose] public section

set_option maxRecDepth 16384

noncomputable section

namespace Cert.Proof

open Idealize.ShloMosaic Idealize.ShloMosaic.TcCoe Idealize.SL.Sem Idealize.ShloMosaic.StableHlo

/-! ## The reference's frames -/

theorem frame_ReferenceIdeal : Cert.quiescent_ReferenceIdeal := fun m g _ =>
  (θ_run Cert.ReferenceIdeal.defs _ _).mono (fun _ h => ⟨fun c => (h c).2, sem_eq_zero_of_no_sems rfl _⟩) (Cert.ReferenceIdeal.Value.run (F := Ideal) m g)

theorem frame_ReferenceIdeal_shares : Cert.quiescent_ReferenceIdeal_pre_experts_and_shares := fun m g _ =>
  (θ_run Cert.ReferenceIdeal.defs _ _).mono (fun _ h => ⟨fun c => (h c).2, sem_eq_zero_of_no_sems rfl _⟩) (Cert.ReferenceIdeal.Value.run (F := Ideal) m g)

/-! ## The value -/

/-- The precondition, in the words the value is proved under. -/
theorem fit (m : (ℓ : Loc Cert.KernelIdeal.nD Cert.KernelIdeal.τ Cert.KernelIdeal.sig) → Buf (Elt Ideal) ℓ) (h : Cert.Pre_KernelIdeal_experts_and_shares m)
    (c : Dev Cert.KernelIdeal.nD) :
    Cert.KernelIdeal.Ffn.Fit (Cert.KernelIdeal.Ffn.arg m c Cert.KernelIdeal.main_arg0) (Cert.KernelIdeal.Ffn.arg m c Cert.KernelIdeal.main_arg1)
      (Cert.KernelIdeal.Ffn.arg m c Cert.KernelIdeal.main_arg2) (Cert.KernelIdeal.Ffn.arg m c Cert.KernelIdeal.main_arg3) :=
  fun t r s => Cert.KernelIdeal.Ffn.and_shares _ _ _ _ _ _ (h c) t r s

/-- The reference's result from contents whose arguments are the given ones. -/
theorem result_of (V : Valuation Cert.ReferenceIdeal.τ Cert.ReferenceIdeal.sig (Elt Ideal)) (x0 x1 x2 x3 x4 x5)
    (e0 : V (Proc.devRef .tc Cert.ReferenceIdeal.main_arg0) = x0) (e1 : V (Proc.devRef .tc Cert.ReferenceIdeal.main_arg1) = x1)
    (e2 : V (Proc.devRef .tc Cert.ReferenceIdeal.main_arg2) = x2) (e3 : V (Proc.devRef .tc Cert.ReferenceIdeal.main_arg3) = x3)
    (e4 : V (Proc.devRef .tc Cert.ReferenceIdeal.main_arg4) = x4) (e5 : V (Proc.devRef .tc Cert.ReferenceIdeal.main_arg5) = x5)
    (h : Cert.KernelIdeal.Ffn.Fit x0 x1 x2 x3) :
    Cert.ReferenceIdeal.Read.val_main_v260 (F := Ideal) (V (Proc.devRef .tc Cert.ReferenceIdeal.main_arg0)) (V (Proc.devRef .tc Cert.ReferenceIdeal.main_arg1))
        (V (Proc.devRef .tc Cert.ReferenceIdeal.main_arg2)) (V (Proc.devRef .tc Cert.ReferenceIdeal.main_arg3)) (V (Proc.devRef .tc Cert.ReferenceIdeal.main_arg4))
        (V (Proc.devRef .tc Cert.ReferenceIdeal.main_arg5))
      = Cert.KernelIdeal.Ffn.answerAt x0 x1 x2 x3 x4 x5 := by
  subst e0 e1 e2 e3 e4 e5
  exact Cert.ReferenceIdeal.Ffn.result_eq _ _ _ _ _ _ h

theorem algebraic : Cert.algebraic_KernelIdeal_ReferenceIdeal_pre_experts_and_shares := by
  intro m g m' g' hpre hargs
  have hO := Cert.KernelIdeal.Ffn.ok_shares m hpre
  refine ⟨fun c => Cert.KernelIdeal.Ffn.answerAt (Cert.KernelIdeal.Ffn.arg m c Cert.KernelIdeal.main_arg0) (Cert.KernelIdeal.Ffn.arg m c Cert.KernelIdeal.main_arg1)
      (Cert.KernelIdeal.Ffn.arg m c Cert.KernelIdeal.main_arg2) (Cert.KernelIdeal.Ffn.arg m c Cert.KernelIdeal.main_arg3)
      (Cert.KernelIdeal.Ffn.arg m c Cert.KernelIdeal.main_arg4) (Cert.KernelIdeal.Ffn.arg m c Cert.KernelIdeal.main_arg5), ?_, ?_⟩
  · exact (θ_run Cert.KernelIdeal.defs _ _).mono
      (fun _ h c => ⟨(h.1 c).1.trans (Cert.KernelIdeal.Ffn.final m hO c (fit m hpre c)), (h.1 c).2⟩) (Cert.KernelIdeal.Ffn.run_arrays m g hO)
  · refine (θ_run Cert.ReferenceIdeal.defs _ _).mono (fun _ h c => ⟨(h c).1.trans ?_, (h c).2⟩) (Cert.ReferenceIdeal.Value.run (F := Ideal) m' g')
    obtain ⟨e0, e1, e2, e3, e4, e5⟩ := hargs c
    refine (Cert.ReferenceIdeal.Read.val_main_v260_eq (F := Ideal) (launchContents m' c)).trans ?_
    exact result_of (launchContents m' c) _ _ _ _ _ _ e0 e1 e2 e3 e4 e5 (fit m hpre c)

/-! ## The mixer -/

theorem frame_Kernel2 : Cert.quiescent_Kernel2 := fun m g _ => Cert.Kernel2.Mix.frame_main (F := Bits) m g

theorem frame_Kernel2Ideal : Cert.quiescent_Kernel2Ideal := fun m g _ => Cert.Kernel2Ideal.Mix.frame_main (F := Ideal) m g

theorem frame_Reference2Ideal : Cert.quiescent_Reference2Ideal := fun m g _ =>
  (θ_run Cert.Reference2Ideal.defs _ _).mono (fun _ h => ⟨fun c => (h c).2.2.2.2, sem_eq_zero_of_no_sems rfl _⟩)
    (Cert.Reference2Ideal.Value.run (F := Ideal) m g)

/-- Each word of two roundings is read as its two halves. -/
theorem preserves_mixer : Cert.preserves_Kernel2_Kernel2Ideal :=
  ⟨IdealRules.bf16_pair.packStatement _,
    IdealRules.bf16_pair.statement _ _ Cert.Kernel2Ideal.Gen.bitcasts_S512x2x128_w16_S512x1x128_w32,
    IdealRules.bf16_pair.packStatement _⟩

/-- The mixer reference's arguments in contents `V`. -/
def mixerIn (V : Valuation Cert.Reference2Ideal.τ Cert.Reference2Ideal.sig (Elt Ideal)) : Cert.Reference2Ideal.Mix.In where
  x0 := V (Proc.devRef .tc Cert.Reference2Ideal.main_arg0)
  x1 := V (Proc.devRef .tc Cert.Reference2Ideal.main_arg1)
  x2 := V (Proc.devRef .tc Cert.Reference2Ideal.main_arg2)
  x3 := V (Proc.devRef .tc Cert.Reference2Ideal.main_arg3)
  x4 := V (Proc.devRef .tc Cert.Reference2Ideal.main_arg4)
  x5 := V (Proc.devRef .tc Cert.Reference2Ideal.main_arg5)
  x6 := V (Proc.devRef .tc Cert.Reference2Ideal.main_arg6)
  x7 := V (Proc.devRef .tc Cert.Reference2Ideal.main_arg7)
  x8 := V (Proc.devRef .tc Cert.Reference2Ideal.main_arg8)

/-- From contents whose arguments are the given ones, the mixer's inputs are the given ones. -/
theorem mixerIn_args (V : Valuation Cert.Reference2Ideal.τ Cert.Reference2Ideal.sig (Elt Ideal)) (x0 x1 x2 x3 x4 x5 x6 x7 x8)
    (e0 : V (Proc.devRef .tc Cert.Reference2Ideal.main_arg0) = x0) (e1 : V (Proc.devRef .tc Cert.Reference2Ideal.main_arg1) = x1)
    (e2 : V (Proc.devRef .tc Cert.Reference2Ideal.main_arg2) = x2) (e3 : V (Proc.devRef .tc Cert.Reference2Ideal.main_arg3) = x3)
    (e4 : V (Proc.devRef .tc Cert.Reference2Ideal.main_arg4) = x4) (e5 : V (Proc.devRef .tc Cert.Reference2Ideal.main_arg5) = x5)
    (e6 : V (Proc.devRef .tc Cert.Reference2Ideal.main_arg6) = x6) (e7 : V (Proc.devRef .tc Cert.Reference2Ideal.main_arg7) = x7)
    (e8 : V (Proc.devRef .tc Cert.Reference2Ideal.main_arg8) = x8) :
    (mixerIn V).args = Cert.Mixer.argsOf x0 x1 x2 x3 x4 x5 x6 x7 x8 := by
  subst e0 e1 e2 e3 e4 e5 e6 e7 e8
  rfl

/-- The same of the router's two arrays. -/
theorem routed_args (V : Valuation Cert.Reference2Ideal.τ Cert.Reference2Ideal.sig (Elt Ideal)) (x9 x10)
    (e9 : V (Proc.devRef .tc Cert.Reference2Ideal.main_arg9) = x9) (e10 : V (Proc.devRef .tc Cert.Reference2Ideal.main_arg10) = x10) :
    Cert.Mixer.routerOf (V (Proc.devRef .tc Cert.Reference2Ideal.main_arg9)) (V (Proc.devRef .tc Cert.Reference2Ideal.main_arg10)) = Cert.Mixer.routerOf x9 x10 := by
  subst e9 e10
  rfl

theorem algebraic_mixer : Cert.algebraic_Kernel2Ideal_Reference2Ideal := by
  intro m g m' g' _ hargs
  refine ⟨fun c => Cert.Mixer.stream (Cert.Kernel2Ideal.Mix.argsAt m c), fun c => Cert.Mixer.rows (Cert.Kernel2Ideal.Mix.argsAt m c),
    fun c => Cert.Mixer.toldRows (Cert.Kernel2Ideal.Mix.argsAt m c) (Cert.Kernel2Ideal.Mix.routerAt m c),
    fun c => Cert.Mixer.toldColumns (Cert.Kernel2Ideal.Mix.argsAt m c) (Cert.Kernel2Ideal.Mix.routerAt m c), ?_, ?_⟩
  · exact (θ_run Cert.Kernel2Ideal.defs _ _).mono
      (fun _ h c => ⟨(h c).1.trans (Cert.Kernel2Ideal.Mix.final0 m c), (h c).2.1.trans (Cert.Kernel2Ideal.Mix.final1 m c),
        (h c).2.2.1.trans (Cert.Kernel2Ideal.Mix.final2 m c), (h c).2.2.2.1.trans (Cert.Kernel2Ideal.Mix.final3 m c), (h c).2.2.2.2⟩)
      (Cert.Kernel2Ideal.Mix.run_arrays (F := Ideal) m g)
  · refine (θ_run Cert.Reference2Ideal.defs _ _).mono
      (fun _ h c => ⟨(h c).1.trans ?_, (h c).2.1.trans ?_, (h c).2.2.1.trans ?_, (h c).2.2.2.1.trans ?_, (h c).2.2.2.2⟩)
      (Cert.Reference2Ideal.Value.run (F := Ideal) m' g')
    · obtain ⟨e0, e1, e2, e3, e4, e5, e6, e7, e8, _, _⟩ := hargs c
      refine (Cert.Reference2Ideal.Read.val_main_v185_eq (F := Ideal) (launchContents m' c)).trans ?_
      refine (Cert.Reference2Ideal.Mix.stream_eq (mixerIn (launchContents m' c))).trans ?_
      exact congrArg Cert.Mixer.stream (mixerIn_args (launchContents m' c) _ _ _ _ _ _ _ _ _ e0 e1 e2 e3 e4 e5 e6 e7 e8)
    · obtain ⟨e0, e1, e2, e3, e4, e5, e6, e7, e8, _, _⟩ := hargs c
      refine (Cert.Reference2Ideal.Read.val_main_v332_eq (F := Ideal) (launchContents m' c)).trans ?_
      refine (Cert.Reference2Ideal.Mix.rows_eq (mixerIn (launchContents m' c))).trans ?_
      exact congrArg Cert.Mixer.rows (mixerIn_args (launchContents m' c) _ _ _ _ _ _ _ _ _ e0 e1 e2 e3 e4 e5 e6 e7 e8)
    · obtain ⟨e0, e1, e2, e3, e4, e5, e6, e7, e8, e9, e10⟩ := hargs c
      refine (Cert.Reference2Ideal.Read.val_main_v330_eq (F := Ideal) (launchContents m' c)).trans ?_
      refine (Cert.Reference2Ideal.Mix.told_rows_eq (mixerIn (launchContents m' c)) _ _).trans ?_
      exact congr (congrArg Cert.Mixer.toldRows (mixerIn_args (launchContents m' c) _ _ _ _ _ _ _ _ _ e0 e1 e2 e3 e4 e5 e6 e7 e8))
        (routed_args (launchContents m' c) _ _ e9 e10)
    · obtain ⟨e0, e1, e2, e3, e4, e5, e6, e7, e8, e9, e10⟩ := hargs c
      refine (Cert.Reference2Ideal.Read.val_main_v328_eq (F := Ideal) (launchContents m' c)).trans ?_
      refine (Cert.Reference2Ideal.Mix.columns_eq (mixerIn (launchContents m' c)) _ _).trans ?_
      exact congr (congrArg Cert.Mixer.toldColumns (mixerIn_args (launchContents m' c) _ _ _ _ _ _ _ _ _ e0 e1 e2 e3 e4 e5 e6 e7 e8))
        (routed_args (launchContents m' c) _ _ e9 e10)

/-! ## The modulation maps -/

theorem frame_Kernel3 : Cert.quiescent_Kernel3 := fun m g _ => Cert.Kernel3.Gen.frame (F := Bits) m g

theorem frame_Kernel3Ideal : Cert.quiescent_Kernel3Ideal := fun m g _ => Cert.Kernel3Ideal.Gen.frame (F := Ideal) m g

theorem frame_Reference3Ideal : Cert.quiescent_Reference3Ideal := fun m g _ =>
  (θ_run Cert.Reference3Ideal.defs _ _).mono (fun _ h => ⟨fun c => (h c).2, sem_eq_zero_of_no_sems rfl _⟩)
    (Cert.Reference3Ideal.Value.run (F := Ideal) m g)

/-- From contents whose arguments are the given ones, the reference's result is the maps of the given ones. -/
theorem maps_of (V : Valuation Cert.Reference3Ideal.τ Cert.Reference3Ideal.sig (Elt Ideal)) (x0 x1 x2)
    (e0 : V (Proc.devRef .tc Cert.Reference3Ideal.main_arg0) = x0) (e1 : V (Proc.devRef .tc Cert.Reference3Ideal.main_arg1) = x1)
    (e2 : V (Proc.devRef .tc Cert.Reference3Ideal.main_arg2) = x2) :
    Cert.Reference3Ideal.Read.val_main_v5 (F := Ideal) (V (Proc.devRef .tc Cert.Reference3Ideal.main_arg0)) (V (Proc.devRef .tc Cert.Reference3Ideal.main_arg1))
        (V (Proc.devRef .tc Cert.Reference3Ideal.main_arg2))
      = Cert.Ada.maps x0 x1 x2 := by
  subst e0 e1 e2
  exact Cert.Reference3Ideal.Ada.result_eq _ _ _

theorem algebraic_maps : Cert.algebraic_Kernel3Ideal_Reference3Ideal := by
  intro m g m' g' _ hargs
  refine ⟨fun c => Cert.Ada.maps (Cert.Kernel3Ideal.Ada.arg m c Cert.Kernel3Ideal.main_arg0) (Cert.Kernel3Ideal.Ada.arg m c Cert.Kernel3Ideal.main_arg1)
      (Cert.Kernel3Ideal.Ada.arg m c Cert.Kernel3Ideal.main_arg2), ?_, ?_⟩
  · exact (θ_run Cert.Kernel3Ideal.defs _ _).mono (fun _ h c => ⟨(h c).1.trans (Cert.Kernel3Ideal.Ada.final m c), (h c).2⟩)
      (Cert.Kernel3Ideal.Value.run_blocks (F := Ideal) m g)
  · refine (θ_run Cert.Reference3Ideal.defs _ _).mono (fun _ h c => ⟨(h c).1.trans ?_, (h c).2⟩) (Cert.Reference3Ideal.Value.run (F := Ideal) m' g')
    obtain ⟨e0, e1, e2⟩ := hargs c
    refine (Cert.Reference3Ideal.Read.val_main_v5_eq (F := Ideal) _ _ _).trans ?_
    exact maps_of (launchContents m' c) _ _ _ e0 e1 e2

/-- Everything the certificate states. -/
theorem claim : Cert.Claim :=
  ⟨inferInstance, inferInstance, inferInstance, inferInstance, inferInstance, inferInstance, inferInstance, inferInstance,
    inferInstance, inferInstance, inferInstance,
    Cert.KernelIdeal.Ffn.frame_Kernel, Cert.KernelIdeal.Ffn.frame_KernelIdeal, Cert.KernelIdeal.Ffn.frame_shares, frame_ReferenceIdeal,
    frame_ReferenceIdeal_shares, frame_Kernel2, frame_Kernel2Ideal, frame_Reference2Ideal, frame_Kernel3, frame_Kernel3Ideal,
    frame_Reference3Ideal, trivial, algebraic, preserves_mixer, algebraic_mixer, trivial, algebraic_maps⟩

end Cert.Proof

end
